-- ==== Defs.lean ====
def Pre_Kernel [hPre_moe_pre : Cert.Pre_moe_pre.Facts] (m : (ℓ : Loc Cert.Kernel.nD Cert.Kernel.τ Cert.Kernel.sig) → Buf (Elt Bits) ℓ) : Prop :=
  ∀ c : Dev Cert.Kernel.nD,
    (Cert.Pre_moe_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_moe_pre : Cert.Pre_moe_pre.Facts] (m : (ℓ : Loc Cert.KernelIdeal.nD Cert.KernelIdeal.τ Cert.KernelIdeal.sig) → Buf (Elt Ideal) ℓ) : Prop :=
  ∀ c : Dev Cert.KernelIdeal.nD,
    (Cert.Pre_moe_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_moe_pre : Cert.Pre_moe_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moe_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Last [hPre_moe_pre : Cert.Pre_moe_pre.Facts] (m : (ℓ : Loc Cert.Last.nD Cert.Last.τ Cert.Last.sig) → Buf (Elt Bits) ℓ) : Prop :=
  ∀ c : Dev Cert.Last.nD,
    (Cert.Pre_moe_pre.fn (F := Bits) (m ((c.tc : Thread Cert.Last.nD Cert.Last.τ).loc Cert.Last.main_arg0)) (m ((c.tc : Thread Cert.Last.nD Cert.Last.τ).loc Cert.Last.main_arg1)) (m ((c.tc : Thread Cert.Last.nD Cert.Last.τ).loc Cert.Last.main_arg2)) (m ((c.tc : Thread Cert.Last.nD Cert.Last.τ).loc Cert.Last.main_arg3)) (m ((c.tc : Thread Cert.Last.nD Cert.Last.τ).loc Cert.Last.main_arg4)) (m ((c.tc : Thread Cert.Last.nD Cert.Last.τ).loc Cert.Last.main_arg5)) (m ((c.tc : Thread Cert.Last.nD Cert.Last.τ).loc Cert.Last.main_arg6)) (m ((c.tc : Thread Cert.Last.nD Cert.Last.τ).loc Cert.Last.main_arg7)) (m ((c.tc : Thread Cert.Last.nD Cert.Last.τ).loc Cert.Last.main_arg8)) (m ((c.tc : Thread Cert.Last.nD Cert.Last.τ).loc Cert.Last.main_arg9))) = (fun _ => 1#1)

def Pre_LastIdeal [hPre_moe_pre : Cert.Pre_moe_pre.Facts] (m : (ℓ : Loc Cert.LastIdeal.nD Cert.LastIdeal.τ Cert.LastIdeal.sig) → Buf (Elt Ideal) ℓ) : Prop :=
  ∀ c : Dev Cert.LastIdeal.nD,
    (Cert.Pre_moe_pre.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8)) (m ((c.tc : Thread Cert.LastIdeal.nD Cert.LastIdeal.τ).loc Cert.LastIdeal.main_arg9))) = (fun _ => 1#1)

def Pre_LastReferenceIdeal [hPre_moe_pre : Cert.Pre_moe_pre.Facts] (m : (ℓ : Loc Cert.LastReferenceIdeal.nD Cert.LastReferenceIdeal.τ Cert.LastReferenceIdeal.sig) → Buf (Elt Ideal) ℓ) : Prop :=
  ∀ c : Dev Cert.LastReferenceIdeal.nD,
    (Cert.Pre_moe_pre.fn (F := Ideal) (m ((c.tc : Thread Cert.LastReferenceIdeal.nD Cert.LastReferenceIdeal.τ).loc Cert.LastReferenceIdeal.main_arg0)) (m ((c.tc : Thread Cert.LastReferenceIdeal.nD Cert.LastReferenceIdeal.τ).loc Cert.LastReferenceIdeal.main_arg1)) (m ((c.tc : Thread Cert.LastReferenceIdeal.nD Cert.LastReferenceIdeal.τ).loc Cert.LastReferenceIdeal.main_arg2)) (m ((c.tc : Thread Cert.LastReferenceIdeal.nD Cert.LastReferenceIdeal.τ).loc Cert.LastReferenceIdeal.main_arg3)) (m ((c.tc : Thread Cert.LastReferenceIdeal.nD Cert.LastReferenceIdeal.τ).loc Cert.LastReferenceIdeal.main_arg4)) (m ((c.tc : Thread Cert.LastReferenceIdeal.nD Cert.LastReferenceIdeal.τ).loc Cert.LastReferenceIdeal.main_arg5)) (m ((c.tc : Thread Cert.LastReferenceIdeal.nD Cert.LastReferenceIdeal.τ).loc Cert.LastReferenceIdeal.main_arg6)) (m ((c.tc : Thread Cert.LastReferenceIdeal.nD Cert.LastReferenceIdeal.τ).loc Cert.LastReferenceIdeal.main_arg7)) (m ((c.tc : Thread Cert.LastReferenceIdeal.nD Cert.LastReferenceIdeal.τ).loc Cert.LastReferenceIdeal.main_arg8)) (m ((c.tc : Thread Cert.LastReferenceIdeal.nD Cert.LastReferenceIdeal.τ).loc Cert.LastReferenceIdeal.main_arg9))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] [hPre_moe_pre : Cert.Pre_moe_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_moe_pre : Cert.Pre_moe_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] [hPre_moe_pre : Cert.Pre_moe_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Last [hLast : Cert.Last.Facts] [hPre_moe_pre : Cert.Pre_moe_pre.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8)
      ∧ r.2.mem ((c.tc : Thread Cert.Last.nD Cert.Last.τ).loc Cert.Last.main_arg9) = m ((c.tc : Thread Cert.Last.nD Cert.Last.τ).loc Cert.Last.main_arg9))
      ∧ r.2.sem = fun _ => 0)

def quiescent_LastIdeal [hLastIdeal : Cert.LastIdeal.Facts] [hPre_moe_pre : Cert.Pre_moe_pre.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9))
      ∧ r.2.sem = fun _ => 0)

def quiescent_LastReferenceIdeal [hLastReferenceIdeal : Cert.LastReferenceIdeal.Facts] [hPre_moe_pre : Cert.Pre_moe_pre.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5)
      ∧ r.2.mem ((c.tc : Thread Cert.LastReferenceIdeal.nD Cert.LastReferenceIdeal.τ).loc Cert.LastReferenceIdeal.main_arg6) = m ((c.tc : Thread Cert.LastReferenceIdeal.nD Cert.LastReferenceIdeal.τ).loc Cert.LastReferenceIdeal.main_arg6)
      ∧ r.2.mem ((c.tc : Thread Cert.LastReferenceIdeal.nD Cert.LastReferenceIdeal.τ).loc Cert.LastReferenceIdeal.main_arg7) = m ((c.tc : Thread Cert.LastReferenceIdeal.nD Cert.LastReferenceIdeal.τ).loc Cert.LastReferenceIdeal.main_arg7)
      ∧ r.2.mem ((c.tc : Thread Cert.LastReferenceIdeal.nD Cert.LastReferenceIdeal.τ).loc Cert.LastReferenceIdeal.main_arg8) = m ((c.tc : Thread Cert.LastReferenceIdeal.nD Cert.LastReferenceIdeal.τ).loc Cert.LastReferenceIdeal.main_arg8)
      ∧ r.2.mem ((c.tc : Thread Cert.LastReferenceIdeal.nD Cert.LastReferenceIdeal.τ).loc Cert.LastReferenceIdeal.main_arg9) = m ((c.tc : Thread Cert.LastReferenceIdeal.nD Cert.LastReferenceIdeal.τ).loc Cert.LastReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_moe_pre : Cert.Pre_moe_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Last_LastIdeal : Prop :=
  True

def algebraic_LastIdeal_LastReferenceIdeal [hLastIdeal : Cert.LastIdeal.Facts] [hLastReferenceIdeal : Cert.LastReferenceIdeal.Facts] [hPre_moe_pre : Cert.Pre_moe_pre.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)
      ∧ m' ((c.tc : Thread Cert.LastReferenceIdeal.nD Cert.LastReferenceIdeal.τ).loc Cert.LastReferenceIdeal.main_arg5) = m ((c.tc : Thread Cert.LastIdeal.nD Cert.LastIdeal.τ).loc Cert.LastIdeal.main_arg5)
      ∧ m' ((c.tc : Thread Cert.LastReferenceIdeal.nD Cert.LastReferenceIdeal.τ).loc Cert.LastReferenceIdeal.main_arg6) = m ((c.tc : Thread Cert.LastIdeal.nD Cert.LastIdeal.τ).loc Cert.LastIdeal.main_arg6)
      ∧ m' ((c.tc : Thread Cert.LastReferenceIdeal.nD Cert.LastReferenceIdeal.τ).loc Cert.LastReferenceIdeal.main_arg7) = m ((c.tc : Thread Cert.LastIdeal.nD Cert.LastIdeal.τ).loc Cert.LastIdeal.main_arg7)
      ∧ m' ((c.tc : Thread Cert.LastReferenceIdeal.nD Cert.LastReferenceIdeal.τ).loc Cert.LastReferenceIdeal.main_arg8) = m ((c.tc : Thread Cert.LastIdeal.nD Cert.LastIdeal.τ).loc Cert.LastIdeal.main_arg8)
      ∧ m' ((c.tc : Thread Cert.LastReferenceIdeal.nD Cert.LastReferenceIdeal.τ).loc Cert.LastReferenceIdeal.main_arg9) = m ((c.tc : Thread Cert.LastIdeal.nD Cert.LastIdeal.τ).loc Cert.LastIdeal.main_arg9)) →
    ∃ (v0 : (c : Dev Cert.LastIdeal.nD) → Buf (Elt Ideal) ((c.tc : Thread Cert.LastIdeal.nD Cert.LastIdeal.τ).loc Cert.LastIdeal.main_v10)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v10) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
          ∧ r.2.mem ((c.tc : Thread Cert.LastIdeal.nD Cert.LastIdeal.τ).loc Cert.LastIdeal.main_arg9) = m ((c.tc : Thread Cert.LastIdeal.nD Cert.LastIdeal.τ).loc Cert.LastIdeal.main_arg9))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v127) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4)
          ∧ r.2.mem ((c.tc : Thread Cert.LastReferenceIdeal.nD Cert.LastReferenceIdeal.τ).loc Cert.LastReferenceIdeal.main_arg5) = m' ((c.tc : Thread Cert.LastReferenceIdeal.nD Cert.LastReferenceIdeal.τ).loc Cert.LastReferenceIdeal.main_arg5)
          ∧ r.2.mem ((c.tc : Thread Cert.LastReferenceIdeal.nD Cert.LastReferenceIdeal.τ).loc Cert.LastReferenceIdeal.main_arg6) = m' ((c.tc : Thread Cert.LastReferenceIdeal.nD Cert.LastReferenceIdeal.τ).loc Cert.LastReferenceIdeal.main_arg6)
          ∧ r.2.mem ((c.tc : Thread Cert.LastReferenceIdeal.nD Cert.LastReferenceIdeal.τ).loc Cert.LastReferenceIdeal.main_arg7) = m' ((c.tc : Thread Cert.LastReferenceIdeal.nD Cert.LastReferenceIdeal.τ).loc Cert.LastReferenceIdeal.main_arg7)
          ∧ r.2.mem ((c.tc : Thread Cert.LastReferenceIdeal.nD Cert.LastReferenceIdeal.τ).loc Cert.LastReferenceIdeal.main_arg8) = m' ((c.tc : Thread Cert.LastReferenceIdeal.nD Cert.LastReferenceIdeal.τ).loc Cert.LastReferenceIdeal.main_arg8)
          ∧ r.2.mem ((c.tc : Thread Cert.LastReferenceIdeal.nD Cert.LastReferenceIdeal.τ).loc Cert.LastReferenceIdeal.main_arg9) = m' ((c.tc : Thread Cert.LastReferenceIdeal.nD Cert.LastReferenceIdeal.τ).loc Cert.LastReferenceIdeal.main_arg9))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v30) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v14) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def Claim : Prop :=
  ∃ (hKernel : Cert.Kernel.Facts) (hKernelIdeal : Cert.KernelIdeal.Facts) (hReferenceIdeal : Cert.ReferenceIdeal.Facts) (hLast : Cert.Last.Facts) (hLastIdeal : Cert.LastIdeal.Facts) (hLastReferenceIdeal : Cert.LastReferenceIdeal.Facts) (hFfn : Cert.Ffn.Facts) (hFfnIdeal : Cert.FfnIdeal.Facts) (hFfnReferenceIdeal : Cert.FfnReferenceIdeal.Facts) (hNorm : Cert.Norm.Facts) (hNormIdeal : Cert.NormIdeal.Facts) (hNormReferenceIdeal : Cert.NormReferenceIdeal.Facts) (hPre_moe_pre : Cert.Pre_moe_pre.Facts),
    quiescent_Kernel (hKernel := hKernel) (hPre_moe_pre := hPre_moe_pre)
    ∧ quiescent_KernelIdeal (hKernelIdeal := hKernelIdeal) (hPre_moe_pre := hPre_moe_pre)
    ∧ quiescent_ReferenceIdeal (hReferenceIdeal := hReferenceIdeal) (hPre_moe_pre := hPre_moe_pre)
    ∧ quiescent_Last (hLast := hLast) (hPre_moe_pre := hPre_moe_pre)
    ∧ quiescent_LastIdeal (hLastIdeal := hLastIdeal) (hPre_moe_pre := hPre_moe_pre)
    ∧ quiescent_LastReferenceIdeal (hLastReferenceIdeal := hLastReferenceIdeal) (hPre_moe_pre := hPre_moe_pre)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Norm (hNorm := hNorm)
    ∧ quiescent_NormIdeal (hNormIdeal := hNormIdeal)
    ∧ quiescent_NormReferenceIdeal (hNormReferenceIdeal := hNormReferenceIdeal)
    ∧ preserves_Kernel_KernelIdeal
    ∧ algebraic_KernelIdeal_ReferenceIdeal (hKernelIdeal := hKernelIdeal) (hReferenceIdeal := hReferenceIdeal) (hPre_moe_pre := hPre_moe_pre)
    ∧ preserves_Last_LastIdeal
    ∧ algebraic_LastIdeal_LastReferenceIdeal (hLastIdeal := hLastIdeal) (hLastReferenceIdeal := hLastReferenceIdeal) (hPre_moe_pre := hPre_moe_pre)
    ∧ preserves_Ffn_FfnIdeal
    ∧ algebraic_FfnIdeal_FfnReferenceIdeal (hFfnIdeal := hFfnIdeal) (hFfnReferenceIdeal := hFfnReferenceIdeal)
    ∧ preserves_Norm_NormIdeal
    ∧ algebraic_NormIdeal_NormReferenceIdeal (hNormIdeal := hNormIdeal) (hNormReferenceIdeal := hNormReferenceIdeal)
-- ==== Pre_moe_pre.lean ====
abbrev S34816x1024 : Shape := ⟨2, ![34816, 1024]⟩
abbrev S34816x128 : Shape := ⟨2, ![34816, 128]⟩
abbrev S8x34816 : Shape := ⟨2, ![8, 34816]⟩
abbrev S17x8x128 : Shape := ⟨3, ![17, 8, 128]⟩
abbrev S136x8x1024 : Shape := ⟨3, ![136, 8, 1024]⟩
abbrev S2x8x1024x3584 : Shape := ⟨4, ![2, 8, 1024, 3584]⟩
abbrev S2x8x3584x1024 : Shape := ⟨4, ![2, 8, 3584, 1024]⟩
abbrev S34816x8 : Shape := ⟨2, ![34816, 8]⟩
abbrev S17x2048x8 : Shape := ⟨3, ![17, 2048, 8]⟩
abbrev S17x1x8 : Shape := ⟨3, ![17, 1, 8]⟩
abbrev S17x8 : Shape := ⟨2, ![17, 8]⟩
abbrev S_ : Shape := ⟨0, ![]⟩
abbrev S136 : Shape := ⟨1, ![136]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048x1 : Shape := ⟨4, ![1, 2048, 2048, 1]⟩
abbrev S17x2048x1x8 : Shape := ⟨4, ![17, 2048, 1, 8]⟩
abbrev S17x2048x2048x8 : Shape := ⟨4, ![17, 2048, 2048, 8]⟩
abbrev S17x1x2048x8 : Shape := ⟨4, ![17, 1, 2048, 8]⟩

class Facts : Prop where
  slices_S34816x128_S34816x8_0_0 : S34816x128.Slices ![0, 0] S34816x8
  shapeCasts_S34816x8_S17x2048x8 : S34816x8.ShapeCasts S17x2048x8
  slices_S17x8x128_S17x1x8_0_0_0 : S17x8x128.Slices ![0, 0, 0] S17x1x8
  shapeCasts_S17x1x8_S17x8 : S17x1x8.ShapeCasts S17x8
  bcast_S_S17x8 : S_.BroadcastsInDim S17x8 (![] : Fin 0 → Fin S17x8.rank)
  shapeCasts_S17x8_S136 : S17x8.ShapeCasts S136
  bcast_S_S136 : S_.BroadcastsInDim S136 (![] : Fin 0 → Fin S136.rank)
  shapeCasts_S136_S17x1x8 : S136.ShapeCasts S17x1x8
  reducesTo_S136_S_d0 : S136.ReducesTo [0] S_
  h_S_ : 0 < S_.numel
  transposes_S34816x8_S8x34816_1_0 : S34816x8.Transposes [1, 0] S8x34816
  reducesTo_S8x34816_S_d0_1 : S8x34816.ReducesTo [0, 1] S_
  bcast_S_S17x2048x8 : S_.BroadcastsInDim S17x2048x8 (![] : Fin 0 → Fin S17x2048x8.rank)
  bcast_S17x1x8_S17x2048x8_0_1_2 : S17x1x8.BroadcastsInDim S17x2048x8 (![0, 1, 2] : Fin 3 → Fin S17x2048x8.rank)
  reducesTo_S17x2048x8_S_d0_1_2 : S17x2048x8.ReducesTo [0, 1, 2] S_
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S2048x2048_S1x2048x2048x1_1_2 : S2048x2048.BroadcastsInDim S1x2048x2048x1 (![1, 2] : Fin 2 → Fin S1x2048x2048x1.rank)
  bcast_S17x2048x8_S17x2048x1x8_0_1_3 : S17x2048x8.BroadcastsInDim S17x2048x1x8 (![0, 1, 3] : Fin 3 → Fin S17x2048x1x8.rank)
  bcast_S1x2048x2048x1_S17x2048x2048x8_0_1_2_3 : S1x2048x2048x1.BroadcastsInDim S17x2048x2048x8 (![0, 1, 2, 3] : Fin 4 → Fin S17x2048x2048x8.rank)
  bcast_S17x2048x1x8_S17x2048x2048x8_0_1_2_3 : S17x2048x1x8.BroadcastsInDim S17x2048x2048x8 (![0, 1, 2, 3] : Fin 4 → Fin S17x2048x2048x8.rank)
  bcast_S17x2048x8_S17x1x2048x8_0_2_3 : S17x2048x8.BroadcastsInDim S17x1x2048x8 (![0, 2, 3] : Fin 3 → Fin S17x1x2048x8.rank)
  bcast_S17x1x2048x8_S17x2048x2048x8_0_1_2_3 : S17x1x2048x8.BroadcastsInDim S17x2048x2048x8 (![0, 1, 2, 3] : Fin 4 → Fin S17x2048x2048x8.rank)
  reducesTo_S17x2048x2048x8_S_d0_1_2_3 : S17x2048x2048x8.ReducesTo [0, 1, 2, 3] S_

variable [Facts]

def fn_where {F : FTy → Type} [FloatOps F] (arg0 : IVec S17x8 1) (arg1 : IVec S17x8 32) (arg2 : IVec S17x8 32) : IVec S17x8 32 :=
  let v0 : IVec S17x8 32 := select arg0 arg1 arg2
  v0

def fn_floor_divide {F : FTy → Type} [FloatOps F] (arg0 : IVec S17x8 32) (arg1 : IVec S_ 32) : IVec S17x8 32 :=
  let v0 : IVec S_ 32 := id arg1
  let v1 : IVec S17x8 32 := broadcastInDim S17x8 ![] bcast_S_S17x8 v0
  let v2 : IVec S17x8 32 := Host.divsi arg0 v1
  let v3 : IVec S17x8 32 := signi arg0
  let v4 : IVec S_ 32 := signi v0
  let v5 : IVec S17x8 32 := broadcastInDim S17x8 ![] bcast_S_S17x8 v4
  let v6 : IVec S17x8 1 := cmpi .ne v3 v5
  let v7 : IVec S17x8 32 := broadcastInDim S17x8 ![] bcast_S_S17x8 v0
  let v8 : IVec S17x8 32 := Host.remsi arg0 v7
  let c : IVec S_ 32 := constantI S_ 32 0#32
  let v9 : IVec S17x8 32 := broadcastInDim S17x8 ![] bcast_S_S17x8 c
  let v10 : IVec S17x8 1 := cmpi .ne v8 v9
  let v11 : IVec S17x8 1 := andi v6 v10
  let c_0 : IVec S_ 32 := constantI S_ 32 1#32
  let v12 : IVec S17x8 32 := broadcastInDim S17x8 ![] bcast_S_S17x8 c_0
  let v13 : IVec S17x8 32 := subi v2 v12
  let v14 : IVec S17x8 32 := fn_where (F := F) v11 v13 v2
  v14

def fn_part2 {F : FTy → Type} [FloatOps F] (main_v1 : FVec F S17x2048x8 .f32) (main_v3 : FVec F S17x2048x8 .f32) (main_v15 : IVec S2048 32) (main_v21 : IVec S_ 1) (main_v25 : IVec S_ 1) (main_v37 : IVec S_ 1) : IVec S_ 1 :=
  let main_v38 : IVec S2048x1 32 := broadcastInDim S2048x1 ![0] bcast_S2048_S2048x1_0 main_v15
  let main_v39 : IVec S1x2048 32 := broadcastInDim S1x2048 ![1] bcast_S2048_S1x2048_1 main_v15
  let main_v40 : IVec S2048x2048 32 := broadcastInDim S2048x2048 ![0, 1] bcast_S2048x1_S2048x2048_0_1 main_v38
  let main_v41 : IVec S2048x2048 32 := broadcastInDim S2048x2048 ![0, 1] bcast_S1x2048_S2048x2048_0_1 main_v39
  let main_v42 : IVec S2048x2048 1 := cmpi .eq main_v40 main_v41
  let main_v43 : IVec S1x2048x2048x1 1 := broadcastInDim S1x2048x2048x1 ![1, 2] bcast_S2048x2048_S1x2048x2048x1_1_2 main_v42
  let main_cst_8 : FVec F S_ .f32 := constant S_ .f32 0x00000000#32
  let main_v44 : FVec F S17x2048x8 .f32 := broadcastInDim S17x2048x8 ![] bcast_S_S17x2048x8 main_cst_8
  let main_v45 : IVec S17x2048x8 1 := cmpf .oeq main_v1 main_v44
  let main_v46 : IVec S17x2048x1x8 1 := broadcastInDim S17x2048x1x8 ![0, 1, 3] bcast_S17x2048x8_S17x2048x1x8_0_1_3 main_v45
  let main_v47 : IVec S17x2048x2048x8 1 := broadcastInDim S17x2048x2048x8 ![0, 1, 2, 3] bcast_S1x2048x2048x1_S17x2048x2048x8_0_1_2_3 main_v43
  let main_v48 : IVec S17x2048x2048x8 1 := broadcastInDim S17x2048x2048x8 ![0, 1, 2, 3] bcast_S17x2048x1x8_S17x2048x2048x8_0_1_2_3 main_v46
  let main_v49 : IVec S17x2048x2048x8 1 := ori main_v47 main_v48
  let main_v50 : FVec F S17x2048x1x8 .f32 := broadcastInDim S17x2048x1x8 ![0, 1, 3] bcast_S17x2048x8_S17x2048x1x8_0_1_3 main_v3
  let main_v51 : FVec F S17x1x2048x8 .f32 := broadcastInDim S17x1x2048x8 ![0, 2, 3] bcast_S17x2048x8_S17x1x2048x8_0_2_3 main_v3
  let main_v52 : FVec F S17x2048x2048x8 .f32 := broadcastInDim S17x2048x2048x8 ![0, 1, 2, 3] bcast_S17x2048x1x8_S17x2048x2048x8_0_1_2_3 main_v50
  let main_v53 : FVec F S17x2048x2048x8 .f32 := broadcastInDim S17x2048x2048x8 ![0, 1, 2, 3] bcast_S17x1x2048x8_S17x2048x2048x8_0_1_2_3 main_v51
  let main_v54 : IVec S17x2048x2048x8 1 := cmpf .une main_v52 main_v53
  let main_v55 : IVec S17x2048x2048x8 1 := ori main_v49 main_v54
  let main_c_9 : IVec S_ 1 := constantI S_ 1 1#1
  let main_v56 : IVec S_ 1 := (fun x v => Host.reduce IntOp.andi x v reducesTo_S17x2048x2048x8_S_d0_1_2_3 h_S_) main_v55 main_c_9
  let main_v57 : IVec S_ 1 := andi main_v21 main_v25
  let main_v58 : IVec S_ 1 := andi main_v57 main_v37
  let main_v59 : IVec S_ 1 := andi main_v58 main_v56
  main_v59

def fn_part1 {F : FTy → Type} [FloatOps F] (main_arg3 : FVec F S34816x128 .f32) (main_arg4 : FVec F S8x34816 .f32) (main_v1 : FVec F S17x2048x8 .f32) (main_v3 : FVec F S17x2048x8 .f32) (main_v10 : IVec S136 32) (main_v14 : FVec F S17x1x8 .f32) (main_v15 : IVec S2048 32) (main_v17 : IVec S136 1) (main_v18 : IVec S136 32) : IVec S_ 1 :=
  let main_v19 : IVec S136 1 := cmpi .sle main_v10 main_v18
  let main_v20 : IVec S136 1 := andi main_v17 main_v19
  let main_c_4 : IVec S_ 1 := constantI S_ 1 1#1
  let main_v21 : IVec S_ 1 := (fun x v => Host.reduce IntOp.andi x v reducesTo_S136_S_d0 h_S_) main_v20 main_c_4
  let main_v22 : FVec F S34816x8 .f32 := (extractStridedSlice S34816x8 ![0, 0] · slices_S34816x128_S34816x8_0_0) main_arg3
  let main_v23 : FVec F S8x34816 .f32 := (transpose S8x34816 [1, 0] · transposes_S34816x8_S8x34816_1_0) main_v22
  let main_v24 : IVec S8x34816 1 := cmpf .oeq main_arg4 main_v23
  let main_c_5 : IVec S_ 1 := constantI S_ 1 1#1
  let main_v25 : IVec S_ 1 := (fun x v => Host.reduce IntOp.andi x v reducesTo_S8x34816_S_d0_1 h_S_) main_v24 main_c_5
  let main_cst : FVec F S_ .f32 := constant S_ .f32 0x00000000#32
  let main_v26 : FVec F S17x2048x8 .f32 := broadcastInDim S17x2048x8 ![] bcast_S_S17x2048x8 main_cst
  let main_v27 : IVec S17x2048x8 1 := cmpf .oeq main_v1 main_v26
  let main_v28 : FVec F S17x2048x8 .f32 := Host.floor main_v3
  let main_v29 : IVec S17x2048x8 1 := cmpf .oeq main_v28 main_v3
  let main_cst_6 : FVec F S_ .f32 := constant S_ .f32 0x00000000#32
  let main_v30 : FVec F S17x2048x8 .f32 := broadcastInDim S17x2048x8 ![] bcast_S_S17x2048x8 main_cst_6
  let main_v31 : IVec S17x2048x8 1 := cmpf .oge main_v3 main_v30
  let main_v32 : IVec S17x2048x8 1 := andi main_v29 main_v31
  let main_v33 : FVec F S17x2048x8 .f32 := broadcastInDim S17x2048x8 ![0, 1, 2] bcast_S17x1x8_S17x2048x8_0_1_2 main_v14
  let main_v34 : IVec S17x2048x8 1 := cmpf .olt main_v3 main_v33
  let main_v35 : IVec S17x2048x8 1 := andi main_v32 main_v34
  let main_v36 : IVec S17x2048x8 1 := ori main_v27 main_v35
  let main_c_7 : IVec S_ 1 := constantI S_ 1 1#1
  let main_v37 : IVec S_ 1 := (fun x v => Host.reduce IntOp.andi x v reducesTo_S17x2048x8_S_d0_1_2 h_S_) main_v36 main_c_7
  fn_part2 (F := F) main_v1 main_v3 main_v15 main_v21 main_v25 main_v37

def fn {F : FTy → Type} [FloatOps F] (main_arg0 : FVec F S34816x1024 .f32) (main_arg1 : FVec F S34816x1024 .bf16) (main_arg2 : FVec F S34816x128 .f32) (main_arg3 : FVec F S34816x128 .f32) (main_arg4 : FVec F S8x34816 .f32) (main_arg5 : FVec F S17x8x128 .f32) (main_arg6 : FVec F S136x8x1024 .f32) (main_arg7 : FVec F S2x8x1024x3584 .f32) (main_arg8 : FVec F S2x8x1024x3584 .f32) (main_arg9 : FVec F S2x8x3584x1024 .f32) : IVec S_ 1 :=
  let main_v0 : FVec F S34816x8 .f32 := (extractStridedSlice S34816x8 ![0, 0] · slices_S34816x128_S34816x8_0_0) main_arg2
  let main_v1 : FVec F S17x2048x8 .f32 := shapeCast S17x2048x8 main_v0 shapeCasts_S34816x8_S17x2048x8
  let main_v2 : FVec F S34816x8 .f32 := (extractStridedSlice S34816x8 ![0, 0] · slices_S34816x128_S34816x8_0_0) main_arg3
  let main_v3 : FVec F S17x2048x8 .f32 := shapeCast S17x2048x8 main_v2 shapeCasts_S34816x8_S17x2048x8
  let main_v4 : FVec F S17x1x8 .f32 := (extractStridedSlice S17x1x8 ![0, 0, 0] · slices_S17x8x128_S17x1x8_0_0_0) main_arg5
  let main_v5 : FVec F S17x8 .f32 := shapeCast S17x8 main_v4 shapeCasts_S17x1x8_S17x8
  let main_v6 : IVec S17x8 32 := fptosi 32 main_v5
  let main_c : IVec S_ 32 := constantI S_ 32 127#32
  let main_v7 : IVec S17x8 32 := broadcastInDim S17x8 ![] bcast_S_S17x8 main_c
  let main_v8 : IVec S17x8 32 := addi main_v6 main_v7
  let main_c_0 : IVec S_ 32 := constantI S_ 32 128#32
  let main_v9 : IVec S17x8 32 := fn_floor_divide (F := F) main_v8 main_c_0
  let main_v10 : IVec S136 32 := shapeCast S136 main_v9 shapeCasts_S17x8_S136
  let main_c_1 : IVec S_ 32 := constantI S_ 32 128#32
  let main_v11 : IVec S136 32 := broadcastInDim S136 ![] bcast_S_S136 main_c_1
  let main_v12 : IVec S136 32 := muli main_v10 main_v11
  let main_v13 : FVec F S136 .f32 := sitofp .f32 main_v12
  let main_v14 : FVec F S17x1x8 .f32 := shapeCast S17x1x8 main_v13 shapeCasts_S136_S17x1x8
  let main_v15 : IVec S2048 32 := iotaInDim S2048 32 0
  let main_c_2 : IVec S_ 32 := constantI S_ 32 0#32
  let main_v16 : IVec S136 32 := broadcastInDim S136 ![] bcast_S_S136 main_c_2
  let main_v17 : IVec S136 1 := cmpi .sge main_v10 main_v16
  let main_c_3 : IVec S_ 32 := constantI S_ 32 16#32
  let main_v18 : IVec S136 32 := broadcastInDim S136 ![] bcast_S_S136 main_c_3
  fn_part1 (F := F) main_arg3 main_arg4 main_v1 main_v3 main_v10 main_v14 main_v15 main_v17 main_v18
-- ==== Kernel.lean ====
abbrev S34816x1024 : Shape := ⟨2, ![34816, 1024]⟩
abbrev S34816x128 : Shape := ⟨2, ![34816, 128]⟩
abbrev S8x34816 : Shape := ⟨2, ![8, 34816]⟩
abbrev S17x8x128 : Shape := ⟨3, ![17, 8, 128]⟩
abbrev S136x8x1024 : Shape := ⟨3, ![136, 8, 1024]⟩
abbrev S2x8x1024x3584 : Shape := ⟨4, ![2, 8, 1024, 3584]⟩
abbrev S2x8x3584x1024 : Shape := ⟨4, ![2, 8, 3584, 1024]⟩
abbrev S17x1x8 : Shape := ⟨3, ![17, 1, 8]⟩
abbrev S17x8 : Shape := ⟨2, ![17, 8]⟩
abbrev S_ : Shape := ⟨0, ![]⟩
abbrev S136 : Shape := ⟨1, ![136]⟩
abbrev S2048x1024 : Shape := ⟨2, ![2048, 1024]⟩
abbrev S2048x128 : Shape := ⟨2, ![2048, 128]⟩
abbrev S8x2048 : Shape := ⟨2, ![8, 2048]⟩
abbrev S8x8x1024 : Shape := ⟨3, ![8, 8, 1024]⟩
abbrev S1x1x1024x512 : Shape := ⟨4, ![1, 1, 1024, 512]⟩
abbrev S1x1x512x1024 : Shape := ⟨4, ![1, 1, 512, 1024]⟩
abbrev S1 : Shape := ⟨1, ![1]⟩
abbrev S512x1 : Shape := ⟨2, ![512, 1]⟩
abbrev S1x2048 : Shape := ⟨2, ![1, 2048]⟩
abbrev S512x2048 : Shape := ⟨2, ![512, 2048]⟩
abbrev S512x1024 : Shape := ⟨2, ![512, 1024]⟩
abbrev S1024x512 : Shape := ⟨2, ![1024, 512]⟩
abbrev S512x512 : Shape := ⟨2, ![512, 512]⟩
abbrev S256x1 : Shape := ⟨2, ![256, 1]⟩
abbrev S256x2048 : Shape := ⟨2, ![256, 2048]⟩
abbrev S256x1024 : Shape := ⟨2, ![256, 1024]⟩
abbrev S256x512 : Shape := ⟨2, ![256, 512]⟩
abbrev S128x1 : Shape := ⟨2, ![128, 1]⟩
abbrev S128x2048 : Shape := ⟨2, ![128, 2048]⟩
abbrev S128x1024 : Shape := ⟨2, ![128, 1024]⟩
abbrev S128x512 : Shape := ⟨2, ![128, 512]⟩
abbrev S2048 : Shape := ⟨1, ![2048]⟩
abbrev S2048x1 : Shape := ⟨2, ![2048, 1]⟩
abbrev S1x512 : Shape := ⟨2, ![1, 512]⟩
abbrev S2048x512 : Shape := ⟨2, ![2048, 512]⟩
abbrev S1x256 : Shape := ⟨2, ![1, 256]⟩
abbrev S2048x256 : Shape := ⟨2, ![2048, 256]⟩
abbrev S1x128 : Shape := ⟨2, ![1, 128]⟩
abbrev S1x1x1024 : Shape := ⟨3, ![1, 1, 1024]⟩
abbrev S1x1024 : Shape := ⟨2, ![1, 1024]⟩

abbrev nBuf : Space → Nat
  | .hbm => 38
  | .vmem => 16
  | .smem => 1
  | _ => 0

abbrev bufTy : (tb : Table) → Fin (tcTables nBuf tb) → BufTy
  | .hbm, ⟨0, _⟩ => ⟨S34816x1024, .f32⟩
  | .hbm, ⟨1, _⟩ => ⟨S34816x1024, .bf16⟩
  | .hbm, ⟨2, _⟩ => ⟨S34816x128, .f32⟩
  | .hbm, ⟨3, _⟩ => ⟨S34816x128, .f32⟩
  | .hbm, ⟨4, _⟩ => ⟨S8x34816, .f32⟩
  | .hbm, ⟨5, _⟩ => ⟨S17x8x128, .f32⟩
  | .hbm, ⟨6, _⟩ => ⟨S136x8x1024, .f32⟩
  | .hbm, ⟨7, _⟩ => ⟨S2x8x1024x3584, .f32⟩
  | .hbm, ⟨8, _⟩ => ⟨S2x8x1024x3584, .f32⟩
  | .hbm, ⟨9, _⟩ => ⟨S2x8x3584x1024, .f32⟩
  | .hbm, ⟨10, _⟩ => ⟨S2x8x1024x3584, .bf16⟩
  | .hbm, ⟨11, _⟩ => ⟨S2x8x1024x3584, .bf16⟩
  | .hbm, ⟨12, _⟩ => ⟨S2x8x3584x1024, .bf16⟩
  | .hbm, ⟨13, _⟩ => ⟨S17x1x8, .f32⟩
  | .hbm, ⟨14, _⟩ => ⟨S17x8, .f32⟩
  | .hbm, ⟨15, _⟩ => ⟨S17x8, .i32⟩
  | .hbm, ⟨16, _⟩ => ⟨S_, .i32⟩
  | .hbm, ⟨17, _⟩ => ⟨S17x8, .i32⟩
  | .hbm, ⟨18, _⟩ => ⟨S17x8, .i32⟩
  | .hbm, ⟨19, _⟩ => ⟨S_, .i32⟩
  | .hbm, ⟨20, _⟩ => ⟨S_, .i32⟩
  | .hbm, ⟨21, _⟩ => ⟨S17x8, .i32⟩
  | .hbm, ⟨22, _⟩ => ⟨S17x8, .i32⟩
  | .hbm, ⟨23, _⟩ => ⟨S17x8, .i32⟩
  | .hbm, ⟨24, _⟩ => ⟨S_, .i32⟩
  | .hbm, ⟨25, _⟩ => ⟨S17x8, .i32⟩
  | .hbm, ⟨26, _⟩ => ⟨S17x8, .i1⟩
  | .hbm, ⟨27, _⟩ => ⟨S17x8, .i32⟩
  | .hbm, ⟨28, _⟩ => ⟨S17x8, .i32⟩
  | .hbm, ⟨29, _⟩ => ⟨S_, .i32⟩
  | .hbm, ⟨30, _⟩ => ⟨S17x8, .i32⟩
  | .hbm, ⟨31, _⟩ => ⟨S17x8, .i1⟩
  | .hbm, ⟨32, _⟩ => ⟨S17x8, .i1⟩
  | .hbm, ⟨33, _⟩ => ⟨S_, .i32⟩
  | .hbm, ⟨34, _⟩ => ⟨S17x8, .i32⟩
  | .hbm, ⟨35, _⟩ => ⟨S17x8, .i32⟩
  | .hbm, ⟨36, _⟩ => ⟨S17x8, .i32⟩
  | .hbm, ⟨37, _⟩ => ⟨S34816x1024, .f32⟩
  | .local _ .vmem, ⟨0, _⟩ => ⟨S2048x1024, .f32⟩
  | .local _ .vmem, ⟨1, _⟩ => ⟨S2048x1024, .bf16⟩
  | .local _ .vmem, ⟨2, _⟩ => ⟨S2048x128, .f32⟩
  | .local _ .vmem, ⟨3, _⟩ => ⟨S2048x128, .f32⟩
  | .local _ .vmem, ⟨4, _⟩ => ⟨S8x2048, .f32⟩
  | .local _ .vmem, ⟨5, _⟩ => ⟨S8x8x1024, .f32⟩
  | .local _ .vmem, ⟨6, _⟩ => ⟨S8x8x1024, .f32⟩
  | .local _ .vmem, ⟨7, _⟩ => ⟨S1x1x1024x512, .bf16⟩
  | .local _ .vmem, ⟨8, _⟩ => ⟨S1x1x1024x512, .bf16⟩
  | .local _ .vmem, ⟨9, _⟩ => ⟨S1x1x1024x512, .bf16⟩
  | .local _ .vmem, ⟨10, _⟩ => ⟨S1x1x1024x512, .bf16⟩
  | .local _ .vmem, ⟨11, _⟩ => ⟨S1x1x512x1024, .bf16⟩
  | .local _ .vmem, ⟨12, _⟩ => ⟨S1x1x512x1024, .bf16⟩
  | .local _ .vmem, ⟨13, _⟩ => ⟨S2048x1024, .f32⟩
  | .local _ .vmem, ⟨14, _⟩ => ⟨S2048x1024, .bf16⟩
  | .local _ .vmem, ⟨15, _⟩ => ⟨S2048x1024, .f32⟩
  | .local _ .smem, ⟨0, _⟩ => ⟨S136, .i32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v8 : Ref sig .tc := ⟨.hbm, 36, rfl⟩
abbrev main_v10 : Ref sig .tc := ⟨.hbm, 37, rfl⟩
abbrev main_v9 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨3, ![17, 8, 7], ![false, false, false]⟩

abbrev pre0 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v2 : Index := Scalar.indexCast v1
  ![v2.toNat]
def k0_mult1 (v3 : BitVec 32) : BitVec 32 :=
  let c2_i32 : BitVec 32 := 2#32
  let v9 : BitVec 32 := Scalar.shrui v3 c2_i32
  let c512_i32 : BitVec 32 := 512#32
  let v10 : BitVec 32 := Scalar.muli v9 c512_i32
  v10

def k0_mult2 (v3 : BitVec 32) : BitVec 32 :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let c2_i32_2 : BitVec 32 := 2#32
  let v12 : BitVec 32 := Scalar.andi v3 c2_i32_2
  let c128_i32 : BitVec 32 := 128#32
  let v13 : BitVec 32 := Scalar.muli v12 c128_i32
  let v14 : BitVec 32 := Scalar.addi v11 v13
  v14
@[reducible] def k0_t1_loop (v3 : BitVec 32) : Scf.Loop 32 :=
  let c0_i32_4 : BitVec 32 := 0#32
  let c2_i32 : BitVec 32 := 2#32
  let v9 : BitVec 32 := Scalar.shrui v3 c2_i32
  let v16 : BitVec 32 := Scalar.subi v9 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let c1_i32_5 : BitVec 32 := 1#32
  ⟨c0_i32_4, v20, c1_i32_5⟩
def k0_mult3 (v3 : BitVec 32) (k0_t1 : Fin (k0_t1_loop v3).trips) : BitVec 32 :=
  let c0_i32_4 : BitVec 32 := 0#32
  let c1_i32_5 : BitVec 32 := 1#32
  let arg16 : BitVec 32 := Scf.iv c0_i32_4 c1_i32_5 k0_t1
  let c512_i32_17 : BitVec 32 := 512#32
  let v39 : BitVec 32 := Scalar.muli arg16 c512_i32_17
  v39
def k0_cond2 (i : grid0.Coords) : BitVec 1 :=
  let arg2 : BitVec 32 := BitVec.ofNat 32 (i 2).val
  let c0_i32_18 : BitVec 32 := 0#32
  let v41 : BitVec 1 := Scalar.cmpi .eq arg2 c0_i32_18
  let v42 : BitVec 32 := Scalar.extui v41
  let c0_i32_19 : BitVec 32 := 0#32
  let v43 : BitVec 1 := Scalar.cmpi .ne v42 c0_i32_19
  v43

def k0_off2 (i : grid0.Coords) : Fin 2 → Nat :=
  let arg1 : BitVec 32 := BitVec.ofNat 32 (i 1).val
  let v75 : Index := Scalar.indexCast arg1
  let c0_41 : Index := 0#32
  ![v75.toNat, 0]
def k0_off3 (v3 : BitVec 32) (k0_t1 : Fin (k0_t1_loop v3).trips) : Fin 2 → Nat :=
  let c0_i32_4 : BitVec 32 := 0#32
  let c1_i32_5 : BitVec 32 := 1#32
  let arg16 : BitVec 32 := Scf.iv c0_i32_4 c1_i32_5 k0_t1
  let c512_i32_17 : BitVec 32 := 512#32
  let v39 : BitVec 32 := Scalar.muli arg16 c512_i32_17
  let v40 : BitVec 32 := v39
  let v87 : Index := Scalar.indexCast v40
  let c0_47 : Index := 0#32
  ![v87.toNat, 0]
def k0_off4 (v3 : BitVec 32) (k0_t1 : Fin (k0_t1_loop v3).trips) : Fin 2 → Nat :=
  let c0_i32_4 : BitVec 32 := 0#32
  let c1_i32_5 : BitVec 32 := 1#32
  let arg16 : BitVec 32 := Scf.iv c0_i32_4 c1_i32_5 k0_t1
  let c512_i32_17 : BitVec 32 := 512#32
  let v39 : BitVec 32 := Scalar.muli arg16 c512_i32_17
  let v40 : BitVec 32 := v39
  let v44 : Index := Scalar.indexCast v40
  let c0 : Index := 0#32
  ![v44.toNat, 0]
def k0_cond3 (i : grid0.Coords) : BitVec 1 :=
  let arg2 : BitVec 32 := BitVec.ofNat 32 (i 2).val
  let c0_i32_37 : BitVec 32 := 0#32
  let v65 : BitVec 1 := Scalar.cmpi .eq arg2 c0_i32_37
  let v66 : BitVec 32 := Scalar.extui v65
  let c0_i32_38 : BitVec 32 := 0#32
  let v67 : BitVec 1 := Scalar.cmpi .ne v66 c0_i32_38
  v67

def k0_off5 (v3 : BitVec 32) (k0_t1 : Fin (k0_t1_loop v3).trips) : Fin 2 → Nat :=
  let c0_i32_4 : BitVec 32 := 0#32
  let c1_i32_5 : BitVec 32 := 1#32
  let arg16 : BitVec 32 := Scf.iv c0_i32_4 c1_i32_5 k0_t1
  let c512_i32_17 : BitVec 32 := 512#32
  let v39 : BitVec 32 := Scalar.muli arg16 c512_i32_17
  let v40 : BitVec 32 := v39
  let v71 : Index := Scalar.indexCast v40
  let c0_41 : Index := 0#32
  ![v71.toNat, 0]
def k0_cond4 (i : grid0.Coords) : BitVec 1 :=
  let arg2 : BitVec 32 := BitVec.ofNat 32 (i 2).val
  let c0_i32_39 : BitVec 32 := 0#32
  let v68 : BitVec 1 := Scalar.cmpi .sgt arg2 c0_i32_39
  let v69 : BitVec 32 := Scalar.extui v68
  let c0_i32_40 : BitVec 32 := 0#32
  let v70 : BitVec 1 := Scalar.cmpi .ne v69 c0_i32_40
  v70

def k0_off6 (v3 : BitVec 32) (k0_t1 : Fin (k0_t1_loop v3).trips) : Fin 2 → Nat :=
  let c0_i32_4 : BitVec 32 := 0#32
  let c1_i32_5 : BitVec 32 := 1#32
  let arg16 : BitVec 32 := Scf.iv c0_i32_4 c1_i32_5 k0_t1
  let c512_i32_17 : BitVec 32 := 512#32
  let v39 : BitVec 32 := Scalar.muli arg16 c512_i32_17
  let v40 : BitVec 32 := v39
  let v71 : Index := Scalar.indexCast v40
  let c0_41 : Index := 0#32
  ![v71.toNat, 0]
@[reducible] def k0_t2_loop (v3 : BitVec 32) : Scf.Loop 32 :=
  let c0_i32_4 : BitVec 32 := 0#32
  let c2_i32 : BitVec 32 := 2#32
  let v9 : BitVec 32 := Scalar.shrui v3 c2_i32
  let v16 : BitVec 32 := Scalar.subi v9 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let v17 : BitVec 32 := Scalar.addi c0_i32_4 v16
  let c1_i32_6 : BitVec 32 := 1#32
  ⟨v20, v17, c1_i32_6⟩
def k0_mult4 (v3 : BitVec 32) (k0_t2 : Fin (k0_t2_loop v3).trips) : BitVec 32 :=
  let c0_i32_4 : BitVec 32 := 0#32
  let c2_i32 : BitVec 32 := 2#32
  let v9 : BitVec 32 := Scalar.shrui v3 c2_i32
  let v16 : BitVec 32 := Scalar.subi v9 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let c1_i32_6 : BitVec 32 := 1#32
  let arg16 : BitVec 32 := Scf.iv v20 c1_i32_6 k0_t2
  let c512_i32_17 : BitVec 32 := 512#32
  let v39 : BitVec 32 := Scalar.muli arg16 c512_i32_17
  v39
def k0_cond5 (i : grid0.Coords) : BitVec 1 :=
  let arg2 : BitVec 32 := BitVec.ofNat 32 (i 2).val
  let c0_i32_18 : BitVec 32 := 0#32
  let v41 : BitVec 1 := Scalar.cmpi .eq arg2 c0_i32_18
  let v42 : BitVec 32 := Scalar.extui v41
  let c0_i32_19 : BitVec 32 := 0#32
  let v43 : BitVec 1 := Scalar.cmpi .ne v42 c0_i32_19
  v43

def k0_off7 (i : grid0.Coords) : Fin 2 → Nat :=
  let arg1 : BitVec 32 := BitVec.ofNat 32 (i 1).val
  let v75 : Index := Scalar.indexCast arg1
  let c0_41 : Index := 0#32
  ![v75.toNat, 0]
def k0_off8 (v3 : BitVec 32) (k0_t2 : Fin (k0_t2_loop v3).trips) : Fin 2 → Nat :=
  let c0_i32_4 : BitVec 32 := 0#32
  let c2_i32 : BitVec 32 := 2#32
  let v9 : BitVec 32 := Scalar.shrui v3 c2_i32
  let v16 : BitVec 32 := Scalar.subi v9 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let c1_i32_6 : BitVec 32 := 1#32
  let arg16 : BitVec 32 := Scf.iv v20 c1_i32_6 k0_t2
  let c512_i32_17 : BitVec 32 := 512#32
  let v39 : BitVec 32 := Scalar.muli arg16 c512_i32_17
  let v40 : BitVec 32 := v39
  let v87 : Index := Scalar.indexCast v40
  let c0_47 : Index := 0#32
  ![v87.toNat, 0]
def k0_off9 (v3 : BitVec 32) (k0_t2 : Fin (k0_t2_loop v3).trips) : Fin 2 → Nat :=
  let c0_i32_4 : BitVec 32 := 0#32
  let c2_i32 : BitVec 32 := 2#32
  let v9 : BitVec 32 := Scalar.shrui v3 c2_i32
  let v16 : BitVec 32 := Scalar.subi v9 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let c1_i32_6 : BitVec 32 := 1#32
  let arg16 : BitVec 32 := Scf.iv v20 c1_i32_6 k0_t2
  let c512_i32_17 : BitVec 32 := 512#32
  let v39 : BitVec 32 := Scalar.muli arg16 c512_i32_17
  let v40 : BitVec 32 := v39
  let v44 : Index := Scalar.indexCast v40
  let c0 : Index := 0#32
  ![v44.toNat, 0]
def k0_cond6 (i : grid0.Coords) : BitVec 1 :=
  let arg2 : BitVec 32 := BitVec.ofNat 32 (i 2).val
  let c0_i32_37 : BitVec 32 := 0#32
  let v65 : BitVec 1 := Scalar.cmpi .eq arg2 c0_i32_37
  let v66 : BitVec 32 := Scalar.extui v65
  let c0_i32_38 : BitVec 32 := 0#32
  let v67 : BitVec 1 := Scalar.cmpi .ne v66 c0_i32_38
  v67

def k0_off10 (v3 : BitVec 32) (k0_t2 : Fin (k0_t2_loop v3).trips) : Fin 2 → Nat :=
  let c0_i32_4 : BitVec 32 := 0#32
  let c2_i32 : BitVec 32 := 2#32
  let v9 : BitVec 32 := Scalar.shrui v3 c2_i32
  let v16 : BitVec 32 := Scalar.subi v9 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let c1_i32_6 : BitVec 32 := 1#32
  let arg16 : BitVec 32 := Scf.iv v20 c1_i32_6 k0_t2
  let c512_i32_17 : BitVec 32 := 512#32
  let v39 : BitVec 32 := Scalar.muli arg16 c512_i32_17
  let v40 : BitVec 32 := v39
  let v71 : Index := Scalar.indexCast v40
  let c0_41 : Index := 0#32
  ![v71.toNat, 0]
def k0_cond7 (i : grid0.Coords) : BitVec 1 :=
  let arg2 : BitVec 32 := BitVec.ofNat 32 (i 2).val
  let c0_i32_39 : BitVec 32 := 0#32
  let v68 : BitVec 1 := Scalar.cmpi .sgt arg2 c0_i32_39
  let v69 : BitVec 32 := Scalar.extui v68
  let c0_i32_40 : BitVec 32 := 0#32
  let v70 : BitVec 1 := Scalar.cmpi .ne v69 c0_i32_40
  v70

def k0_off11 (v3 : BitVec 32) (k0_t2 : Fin (k0_t2_loop v3).trips) : Fin 2 → Nat :=
  let c0_i32_4 : BitVec 32 := 0#32
  let c2_i32 : BitVec 32 := 2#32
  let v9 : BitVec 32 := Scalar.shrui v3 c2_i32
  let v16 : BitVec 32 := Scalar.subi v9 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let c1_i32_6 : BitVec 32 := 1#32
  let arg16 : BitVec 32 := Scf.iv v20 c1_i32_6 k0_t2
  let c512_i32_17 : BitVec 32 := 512#32
  let v39 : BitVec 32 := Scalar.muli arg16 c512_i32_17
  let v40 : BitVec 32 := v39
  let v71 : Index := Scalar.indexCast v40
  let c0_41 : Index := 0#32
  ![v71.toNat, 0]
def k0_cond9 (i : grid0.Coords) : BitVec 1 :=
  let arg2 : BitVec 32 := BitVec.ofNat 32 (i 2).val
  let c0_i32_17 : BitVec 32 := 0#32
  let v39 : BitVec 1 := Scalar.cmpi .eq arg2 c0_i32_17
  let v40 : BitVec 32 := Scalar.extui v39
  let c0_i32_18 : BitVec 32 := 0#32
  let v41 : BitVec 1 := Scalar.cmpi .ne v40 c0_i32_18
  v41

def k0_off12 (i : grid0.Coords) : Fin 2 → Nat :=
  let arg1 : BitVec 32 := BitVec.ofNat 32 (i 1).val
  let v73 : Index := Scalar.indexCast arg1
  let c0_40 : Index := 0#32
  ![v73.toNat, 0]
def k0_off13 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let v85 : Index := Scalar.indexCast v11
  let c0_46 : Index := 0#32
  ![v85.toNat, 0]
def k0_cond8 (v3 : BitVec 32) : BitVec 1 :=
  let c2_i32_7 : BitVec 32 := 2#32
  let v21 : BitVec 32 := Scalar.andi v3 c2_i32_7
  let c0_i32_8 : BitVec 32 := 0#32
  let v22 : BitVec 1 := Scalar.cmpi .ne v21 c0_i32_8
  let v23 : BitVec 32 := Scalar.extui v22
  let c0_i32_9 : BitVec 32 := 0#32
  let v24 : BitVec 1 := Scalar.cmpi .ne v23 c0_i32_9
  v24

def k0_off14 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let v42 : Index := Scalar.indexCast v11
  let c0 : Index := 0#32
  ![v42.toNat, 0]
def k0_cond10 (i : grid0.Coords) : BitVec 1 :=
  let arg2 : BitVec 32 := BitVec.ofNat 32 (i 2).val
  let c0_i32_36 : BitVec 32 := 0#32
  let v63 : BitVec 1 := Scalar.cmpi .eq arg2 c0_i32_36
  let v64 : BitVec 32 := Scalar.extui v63
  let c0_i32_37 : BitVec 32 := 0#32
  let v65 : BitVec 1 := Scalar.cmpi .ne v64 c0_i32_37
  v65

def k0_off15 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let v69 : Index := Scalar.indexCast v11
  let c0_40 : Index := 0#32
  ![v69.toNat, 0]
def k0_cond11 (i : grid0.Coords) : BitVec 1 :=
  let arg2 : BitVec 32 := BitVec.ofNat 32 (i 2).val
  let c0_i32_38 : BitVec 32 := 0#32
  let v66 : BitVec 1 := Scalar.cmpi .sgt arg2 c0_i32_38
  let v67 : BitVec 32 := Scalar.extui v66
  let c0_i32_39 : BitVec 32 := 0#32
  let v68 : BitVec 1 := Scalar.cmpi .ne v67 c0_i32_39
  v68

def k0_off16 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let v69 : Index := Scalar.indexCast v11
  let c0_40 : Index := 0#32
  ![v69.toNat, 0]
def k0_cond13 (i : grid0.Coords) : BitVec 1 :=
  let arg2 : BitVec 32 := BitVec.ofNat 32 (i 2).val
  let c0_i32_17 : BitVec 32 := 0#32
  let v39 : BitVec 1 := Scalar.cmpi .eq arg2 c0_i32_17
  let v40 : BitVec 32 := Scalar.extui v39
  let c0_i32_18 : BitVec 32 := 0#32
  let v41 : BitVec 1 := Scalar.cmpi .ne v40 c0_i32_18
  v41

def k0_off17 (i : grid0.Coords) : Fin 2 → Nat :=
  let arg1 : BitVec 32 := BitVec.ofNat 32 (i 1).val
  let v73 : Index := Scalar.indexCast arg1
  let c0_40 : Index := 0#32
  ![v73.toNat, 0]
def k0_off18 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let c2_i32_2 : BitVec 32 := 2#32
  let v12 : BitVec 32 := Scalar.andi v3 c2_i32_2
  let c128_i32 : BitVec 32 := 128#32
  let v13 : BitVec 32 := Scalar.muli v12 c128_i32
  let v14 : BitVec 32 := Scalar.addi v11 v13
  let v15 : BitVec 32 := v14
  let v85 : Index := Scalar.indexCast v15
  let c0_46 : Index := 0#32
  ![v85.toNat, 0]
def k0_cond12 (v3 : BitVec 32) : BitVec 1 :=
  let c1_i32_10 : BitVec 32 := 1#32
  let v25 : BitVec 32 := Scalar.andi v3 c1_i32_10
  let c0_i32_11 : BitVec 32 := 0#32
  let v26 : BitVec 1 := Scalar.cmpi .ne v25 c0_i32_11
  let v27 : BitVec 32 := Scalar.extui v26
  let c0_i32_12 : BitVec 32 := 0#32
  let v28 : BitVec 1 := Scalar.cmpi .ne v27 c0_i32_12
  v28

def k0_off19 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let c2_i32_2 : BitVec 32 := 2#32
  let v12 : BitVec 32 := Scalar.andi v3 c2_i32_2
  let c128_i32 : BitVec 32 := 128#32
  let v13 : BitVec 32 := Scalar.muli v12 c128_i32
  let v14 : BitVec 32 := Scalar.addi v11 v13
  let v15 : BitVec 32 := v14
  let v42 : Index := Scalar.indexCast v15
  let c0 : Index := 0#32
  ![v42.toNat, 0]
def k0_cond14 (i : grid0.Coords) : BitVec 1 :=
  let arg2 : BitVec 32 := BitVec.ofNat 32 (i 2).val
  let c0_i32_36 : BitVec 32 := 0#32
  let v63 : BitVec 1 := Scalar.cmpi .eq arg2 c0_i32_36
  let v64 : BitVec 32 := Scalar.extui v63
  let c0_i32_37 : BitVec 32 := 0#32
  let v65 : BitVec 1 := Scalar.cmpi .ne v64 c0_i32_37
  v65

def k0_off20 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let c2_i32_2 : BitVec 32 := 2#32
  let v12 : BitVec 32 := Scalar.andi v3 c2_i32_2
  let c128_i32 : BitVec 32 := 128#32
  let v13 : BitVec 32 := Scalar.muli v12 c128_i32
  let v14 : BitVec 32 := Scalar.addi v11 v13
  let v15 : BitVec 32 := v14
  let v69 : Index := Scalar.indexCast v15
  let c0_40 : Index := 0#32
  ![v69.toNat, 0]
def k0_cond15 (i : grid0.Coords) : BitVec 1 :=
  let arg2 : BitVec 32 := BitVec.ofNat 32 (i 2).val
  let c0_i32_38 : BitVec 32 := 0#32
  let v66 : BitVec 1 := Scalar.cmpi .sgt arg2 c0_i32_38
  let v67 : BitVec 32 := Scalar.extui v66
  let c0_i32_39 : BitVec 32 := 0#32
  let v68 : BitVec 1 := Scalar.cmpi .ne v67 c0_i32_39
  v68

def k0_off21 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let c2_i32_2 : BitVec 32 := 2#32
  let v12 : BitVec 32 := Scalar.andi v3 c2_i32_2
  let c128_i32 : BitVec 32 := 128#32
  let v13 : BitVec 32 := Scalar.muli v12 c128_i32
  let v14 : BitVec 32 := Scalar.addi v11 v13
  let v15 : BitVec 32 := v14
  let v69 : Index := Scalar.indexCast v15
  let c0_40 : Index := 0#32
  ![v69.toNat, 0]
@[reducible] def k0_t3_loop (v3 : BitVec 32) : Scf.Loop 32 :=
  let c0_i32_24 : BitVec 32 := 0#32
  let c2_i32 : BitVec 32 := 2#32
  let v9 : BitVec 32 := Scalar.shrui v3 c2_i32
  let v52 : BitVec 32 := Scalar.subi v9 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let c1_i32_26 : BitVec 32 := 1#32
  ⟨c0_i32_24, v56, c1_i32_26⟩
def k0_cond16 (i : grid0.Coords) (v3 : BitVec 32) : BitVec 1 :=
  let arg2 : BitVec 32 := BitVec.ofNat 32 (i 2).val
  let c6_i32 : BitVec 32 := 6#32
  let v29 : BitVec 1 := Scalar.cmpi .eq arg2 c6_i32
  let c0_i32_13 : BitVec 32 := 0#32
  let v30 : BitVec 1 := Scalar.cmpi .sgt v3 c0_i32_13
  let v31 : BitVec 1 := Scalar.andi v29 v30
  let v32 : BitVec 32 := Scalar.extui v31
  let c0_i32_14 : BitVec 32 := 0#32
  let v33 : BitVec 1 := Scalar.cmpi .ne v32 c0_i32_14
  v33

def k0_mult5 (v3 : BitVec 32) (k0_t3 : Fin (k0_t3_loop v3).trips) : BitVec 32 :=
  let c0_i32_24 : BitVec 32 := 0#32
  let c1_i32_26 : BitVec 32 := 1#32
  let arg16 : BitVec 32 := Scf.iv c0_i32_24 c1_i32_26 k0_t3
  let c512_i32_34 : BitVec 32 := 512#32
  let v65 : BitVec 32 := Scalar.muli arg16 c512_i32_34
  v65
def k0_off22 (v3 : BitVec 32) (k0_t3 : Fin (k0_t3_loop v3).trips) : Fin 2 → Nat :=
  let c0_i32_24 : BitVec 32 := 0#32
  let c1_i32_26 : BitVec 32 := 1#32
  let arg16 : BitVec 32 := Scf.iv c0_i32_24 c1_i32_26 k0_t3
  let c512_i32_34 : BitVec 32 := 512#32
  let v65 : BitVec 32 := Scalar.muli arg16 c512_i32_34
  let v66 : BitVec 32 := v65
  let v80 : Index := Scalar.indexCast v66
  let c0_39 : Index := 0#32
  ![v80.toNat, 0]
@[reducible] def k0_t4_loop (v3 : BitVec 32) : Scf.Loop 32 :=
  let c0_i32_24 : BitVec 32 := 0#32
  let c2_i32 : BitVec 32 := 2#32
  let v9 : BitVec 32 := Scalar.shrui v3 c2_i32
  let v52 : BitVec 32 := Scalar.subi v9 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let v53 : BitVec 32 := Scalar.addi c0_i32_24 v52
  let c1_i32_27 : BitVec 32 := 1#32
  ⟨v56, v53, c1_i32_27⟩
def k0_mult6 (v3 : BitVec 32) (k0_t4 : Fin (k0_t4_loop v3).trips) : BitVec 32 :=
  let c0_i32_24 : BitVec 32 := 0#32
  let c2_i32 : BitVec 32 := 2#32
  let v9 : BitVec 32 := Scalar.shrui v3 c2_i32
  let v52 : BitVec 32 := Scalar.subi v9 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let c1_i32_27 : BitVec 32 := 1#32
  let arg16 : BitVec 32 := Scf.iv v56 c1_i32_27 k0_t4
  let c512_i32_34 : BitVec 32 := 512#32
  let v65 : BitVec 32 := Scalar.muli arg16 c512_i32_34
  v65
def k0_off23 (v3 : BitVec 32) (k0_t4 : Fin (k0_t4_loop v3).trips) : Fin 2 → Nat :=
  let c0_i32_24 : BitVec 32 := 0#32
  let c2_i32 : BitVec 32 := 2#32
  let v9 : BitVec 32 := Scalar.shrui v3 c2_i32
  let v52 : BitVec 32 := Scalar.subi v9 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let c1_i32_27 : BitVec 32 := 1#32
  let arg16 : BitVec 32 := Scf.iv v56 c1_i32_27 k0_t4
  let c512_i32_34 : BitVec 32 := 512#32
  let v65 : BitVec 32 := Scalar.muli arg16 c512_i32_34
  let v66 : BitVec 32 := v65
  let v80 : Index := Scalar.indexCast v66
  let c0_39 : Index := 0#32
  ![v80.toNat, 0]
def k0_off24 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let v78 : Index := Scalar.indexCast v11
  let c0_38 : Index := 0#32
  ![v78.toNat, 0]
def k0_cond17 (v3 : BitVec 32) : BitVec 1 :=
  let c2_i32_28 : BitVec 32 := 2#32
  let v57 : BitVec 32 := Scalar.andi v3 c2_i32_28
  let c0_i32_29 : BitVec 32 := 0#32
  let v58 : BitVec 1 := Scalar.cmpi .ne v57 c0_i32_29
  let v59 : BitVec 32 := Scalar.extui v58
  let c0_i32_30 : BitVec 32 := 0#32
  let v60 : BitVec 1 := Scalar.cmpi .ne v59 c0_i32_30
  v60

def k0_off25 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let c2_i32_2 : BitVec 32 := 2#32
  let v12 : BitVec 32 := Scalar.andi v3 c2_i32_2
  let c128_i32 : BitVec 32 := 128#32
  let v13 : BitVec 32 := Scalar.muli v12 c128_i32
  let v14 : BitVec 32 := Scalar.addi v11 v13
  let v15 : BitVec 32 := v14
  let v78 : Index := Scalar.indexCast v15
  let c0_38 : Index := 0#32
  ![v78.toNat, 0]
def k0_cond18 (v3 : BitVec 32) : BitVec 1 :=
  let c1_i32_31 : BitVec 32 := 1#32
  let v61 : BitVec 32 := Scalar.andi v3 c1_i32_31
  let c0_i32_32 : BitVec 32 := 0#32
  let v62 : BitVec 1 := Scalar.cmpi .ne v61 c0_i32_32
  let v63 : BitVec 32 := Scalar.extui v62
  let c0_i32_33 : BitVec 32 := 0#32
  let v64 : BitVec 1 := Scalar.cmpi .ne v63 c0_i32_33
  v64

def k0_chk1_0 (i : grid0.Coords) (v3 : BitVec 32) : Prop :=
  (128 ∣ (k0_mult1 v3).toNat) ∧
  (128 ∣ (k0_mult2 v3).toNat) ∧
  ((k0_t1_loop v3).OK) ∧
  (∀ k0_t1 : Fin (k0_t1_loop v3).trips, 512 ∣ (k0_mult3 v3 k0_t1).toNat) ∧
  (∀ k0_t1 : Fin (k0_t1_loop v3).trips, ∀ (k0_h2 : k0_cond2 i = 1#1), ∀ a, (k0_off3 v3 k0_t1) a + S512x1024.size a ≤ S2048x1024.size a) ∧
  (∀ k0_t1 : Fin (k0_t1_loop v3).trips, ∀ (k0_h2 : k0_cond2 i = 1#1), ∀ (hinb : ∀ a, (k0_off3 v3 k0_t1) a + S512x1024.size a ≤ S2048x1024.size a), (Rect.unit (s := S2048x1024) (k0_off3 v3 k0_t1) S512x1024.size hinb).PackedRows (EltTy.packing .bf16)) ∧
  (∀ k0_t1 : Fin (k0_t1_loop v3).trips, ∀ a, (k0_off4 v3 k0_t1) a + S512x1024.size a ≤ S2048x1024.size a) ∧
  (∀ k0_t1 : Fin (k0_t1_loop v3).trips, ∀ (k0_h3 : k0_cond3 i = 1#1), ∀ a, (k0_off5 v3 k0_t1) a + S512x1024.size a ≤ S2048x1024.size a) ∧
  (∀ k0_t1 : Fin (k0_t1_loop v3).trips, ∀ (k0_h4 : k0_cond4 i = 1#1), ∀ a, (k0_off6 v3 k0_t1) a + S512x1024.size a ≤ S2048x1024.size a) ∧
  ((k0_t2_loop v3).OK) ∧
  (∀ k0_t2 : Fin (k0_t2_loop v3).trips, 512 ∣ (k0_mult4 v3 k0_t2).toNat) ∧
  (∀ k0_t2 : Fin (k0_t2_loop v3).trips, ∀ (k0_h5 : k0_cond5 i = 1#1), ∀ a, (k0_off8 v3 k0_t2) a + S512x1024.size a ≤ S2048x1024.size a) ∧
  (∀ k0_t2 : Fin (k0_t2_loop v3).trips, ∀ (k0_h5 : k0_cond5 i = 1#1), ∀ (hinb : ∀ a, (k0_off8 v3 k0_t2) a + S512x1024.size a ≤ S2048x1024.size a), (Rect.unit (s := S2048x1024) (k0_off8 v3 k0_t2) S512x1024.size hinb).PackedRows (EltTy.packing .bf16)) ∧
  (∀ k0_t2 : Fin (k0_t2_loop v3).trips, ∀ a, (k0_off9 v3 k0_t2) a + S512x1024.size a ≤ S2048x1024.size a) ∧
  (∀ k0_t2 : Fin (k0_t2_loop v3).trips, ∀ (k0_h6 : k0_cond6 i = 1#1), ∀ a, (k0_off10 v3 k0_t2) a + S512x1024.size a ≤ S2048x1024.size a) ∧
  (∀ k0_t2 : Fin (k0_t2_loop v3).trips, ∀ (k0_h7 : k0_cond7 i = 1#1), ∀ a, (k0_off11 v3 k0_t2) a + S512x1024.size a ≤ S2048x1024.size a) ∧
  (∀ (k0_h8 : k0_cond8 v3 = 1#1), ∀ (k0_h9 : k0_cond9 i = 1#1), ∀ a, (k0_off13 v3) a + S256x1024.size a ≤ S2048x1024.size a) ∧
  (∀ (k0_h8 : k0_cond8 v3 = 1#1), ∀ (k0_h9 : k0_cond9 i = 1#1), ∀ (hinb : ∀ a, (k0_off13 v3) a + S256x1024.size a ≤ S2048x1024.size a), (Rect.unit (s := S2048x1024) (k0_off13 v3) S256x1024.size hinb).PackedRows (EltTy.packing .bf16)) ∧
  (∀ (k0_h8 : k0_cond8 v3 = 1#1), ∀ a, (k0_off14 v3) a + S256x1024.size a ≤ S2048x1024.size a) ∧
  (∀ (k0_h8 : k0_cond8 v3 = 1#1), ∀ (k0_h10 : k0_cond10 i = 1#1), ∀ a, (k0_off15 v3) a + S256x1024.size a ≤ S2048x1024.size a) ∧
  (∀ (k0_h8 : k0_cond8 v3 = 1#1), ∀ (k0_h11 : k0_cond11 i = 1#1), ∀ a, (k0_off16 v3) a + S256x1024.size a ≤ S2048x1024.size a) ∧
  (∀ (k0_h12 : k0_cond12 v3 = 1#1), ∀ (k0_h13 : k0_cond13 i = 1#1), ∀ a, (k0_off18 v3) a + S128x1024.size a ≤ S2048x1024.size a) ∧
  (∀ (k0_h12 : k0_cond12 v3 = 1#1), ∀ (k0_h13 : k0_cond13 i = 1#1), ∀ (hinb : ∀ a, (k0_off18 v3) a + S128x1024.size a ≤ S2048x1024.size a), (Rect.unit (s := S2048x1024) (k0_off18 v3) S128x1024.size hinb).PackedRows (EltTy.packing .bf16)) ∧
  (∀ (k0_h12 : k0_cond12 v3 = 1#1), ∀ a, (k0_off19 v3) a + S128x1024.size a ≤ S2048x1024.size a) ∧
  (∀ (k0_h12 : k0_cond12 v3 = 1#1), ∀ (k0_h14 : k0_cond14 i = 1#1), ∀ a, (k0_off20 v3) a + S128x1024.size a ≤ S2048x1024.size a) ∧
  (∀ (k0_h12 : k0_cond12 v3 = 1#1), ∀ (k0_h15 : k0_cond15 i = 1#1), ∀ a, (k0_off21 v3) a + S128x1024.size a ≤ S2048x1024.size a) ∧
  (∀ (k0_h16 : k0_cond16 i v3 = 1#1), (k0_t3_loop v3).OK) ∧
  (∀ k0_t3 : Fin (k0_t3_loop v3).trips, ∀ (k0_h16 : k0_cond16 i v3 = 1#1), 512 ∣ (k0_mult5 v3 k0_t3).toNat) ∧
  (∀ k0_t3 : Fin (k0_t3_loop v3).trips, ∀ (k0_h16 : k0_cond16 i v3 = 1#1), ∀ a, (k0_off22 v3 k0_t3) a + S512x1024.size a ≤ S2048x1024.size a) ∧
  (∀ (k0_h16 : k0_cond16 i v3 = 1#1), (k0_t4_loop v3).OK) ∧
  (∀ k0_t4 : Fin (k0_t4_loop v3).trips, ∀ (k0_h16 : k0_cond16 i v3 = 1#1), 512 ∣ (k0_mult6 v3 k0_t4).toNat) ∧
  (∀ k0_t4 : Fin (k0_t4_loop v3).trips, ∀ (k0_h16 : k0_cond16 i v3 = 1#1), ∀ a, (k0_off23 v3 k0_t4) a + S512x1024.size a ≤ S2048x1024.size a)
def k0_chk1_1 (i : grid0.Coords) (v3 : BitVec 32) : Prop :=
  (∀ (k0_h16 : k0_cond16 i v3 = 1#1), ∀ (k0_h17 : k0_cond17 v3 = 1#1), ∀ a, (k0_off24 v3) a + S256x1024.size a ≤ S2048x1024.size a) ∧
  (∀ (k0_h16 : k0_cond16 i v3 = 1#1), ∀ (k0_h18 : k0_cond18 v3 = 1#1), ∀ a, (k0_off25 v3) a + S128x1024.size a ≤ S2048x1024.size a)
def k0_chk1 (i : grid0.Coords) (v3 : BitVec 32) : Prop :=
  k0_chk1_0 i v3 ∧
  k0_chk1_1 i v3
theorem k0_mult1_dvd : ∀ (i : grid0.Coords) (v3 : BitVec 32) (k0_hw1 : k0_chk1 i v3), 128 ∣ (k0_mult1 v3).toNat := fun i v3 k0_hw1 => k0_hw1.1.1
theorem k0_mult2_dvd : ∀ (i : grid0.Coords) (v3 : BitVec 32) (k0_hw1 : k0_chk1 i v3), 128 ∣ (k0_mult2 v3).toNat := fun i v3 k0_hw1 => k0_hw1.1.2.1
theorem k0_t1_ok : ∀ (i : grid0.Coords) (v3 : BitVec 32) (k0_hw1 : k0_chk1 i v3), (k0_t1_loop v3).OK := fun i v3 k0_hw1 => k0_hw1.1.2.2.1
theorem k0_mult3_dvd : ∀ (i : grid0.Coords) (v3 : BitVec 32) (k0_hw1 : k0_chk1 i v3) (k0_t1 : Fin (k0_t1_loop v3).trips), 512 ∣ (k0_mult3 v3 k0_t1).toNat := fun i v3 k0_hw1 k0_t1 => k0_hw1.1.2.2.2.1 k0_t1
theorem k0_off3_inb : ∀ (i : grid0.Coords) (v3 : BitVec 32) (k0_hw1 : k0_chk1 i v3) (k0_t1 : Fin (k0_t1_loop v3).trips), ∀ (k0_h2 : k0_cond2 i = 1#1), ∀ a, (k0_off3 v3 k0_t1) a + S512x1024.size a ≤ S2048x1024.size a := fun i v3 k0_hw1 k0_t1 k0_h2 => k0_hw1.1.2.2.2.2.1 k0_t1 k0_h2
theorem k0_off3_packedbf16 : ∀ (i : grid0.Coords) (v3 : BitVec 32) (k0_hw1 : k0_chk1 i v3) (k0_t1 : Fin (k0_t1_loop v3).trips), ∀ (k0_h2 : k0_cond2 i = 1#1), (Rect.unit (s := S2048x1024) (k0_off3 v3 k0_t1) S512x1024.size (k0_off3_inb i v3 k0_hw1 k0_t1 k0_h2)).PackedRows (EltTy.packing .bf16) := fun i v3 k0_hw1 k0_t1 k0_h2 => k0_hw1.1.2.2.2.2.2.1 k0_t1 k0_h2 (k0_off3_inb i v3 k0_hw1 k0_t1 k0_h2)
theorem k0_off4_inb : ∀ (i : grid0.Coords) (v3 : BitVec 32) (k0_hw1 : k0_chk1 i v3) (k0_t1 : Fin (k0_t1_loop v3).trips), ∀ a, (k0_off4 v3 k0_t1) a + S512x1024.size a ≤ S2048x1024.size a := fun i v3 k0_hw1 k0_t1 => k0_hw1.1.2.2.2.2.2.2.1 k0_t1
theorem k0_off5_inb : ∀ (i : grid0.Coords) (v3 : BitVec 32) (k0_hw1 : k0_chk1 i v3) (k0_t1 : Fin (k0_t1_loop v3).trips), ∀ (k0_h3 : k0_cond3 i = 1#1), ∀ a, (k0_off5 v3 k0_t1) a + S512x1024.size a ≤ S2048x1024.size a := fun i v3 k0_hw1 k0_t1 k0_h3 => k0_hw1.1.2.2.2.2.2.2.2.1 k0_t1 k0_h3
theorem k0_off6_inb : ∀ (i : grid0.Coords) (v3 : BitVec 32) (k0_hw1 : k0_chk1 i v3) (k0_t1 : Fin (k0_t1_loop v3).trips), ∀ (k0_h4 : k0_cond4 i = 1#1), ∀ a, (k0_off6 v3 k0_t1) a + S512x1024.size a ≤ S2048x1024.size a := fun i v3 k0_hw1 k0_t1 k0_h4 => k0_hw1.1.2.2.2.2.2.2.2.2.1 k0_t1 k0_h4
theorem k0_t2_ok : ∀ (i : grid0.Coords) (v3 : BitVec 32) (k0_hw1 : k0_chk1 i v3), (k0_t2_loop v3).OK := fun i v3 k0_hw1 => k0_hw1.1.2.2.2.2.2.2.2.2.2.1
theorem k0_mult4_dvd : ∀ (i : grid0.Coords) (v3 : BitVec 32) (k0_hw1 : k0_chk1 i v3) (k0_t2 : Fin (k0_t2_loop v3).trips), 512 ∣ (k0_mult4 v3 k0_t2).toNat := fun i v3 k0_hw1 k0_t2 => k0_hw1.1.2.2.2.2.2.2.2.2.2.2.1 k0_t2
theorem k0_off8_inb : ∀ (i : grid0.Coords) (v3 : BitVec 32) (k0_hw1 : k0_chk1 i v3) (k0_t2 : Fin (k0_t2_loop v3).trips), ∀ (k0_h5 : k0_cond5 i = 1#1), ∀ a, (k0_off8 v3 k0_t2) a + S512x1024.size a ≤ S2048x1024.size a := fun i v3 k0_hw1 k0_t2 k0_h5 => k0_hw1.1.2.2.2.2.2.2.2.2.2.2.2.1 k0_t2 k0_h5
theorem k0_off8_packedbf16 : ∀ (i : grid0.Coords) (v3 : BitVec 32) (k0_hw1 : k0_chk1 i v3) (k0_t2 : Fin (k0_t2_loop v3).trips), ∀ (k0_h5 : k0_cond5 i = 1#1), (Rect.unit (s := S2048x1024) (k0_off8 v3 k0_t2) S512x1024.size (k0_off8_inb i v3 k0_hw1 k0_t2 k0_h5)).PackedRows (EltTy.packing .bf16) := fun i v3 k0_hw1 k0_t2 k0_h5 => k0_hw1.1.2.2.2.2.2.2.2.2.2.2.2.2.1 k0_t2 k0_h5 (k0_off8_inb i v3 k0_hw1 k0_t2 k0_h5)
theorem k0_off9_inb : ∀ (i : grid0.Coords) (v3 : BitVec 32) (k0_hw1 : k0_chk1 i v3) (k0_t2 : Fin (k0_t2_loop v3).trips), ∀ a, (k0_off9 v3 k0_t2) a + S512x1024.size a ≤ S2048x1024.size a := fun i v3 k0_hw1 k0_t2 => k0_hw1.1.2.2.2.2.2.2.2.2.2.2.2.2.2.1 k0_t2
theorem k0_off10_inb : ∀ (i : grid0.Coords) (v3 : BitVec 32) (k0_hw1 : k0_chk1 i v3) (k0_t2 : Fin (k0_t2_loop v3).trips), ∀ (k0_h6 : k0_cond6 i = 1#1), ∀ a, (k0_off10 v3 k0_t2) a + S512x1024.size a ≤ S2048x1024.size a := fun i v3 k0_hw1 k0_t2 k0_h6 => k0_hw1.1.2.2.2.2.2.2.2.2.2.2.2.2.2.2.1 k0_t2 k0_h6
theorem k0_off11_inb : ∀ (i : grid0.Coords) (v3 : BitVec 32) (k0_hw1 : k0_chk1 i v3) (k0_t2 : Fin (k0_t2_loop v3).trips), ∀ (k0_h7 : k0_cond7 i = 1#1), ∀ a, (k0_off11 v3 k0_t2) a + S512x1024.size a ≤ S2048x1024.size a := fun i v3 k0_hw1 k0_t2 k0_h7 => k0_hw1.1.2.2.2.2.2.2.2.2.2.2.2.2.2.2.2.1 k0_t2 k0_h7
theorem k0_off13_inb : ∀ (i : grid0.Coords) (v3 : BitVec 32) (k0_hw1 : k0_chk1 i v3), ∀ (k0_h8 : k0_cond8 v3 = 1#1), ∀ (k0_h9 : k0_cond9 i = 1#1), ∀ a, (k0_off13 v3) a + S256x1024.size a ≤ S2048x1024.size a := fun i v3 k0_hw1 k0_h8 k0_h9 => k0_hw1.1.2.2.2.2.2.2.2.2.2.2.2.2.2.2.2.2.1 k0_h8 k0_h9
theorem k0_off13_packedbf16 : ∀ (i : grid0.Coords) (v3 : BitVec 32) (k0_hw1 : k0_chk1 i v3), ∀ (k0_h8 : k0_cond8 v3 = 1#1), ∀ (k0_h9 : k0_cond9 i = 1#1), (Rect.unit (s := S2048x1024) (k0_off13 v3) S256x1024.size (k0_off13_inb i v3 k0_hw1 k0_h8 k0_h9)).PackedRows (EltTy.packing .bf16) := fun i v3 k0_hw1 k0_h8 k0_h9 => k0_hw1.1.2.2.2.2.2.2.2.2.2.2.2.2.2.2.2.2.2.1 k0_h8 k0_h9 (k0_off13_inb i v3 k0_hw1 k0_h8 k0_h9)
theorem k0_off14_inb : ∀ (i : grid0.Coords) (v3 : BitVec 32) (k0_hw1 : k0_chk1 i v3), ∀ (k0_h8 : k0_cond8 v3 = 1#1), ∀ a, (k0_off14 v3) a + S256x1024.size a ≤ S2048x1024.size a := fun i v3 k0_hw1 k0_h8 => k0_hw1.1.2.2.2.2.2.2.2.2.2.2.2.2.2.2.2.2.2.2.1 k0_h8
theorem k0_off15_inb : ∀ (i : grid0.Coords) (v3 : BitVec 32) (k0_hw1 : k0_chk1 i v3), ∀ (k0_h8 : k0_cond8 v3 = 1#1), ∀ (k0_h10 : k0_cond10 i = 1#1), ∀ a, (k0_off15 v3) a + S256x1024.size a ≤ S2048x1024.size a := fun i v3 k0_hw1 k0_h8 k0_h10 => k0_hw1.1.2.2.2.2.2.2.2.2.2.2.2.2.2.2.2.2.2.2.2.1 k0_h8 k0_h10
theorem k0_off16_inb : ∀ (i : grid0.Coords) (v3 : BitVec 32) (k0_hw1 : k0_chk1 i v3), ∀ (k0_h8 : k0_cond8 v3 = 1#1), ∀ (k0_h11 : k0_cond11 i = 1#1), ∀ a, (k0_off16 v3) a + S256x1024.size a ≤ S2048x1024.size a := fun i v3 k0_hw1 k0_h8 k0_h11 => k0_hw1.1.2.2.2.2.2.2.2.2.2.2.2.2.2.2.2.2.2.2.2.2.1 k0_h8 k0_h11
theorem k0_off18_inb : ∀ (i : grid0.Coords) (v3 : BitVec 32) (k0_hw1 : k0_chk1 i v3), ∀ (k0_h12 : k0_cond12 v3 = 1#1), ∀ (k0_h13 : k0_cond13 i = 1#1), ∀ a, (k0_off18 v3) a + S128x1024.size a ≤ S2048x1024.size a := fun i v3 k0_hw1 k0_h12 k0_h13 => k0_hw1.1.2.2.2.2.2.2.2.2.2.2.2.2.2.2.2.2.2.2.2.2.2.1 k0_h12 k0_h13
theorem k0_off18_packedbf16 : ∀ (i : grid0.Coords) (v3 : BitVec 32) (k0_hw1 : k0_chk1 i v3), ∀ (k0_h12 : k0_cond12 v3 = 1#1), ∀ (k0_h13 : k0_cond13 i = 1#1), (Rect.unit (s := S2048x1024) (k0_off18 v3) S128x1024.size (k0_off18_inb i v3 k0_hw1 k0_h12 k0_h13)).PackedRows (EltTy.packing .bf16) := fun i v3 k0_hw1 k0_h12 k0_h13 => k0_hw1.1.2.2.2.2.2.2.2.2.2.2.2.2.2.2.2.2.2.2.2.2.2.2.1 k0_h12 k0_h13 (k0_off18_inb i v3 k0_hw1 k0_h12 k0_h13)
theorem k0_off19_inb : ∀ (i : grid0.Coords) (v3 : BitVec 32) (k0_hw1 : k0_chk1 i v3), ∀ (k0_h12 : k0_cond12 v3 = 1#1), ∀ a, (k0_off19 v3) a + S128x1024.size a ≤ S2048x1024.size a := fun i v3 k0_hw1 k0_h12 => k0_hw1.1.2.2.2.2.2.2.2.2.2.2.2.2.2.2.2.2.2.2.2.2.2.2.2.1 k0_h12
theorem k0_off20_inb : ∀ (i : grid0.Coords) (v3 : BitVec 32) (k0_hw1 : k0_chk1 i v3), ∀ (k0_h12 : k0_cond12 v3 = 1#1), ∀ (k0_h14 : k0_cond14 i = 1#1), ∀ a, (k0_off20 v3) a + S128x1024.size a ≤ S2048x1024.size a := fun i v3 k0_hw1 k0_h12 k0_h14 => k0_hw1.1.2.2.2.2.2.2.2.2.2.2.2.2.2.2.2.2.2.2.2.2.2.2.2.2.1 k0_h12 k0_h14
theorem k0_off21_inb : ∀ (i : grid0.Coords) (v3 : BitVec 32) (k0_hw1 : k0_chk1 i v3), ∀ (k0_h12 : k0_cond12 v3 = 1#1), ∀ (k0_h15 : k0_cond15 i = 1#1), ∀ a, (k0_off21 v3) a + S128x1024.size a ≤ S2048x1024.size a := fun i v3 k0_hw1 k0_h12 k0_h15 => k0_hw1.1.2.2.2.2.2.2.2.2.2.2.2.2.2.2.2.2.2.2.2.2.2.2.2.2.2.1 k0_h12 k0_h15
theorem k0_t3_ok : ∀ (i : grid0.Coords) (v3 : BitVec 32) (k0_hw1 : k0_chk1 i v3), ∀ (k0_h16 : k0_cond16 i v3 = 1#1), (k0_t3_loop v3).OK := fun i v3 k0_hw1 k0_h16 => k0_hw1.1.2.2.2.2.2.2.2.2.2.2.2.2.2.2.2.2.2.2.2.2.2.2.2.2.2.2.1 k0_h16
theorem k0_mult5_dvd : ∀ (i : grid0.Coords) (v3 : BitVec 32) (k0_hw1 : k0_chk1 i v3) (k0_t3 : Fin (k0_t3_loop v3).trips), ∀ (k0_h16 : k0_cond16 i v3 = 1#1), 512 ∣ (k0_mult5 v3 k0_t3).toNat := fun i v3 k0_hw1 k0_t3 k0_h16 => k0_hw1.1.2.2.2.2.2.2.2.2.2.2.2.2.2.2.2.2.2.2.2.2.2.2.2.2.2.2.2.1 k0_t3 k0_h16
theorem k0_off22_inb : ∀ (i : grid0.Coords) (v3 : BitVec 32) (k0_hw1 : k0_chk1 i v3) (k0_t3 : Fin (k0_t3_loop v3).trips), ∀ (k0_h16 : k0_cond16 i v3 = 1#1), ∀ a, (k0_off22 v3 k0_t3) a + S512x1024.size a ≤ S2048x1024.size a := fun i v3 k0_hw1 k0_t3 k0_h16 => k0_hw1.1.2.2.2.2.2.2.2.2.2.2.2.2.2.2.2.2.2.2.2.2.2.2.2.2.2.2.2.2.1 k0_t3 k0_h16
theorem k0_t4_ok : ∀ (i : grid0.Coords) (v3 : BitVec 32) (k0_hw1 : k0_chk1 i v3), ∀ (k0_h16 : k0_cond16 i v3 = 1#1), (k0_t4_loop v3).OK := fun i v3 k0_hw1 k0_h16 => k0_hw1.1.2.2.2.2.2.2.2.2.2.2.2.2.2.2.2.2.2.2.2.2.2.2.2.2.2.2.2.2.2.1 k0_h16
theorem k0_mult6_dvd : ∀ (i : grid0.Coords) (v3 : BitVec 32) (k0_hw1 : k0_chk1 i v3) (k0_t4 : Fin (k0_t4_loop v3).trips), ∀ (k0_h16 : k0_cond16 i v3 = 1#1), 512 ∣ (k0_mult6 v3 k0_t4).toNat := fun i v3 k0_hw1 k0_t4 k0_h16 => k0_hw1.1.2.2.2.2.2.2.2.2.2.2.2.2.2.2.2.2.2.2.2.2.2.2.2.2.2.2.2.2.2.2.1 k0_t4 k0_h16
theorem k0_off23_inb : ∀ (i : grid0.Coords) (v3 : BitVec 32) (k0_hw1 : k0_chk1 i v3) (k0_t4 : Fin (k0_t4_loop v3).trips), ∀ (k0_h16 : k0_cond16 i v3 = 1#1), ∀ a, (k0_off23 v3 k0_t4) a + S512x1024.size a ≤ S2048x1024.size a := fun i v3 k0_hw1 k0_t4 k0_h16 => k0_hw1.1.2.2.2.2.2.2.2.2.2.2.2.2.2.2.2.2.2.2.2.2.2.2.2.2.2.2.2.2.2.2.2 k0_t4 k0_h16
theorem k0_off24_inb : ∀ (i : grid0.Coords) (v3 : BitVec 32) (k0_hw1 : k0_chk1 i v3), ∀ (k0_h16 : k0_cond16 i v3 = 1#1), ∀ (k0_h17 : k0_cond17 v3 = 1#1), ∀ a, (k0_off24 v3) a + S256x1024.size a ≤ S2048x1024.size a := fun i v3 k0_hw1 k0_h16 k0_h17 => k0_hw1.2.1 k0_h16 k0_h17
theorem k0_off25_inb : ∀ (i : grid0.Coords) (v3 : BitVec 32) (k0_hw1 : k0_chk1 i v3), ∀ (k0_h16 : k0_cond16 i v3 = 1#1), ∀ (k0_h18 : k0_cond18 v3 = 1#1), ∀ a, (k0_off25 v3) a + S128x1024.size a ≤ S2048x1024.size a := fun i v3 k0_hw1 k0_h16 k0_h18 => k0_hw1.2.2 k0_h16 k0_h18

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let arg2 : BitVec 32 := BitVec.ofNat 32 (i 2).val
  let c0_i32_0 : BitVec 32 := 0#32
  let v5 : BitVec 1 := Scalar.cmpi .eq arg2 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

def k0_cond19 (i : grid0.Coords) : BitVec 1 :=
  let arg1 : BitVec 32 := BitVec.ofNat 32 (i 1).val
  let c7_i32 : BitVec 32 := 7#32
  let v34 : BitVec 1 := Scalar.cmpi .eq arg1 c7_i32
  let arg2 : BitVec 32 := BitVec.ofNat 32 (i 2).val
  let c6_i32_15 : BitVec 32 := 6#32
  let v35 : BitVec 1 := Scalar.cmpi .eq arg2 c6_i32_15
  let v36 : BitVec 1 := Scalar.andi v34 v35
  let v37 : BitVec 32 := Scalar.extui v36
  let c0_i32_16 : BitVec 32 := 0#32
  let v38 : BitVec 1 := Scalar.cmpi .ne v37 c0_i32_16
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg2.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, arg2.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S8x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1x1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 1 → Memref sig .tc .vmem S2048x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false, false]
-- ==== ReferenceIdeal.lean ====
abbrev S34816x1024 : Shape := ⟨2, ![34816, 1024]⟩
abbrev S34816x128 : Shape := ⟨2, ![34816, 128]⟩
abbrev S8x34816 : Shape := ⟨2, ![8, 34816]⟩
abbrev S17x8x128 : Shape := ⟨3, ![17, 8, 128]⟩
abbrev S136x8x1024 : Shape := ⟨3, ![136, 8, 1024]⟩
abbrev S2x8x1024x3584 : Shape := ⟨4, ![2, 8, 1024, 3584]⟩
abbrev S2x8x3584x1024 : Shape := ⟨4, ![2, 8, 3584, 1024]⟩
abbrev S_ : Shape := ⟨0, ![]⟩
abbrev S34816x1 : Shape := ⟨2, ![34816, 1]⟩
abbrev S1x1x1024x3584 : Shape := ⟨4, ![1, 1, 1024, 3584]⟩
abbrev S1024x3584 : Shape := ⟨2, ![1024, 3584]⟩
abbrev S1x1x3584x1024 : Shape := ⟨4, ![1, 1, 3584, 1024]⟩
abbrev S3584x1024 : Shape := ⟨2, ![3584, 1024]⟩
abbrev S34816x3584 : Shape := ⟨2, ![34816, 3584]⟩
abbrev S136x1x1024 : Shape := ⟨3, ![136, 1, 1024]⟩
abbrev S136x1024 : Shape := ⟨2, ![136, 1024]⟩
abbrev S136x256x1024 : Shape := ⟨3, ![136, 256, 1024]⟩

abbrev nBuf : Space → Nat
  | .hbm => 203
  | .vmem => 0
  | .smem => 0
  | _ => 0

abbrev hbmTy0_0 (i : Nat) : BufTy := match i % 128 with
  | 0 => ⟨S34816x1024, .f32⟩
  | 1 => ⟨S34816x1024, .bf16⟩
  | 2 => ⟨S34816x128, .f32⟩
  | 3 => ⟨S34816x128, .f32⟩
  | 4 => ⟨S8x34816, .f32⟩
  | 5 => ⟨S17x8x128, .f32⟩
  | 6 => ⟨S136x8x1024, .f32⟩
  | 7 => ⟨S2x8x1024x3584, .f32⟩
  | 8 => ⟨S2x8x1024x3584, .f32⟩
  | 9 => ⟨S2x8x3584x1024, .f32⟩
  | 10 => ⟨S34816x1024, .f32⟩
  | 11 => ⟨S_, .f32⟩
  | 12 => ⟨S34816x1024, .f32⟩
  | 13 => ⟨S34816x1, .f32⟩
  | 14 => ⟨S1x1x1024x3584, .f32⟩
  | 15 => ⟨S1024x3584, .f32⟩
  | 16 => ⟨S1x1x1024x3584, .f32⟩
  | 17 => ⟨S1024x3584, .f32⟩
  | 18 => ⟨S1x1x3584x1024, .f32⟩
  | 19 => ⟨S3584x1024, .f32⟩
  | 20 => ⟨S34816x3584, .f32⟩
  | 21 => ⟨S34816x3584, .f32⟩
  | 22 => ⟨S34816x3584, .f32⟩
  | 23 => ⟨S_, .f32⟩
  | 24 => ⟨S34816x3584, .f32⟩
  | 25 => ⟨S34816x3584, .f32⟩
  | 26 => ⟨S_, .f32⟩
  | 27 => ⟨S34816x3584, .f32⟩
  | 28 => ⟨S34816x3584, .f32⟩
  | 29 => ⟨S34816x3584, .f32⟩
  | 30 => ⟨S34816x3584, .f32⟩
  | 31 => ⟨S34816x3584, .f32⟩
  | 32 => ⟨S34816x1024, .f32⟩
  | 33 => ⟨S34816x1024, .f32⟩
  | 34 => ⟨S34816x1024, .f32⟩
  | 35 => ⟨S34816x1024, .f32⟩
  | 36 => ⟨S34816x1, .f32⟩
  | 37 => ⟨S1x1x1024x3584, .f32⟩
  | 38 => ⟨S1024x3584, .f32⟩
  | 39 => ⟨S1x1x1024x3584, .f32⟩
  | 40 => ⟨S1024x3584, .f32⟩
  | 41 => ⟨S1x1x3584x1024, .f32⟩
  | 42 => ⟨S3584x1024, .f32⟩
  | 43 => ⟨S34816x3584, .f32⟩
  | 44 => ⟨S34816x3584, .f32⟩
  | 45 => ⟨S34816x3584, .f32⟩
  | 46 => ⟨S_, .f32⟩
  | 47 => ⟨S34816x3584, .f32⟩
  | 48 => ⟨S34816x3584, .f32⟩
  | 49 => ⟨S_, .f32⟩
  | 50 => ⟨S34816x3584, .f32⟩
  | 51 => ⟨S34816x3584, .f32⟩
  | 52 => ⟨S34816x3584, .f32⟩
  | 53 => ⟨S34816x3584, .f32⟩
  | 54 => ⟨S34816x3584, .f32⟩
  | 55 => ⟨S34816x1024, .f32⟩
  | 56 => ⟨S34816x1024, .f32⟩
  | 57 => ⟨S34816x1024, .f32⟩
  | 58 => ⟨S34816x1024, .f32⟩
  | 59 => ⟨S34816x1, .f32⟩
  | 60 => ⟨S1x1x1024x3584, .f32⟩
  | 61 => ⟨S1024x3584, .f32⟩
  | 62 => ⟨S1x1x1024x3584, .f32⟩
  | 63 => ⟨S1024x3584, .f32⟩
  | 64 => ⟨S1x1x3584x1024, .f32⟩
  | 65 => ⟨S3584x1024, .f32⟩
  | 66 => ⟨S34816x3584, .f32⟩
  | 67 => ⟨S34816x3584, .f32⟩
  | 68 => ⟨S34816x3584, .f32⟩
  | 69 => ⟨S_, .f32⟩
  | 70 => ⟨S34816x3584, .f32⟩
  | 71 => ⟨S34816x3584, .f32⟩
  | 72 => ⟨S_, .f32⟩
  | 73 => ⟨S34816x3584, .f32⟩
  | 74 => ⟨S34816x3584, .f32⟩
  | 75 => ⟨S34816x3584, .f32⟩
  | 76 => ⟨S34816x3584, .f32⟩
  | 77 => ⟨S34816x3584, .f32⟩
  | 78 => ⟨S34816x1024, .f32⟩
  | 79 => ⟨S34816x1024, .f32⟩
  | 80 => ⟨S34816x1024, .f32⟩
  | 81 => ⟨S34816x1024, .f32⟩
  | 82 => ⟨S34816x1, .f32⟩
  | 83 => ⟨S1x1x1024x3584, .f32⟩
  | 84 => ⟨S1024x3584, .f32⟩
  | 85 => ⟨S1x1x1024x3584, .f32⟩
  | 86 => ⟨S1024x3584, .f32⟩
  | 87 => ⟨S1x1x3584x1024, .f32⟩
  | 88 => ⟨S3584x1024, .f32⟩
  | 89 => ⟨S34816x3584, .f32⟩
  | 90 => ⟨S34816x3584, .f32⟩
  | 91 => ⟨S34816x3584, .f32⟩
  | 92 => ⟨S_, .f32⟩
  | 93 => ⟨S34816x3584, .f32⟩
  | 94 => ⟨S34816x3584, .f32⟩
  | 95 => ⟨S_, .f32⟩
  | 96 => ⟨S34816x3584, .f32⟩
  | 97 => ⟨S34816x3584, .f32⟩
  | 98 => ⟨S34816x3584, .f32⟩
  | 99 => ⟨S34816x3584, .f32⟩
  | 100 => ⟨S34816x3584, .f32⟩
  | 101 => ⟨S34816x1024, .f32⟩
  | 102 => ⟨S34816x1024, .f32⟩
  | 103 => ⟨S34816x1024, .f32⟩
  | 104 => ⟨S34816x1024, .f32⟩
  | 105 => ⟨S34816x1, .f32⟩
  | 106 => ⟨S1x1x1024x3584, .f32⟩
  | 107 => ⟨S1024x3584, .f32⟩
  | 108 => ⟨S1x1x1024x3584, .f32⟩
  | 109 => ⟨S1024x3584, .f32⟩
  | 110 => ⟨S1x1x3584x1024, .f32⟩
  | 111 => ⟨S3584x1024, .f32⟩
  | 112 => ⟨S34816x3584, .f32⟩
  | 113 => ⟨S34816x3584, .f32⟩
  | 114 => ⟨S34816x3584, .f32⟩
  | 115 => ⟨S_, .f32⟩
  | 116 => ⟨S34816x3584, .f32⟩
  | 117 => ⟨S34816x3584, .f32⟩
  | 118 => ⟨S_, .f32⟩
  | 119 => ⟨S34816x3584, .f32⟩
  | 120 => ⟨S34816x3584, .f32⟩
  | 121 => ⟨S34816x3584, .f32⟩
  | 122 => ⟨S34816x3584, .f32⟩
  | 123 => ⟨S34816x3584, .f32⟩
  | 124 => ⟨S34816x1024, .f32⟩
  | 125 => ⟨S34816x1024, .f32⟩
  | 126 => ⟨S34816x1024, .f32⟩
  | 127 => ⟨S34816x1024, .f32⟩
  | _ => ⟨S34816x1024, .f32⟩

abbrev hbmTy0_1 (i : Nat) : BufTy := match i % 128 with
  | 0 => ⟨S34816x1, .f32⟩
  | 1 => ⟨S1x1x1024x3584, .f32⟩
  | 2 => ⟨S1024x3584, .f32⟩
  | 3 => ⟨S1x1x1024x3584, .f32⟩
  | 4 => ⟨S1024x3584, .f32⟩
  | 5 => ⟨S1x1x3584x1024, .f32⟩
  | 6 => ⟨S3584x1024, .f32⟩
  | 7 => ⟨S34816x3584, .f32⟩
  | 8 => ⟨S34816x3584, .f32⟩
  | 9 => ⟨S34816x3584, .f32⟩
  | 10 => ⟨S_, .f32⟩
  | 11 => ⟨S34816x3584, .f32⟩
  | 12 => ⟨S34816x3584, .f32⟩
  | 13 => ⟨S_, .f32⟩
  | 14 => ⟨S34816x3584, .f32⟩
  | 15 => ⟨S34816x3584, .f32⟩
  | 16 => ⟨S34816x3584, .f32⟩
  | 17 => ⟨S34816x3584, .f32⟩
  | 18 => ⟨S34816x3584, .f32⟩
  | 19 => ⟨S34816x1024, .f32⟩
  | 20 => ⟨S34816x1024, .f32⟩
  | 21 => ⟨S34816x1024, .f32⟩
  | 22 => ⟨S34816x1024, .f32⟩
  | 23 => ⟨S34816x1, .f32⟩
  | 24 => ⟨S1x1x1024x3584, .f32⟩
  | 25 => ⟨S1024x3584, .f32⟩
  | 26 => ⟨S1x1x1024x3584, .f32⟩
  | 27 => ⟨S1024x3584, .f32⟩
  | 28 => ⟨S1x1x3584x1024, .f32⟩
  | 29 => ⟨S3584x1024, .f32⟩
  | 30 => ⟨S34816x3584, .f32⟩
  | 31 => ⟨S34816x3584, .f32⟩
  | 32 => ⟨S34816x3584, .f32⟩
  | 33 => ⟨S_, .f32⟩
  | 34 => ⟨S34816x3584, .f32⟩
  | 35 => ⟨S34816x3584, .f32⟩
  | 36 => ⟨S_, .f32⟩
  | 37 => ⟨S34816x3584, .f32⟩
  | 38 => ⟨S34816x3584, .f32⟩
  | 39 => ⟨S34816x3584, .f32⟩
  | 40 => ⟨S34816x3584, .f32⟩
  | 41 => ⟨S34816x3584, .f32⟩
  | 42 => ⟨S34816x1024, .f32⟩
  | 43 => ⟨S34816x1024, .f32⟩
  | 44 => ⟨S34816x1024, .f32⟩
  | 45 => ⟨S34816x1024, .f32⟩
  | 46 => ⟨S34816x1, .f32⟩
  | 47 => ⟨S1x1x1024x3584, .f32⟩
  | 48 => ⟨S1024x3584, .f32⟩
  | 49 => ⟨S1x1x1024x3584, .f32⟩
  | 50 => ⟨S1024x3584, .f32⟩
  | 51 => ⟨S1x1x3584x1024, .f32⟩
  | 52 => ⟨S3584x1024, .f32⟩
  | 53 => ⟨S34816x3584, .f32⟩
  | 54 => ⟨S34816x3584, .f32⟩
  | 55 => ⟨S34816x3584, .f32⟩
  | 56 => ⟨S_, .f32⟩
  | 57 => ⟨S34816x3584, .f32⟩
  | 58 => ⟨S34816x3584, .f32⟩
  | 59 => ⟨S_, .f32⟩
  | 60 => ⟨S34816x3584, .f32⟩
  | 61 => ⟨S34816x3584, .f32⟩
  | 62 => ⟨S34816x3584, .f32⟩
  | 63 => ⟨S34816x3584, .f32⟩
  | 64 => ⟨S34816x3584, .f32⟩
  | 65 => ⟨S34816x1024, .f32⟩
  | 66 => ⟨S34816x1024, .f32⟩
  | 67 => ⟨S34816x1024, .f32⟩
  | 68 => ⟨S34816x1024, .f32⟩
  | 69 => ⟨S136x1x1024, .f32⟩
  | 70 => ⟨S136x1024, .f32⟩
  | 71 => ⟨S136x256x1024, .f32⟩
  | 72 => ⟨S34816x1024, .f32⟩
  | 73 => ⟨S34816x1024, .f32⟩
  | 74 => ⟨S34816x1024, .f32⟩
  | _ => ⟨S34816x1024, .f32⟩

abbrev hbmTy (i : Nat) : BufTy := match i / 128 with
  | 0 => hbmTy0_0 i
  | 1 => hbmTy0_1 i
  | _ => ⟨S34816x1024, .f32⟩

abbrev bufTy : (tb : Table) → Fin (tcTables nBuf tb) → BufTy
  | .hbm, ⟨i, _⟩ => hbmTy i
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call2_v0 : Ref sig .tc := ⟨.hbm, 67, rfl⟩
abbrev main_call2_v1 : Ref sig .tc := ⟨.hbm, 68, rfl⟩
abbrev main_call2_cst : Ref sig .tc := ⟨.hbm, 69, rfl⟩
abbrev main_call2_v2 : Ref sig .tc := ⟨.hbm, 70, rfl⟩
abbrev main_call2_v3 : Ref sig .tc := ⟨.hbm, 71, rfl⟩
abbrev main_call2_cst_0 : Ref sig .tc := ⟨.hbm, 72, rfl⟩
abbrev main_call2_v4 : Ref sig .tc := ⟨.hbm, 73, rfl⟩
abbrev main_call2_v5 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_call3_v0 : Ref sig .tc := ⟨.hbm, 90, rfl⟩
abbrev main_call3_v1 : Ref sig .tc := ⟨.hbm, 91, rfl⟩
abbrev main_call3_cst : Ref sig .tc := ⟨.hbm, 92, rfl⟩
abbrev main_call3_v2 : Ref sig .tc := ⟨.hbm, 93, rfl⟩
abbrev main_call3_v3 : Ref sig .tc := ⟨.hbm, 94, rfl⟩
abbrev main_call3_cst_0 : Ref sig .tc := ⟨.hbm, 95, rfl⟩
abbrev main_call3_v4 : Ref sig .tc := ⟨.hbm, 96, rfl⟩
abbrev main_call3_v5 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_call4_v0 : Ref sig .tc := ⟨.hbm, 113, rfl⟩
abbrev main_call4_v1 : Ref sig .tc := ⟨.hbm, 114, rfl⟩
abbrev main_call4_cst : Ref sig .tc := ⟨.hbm, 115, rfl⟩
abbrev main_call4_v2 : Ref sig .tc := ⟨.hbm, 116, rfl⟩
abbrev main_call4_v3 : Ref sig .tc := ⟨.hbm, 117, rfl⟩
abbrev main_call4_cst_0 : Ref sig .tc := ⟨.hbm, 118, rfl⟩
abbrev main_call4_v4 : Ref sig .tc := ⟨.hbm, 119, rfl⟩
abbrev main_call4_v5 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_call5_v0 : Ref sig .tc := ⟨.hbm, 136, rfl⟩
abbrev main_call5_v1 : Ref sig .tc := ⟨.hbm, 137, rfl⟩
abbrev main_call5_cst : Ref sig .tc := ⟨.hbm, 138, rfl⟩
abbrev main_call5_v2 : Ref sig .tc := ⟨.hbm, 139, rfl⟩
abbrev main_call5_v3 : Ref sig .tc := ⟨.hbm, 140, rfl⟩
abbrev main_call5_cst_0 : Ref sig .tc := ⟨.hbm, 141, rfl⟩
abbrev main_call5_v4 : Ref sig .tc := ⟨.hbm, 142, rfl⟩
abbrev main_call5_v5 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_call6_v0 : Ref sig .tc := ⟨.hbm, 159, rfl⟩
abbrev main_call6_v1 : Ref sig .tc := ⟨.hbm, 160, rfl⟩
abbrev main_call6_cst : Ref sig .tc := ⟨.hbm, 161, rfl⟩
abbrev main_call6_v2 : Ref sig .tc := ⟨.hbm, 162, rfl⟩
abbrev main_call6_v3 : Ref sig .tc := ⟨.hbm, 163, rfl⟩
abbrev main_call6_cst_0 : Ref sig .tc := ⟨.hbm, 164, rfl⟩
abbrev main_call6_v4 : Ref sig .tc := ⟨.hbm, 165, rfl⟩
abbrev main_call6_v5 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_call7_v0 : Ref sig .tc := ⟨.hbm, 182, rfl⟩
abbrev main_call7_v1 : Ref sig .tc := ⟨.hbm, 183, rfl⟩
abbrev main_call7_cst : Ref sig .tc := ⟨.hbm, 184, rfl⟩
abbrev main_call7_v2 : Ref sig .tc := ⟨.hbm, 185, rfl⟩
abbrev main_call7_v3 : Ref sig .tc := ⟨.hbm, 186, rfl⟩
abbrev main_call7_cst_0 : Ref sig .tc := ⟨.hbm, 187, rfl⟩
abbrev main_call7_v4 : Ref sig .tc := ⟨.hbm, 188, rfl⟩
abbrev main_call7_v5 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩

abbrev nD : Nat := 1
abbrev τ : Topo := Topo.v7x

variable {F : FTy → Type} [FloatOps F]
-- ==== Last.lean ====
abbrev S34816x1024 : Shape := ⟨2, ![34816, 1024]⟩
abbrev S34816x128 : Shape := ⟨2, ![34816, 128]⟩
abbrev S8x34816 : Shape := ⟨2, ![8, 34816]⟩
abbrev S17x8x128 : Shape := ⟨3, ![17, 8, 128]⟩
abbrev S136x8x1024 : Shape := ⟨3, ![136, 8, 1024]⟩
abbrev S2x8x1024x3584 : Shape := ⟨4, ![2, 8, 1024, 3584]⟩
abbrev S2x8x3584x1024 : Shape := ⟨4, ![2, 8, 3584, 1024]⟩
abbrev S17x1x8 : Shape := ⟨3, ![17, 1, 8]⟩
abbrev S17x8 : Shape := ⟨2, ![17, 8]⟩
abbrev S_ : Shape := ⟨0, ![]⟩
abbrev S136 : Shape := ⟨1, ![136]⟩
abbrev S2048x1024 : Shape := ⟨2, ![2048, 1024]⟩
abbrev S2048x128 : Shape := ⟨2, ![2048, 128]⟩
abbrev S8x2048 : Shape := ⟨2, ![8, 2048]⟩
abbrev S8x8x1024 : Shape := ⟨3, ![8, 8, 1024]⟩
abbrev S1x1x1024x512 : Shape := ⟨4, ![1, 1, 1024, 512]⟩
abbrev S1x1x512x1024 : Shape := ⟨4, ![1, 1, 512, 1024]⟩
abbrev S1 : Shape := ⟨1, ![1]⟩
abbrev S512x1 : Shape := ⟨2, ![512, 1]⟩
abbrev S1x2048 : Shape := ⟨2, ![1, 2048]⟩
abbrev S512x2048 : Shape := ⟨2, ![512, 2048]⟩
abbrev S512x1024 : Shape := ⟨2, ![512, 1024]⟩
abbrev S1024x512 : Shape := ⟨2, ![1024, 512]⟩
abbrev S512x512 : Shape := ⟨2, ![512, 512]⟩
abbrev S256x1 : Shape := ⟨2, ![256, 1]⟩
abbrev S256x2048 : Shape := ⟨2, ![256, 2048]⟩
abbrev S256x1024 : Shape := ⟨2, ![256, 1024]⟩
abbrev S256x512 : Shape := ⟨2, ![256, 512]⟩
abbrev S128x1 : Shape := ⟨2, ![128, 1]⟩
abbrev S128x2048 : Shape := ⟨2, ![128, 2048]⟩
abbrev S128x1024 : Shape := ⟨2, ![128, 1024]⟩
abbrev S128x512 : Shape := ⟨2, ![128, 512]⟩
abbrev S2048 : Shape := ⟨1, ![2048]⟩
abbrev S2048x1 : Shape := ⟨2, ![2048, 1]⟩
abbrev S1x512 : Shape := ⟨2, ![1, 512]⟩
abbrev S2048x512 : Shape := ⟨2, ![2048, 512]⟩
abbrev S1x256 : Shape := ⟨2, ![1, 256]⟩
abbrev S2048x256 : Shape := ⟨2, ![2048, 256]⟩
abbrev S1x128 : Shape := ⟨2, ![1, 128]⟩
abbrev S1x1x1024 : Shape := ⟨3, ![1, 1, 1024]⟩
abbrev S1x1024 : Shape := ⟨2, ![1, 1024]⟩

abbrev nBuf : Space → Nat
  | .hbm => 38
  | .vmem => 16
  | .smem => 1
  | _ => 0

abbrev bufTy : (tb : Table) → Fin (tcTables nBuf tb) → BufTy
  | .hbm, ⟨0, _⟩ => ⟨S34816x1024, .f32⟩
  | .hbm, ⟨1, _⟩ => ⟨S34816x1024, .bf16⟩
  | .hbm, ⟨2, _⟩ => ⟨S34816x128, .f32⟩
  | .hbm, ⟨3, _⟩ => ⟨S34816x128, .f32⟩
  | .hbm, ⟨4, _⟩ => ⟨S8x34816, .f32⟩
  | .hbm, ⟨5, _⟩ => ⟨S17x8x128, .f32⟩
  | .hbm, ⟨6, _⟩ => ⟨S136x8x1024, .f32⟩
  | .hbm, ⟨7, _⟩ => ⟨S2x8x1024x3584, .f32⟩
  | .hbm, ⟨8, _⟩ => ⟨S2x8x1024x3584, .f32⟩
  | .hbm, ⟨9, _⟩ => ⟨S2x8x3584x1024, .f32⟩
  | .hbm, ⟨10, _⟩ => ⟨S2x8x1024x3584, .bf16⟩
  | .hbm, ⟨11, _⟩ => ⟨S2x8x1024x3584, .bf16⟩
  | .hbm, ⟨12, _⟩ => ⟨S2x8x3584x1024, .bf16⟩
  | .hbm, ⟨13, _⟩ => ⟨S17x1x8, .f32⟩
  | .hbm, ⟨14, _⟩ => ⟨S17x8, .f32⟩
  | .hbm, ⟨15, _⟩ => ⟨S17x8, .i32⟩
  | .hbm, ⟨16, _⟩ => ⟨S_, .i32⟩
  | .hbm, ⟨17, _⟩ => ⟨S17x8, .i32⟩
  | .hbm, ⟨18, _⟩ => ⟨S17x8, .i32⟩
  | .hbm, ⟨19, _⟩ => ⟨S_, .i32⟩
  | .hbm, ⟨20, _⟩ => ⟨S_, .i32⟩
  | .hbm, ⟨21, _⟩ => ⟨S17x8, .i32⟩
  | .hbm, ⟨22, _⟩ => ⟨S17x8, .i32⟩
  | .hbm, ⟨23, _⟩ => ⟨S17x8, .i32⟩
  | .hbm, ⟨24, _⟩ => ⟨S_, .i32⟩
  | .hbm, ⟨25, _⟩ => ⟨S17x8, .i32⟩
  | .hbm, ⟨26, _⟩ => ⟨S17x8, .i1⟩
  | .hbm, ⟨27, _⟩ => ⟨S17x8, .i32⟩
  | .hbm, ⟨28, _⟩ => ⟨S17x8, .i32⟩
  | .hbm, ⟨29, _⟩ => ⟨S_, .i32⟩
  | .hbm, ⟨30, _⟩ => ⟨S17x8, .i32⟩
  | .hbm, ⟨31, _⟩ => ⟨S17x8, .i1⟩
  | .hbm, ⟨32, _⟩ => ⟨S17x8, .i1⟩
  | .hbm, ⟨33, _⟩ => ⟨S_, .i32⟩
  | .hbm, ⟨34, _⟩ => ⟨S17x8, .i32⟩
  | .hbm, ⟨35, _⟩ => ⟨S17x8, .i32⟩
  | .hbm, ⟨36, _⟩ => ⟨S17x8, .i32⟩
  | .hbm, ⟨37, _⟩ => ⟨S34816x1024, .f32⟩
  | .local _ .vmem, ⟨0, _⟩ => ⟨S2048x1024, .f32⟩
  | .local _ .vmem, ⟨1, _⟩ => ⟨S2048x1024, .bf16⟩
  | .local _ .vmem, ⟨2, _⟩ => ⟨S2048x128, .f32⟩
  | .local _ .vmem, ⟨3, _⟩ => ⟨S2048x128, .f32⟩
  | .local _ .vmem, ⟨4, _⟩ => ⟨S8x2048, .f32⟩
  | .local _ .vmem, ⟨5, _⟩ => ⟨S8x8x1024, .f32⟩
  | .local _ .vmem, ⟨6, _⟩ => ⟨S8x8x1024, .f32⟩
  | .local _ .vmem, ⟨7, _⟩ => ⟨S1x1x1024x512, .bf16⟩
  | .local _ .vmem, ⟨8, _⟩ => ⟨S1x1x1024x512, .bf16⟩
  | .local _ .vmem, ⟨9, _⟩ => ⟨S1x1x1024x512, .bf16⟩
  | .local _ .vmem, ⟨10, _⟩ => ⟨S1x1x1024x512, .bf16⟩
  | .local _ .vmem, ⟨11, _⟩ => ⟨S1x1x512x1024, .bf16⟩
  | .local _ .vmem, ⟨12, _⟩ => ⟨S1x1x512x1024, .bf16⟩
  | .local _ .vmem, ⟨13, _⟩ => ⟨S2048x1024, .f32⟩
  | .local _ .vmem, ⟨14, _⟩ => ⟨S2048x1024, .bf16⟩
  | .local _ .vmem, ⟨15, _⟩ => ⟨S2048x1024, .f32⟩
  | .local _ .smem, ⟨0, _⟩ => ⟨S136, .i32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v8 : Ref sig .tc := ⟨.hbm, 36, rfl⟩
abbrev main_v10 : Ref sig .tc := ⟨.hbm, 37, rfl⟩
abbrev main_v9 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨3, ![17, 8, 7], ![false, false, false]⟩

abbrev pre0 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v2 : Index := Scalar.indexCast v1
  ![v2.toNat]
def k0_mult1 (v3 : BitVec 32) : BitVec 32 :=
  let c2_i32 : BitVec 32 := 2#32
  let v9 : BitVec 32 := Scalar.shrui v3 c2_i32
  let c512_i32 : BitVec 32 := 512#32
  let v10 : BitVec 32 := Scalar.muli v9 c512_i32
  v10

def k0_mult2 (v3 : BitVec 32) : BitVec 32 :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let c2_i32_2 : BitVec 32 := 2#32
  let v12 : BitVec 32 := Scalar.andi v3 c2_i32_2
  let c128_i32 : BitVec 32 := 128#32
  let v13 : BitVec 32 := Scalar.muli v12 c128_i32
  let v14 : BitVec 32 := Scalar.addi v11 v13
  v14
@[reducible] def k0_t1_loop (v3 : BitVec 32) : Scf.Loop 32 :=
  let c0_i32_4 : BitVec 32 := 0#32
  let c2_i32 : BitVec 32 := 2#32
  let v9 : BitVec 32 := Scalar.shrui v3 c2_i32
  let v16 : BitVec 32 := Scalar.subi v9 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let c1_i32_5 : BitVec 32 := 1#32
  ⟨c0_i32_4, v20, c1_i32_5⟩
def k0_mult3 (v3 : BitVec 32) (k0_t1 : Fin (k0_t1_loop v3).trips) : BitVec 32 :=
  let c0_i32_4 : BitVec 32 := 0#32
  let c1_i32_5 : BitVec 32 := 1#32
  let arg16 : BitVec 32 := Scf.iv c0_i32_4 c1_i32_5 k0_t1
  let c512_i32_17 : BitVec 32 := 512#32
  let v39 : BitVec 32 := Scalar.muli arg16 c512_i32_17
  v39
def k0_cond2 (i : grid0.Coords) : BitVec 1 :=
  let arg2 : BitVec 32 := BitVec.ofNat 32 (i 2).val
  let c0_i32_18 : BitVec 32 := 0#32
  let v41 : BitVec 1 := Scalar.cmpi .eq arg2 c0_i32_18
  let v42 : BitVec 32 := Scalar.extui v41
  let c0_i32_19 : BitVec 32 := 0#32
  let v43 : BitVec 1 := Scalar.cmpi .ne v42 c0_i32_19
  v43

def k0_off2 (i : grid0.Coords) : Fin 2 → Nat :=
  let arg1 : BitVec 32 := BitVec.ofNat 32 (i 1).val
  let v75 : Index := Scalar.indexCast arg1
  let c0_41 : Index := 0#32
  ![v75.toNat, 0]
def k0_off3 (v3 : BitVec 32) (k0_t1 : Fin (k0_t1_loop v3).trips) : Fin 2 → Nat :=
  let c0_i32_4 : BitVec 32 := 0#32
  let c1_i32_5 : BitVec 32 := 1#32
  let arg16 : BitVec 32 := Scf.iv c0_i32_4 c1_i32_5 k0_t1
  let c512_i32_17 : BitVec 32 := 512#32
  let v39 : BitVec 32 := Scalar.muli arg16 c512_i32_17
  let v40 : BitVec 32 := v39
  let v87 : Index := Scalar.indexCast v40
  let c0_47 : Index := 0#32
  ![v87.toNat, 0]
def k0_off4 (v3 : BitVec 32) (k0_t1 : Fin (k0_t1_loop v3).trips) : Fin 2 → Nat :=
  let c0_i32_4 : BitVec 32 := 0#32
  let c1_i32_5 : BitVec 32 := 1#32
  let arg16 : BitVec 32 := Scf.iv c0_i32_4 c1_i32_5 k0_t1
  let c512_i32_17 : BitVec 32 := 512#32
  let v39 : BitVec 32 := Scalar.muli arg16 c512_i32_17
  let v40 : BitVec 32 := v39
  let v44 : Index := Scalar.indexCast v40
  let c0 : Index := 0#32
  ![v44.toNat, 0]
def k0_cond3 (i : grid0.Coords) : BitVec 1 :=
  let arg2 : BitVec 32 := BitVec.ofNat 32 (i 2).val
  let c0_i32_37 : BitVec 32 := 0#32
  let v65 : BitVec 1 := Scalar.cmpi .eq arg2 c0_i32_37
  let v66 : BitVec 32 := Scalar.extui v65
  let c0_i32_38 : BitVec 32 := 0#32
  let v67 : BitVec 1 := Scalar.cmpi .ne v66 c0_i32_38
  v67

def k0_off5 (v3 : BitVec 32) (k0_t1 : Fin (k0_t1_loop v3).trips) : Fin 2 → Nat :=
  let c0_i32_4 : BitVec 32 := 0#32
  let c1_i32_5 : BitVec 32 := 1#32
  let arg16 : BitVec 32 := Scf.iv c0_i32_4 c1_i32_5 k0_t1
  let c512_i32_17 : BitVec 32 := 512#32
  let v39 : BitVec 32 := Scalar.muli arg16 c512_i32_17
  let v40 : BitVec 32 := v39
  let v71 : Index := Scalar.indexCast v40
  let c0_41 : Index := 0#32
  ![v71.toNat, 0]
def k0_cond4 (i : grid0.Coords) : BitVec 1 :=
  let arg2 : BitVec 32 := BitVec.ofNat 32 (i 2).val
  let c0_i32_39 : BitVec 32 := 0#32
  let v68 : BitVec 1 := Scalar.cmpi .sgt arg2 c0_i32_39
  let v69 : BitVec 32 := Scalar.extui v68
  let c0_i32_40 : BitVec 32 := 0#32
  let v70 : BitVec 1 := Scalar.cmpi .ne v69 c0_i32_40
  v70

def k0_off6 (v3 : BitVec 32) (k0_t1 : Fin (k0_t1_loop v3).trips) : Fin 2 → Nat :=
  let c0_i32_4 : BitVec 32 := 0#32
  let c1_i32_5 : BitVec 32 := 1#32
  let arg16 : BitVec 32 := Scf.iv c0_i32_4 c1_i32_5 k0_t1
  let c512_i32_17 : BitVec 32 := 512#32
  let v39 : BitVec 32 := Scalar.muli arg16 c512_i32_17
  let v40 : BitVec 32 := v39
  let v71 : Index := Scalar.indexCast v40
  let c0_41 : Index := 0#32
  ![v71.toNat, 0]
@[reducible] def k0_t2_loop (v3 : BitVec 32) : Scf.Loop 32 :=
  let c0_i32_4 : BitVec 32 := 0#32
  let c2_i32 : BitVec 32 := 2#32
  let v9 : BitVec 32 := Scalar.shrui v3 c2_i32
  let v16 : BitVec 32 := Scalar.subi v9 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let v17 : BitVec 32 := Scalar.addi c0_i32_4 v16
  let c1_i32_6 : BitVec 32 := 1#32
  ⟨v20, v17, c1_i32_6⟩
def k0_mult4 (v3 : BitVec 32) (k0_t2 : Fin (k0_t2_loop v3).trips) : BitVec 32 :=
  let c0_i32_4 : BitVec 32 := 0#32
  let c2_i32 : BitVec 32 := 2#32
  let v9 : BitVec 32 := Scalar.shrui v3 c2_i32
  let v16 : BitVec 32 := Scalar.subi v9 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let c1_i32_6 : BitVec 32 := 1#32
  let arg16 : BitVec 32 := Scf.iv v20 c1_i32_6 k0_t2
  let c512_i32_17 : BitVec 32 := 512#32
  let v39 : BitVec 32 := Scalar.muli arg16 c512_i32_17
  v39
def k0_cond5 (i : grid0.Coords) : BitVec 1 :=
  let arg2 : BitVec 32 := BitVec.ofNat 32 (i 2).val
  let c0_i32_18 : BitVec 32 := 0#32
  let v41 : BitVec 1 := Scalar.cmpi .eq arg2 c0_i32_18
  let v42 : BitVec 32 := Scalar.extui v41
  let c0_i32_19 : BitVec 32 := 0#32
  let v43 : BitVec 1 := Scalar.cmpi .ne v42 c0_i32_19
  v43

def k0_off7 (i : grid0.Coords) : Fin 2 → Nat :=
  let arg1 : BitVec 32 := BitVec.ofNat 32 (i 1).val
  let v75 : Index := Scalar.indexCast arg1
  let c0_41 : Index := 0#32
  ![v75.toNat, 0]
def k0_off8 (v3 : BitVec 32) (k0_t2 : Fin (k0_t2_loop v3).trips) : Fin 2 → Nat :=
  let c0_i32_4 : BitVec 32 := 0#32
  let c2_i32 : BitVec 32 := 2#32
  let v9 : BitVec 32 := Scalar.shrui v3 c2_i32
  let v16 : BitVec 32 := Scalar.subi v9 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let c1_i32_6 : BitVec 32 := 1#32
  let arg16 : BitVec 32 := Scf.iv v20 c1_i32_6 k0_t2
  let c512_i32_17 : BitVec 32 := 512#32
  let v39 : BitVec 32 := Scalar.muli arg16 c512_i32_17
  let v40 : BitVec 32 := v39
  let v87 : Index := Scalar.indexCast v40
  let c0_47 : Index := 0#32
  ![v87.toNat, 0]
def k0_off9 (v3 : BitVec 32) (k0_t2 : Fin (k0_t2_loop v3).trips) : Fin 2 → Nat :=
  let c0_i32_4 : BitVec 32 := 0#32
  let c2_i32 : BitVec 32 := 2#32
  let v9 : BitVec 32 := Scalar.shrui v3 c2_i32
  let v16 : BitVec 32 := Scalar.subi v9 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let c1_i32_6 : BitVec 32 := 1#32
  let arg16 : BitVec 32 := Scf.iv v20 c1_i32_6 k0_t2
  let c512_i32_17 : BitVec 32 := 512#32
  let v39 : BitVec 32 := Scalar.muli arg16 c512_i32_17
  let v40 : BitVec 32 := v39
  let v44 : Index := Scalar.indexCast v40
  let c0 : Index := 0#32
  ![v44.toNat, 0]
def k0_cond6 (i : grid0.Coords) : BitVec 1 :=
  let arg2 : BitVec 32 := BitVec.ofNat 32 (i 2).val
  let c0_i32_37 : BitVec 32 := 0#32
  let v65 : BitVec 1 := Scalar.cmpi .eq arg2 c0_i32_37
  let v66 : BitVec 32 := Scalar.extui v65
  let c0_i32_38 : BitVec 32 := 0#32
  let v67 : BitVec 1 := Scalar.cmpi .ne v66 c0_i32_38
  v67

def k0_off10 (v3 : BitVec 32) (k0_t2 : Fin (k0_t2_loop v3).trips) : Fin 2 → Nat :=
  let c0_i32_4 : BitVec 32 := 0#32
  let c2_i32 : BitVec 32 := 2#32
  let v9 : BitVec 32 := Scalar.shrui v3 c2_i32
  let v16 : BitVec 32 := Scalar.subi v9 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let c1_i32_6 : BitVec 32 := 1#32
  let arg16 : BitVec 32 := Scf.iv v20 c1_i32_6 k0_t2
  let c512_i32_17 : BitVec 32 := 512#32
  let v39 : BitVec 32 := Scalar.muli arg16 c512_i32_17
  let v40 : BitVec 32 := v39
  let v71 : Index := Scalar.indexCast v40
  let c0_41 : Index := 0#32
  ![v71.toNat, 0]
def k0_cond7 (i : grid0.Coords) : BitVec 1 :=
  let arg2 : BitVec 32 := BitVec.ofNat 32 (i 2).val
  let c0_i32_39 : BitVec 32 := 0#32
  let v68 : BitVec 1 := Scalar.cmpi .sgt arg2 c0_i32_39
  let v69 : BitVec 32 := Scalar.extui v68
  let c0_i32_40 : BitVec 32 := 0#32
  let v70 : BitVec 1 := Scalar.cmpi .ne v69 c0_i32_40
  v70

def k0_off11 (v3 : BitVec 32) (k0_t2 : Fin (k0_t2_loop v3).trips) : Fin 2 → Nat :=
  let c0_i32_4 : BitVec 32 := 0#32
  let c2_i32 : BitVec 32 := 2#32
  let v9 : BitVec 32 := Scalar.shrui v3 c2_i32
  let v16 : BitVec 32 := Scalar.subi v9 c0_i32_4
  let c1_i32 : BitVec 32 := 1#32
  let v18 : BitVec 32 := Scalar.divsi v16 c1_i32
  let v19 : BitVec 32 := Scalar.muli v18 c1_i32
  let v20 : BitVec 32 := Scalar.addi c0_i32_4 v19
  let c1_i32_6 : BitVec 32 := 1#32
  let arg16 : BitVec 32 := Scf.iv v20 c1_i32_6 k0_t2
  let c512_i32_17 : BitVec 32 := 512#32
  let v39 : BitVec 32 := Scalar.muli arg16 c512_i32_17
  let v40 : BitVec 32 := v39
  let v71 : Index := Scalar.indexCast v40
  let c0_41 : Index := 0#32
  ![v71.toNat, 0]
def k0_cond9 (i : grid0.Coords) : BitVec 1 :=
  let arg2 : BitVec 32 := BitVec.ofNat 32 (i 2).val
  let c0_i32_17 : BitVec 32 := 0#32
  let v39 : BitVec 1 := Scalar.cmpi .eq arg2 c0_i32_17
  let v40 : BitVec 32 := Scalar.extui v39
  let c0_i32_18 : BitVec 32 := 0#32
  let v41 : BitVec 1 := Scalar.cmpi .ne v40 c0_i32_18
  v41

def k0_off12 (i : grid0.Coords) : Fin 2 → Nat :=
  let arg1 : BitVec 32 := BitVec.ofNat 32 (i 1).val
  let v73 : Index := Scalar.indexCast arg1
  let c0_40 : Index := 0#32
  ![v73.toNat, 0]
def k0_off13 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let v85 : Index := Scalar.indexCast v11
  let c0_46 : Index := 0#32
  ![v85.toNat, 0]
def k0_cond8 (v3 : BitVec 32) : BitVec 1 :=
  let c2_i32_7 : BitVec 32 := 2#32
  let v21 : BitVec 32 := Scalar.andi v3 c2_i32_7
  let c0_i32_8 : BitVec 32 := 0#32
  let v22 : BitVec 1 := Scalar.cmpi .ne v21 c0_i32_8
  let v23 : BitVec 32 := Scalar.extui v22
  let c0_i32_9 : BitVec 32 := 0#32
  let v24 : BitVec 1 := Scalar.cmpi .ne v23 c0_i32_9
  v24

def k0_off14 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let v42 : Index := Scalar.indexCast v11
  let c0 : Index := 0#32
  ![v42.toNat, 0]
def k0_cond10 (i : grid0.Coords) : BitVec 1 :=
  let arg2 : BitVec 32 := BitVec.ofNat 32 (i 2).val
  let c0_i32_36 : BitVec 32 := 0#32
  let v63 : BitVec 1 := Scalar.cmpi .eq arg2 c0_i32_36
  let v64 : BitVec 32 := Scalar.extui v63
  let c0_i32_37 : BitVec 32 := 0#32
  let v65 : BitVec 1 := Scalar.cmpi .ne v64 c0_i32_37
  v65

def k0_off15 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let v69 : Index := Scalar.indexCast v11
  let c0_40 : Index := 0#32
  ![v69.toNat, 0]
def k0_cond11 (i : grid0.Coords) : BitVec 1 :=
  let arg2 : BitVec 32 := BitVec.ofNat 32 (i 2).val
  let c0_i32_38 : BitVec 32 := 0#32
  let v66 : BitVec 1 := Scalar.cmpi .sgt arg2 c0_i32_38
  let v67 : BitVec 32 := Scalar.extui v66
  let c0_i32_39 : BitVec 32 := 0#32
  let v68 : BitVec 1 := Scalar.cmpi .ne v67 c0_i32_39
  v68

def k0_off16 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let v69 : Index := Scalar.indexCast v11
  let c0_40 : Index := 0#32
  ![v69.toNat, 0]
def k0_cond13 (i : grid0.Coords) : BitVec 1 :=
  let arg2 : BitVec 32 := BitVec.ofNat 32 (i 2).val
  let c0_i32_17 : BitVec 32 := 0#32
  let v39 : BitVec 1 := Scalar.cmpi .eq arg2 c0_i32_17
  let v40 : BitVec 32 := Scalar.extui v39
  let c0_i32_18 : BitVec 32 := 0#32
  let v41 : BitVec 1 := Scalar.cmpi .ne v40 c0_i32_18
  v41

def k0_off17 (i : grid0.Coords) : Fin 2 → Nat :=
  let arg1 : BitVec 32 := BitVec.ofNat 32 (i 1).val
  let v73 : Index := Scalar.indexCast arg1
  let c0_40 : Index := 0#32
  ![v73.toNat, 0]
def k0_off18 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let c2_i32_2 : BitVec 32 := 2#32
  let v12 : BitVec 32 := Scalar.andi v3 c2_i32_2
  let c128_i32 : BitVec 32 := 128#32
  let v13 : BitVec 32 := Scalar.muli v12 c128_i32
  let v14 : BitVec 32 := Scalar.addi v11 v13
  let v15 : BitVec 32 := v14
  let v85 : Index := Scalar.indexCast v15
  let c0_46 : Index := 0#32
  ![v85.toNat, 0]
def k0_cond12 (v3 : BitVec 32) : BitVec 1 :=
  let c1_i32_10 : BitVec 32 := 1#32
  let v25 : BitVec 32 := Scalar.andi v3 c1_i32_10
  let c0_i32_11 : BitVec 32 := 0#32
  let v26 : BitVec 1 := Scalar.cmpi .ne v25 c0_i32_11
  let v27 : BitVec 32 := Scalar.extui v26
  let c0_i32_12 : BitVec 32 := 0#32
  let v28 : BitVec 1 := Scalar.cmpi .ne v27 c0_i32_12
  v28

def k0_off19 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let c2_i32_2 : BitVec 32 := 2#32
  let v12 : BitVec 32 := Scalar.andi v3 c2_i32_2
  let c128_i32 : BitVec 32 := 128#32
  let v13 : BitVec 32 := Scalar.muli v12 c128_i32
  let v14 : BitVec 32 := Scalar.addi v11 v13
  let v15 : BitVec 32 := v14
  let v42 : Index := Scalar.indexCast v15
  let c0 : Index := 0#32
  ![v42.toNat, 0]
def k0_cond14 (i : grid0.Coords) : BitVec 1 :=
  let arg2 : BitVec 32 := BitVec.ofNat 32 (i 2).val
  let c0_i32_36 : BitVec 32 := 0#32
  let v63 : BitVec 1 := Scalar.cmpi .eq arg2 c0_i32_36
  let v64 : BitVec 32 := Scalar.extui v63
  let c0_i32_37 : BitVec 32 := 0#32
  let v65 : BitVec 1 := Scalar.cmpi .ne v64 c0_i32_37
  v65

def k0_off20 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let c2_i32_2 : BitVec 32 := 2#32
  let v12 : BitVec 32 := Scalar.andi v3 c2_i32_2
  let c128_i32 : BitVec 32 := 128#32
  let v13 : BitVec 32 := Scalar.muli v12 c128_i32
  let v14 : BitVec 32 := Scalar.addi v11 v13
  let v15 : BitVec 32 := v14
  let v69 : Index := Scalar.indexCast v15
  let c0_40 : Index := 0#32
  ![v69.toNat, 0]
def k0_cond15 (i : grid0.Coords) : BitVec 1 :=
  let arg2 : BitVec 32 := BitVec.ofNat 32 (i 2).val
  let c0_i32_38 : BitVec 32 := 0#32
  let v66 : BitVec 1 := Scalar.cmpi .sgt arg2 c0_i32_38
  let v67 : BitVec 32 := Scalar.extui v66
  let c0_i32_39 : BitVec 32 := 0#32
  let v68 : BitVec 1 := Scalar.cmpi .ne v67 c0_i32_39
  v68

def k0_off21 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let c2_i32_2 : BitVec 32 := 2#32
  let v12 : BitVec 32 := Scalar.andi v3 c2_i32_2
  let c128_i32 : BitVec 32 := 128#32
  let v13 : BitVec 32 := Scalar.muli v12 c128_i32
  let v14 : BitVec 32 := Scalar.addi v11 v13
  let v15 : BitVec 32 := v14
  let v69 : Index := Scalar.indexCast v15
  let c0_40 : Index := 0#32
  ![v69.toNat, 0]
@[reducible] def k0_t3_loop (v3 : BitVec 32) : Scf.Loop 32 :=
  let c0_i32_24 : BitVec 32 := 0#32
  let c2_i32 : BitVec 32 := 2#32
  let v9 : BitVec 32 := Scalar.shrui v3 c2_i32
  let v52 : BitVec 32 := Scalar.subi v9 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let c1_i32_26 : BitVec 32 := 1#32
  ⟨c0_i32_24, v56, c1_i32_26⟩
def k0_cond16 (i : grid0.Coords) (v3 : BitVec 32) : BitVec 1 :=
  let arg2 : BitVec 32 := BitVec.ofNat 32 (i 2).val
  let c6_i32 : BitVec 32 := 6#32
  let v29 : BitVec 1 := Scalar.cmpi .eq arg2 c6_i32
  let c0_i32_13 : BitVec 32 := 0#32
  let v30 : BitVec 1 := Scalar.cmpi .sgt v3 c0_i32_13
  let v31 : BitVec 1 := Scalar.andi v29 v30
  let v32 : BitVec 32 := Scalar.extui v31
  let c0_i32_14 : BitVec 32 := 0#32
  let v33 : BitVec 1 := Scalar.cmpi .ne v32 c0_i32_14
  v33

def k0_mult5 (v3 : BitVec 32) (k0_t3 : Fin (k0_t3_loop v3).trips) : BitVec 32 :=
  let c0_i32_24 : BitVec 32 := 0#32
  let c1_i32_26 : BitVec 32 := 1#32
  let arg16 : BitVec 32 := Scf.iv c0_i32_24 c1_i32_26 k0_t3
  let c512_i32_34 : BitVec 32 := 512#32
  let v65 : BitVec 32 := Scalar.muli arg16 c512_i32_34
  v65
def k0_off22 (v3 : BitVec 32) (k0_t3 : Fin (k0_t3_loop v3).trips) : Fin 2 → Nat :=
  let c0_i32_24 : BitVec 32 := 0#32
  let c1_i32_26 : BitVec 32 := 1#32
  let arg16 : BitVec 32 := Scf.iv c0_i32_24 c1_i32_26 k0_t3
  let c512_i32_34 : BitVec 32 := 512#32
  let v65 : BitVec 32 := Scalar.muli arg16 c512_i32_34
  let v66 : BitVec 32 := v65
  let v80 : Index := Scalar.indexCast v66
  let c0_39 : Index := 0#32
  ![v80.toNat, 0]
@[reducible] def k0_t4_loop (v3 : BitVec 32) : Scf.Loop 32 :=
  let c0_i32_24 : BitVec 32 := 0#32
  let c2_i32 : BitVec 32 := 2#32
  let v9 : BitVec 32 := Scalar.shrui v3 c2_i32
  let v52 : BitVec 32 := Scalar.subi v9 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let v53 : BitVec 32 := Scalar.addi c0_i32_24 v52
  let c1_i32_27 : BitVec 32 := 1#32
  ⟨v56, v53, c1_i32_27⟩
def k0_mult6 (v3 : BitVec 32) (k0_t4 : Fin (k0_t4_loop v3).trips) : BitVec 32 :=
  let c0_i32_24 : BitVec 32 := 0#32
  let c2_i32 : BitVec 32 := 2#32
  let v9 : BitVec 32 := Scalar.shrui v3 c2_i32
  let v52 : BitVec 32 := Scalar.subi v9 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let c1_i32_27 : BitVec 32 := 1#32
  let arg16 : BitVec 32 := Scf.iv v56 c1_i32_27 k0_t4
  let c512_i32_34 : BitVec 32 := 512#32
  let v65 : BitVec 32 := Scalar.muli arg16 c512_i32_34
  v65
def k0_off23 (v3 : BitVec 32) (k0_t4 : Fin (k0_t4_loop v3).trips) : Fin 2 → Nat :=
  let c0_i32_24 : BitVec 32 := 0#32
  let c2_i32 : BitVec 32 := 2#32
  let v9 : BitVec 32 := Scalar.shrui v3 c2_i32
  let v52 : BitVec 32 := Scalar.subi v9 c0_i32_24
  let c1_i32_25 : BitVec 32 := 1#32
  let v54 : BitVec 32 := Scalar.divsi v52 c1_i32_25
  let v55 : BitVec 32 := Scalar.muli v54 c1_i32_25
  let v56 : BitVec 32 := Scalar.addi c0_i32_24 v55
  let c1_i32_27 : BitVec 32 := 1#32
  let arg16 : BitVec 32 := Scf.iv v56 c1_i32_27 k0_t4
  let c512_i32_34 : BitVec 32 := 512#32
  let v65 : BitVec 32 := Scalar.muli arg16 c512_i32_34
  let v66 : BitVec 32 := v65
  let v80 : Index := Scalar.indexCast v66
  let c0_39 : Index := 0#32
  ![v80.toNat, 0]
def k0_off24 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let v78 : Index := Scalar.indexCast v11
  let c0_38 : Index := 0#32
  ![v78.toNat, 0]
def k0_cond17 (v3 : BitVec 32) : BitVec 1 :=
  let c2_i32_28 : BitVec 32 := 2#32
  let v57 : BitVec 32 := Scalar.andi v3 c2_i32_28
  let c0_i32_29 : BitVec 32 := 0#32
  let v58 : BitVec 1 := Scalar.cmpi .ne v57 c0_i32_29
  let v59 : BitVec 32 := Scalar.extui v58
  let c0_i32_30 : BitVec 32 := 0#32
  let v60 : BitVec 1 := Scalar.cmpi .ne v59 c0_i32_30
  v60

def k0_off25 (v3 : BitVec 32) : Fin 2 → Nat :=
  let c2_i32 : BitVec 32 := 2#32
  let v9 : BitVec 32 := Scalar.shrui v3 c2_i32
  let c512_i32 : BitVec 32 := 512#32
  let v10 : BitVec 32 := Scalar.muli v9 c512_i32
  let v11 : BitVec 32 := v10
  let c2_i32_2 : BitVec 32 := 2#32
  let v12 : BitVec 32 := Scalar.andi v3 c2_i32_2
  let c128_i32 : BitVec 32 := 128#32
  let v13 : BitVec 32 := Scalar.muli v12 c128_i32
  let v14 : BitVec 32 := Scalar.addi v11 v13
  let v15 : BitVec 32 := v14
  let v78 : Index := Scalar.indexCast v15
  let c0_38 : Index := 0#32
  ![v78.toNat, 0]
def k0_cond18 (v3 : BitVec 32) : BitVec 1 :=
  let c1_i32_31 : BitVec 32 := 1#32
  let v61 : BitVec 32 := Scalar.andi v3 c1_i32_31
  let c0_i32_32 : BitVec 32 := 0#32
  let v62 : BitVec 1 := Scalar.cmpi .ne v61 c0_i32_32
  let v63 : BitVec 32 := Scalar.extui v62
  let c0_i32_33 : BitVec 32 := 0#32
  let v64 : BitVec 1 := Scalar.cmpi .ne v63 c0_i32_33
  v64

def k0_chk1_0 (i : grid0.Coords) (v3 : BitVec 32) : Prop :=
  (128 ∣ (k0_mult1 v3).toNat) ∧
  (128 ∣ (k0_mult2 v3).toNat) ∧
  ((k0_t1_loop v3).OK) ∧
  (∀ k0_t1 : Fin (k0_t1_loop v3).trips, 512 ∣ (k0_mult3 v3 k0_t1).toNat) ∧
  (∀ k0_t1 : Fin (k0_t1_loop v3).trips, ∀ (k0_h2 : k0_cond2 i = 1#1), ∀ a, (k0_off3 v3 k0_t1) a + S512x1024.size a ≤ S2048x1024.size a) ∧
  (∀ k0_t1 : Fin (k0_t1_loop v3).trips, ∀ (k0_h2 : k0_cond2 i = 1#1), ∀ (hinb : ∀ a, (k0_off3 v3 k0_t1) a + S512x1024.size a ≤ S2048x1024.size a), (Rect.unit (s := S2048x1024) (k0_off3 v3 k0_t1) S512x1024.size hinb).PackedRows (EltTy.packing .bf16)) ∧
  (∀ k0_t1 : Fin (k0_t1_loop v3).trips, ∀ a, (k0_off4 v3 k0_t1) a + S512x1024.size a ≤ S2048x1024.size a) ∧
  (∀ k0_t1 : Fin (k0_t1_loop v3).trips, ∀ (k0_h3 : k0_cond3 i = 1#1), ∀ a, (k0_off5 v3 k0_t1) a + S512x1024.size a ≤ S2048x1024.size a) ∧
  (∀ k0_t1 : Fin (k0_t1_loop v3).trips, ∀ (k0_h4 : k0_cond4 i = 1#1), ∀ a, (k0_off6 v3 k0_t1) a + S512x1024.size a ≤ S2048x1024.size a) ∧
  ((k0_t2_loop v3).OK) ∧
  (∀ k0_t2 : Fin (k0_t2_loop v3).trips, 512 ∣ (k0_mult4 v3 k0_t2).toNat) ∧
  (∀ k0_t2 : Fin (k0_t2_loop v3).trips, ∀ (k0_h5 : k0_cond5 i = 1#1), ∀ a, (k0_off8 v3 k0_t2) a + S512x1024.size a ≤ S2048x1024.size a) ∧
  (∀ k0_t2 : Fin (k0_t2_loop v3).trips, ∀ (k0_h5 : k0_cond5 i = 1#1), ∀ (hinb : ∀ a, (k0_off8 v3 k0_t2) a + S512x1024.size a ≤ S2048x1024.size a), (Rect.unit (s := S2048x1024) (k0_off8 v3 k0_t2) S512x1024.size hinb).PackedRows (EltTy.packing .bf16)) ∧
  (∀ k0_t2 : Fin (k0_t2_loop v3).trips, ∀ a, (k0_off9 v3 k0_t2) a + S512x1024.size a ≤ S2048x1024.size a) ∧
  (∀ k0_t2 : Fin (k0_t2_loop v3).trips, ∀ (k0_h6 : k0_cond6 i = 1#1), ∀ a, (k0_off10 v3 k0_t2) a + S512x1024.size a ≤ S2048x1024.size a) ∧
  (∀ k0_t2 : Fin (k0_t2_loop v3).trips, ∀ (k0_h7 : k0_cond7 i = 1#1), ∀ a, (k0_off11 v3 k0_t2) a + S512x1024.size a ≤ S2048x1024.size a) ∧
  (∀ (k0_h8 : k0_cond8 v3 = 1#1), ∀ (k0_h9 : k0_cond9 i = 1#1), ∀ a, (k0_off13 v3) a + S256x1024.size a ≤ S2048x1024.size a) ∧
  (∀ (k0_h8 : k0_cond8 v3 = 1#1), ∀ (k0_h9 : k0_cond9 i = 1#1), ∀ (hinb : ∀ a, (k0_off13 v3) a + S256x1024.size a ≤ S2048x1024.size a), (Rect.unit (s := S2048x1024) (k0_off13 v3) S256x1024.size hinb).PackedRows (EltTy.packing .bf16)) ∧
  (∀ (k0_h8 : k0_cond8 v3 = 1#1), ∀ a, (k0_off14 v3) a + S256x1024.size a ≤ S2048x1024.size a) ∧
  (∀ (k0_h8 : k0_cond8 v3 = 1#1), ∀ (k0_h10 : k0_cond10 i = 1#1), ∀ a, (k0_off15 v3) a + S256x1024.size a ≤ S2048x1024.size a) ∧
  (∀ (k0_h8 : k0_cond8 v3 = 1#1), ∀ (k0_h11 : k0_cond11 i = 1#1), ∀ a, (k0_off16 v3) a + S256x1024.size a ≤ S2048x1024.size a) ∧
  (∀ (k0_h12 : k0_cond12 v3 = 1#1), ∀ (k0_h13 : k0_cond13 i = 1#1), ∀ a, (k0_off18 v3) a + S128x1024.size a ≤ S2048x1024.size a) ∧
  (∀ (k0_h12 : k0_cond12 v3 = 1#1), ∀ (k0_h13 : k0_cond13 i = 1#1), ∀ (hinb : ∀ a, (k0_off18 v3) a + S128x1024.size a ≤ S2048x1024.size a), (Rect.unit (s := S2048x1024) (k0_off18 v3) S128x1024.size hinb).PackedRows (EltTy.packing .bf16)) ∧
  (∀ (k0_h12 : k0_cond12 v3 = 1#1), ∀ a, (k0_off19 v3) a + S128x1024.size a ≤ S2048x1024.size a) ∧
  (∀ (k0_h12 : k0_cond12 v3 = 1#1), ∀ (k0_h14 : k0_cond14 i = 1#1), ∀ a, (k0_off20 v3) a + S128x1024.size a ≤ S2048x1024.size a) ∧
  (∀ (k0_h12 : k0_cond12 v3 = 1#1), ∀ (k0_h15 : k0_cond15 i = 1#1), ∀ a, (k0_off21 v3) a + S128x1024.size a ≤ S2048x1024.size a) ∧
  (∀ (k0_h16 : k0_cond16 i v3 = 1#1), (k0_t3_loop v3).OK) ∧
  (∀ k0_t3 : Fin (k0_t3_loop v3).trips, ∀ (k0_h16 : k0_cond16 i v3 = 1#1), 512 ∣ (k0_mult5 v3 k0_t3).toNat) ∧
  (∀ k0_t3 : Fin (k0_t3_loop v3).trips, ∀ (k0_h16 : k0_cond16 i v3 = 1#1), ∀ a, (k0_off22 v3 k0_t3) a + S512x1024.size a ≤ S2048x1024.size a) ∧
  (∀ (k0_h16 : k0_cond16 i v3 = 1#1), (k0_t4_loop v3).OK) ∧
  (∀ k0_t4 : Fin (k0_t4_loop v3).trips, ∀ (k0_h16 : k0_cond16 i v3 = 1#1), 512 ∣ (k0_mult6 v3 k0_t4).toNat) ∧
  (∀ k0_t4 : Fin (k0_t4_loop v3).trips, ∀ (k0_h16 : k0_cond16 i v3 = 1#1), ∀ a, (k0_off23 v3 k0_t4) a + S512x1024.size a ≤ S2048x1024.size a)
def k0_chk1_1 (i : grid0.Coords) (v3 : BitVec 32) : Prop :=
  (∀ (k0_h16 : k0_cond16 i v3 = 1#1), ∀ (k0_h17 : k0_cond17 v3 = 1#1), ∀ a, (k0_off24 v3) a + S256x1024.size a ≤ S2048x1024.size a) ∧
  (∀ (k0_h16 : k0_cond16 i v3 = 1#1), ∀ (k0_h18 : k0_cond18 v3 = 1#1), ∀ a, (k0_off25 v3) a + S128x1024.size a ≤ S2048x1024.size a)
def k0_chk1 (i : grid0.Coords) (v3 : BitVec 32) : Prop :=
  k0_chk1_0 i v3 ∧
  k0_chk1_1 i v3
theorem k0_mult1_dvd : ∀ (i : grid0.Coords) (v3 : BitVec 32) (k0_hw1 : k0_chk1 i v3), 128 ∣ (k0_mult1 v3).toNat := fun i v3 k0_hw1 => k0_hw1.1.1
theorem k0_mult2_dvd : ∀ (i : grid0.Coords) (v3 : BitVec 32) (k0_hw1 : k0_chk1 i v3), 128 ∣ (k0_mult2 v3).toNat := fun i v3 k0_hw1 => k0_hw1.1.2.1
theorem k0_t1_ok : ∀ (i : grid0.Coords) (v3 : BitVec 32) (k0_hw1 : k0_chk1 i v3), (k0_t1_loop v3).OK := fun i v3 k0_hw1 => k0_hw1.1.2.2.1
theorem k0_mult3_dvd : ∀ (i : grid0.Coords) (v3 : BitVec 32) (k0_hw1 : k0_chk1 i v3) (k0_t1 : Fin (k0_t1_loop v3).trips), 512 ∣ (k0_mult3 v3 k0_t1).toNat := fun i v3 k0_hw1 k0_t1 => k0_hw1.1.2.2.2.1 k0_t1
theorem k0_off3_inb : ∀ (i : grid0.Coords) (v3 : BitVec 32) (k0_hw1 : k0_chk1 i v3) (k0_t1 : Fin (k0_t1_loop v3).trips), ∀ (k0_h2 : k0_cond2 i = 1#1), ∀ a, (k0_off3 v3 k0_t1) a + S512x1024.size a ≤ S2048x1024.size a := fun i v3 k0_hw1 k0_t1 k0_h2 => k0_hw1.1.2.2.2.2.1 k0_t1 k0_h2
theorem k0_off3_packedbf16 : ∀ (i : grid0.Coords) (v3 : BitVec 32) (k0_hw1 : k0_chk1 i v3) (k0_t1 : Fin (k0_t1_loop v3).trips), ∀ (k0_h2 : k0_cond2 i = 1#1), (Rect.unit (s := S2048x1024) (k0_off3 v3 k0_t1) S512x1024.size (k0_off3_inb i v3 k0_hw1 k0_t1 k0_h2)).PackedRows (EltTy.packing .bf16) := fun i v3 k0_hw1 k0_t1 k0_h2 => k0_hw1.1.2.2.2.2.2.1 k0_t1 k0_h2 (k0_off3_inb i v3 k0_hw1 k0_t1 k0_h2)
theorem k0_off4_inb : ∀ (i : grid0.Coords) (v3 : BitVec 32) (k0_hw1 : k0_chk1 i v3) (k0_t1 : Fin (k0_t1_loop v3).trips), ∀ a, (k0_off4 v3 k0_t1) a + S512x1024.size a ≤ S2048x1024.size a := fun i v3 k0_hw1 k0_t1 => k0_hw1.1.2.2.2.2.2.2.1 k0_t1
theorem k0_off5_inb : ∀ (i : grid0.Coords) (v3 : BitVec 32) (k0_hw1 : k0_chk1 i v3) (k0_t1 : Fin (k0_t1_loop v3).trips), ∀ (k0_h3 : k0_cond3 i = 1#1), ∀ a, (k0_off5 v3 k0_t1) a + S512x1024.size a ≤ S2048x1024.size a := fun i v3 k0_hw1 k0_t1 k0_h3 => k0_hw1.1.2.2.2.2.2.2.2.1 k0_t1 k0_h3
theorem k0_off6_inb : ∀ (i : grid0.Coords) (v3 : BitVec 32) (k0_hw1 : k0_chk1 i v3) (k0_t1 : Fin (k0_t1_loop v3).trips), ∀ (k0_h4 : k0_cond4 i = 1#1), ∀ a, (k0_off6 v3 k0_t1) a + S512x1024.size a ≤ S2048x1024.size a := fun i v3 k0_hw1 k0_t1 k0_h4 => k0_hw1.1.2.2.2.2.2.2.2.2.1 k0_t1 k0_h4
theorem k0_t2_ok : ∀ (i : grid0.Coords) (v3 : BitVec 32) (k0_hw1 : k0_chk1 i v3), (k0_t2_loop v3).OK := fun i v3 k0_hw1 => k0_hw1.1.2.2.2.2.2.2.2.2.2.1
theorem k0_mult4_dvd : ∀ (i : grid0.Coords) (v3 : BitVec 32) (k0_hw1 : k0_chk1 i v3) (k0_t2 : Fin (k0_t2_loop v3).trips), 512 ∣ (k0_mult4 v3 k0_t2).toNat := fun i v3 k0_hw1 k0_t2 => k0_hw1.1.2.2.2.2.2.2.2.2.2.2.1 k0_t2
theorem k0_off8_inb : ∀ (i : grid0.Coords) (v3 : BitVec 32) (k0_hw1 : k0_chk1 i v3) (k0_t2 : Fin (k0_t2_loop v3).trips), ∀ (k0_h5 : k0_cond5 i = 1#1), ∀ a, (k0_off8 v3 k0_t2) a + S512x1024.size a ≤ S2048x1024.size a := fun i v3 k0_hw1 k0_t2 k0_h5 => k0_hw1.1.2.2.2.2.2.2.2.2.2.2.2.1 k0_t2 k0_h5
theorem k0_off8_packedbf16 : ∀ (i : grid0.Coords) (v3 : BitVec 32) (k0_hw1 : k0_chk1 i v3) (k0_t2 : Fin (k0_t2_loop v3).trips), ∀ (k0_h5 : k0_cond5 i = 1#1), (Rect.unit (s := S2048x1024) (k0_off8 v3 k0_t2) S512x1024.size (k0_off8_inb i v3 k0_hw1 k0_t2 k0_h5)).PackedRows (EltTy.packing .bf16) := fun i v3 k0_hw1 k0_t2 k0_h5 => k0_hw1.1.2.2.2.2.2.2.2.2.2.2.2.2.1 k0_t2 k0_h5 (k0_off8_inb i v3 k0_hw1 k0_t2 k0_h5)
theorem k0_off9_inb : ∀ (i : grid0.Coords) (v3 : BitVec 32) (k0_hw1 : k0_chk1 i v3) (k0_t2 : Fin (k0_t2_loop v3).trips), ∀ a, (k0_off9 v3 k0_t2) a + S512x1024.size a ≤ S2048x1024.size a := fun i v3 k0_hw1 k0_t2 => k0_hw1.1.2.2.2.2.2.2.2.2.2.2.2.2.2.1 k0_t2
theorem k0_off10_inb : ∀ (i : grid0.Coords) (v3 : BitVec 32) (k0_hw1 : k0_chk1 i v3) (k0_t2 : Fin (k0_t2_loop v3).trips), ∀ (k0_h6 : k0_cond6 i = 1#1), ∀ a, (k0_off10 v3 k0_t2) a + S512x1024.size a ≤ S2048x1024.size a := fun i v3 k0_hw1 k0_t2 k0_h6 => k0_hw1.1.2.2.2.2.2.2.2.2.2.2.2.2.2.2.1 k0_t2 k0_h6
theorem k0_off11_inb : ∀ (i : grid0.Coords) (v3 : BitVec 32) (k0_hw1 : k0_chk1 i v3) (k0_t2 : Fin (k0_t2_loop v3).trips), ∀ (k0_h7 : k0_cond7 i = 1#1), ∀ a, (k0_off11 v3 k0_t2) a + S512x1024.size a ≤ S2048x1024.size a := fun i v3 k0_hw1 k0_t2 k0_h7 => k0_hw1.1.2.2.2.2.2.2.2.2.2.2.2.2.2.2.2.1 k0_t2 k0_h7
theorem k0_off13_inb : ∀ (i : grid0.Coords) (v3 : BitVec 32) (k0_hw1 : k0_chk1 i v3), ∀ (k0_h8 : k0_cond8 v3 = 1#1), ∀ (k0_h9 : k0_cond9 i = 1#1), ∀ a, (k0_off13 v3) a + S256x1024.size a ≤ S2048x1024.size a := fun i v3 k0_hw1 k0_h8 k0_h9 => k0_hw1.1.2.2.2.2.2.2.2.2.2.2.2.2.2.2.2.2.1 k0_h8 k0_h9
theorem k0_off13_packedbf16 : ∀ (i : grid0.Coords) (v3 : BitVec 32) (k0_hw1 : k0_chk1 i v3), ∀ (k0_h8 : k0_cond8 v3 = 1#1), ∀ (k0_h9 : k0_cond9 i = 1#1), (Rect.unit (s := S2048x1024) (k0_off13 v3) S256x1024.size (k0_off13_inb i v3 k0_hw1 k0_h8 k0_h9)).PackedRows (EltTy.packing .bf16) := fun i v3 k0_hw1 k0_h8 k0_h9 => k0_hw1.1.2.2.2.2.2.2.2.2.2.2.2.2.2.2.2.2.2.1 k0_h8 k0_h9 (k0_off13_inb i v3 k0_hw1 k0_h8 k0_h9)
theorem k0_off14_inb : ∀ (i : grid0.Coords) (v3 : BitVec 32) (k0_hw1 : k0_chk1 i v3), ∀ (k0_h8 : k0_cond8 v3 = 1#1), ∀ a, (k0_off14 v3) a + S256x1024.size a ≤ S2048x1024.size a := fun i v3 k0_hw1 k0_h8 => k0_hw1.1.2.2.2.2.2.2.2.2.2.2.2.2.2.2.2.2.2.2.1 k0_h8
theorem k0_off15_inb : ∀ (i : grid0.Coords) (v3 : BitVec 32) (k0_hw1 : k0_chk1 i v3), ∀ (k0_h8 : k0_cond8 v3 = 1#1), ∀ (k0_h10 : k0_cond10 i = 1#1), ∀ a, (k0_off15 v3) a + S256x1024.size a ≤ S2048x1024.size a := fun i v3 k0_hw1 k0_h8 k0_h10 => k0_hw1.1.2.2.2.2.2.2.2.2.2.2.2.2.2.2.2.2.2.2.2.1 k0_h8 k0_h10
theorem k0_off16_inb : ∀ (i : grid0.Coords) (v3 : BitVec 32) (k0_hw1 : k0_chk1 i v3), ∀ (k0_h8 : k0_cond8 v3 = 1#1), ∀ (k0_h11 : k0_cond11 i = 1#1), ∀ a, (k0_off16 v3) a + S256x1024.size a ≤ S2048x1024.size a := fun i v3 k0_hw1 k0_h8 k0_h11 => k0_hw1.1.2.2.2.2.2.2.2.2.2.2.2.2.2.2.2.2.2.2.2.2.1 k0_h8 k0_h11
theorem k0_off18_inb : ∀ (i : grid0.Coords) (v3 : BitVec 32) (k0_hw1 : k0_chk1 i v3), ∀ (k0_h12 : k0_cond12 v3 = 1#1), ∀ (k0_h13 : k0_cond13 i = 1#1), ∀ a, (k0_off18 v3) a + S128x1024.size a ≤ S2048x1024.size a := fun i v3 k0_hw1 k0_h12 k0_h13 => k0_hw1.1.2.2.2.2.2.2.2.2.2.2.2.2.2.2.2.2.2.2.2.2.2.1 k0_h12 k0_h13
theorem k0_off18_packedbf16 : ∀ (i : grid0.Coords) (v3 : BitVec 32) (k0_hw1 : k0_chk1 i v3), ∀ (k0_h12 : k0_cond12 v3 = 1#1), ∀ (k0_h13 : k0_cond13 i = 1#1), (Rect.unit (s := S2048x1024) (k0_off18 v3) S128x1024.size (k0_off18_inb i v3 k0_hw1 k0_h12 k0_h13)).PackedRows (EltTy.packing .bf16) := fun i v3 k0_hw1 k0_h12 k0_h13 => k0_hw1.1.2.2.2.2.2.2.2.2.2.2.2.2.2.2.2.2.2.2.2.2.2.2.1 k0_h12 k0_h13 (k0_off18_inb i v3 k0_hw1 k0_h12 k0_h13)
theorem k0_off19_inb : ∀ (i : grid0.Coords) (v3 : BitVec 32) (k0_hw1 : k0_chk1 i v3), ∀ (k0_h12 : k0_cond12 v3 = 1#1), ∀ a, (k0_off19 v3) a + S128x1024.size a ≤ S2048x1024.size a := fun i v3 k0_hw1 k0_h12 => k0_hw1.1.2.2.2.2.2.2.2.2.2.2.2.2.2.2.2.2.2.2.2.2.2.2.2.1 k0_h12
theorem k0_off20_inb : ∀ (i : grid0.Coords) (v3 : BitVec 32) (k0_hw1 : k0_chk1 i v3), ∀ (k0_h12 : k0_cond12 v3 = 1#1), ∀ (k0_h14 : k0_cond14 i = 1#1), ∀ a, (k0_off20 v3) a + S128x1024.size a ≤ S2048x1024.size a := fun i v3 k0_hw1 k0_h12 k0_h14 => k0_hw1.1.2.2.2.2.2.2.2.2.2.2.2.2.2.2.2.2.2.2.2.2.2.2.2.2.1 k0_h12 k0_h14
theorem k0_off21_inb : ∀ (i : grid0.Coords) (v3 : BitVec 32) (k0_hw1 : k0_chk1 i v3), ∀ (k0_h12 : k0_cond12 v3 = 1#1), ∀ (k0_h15 : k0_cond15 i = 1#1), ∀ a, (k0_off21 v3) a + S128x1024.size a ≤ S2048x1024.size a := fun i v3 k0_hw1 k0_h12 k0_h15 => k0_hw1.1.2.2.2.2.2.2.2.2.2.2.2.2.2.2.2.2.2.2.2.2.2.2.2.2.2.1 k0_h12 k0_h15
theorem k0_t3_ok : ∀ (i : grid0.Coords) (v3 : BitVec 32) (k0_hw1 : k0_chk1 i v3), ∀ (k0_h16 : k0_cond16 i v3 = 1#1), (k0_t3_loop v3).OK := fun i v3 k0_hw1 k0_h16 => k0_hw1.1.2.2.2.2.2.2.2.2.2.2.2.2.2.2.2.2.2.2.2.2.2.2.2.2.2.2.1 k0_h16
theorem k0_mult5_dvd : ∀ (i : grid0.Coords) (v3 : BitVec 32) (k0_hw1 : k0_chk1 i v3) (k0_t3 : Fin (k0_t3_loop v3).trips), ∀ (k0_h16 : k0_cond16 i v3 = 1#1), 512 ∣ (k0_mult5 v3 k0_t3).toNat := fun i v3 k0_hw1 k0_t3 k0_h16 => k0_hw1.1.2.2.2.2.2.2.2.2.2.2.2.2.2.2.2.2.2.2.2.2.2.2.2.2.2.2.2.1 k0_t3 k0_h16
theorem k0_off22_inb : ∀ (i : grid0.Coords) (v3 : BitVec 32) (k0_hw1 : k0_chk1 i v3) (k0_t3 : Fin (k0_t3_loop v3).trips), ∀ (k0_h16 : k0_cond16 i v3 = 1#1), ∀ a, (k0_off22 v3 k0_t3) a + S512x1024.size a ≤ S2048x1024.size a := fun i v3 k0_hw1 k0_t3 k0_h16 => k0_hw1.1.2.2.2.2.2.2.2.2.2.2.2.2.2.2.2.2.2.2.2.2.2.2.2.2.2.2.2.2.1 k0_t3 k0_h16
theorem k0_t4_ok : ∀ (i : grid0.Coords) (v3 : BitVec 32) (k0_hw1 : k0_chk1 i v3), ∀ (k0_h16 : k0_cond16 i v3 = 1#1), (k0_t4_loop v3).OK := fun i v3 k0_hw1 k0_h16 => k0_hw1.1.2.2.2.2.2.2.2.2.2.2.2.2.2.2.2.2.2.2.2.2.2.2.2.2.2.2.2.2.2.1 k0_h16
theorem k0_mult6_dvd : ∀ (i : grid0.Coords) (v3 : BitVec 32) (k0_hw1 : k0_chk1 i v3) (k0_t4 : Fin (k0_t4_loop v3).trips), ∀ (k0_h16 : k0_cond16 i v3 = 1#1), 512 ∣ (k0_mult6 v3 k0_t4).toNat := fun i v3 k0_hw1 k0_t4 k0_h16 => k0_hw1.1.2.2.2.2.2.2.2.2.2.2.2.2.2.2.2.2.2.2.2.2.2.2.2.2.2.2.2.2.2.2.1 k0_t4 k0_h16
theorem k0_off23_inb : ∀ (i : grid0.Coords) (v3 : BitVec 32) (k0_hw1 : k0_chk1 i v3) (k0_t4 : Fin (k0_t4_loop v3).trips), ∀ (k0_h16 : k0_cond16 i v3 = 1#1), ∀ a, (k0_off23 v3 k0_t4) a + S512x1024.size a ≤ S2048x1024.size a := fun i v3 k0_hw1 k0_t4 k0_h16 => k0_hw1.1.2.2.2.2.2.2.2.2.2.2.2.2.2.2.2.2.2.2.2.2.2.2.2.2.2.2.2.2.2.2.2 k0_t4 k0_h16
theorem k0_off24_inb : ∀ (i : grid0.Coords) (v3 : BitVec 32) (k0_hw1 : k0_chk1 i v3), ∀ (k0_h16 : k0_cond16 i v3 = 1#1), ∀ (k0_h17 : k0_cond17 v3 = 1#1), ∀ a, (k0_off24 v3) a + S256x1024.size a ≤ S2048x1024.size a := fun i v3 k0_hw1 k0_h16 k0_h17 => k0_hw1.2.1 k0_h16 k0_h17
theorem k0_off25_inb : ∀ (i : grid0.Coords) (v3 : BitVec 32) (k0_hw1 : k0_chk1 i v3), ∀ (k0_h16 : k0_cond16 i v3 = 1#1), ∀ (k0_h18 : k0_cond18 v3 = 1#1), ∀ a, (k0_off25 v3) a + S128x1024.size a ≤ S2048x1024.size a := fun i v3 k0_hw1 k0_h16 k0_h18 => k0_hw1.2.2 k0_h16 k0_h18

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let arg2 : BitVec 32 := BitVec.ofNat 32 (i 2).val
  let c0_i32_0 : BitVec 32 := 0#32
  let v5 : BitVec 1 := Scalar.cmpi .eq arg2 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

def k0_cond19 (i : grid0.Coords) : BitVec 1 :=
  let arg1 : BitVec 32 := BitVec.ofNat 32 (i 1).val
  let c7_i32 : BitVec 32 := 7#32
  let v34 : BitVec 1 := Scalar.cmpi .eq arg1 c7_i32
  let arg2 : BitVec 32 := BitVec.ofNat 32 (i 2).val
  let c6_i32_15 : BitVec 32 := 6#32
  let v35 : BitVec 1 := Scalar.cmpi .eq arg2 c6_i32_15
  let v36 : BitVec 1 := Scalar.andi v34 v35
  let v37 : BitVec 32 := Scalar.extui v36
  let c0_i32_16 : BitVec 32 := 0#32
  let v38 : BitVec 1 := Scalar.cmpi .ne v37 c0_i32_16
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat, arg2.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, arg2.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S8x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1x1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 1 → Memref sig .tc .vmem S2048x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false, false]
-- ==== LastReferenceIdeal.lean ====
abbrev S34816x1024 : Shape := ⟨2, ![34816, 1024]⟩
abbrev S34816x128 : Shape := ⟨2, ![34816, 128]⟩
abbrev S8x34816 : Shape := ⟨2, ![8, 34816]⟩
abbrev S17x8x128 : Shape := ⟨3, ![17, 8, 128]⟩
abbrev S136x8x1024 : Shape := ⟨3, ![136, 8, 1024]⟩
abbrev S2x8x1024x3584 : Shape := ⟨4, ![2, 8, 1024, 3584]⟩
abbrev S2x8x3584x1024 : Shape := ⟨4, ![2, 8, 3584, 1024]⟩
abbrev S_ : Shape := ⟨0, ![]⟩
abbrev S34816x1 : Shape := ⟨2, ![34816, 1]⟩
abbrev S1x1x1024x3584 : Shape := ⟨4, ![1, 1, 1024, 3584]⟩
abbrev S1024x3584 : Shape := ⟨2, ![1024, 3584]⟩
abbrev S1x1x3584x1024 : Shape := ⟨4, ![1, 1, 3584, 1024]⟩
abbrev S3584x1024 : Shape := ⟨2, ![3584, 1024]⟩
abbrev S34816x3584 : Shape := ⟨2, ![34816, 3584]⟩
abbrev S136x1x1024 : Shape := ⟨3, ![136, 1, 1024]⟩
abbrev S136x1024 : Shape := ⟨2, ![136, 1024]⟩
abbrev S136x256x1024 : Shape := ⟨3, ![136, 256, 1024]⟩

abbrev nBuf : Space → Nat
  | .hbm => 203
  | .vmem => 0
  | .smem => 0
  | _ => 0

abbrev hbmTy0_0 (i : Nat) : BufTy := match i % 128 with
  | 0 => ⟨S34816x1024, .f32⟩
  | 1 => ⟨S34816x1024, .bf16⟩
  | 2 => ⟨S34816x128, .f32⟩
  | 3 => ⟨S34816x128, .f32⟩
  | 4 => ⟨S8x34816, .f32⟩
  | 5 => ⟨S17x8x128, .f32⟩
  | 6 => ⟨S136x8x1024, .f32⟩
  | 7 => ⟨S2x8x1024x3584, .f32⟩
  | 8 => ⟨S2x8x1024x3584, .f32⟩
  | 9 => ⟨S2x8x3584x1024, .f32⟩
  | 10 => ⟨S34816x1024, .f32⟩
  | 11 => ⟨S_, .f32⟩
  | 12 => ⟨S34816x1024, .f32⟩
  | 13 => ⟨S34816x1, .f32⟩
  | 14 => ⟨S1x1x1024x3584, .f32⟩
  | 15 => ⟨S1024x3584, .f32⟩
  | 16 => ⟨S1x1x1024x3584, .f32⟩
  | 17 => ⟨S1024x3584, .f32⟩
  | 18 => ⟨S1x1x3584x1024, .f32⟩
  | 19 => ⟨S3584x1024, .f32⟩
  | 20 => ⟨S34816x3584, .f32⟩
  | 21 => ⟨S34816x3584, .f32⟩
  | 22 => ⟨S34816x3584, .f32⟩
  | 23 => ⟨S_, .f32⟩
  | 24 => ⟨S34816x3584, .f32⟩
  | 25 => ⟨S34816x3584, .f32⟩
  | 26 => ⟨S_, .f32⟩
  | 27 => ⟨S34816x3584, .f32⟩
  | 28 => ⟨S34816x3584, .f32⟩
  | 29 => ⟨S34816x3584, .f32⟩
  | 30 => ⟨S34816x3584, .f32⟩
  | 31 => ⟨S34816x3584, .f32⟩
  | 32 => ⟨S34816x1024, .f32⟩
  | 33 => ⟨S34816x1024, .f32⟩
  | 34 => ⟨S34816x1024, .f32⟩
  | 35 => ⟨S34816x1024, .f32⟩
  | 36 => ⟨S34816x1, .f32⟩
  | 37 => ⟨S1x1x1024x3584, .f32⟩
  | 38 => ⟨S1024x3584, .f32⟩
  | 39 => ⟨S1x1x1024x3584, .f32⟩
  | 40 => ⟨S1024x3584, .f32⟩
  | 41 => ⟨S1x1x3584x1024, .f32⟩
  | 42 => ⟨S3584x1024, .f32⟩
  | 43 => ⟨S34816x3584, .f32⟩
  | 44 => ⟨S34816x3584, .f32⟩
  | 45 => ⟨S34816x3584, .f32⟩
  | 46 => ⟨S_, .f32⟩
  | 47 => ⟨S34816x3584, .f32⟩
  | 48 => ⟨S34816x3584, .f32⟩
  | 49 => ⟨S_, .f32⟩
  | 50 => ⟨S34816x3584, .f32⟩
  | 51 => ⟨S34816x3584, .f32⟩
  | 52 => ⟨S34816x3584, .f32⟩
  | 53 => ⟨S34816x3584, .f32⟩
  | 54 => ⟨S34816x3584, .f32⟩
  | 55 => ⟨S34816x1024, .f32⟩
  | 56 => ⟨S34816x1024, .f32⟩
  | 57 => ⟨S34816x1024, .f32⟩
  | 58 => ⟨S34816x1024, .f32⟩
  | 59 => ⟨S34816x1, .f32⟩
  | 60 => ⟨S1x1x1024x3584, .f32⟩
  | 61 => ⟨S1024x3584, .f32⟩
  | 62 => ⟨S1x1x1024x3584, .f32⟩
  | 63 => ⟨S1024x3584, .f32⟩
  | 64 => ⟨S1x1x3584x1024, .f32⟩
  | 65 => ⟨S3584x1024, .f32⟩
  | 66 => ⟨S34816x3584, .f32⟩
  | 67 => ⟨S34816x3584, .f32⟩
  | 68 => ⟨S34816x3584, .f32⟩
  | 69 => ⟨S_, .f32⟩
  | 70 => ⟨S34816x3584, .f32⟩
  | 71 => ⟨S34816x3584, .f32⟩
  | 72 => ⟨S_, .f32⟩
  | 73 => ⟨S34816x3584, .f32⟩
  | 74 => ⟨S34816x3584, .f32⟩
  | 75 => ⟨S34816x3584, .f32⟩
  | 76 => ⟨S34816x3584, .f32⟩
  | 77 => ⟨S34816x3584, .f32⟩
  | 78 => ⟨S34816x1024, .f32⟩
  | 79 => ⟨S34816x1024, .f32⟩
  | 80 => ⟨S34816x1024, .f32⟩
  | 81 => ⟨S34816x1024, .f32⟩
  | 82 => ⟨S34816x1, .f32⟩
  | 83 => ⟨S1x1x1024x3584, .f32⟩
  | 84 => ⟨S1024x3584, .f32⟩
  | 85 => ⟨S1x1x1024x3584, .f32⟩
  | 86 => ⟨S1024x3584, .f32⟩
  | 87 => ⟨S1x1x3584x1024, .f32⟩
  | 88 => ⟨S3584x1024, .f32⟩
  | 89 => ⟨S34816x3584, .f32⟩
  | 90 => ⟨S34816x3584, .f32⟩
  | 91 => ⟨S34816x3584, .f32⟩
  | 92 => ⟨S_, .f32⟩
  | 93 => ⟨S34816x3584, .f32⟩
  | 94 => ⟨S34816x3584, .f32⟩
  | 95 => ⟨S_, .f32⟩
  | 96 => ⟨S34816x3584, .f32⟩
  | 97 => ⟨S34816x3584, .f32⟩
  | 98 => ⟨S34816x3584, .f32⟩
  | 99 => ⟨S34816x3584, .f32⟩
  | 100 => ⟨S34816x3584, .f32⟩
  | 101 => ⟨S34816x1024, .f32⟩
  | 102 => ⟨S34816x1024, .f32⟩
  | 103 => ⟨S34816x1024, .f32⟩
  | 104 => ⟨S34816x1024, .f32⟩
  | 105 => ⟨S34816x1, .f32⟩
  | 106 => ⟨S1x1x1024x3584, .f32⟩
  | 107 => ⟨S1024x3584, .f32⟩
  | 108 => ⟨S1x1x1024x3584, .f32⟩
  | 109 => ⟨S1024x3584, .f32⟩
  | 110 => ⟨S1x1x3584x1024, .f32⟩
  | 111 => ⟨S3584x1024, .f32⟩
  | 112 => ⟨S34816x3584, .f32⟩
  | 113 => ⟨S34816x3584, .f32⟩
  | 114 => ⟨S34816x3584, .f32⟩
  | 115 => ⟨S_, .f32⟩
  | 116 => ⟨S34816x3584, .f32⟩
  | 117 => ⟨S34816x3584, .f32⟩
  | 118 => ⟨S_, .f32⟩
  | 119 => ⟨S34816x3584, .f32⟩
  | 120 => ⟨S34816x3584, .f32⟩
  | 121 => ⟨S34816x3584, .f32⟩
  | 122 => ⟨S34816x3584, .f32⟩
  | 123 => ⟨S34816x3584, .f32⟩
  | 124 => ⟨S34816x1024, .f32⟩
  | 125 => ⟨S34816x1024, .f32⟩
  | 126 => ⟨S34816x1024, .f32⟩
  | 127 => ⟨S34816x1024, .f32⟩
  | _ => ⟨S34816x1024, .f32⟩

abbrev hbmTy0_1 (i : Nat) : BufTy := match i % 128 with
  | 0 => ⟨S34816x1, .f32⟩
  | 1 => ⟨S1x1x1024x3584, .f32⟩
  | 2 => ⟨S1024x3584, .f32⟩
  | 3 => ⟨S1x1x1024x3584, .f32⟩
  | 4 => ⟨S1024x3584, .f32⟩
  | 5 => ⟨S1x1x3584x1024, .f32⟩
  | 6 => ⟨S3584x1024, .f32⟩
  | 7 => ⟨S34816x3584, .f32⟩
  | 8 => ⟨S34816x3584, .f32⟩
  | 9 => ⟨S34816x3584, .f32⟩
  | 10 => ⟨S_, .f32⟩
  | 11 => ⟨S34816x3584, .f32⟩
  | 12 => ⟨S34816x3584, .f32⟩
  | 13 => ⟨S_, .f32⟩
  | 14 => ⟨S34816x3584, .f32⟩
  | 15 => ⟨S34816x3584, .f32⟩
  | 16 => ⟨S34816x3584, .f32⟩
  | 17 => ⟨S34816x3584, .f32⟩
  | 18 => ⟨S34816x3584, .f32⟩
  | 19 => ⟨S34816x1024, .f32⟩
  | 20 => ⟨S34816x1024, .f32⟩
  | 21 => ⟨S34816x1024, .f32⟩
  | 22 => ⟨S34816x1024, .f32⟩
  | 23 => ⟨S34816x1, .f32⟩
  | 24 => ⟨S1x1x1024x3584, .f32⟩
  | 25 => ⟨S1024x3584, .f32⟩
  | 26 => ⟨S1x1x1024x3584, .f32⟩
  | 27 => ⟨S1024x3584, .f32⟩
  | 28 => ⟨S1x1x3584x1024, .f32⟩
  | 29 => ⟨S3584x1024, .f32⟩
  | 30 => ⟨S34816x3584, .f32⟩
  | 31 => ⟨S34816x3584, .f32⟩
  | 32 => ⟨S34816x3584, .f32⟩
  | 33 => ⟨S_, .f32⟩
  | 34 => ⟨S34816x3584, .f32⟩
  | 35 => ⟨S34816x3584, .f32⟩
  | 36 => ⟨S_, .f32⟩
  | 37 => ⟨S34816x3584, .f32⟩
  | 38 => ⟨S34816x3584, .f32⟩
  | 39 => ⟨S34816x3584, .f32⟩
  | 40 => ⟨S34816x3584, .f32⟩
  | 41 => ⟨S34816x3584, .f32⟩
  | 42 => ⟨S34816x1024, .f32⟩
  | 43 => ⟨S34816x1024, .f32⟩
  | 44 => ⟨S34816x1024, .f32⟩
  | 45 => ⟨S34816x1024, .f32⟩
  | 46 => ⟨S34816x1, .f32⟩
  | 47 => ⟨S1x1x1024x3584, .f32⟩
  | 48 => ⟨S1024x3584, .f32⟩
  | 49 => ⟨S1x1x1024x3584, .f32⟩
  | 50 => ⟨S1024x3584, .f32⟩
  | 51 => ⟨S1x1x3584x1024, .f32⟩
  | 52 => ⟨S3584x1024, .f32⟩
  | 53 => ⟨S34816x3584, .f32⟩
  | 54 => ⟨S34816x3584, .f32⟩
  | 55 => ⟨S34816x3584, .f32⟩
  | 56 => ⟨S_, .f32⟩
  | 57 => ⟨S34816x3584, .f32⟩
  | 58 => ⟨S34816x3584, .f32⟩
  | 59 => ⟨S_, .f32⟩
  | 60 => ⟨S34816x3584, .f32⟩
  | 61 => ⟨S34816x3584, .f32⟩
  | 62 => ⟨S34816x3584, .f32⟩
  | 63 => ⟨S34816x3584, .f32⟩
  | 64 => ⟨S34816x3584, .f32⟩
  | 65 => ⟨S34816x1024, .f32⟩
  | 66 => ⟨S34816x1024, .f32⟩
  | 67 => ⟨S34816x1024, .f32⟩
  | 68 => ⟨S34816x1024, .f32⟩
  | 69 => ⟨S136x1x1024, .f32⟩
  | 70 => ⟨S136x1024, .f32⟩
  | 71 => ⟨S136x256x1024, .f32⟩
  | 72 => ⟨S34816x1024, .f32⟩
  | 73 => ⟨S34816x1024, .f32⟩
  | 74 => ⟨S34816x1024, .f32⟩
  | _ => ⟨S34816x1024, .f32⟩

abbrev hbmTy (i : Nat) : BufTy := match i / 128 with
  | 0 => hbmTy0_0 i
  | 1 => hbmTy0_1 i
  | _ => ⟨S34816x1024, .f32⟩

abbrev bufTy : (tb : Table) → Fin (tcTables nBuf tb) → BufTy
  | .hbm, ⟨i, _⟩ => hbmTy i
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call2_v0 : Ref sig .tc := ⟨.hbm, 67, rfl⟩
abbrev main_call2_v1 : Ref sig .tc := ⟨.hbm, 68, rfl⟩
abbrev main_call2_cst : Ref sig .tc := ⟨.hbm, 69, rfl⟩
abbrev main_call2_v2 : Ref sig .tc := ⟨.hbm, 70, rfl⟩
abbrev main_call2_v3 : Ref sig .tc := ⟨.hbm, 71, rfl⟩
abbrev main_call2_cst_0 : Ref sig .tc := ⟨.hbm, 72, rfl⟩
abbrev main_call2_v4 : Ref sig .tc := ⟨.hbm, 73, rfl⟩
abbrev main_call2_v5 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_call3_v0 : Ref sig .tc := ⟨.hbm, 90, rfl⟩
abbrev main_call3_v1 : Ref sig .tc := ⟨.hbm, 91, rfl⟩
abbrev main_call3_cst : Ref sig .tc := ⟨.hbm, 92, rfl⟩
abbrev main_call3_v2 : Ref sig .tc := ⟨.hbm, 93, rfl⟩
abbrev main_call3_v3 : Ref sig .tc := ⟨.hbm, 94, rfl⟩
abbrev main_call3_cst_0 : Ref sig .tc := ⟨.hbm, 95, rfl⟩
abbrev main_call3_v4 : Ref sig .tc := ⟨.hbm, 96, rfl⟩
abbrev main_call3_v5 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_call4_v0 : Ref sig .tc := ⟨.hbm, 113, rfl⟩
abbrev main_call4_v1 : Ref sig .tc := ⟨.hbm, 114, rfl⟩
abbrev main_call4_cst : Ref sig .tc := ⟨.hbm, 115, rfl⟩
abbrev main_call4_v2 : Ref sig .tc := ⟨.hbm, 116, rfl⟩
abbrev main_call4_v3 : Ref sig .tc := ⟨.hbm, 117, rfl⟩
abbrev main_call4_cst_0 : Ref sig .tc := ⟨.hbm, 118, rfl⟩
abbrev main_call4_v4 : Ref sig .tc := ⟨.hbm, 119, rfl⟩
abbrev main_call4_v5 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_call5_v0 : Ref sig .tc := ⟨.hbm, 136, rfl⟩
abbrev main_call5_v1 : Ref sig .tc := ⟨.hbm, 137, rfl⟩
abbrev main_call5_cst : Ref sig .tc := ⟨.hbm, 138, rfl⟩
abbrev main_call5_v2 : Ref sig .tc := ⟨.hbm, 139, rfl⟩
abbrev main_call5_v3 : Ref sig .tc := ⟨.hbm, 140, rfl⟩
abbrev main_call5_cst_0 : Ref sig .tc := ⟨.hbm, 141, rfl⟩
abbrev main_call5_v4 : Ref sig .tc := ⟨.hbm, 142, rfl⟩
abbrev main_call5_v5 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_call6_v0 : Ref sig .tc := ⟨.hbm, 159, rfl⟩
abbrev main_call6_v1 : Ref sig .tc := ⟨.hbm, 160, rfl⟩
abbrev main_call6_cst : Ref sig .tc := ⟨.hbm, 161, rfl⟩
abbrev main_call6_v2 : Ref sig .tc := ⟨.hbm, 162, rfl⟩
abbrev main_call6_v3 : Ref sig .tc := ⟨.hbm, 163, rfl⟩
abbrev main_call6_cst_0 : Ref sig .tc := ⟨.hbm, 164, rfl⟩
abbrev main_call6_v4 : Ref sig .tc := ⟨.hbm, 165, rfl⟩
abbrev main_call6_v5 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_call7_v0 : Ref sig .tc := ⟨.hbm, 182, rfl⟩
abbrev main_call7_v1 : Ref sig .tc := ⟨.hbm, 183, rfl⟩
abbrev main_call7_cst : Ref sig .tc := ⟨.hbm, 184, rfl⟩
abbrev main_call7_v2 : Ref sig .tc := ⟨.hbm, 185, rfl⟩
abbrev main_call7_v3 : Ref sig .tc := ⟨.hbm, 186, rfl⟩
abbrev main_call7_cst_0 : Ref sig .tc := ⟨.hbm, 187, rfl⟩
abbrev main_call7_v4 : Ref sig .tc := ⟨.hbm, 188, rfl⟩
abbrev main_call7_v5 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩

abbrev nD : Nat := 1
abbrev τ : Topo := Topo.v7x

variable {F : FTy → Type} [FloatOps F]
-- ==== Ffn.lean ====
abbrev S34816x1024 : Shape := ⟨2, ![34816, 1024]⟩
abbrev S136x8x1024 : Shape := ⟨3, ![136, 8, 1024]⟩
abbrev S1024x2816 : Shape := ⟨2, ![1024, 2816]⟩
abbrev S2816x1024 : Shape := ⟨2, ![2816, 1024]⟩
abbrev S1024x1024 : Shape := ⟨2, ![1024, 1024]⟩
abbrev S4x8x1024 : Shape := ⟨3, ![4, 8, 1024]⟩
abbrev S1024x256 : Shape := ⟨2, ![1024, 256]⟩
abbrev S256x1024 : Shape := ⟨2, ![256, 1024]⟩
abbrev S1x8x1024 : Shape := ⟨3, ![1, 8, 1024]⟩
abbrev S8x1024 : Shape := ⟨2, ![8, 1024]⟩
abbrev S1x1024 : Shape := ⟨2, ![1, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 9
  | .vmem => 14
  | .smem => 0
  | _ => 0

abbrev bufTy : (tb : Table) → Fin (tcTables nBuf tb) → BufTy
  | .hbm, ⟨0, _⟩ => ⟨S34816x1024, .f32⟩
  | .hbm, ⟨1, _⟩ => ⟨S136x8x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S34816x1024, .f32⟩
  | .local _ .vmem, ⟨0, _⟩ => ⟨S1024x1024, .f32⟩
  | .local _ .vmem, ⟨1, _⟩ => ⟨S1024x1024, .f32⟩
  | .local _ .vmem, ⟨2, _⟩ => ⟨S4x8x1024, .f32⟩
  | .local _ .vmem, ⟨3, _⟩ => ⟨S4x8x1024, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![34, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S34816x1024 : Shape := ⟨2, ![34816, 1024]⟩
abbrev S136x8x1024 : Shape := ⟨3, ![136, 8, 1024]⟩
abbrev S1024x2816 : Shape := ⟨2, ![1024, 2816]⟩
abbrev S2816x1024 : Shape := ⟨2, ![2816, 1024]⟩
abbrev S136x1x1024 : Shape := ⟨3, ![136, 1, 1024]⟩
abbrev S136x1024 : Shape := ⟨2, ![136, 1024]⟩
abbrev S136x256x1024 : Shape := ⟨3, ![136, 256, 1024]⟩
abbrev S_ : Shape := ⟨0, ![]⟩
abbrev S34816 : Shape := ⟨1, ![34816]⟩
abbrev S34816x1 : Shape := ⟨2, ![34816, 1]⟩
abbrev S34816x2816 : Shape := ⟨2, ![34816, 2816]⟩

abbrev nBuf : Space → Nat
  | .hbm => 47
  | .vmem => 0
  | .smem => 0
  | _ => 0

abbrev bufTy : (tb : Table) → Fin (tcTables nBuf tb) → BufTy
  | .hbm, ⟨0, _⟩ => ⟨S34816x1024, .f32⟩
  | .hbm, ⟨1, _⟩ => ⟨S136x8x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S136x1x1024, .f32⟩
  | .hbm, ⟨6, _⟩ => ⟨S136x1024, .f32⟩
  | .hbm, ⟨7, _⟩ => ⟨S136x256x1024, .f32⟩
  | .hbm, ⟨8, _⟩ => ⟨S34816x1024, .f32⟩
  | .hbm, ⟨9, _⟩ => ⟨S136x1x1024, .f32⟩
  | .hbm, ⟨10, _⟩ => ⟨S136x1024, .f32⟩
  | .hbm, ⟨11, _⟩ => ⟨S136x256x1024, .f32⟩
  | .hbm, ⟨12, _⟩ => ⟨S34816x1024, .f32⟩
  | .hbm, ⟨13, _⟩ => ⟨S136x1x1024, .f32⟩
  | .hbm, ⟨14, _⟩ => ⟨S136x1024, .f32⟩
  | .hbm, ⟨15, _⟩ => ⟨S136x256x1024, .f32⟩
  | .hbm, ⟨16, _⟩ => ⟨S34816x1024, .f32⟩
  | .hbm, ⟨17, _⟩ => ⟨S34816x1024, .f32⟩
  | .hbm, ⟨18, _⟩ => ⟨S_, .f32⟩
  | .hbm, ⟨19, _⟩ => ⟨S34816, .f32⟩
  | .hbm, ⟨20, _⟩ => ⟨S34816x1, .f32⟩
  | .hbm, ⟨21, _⟩ => ⟨S_, .f32⟩
  | .hbm, ⟨22, _⟩ => ⟨S34816x1, .f32⟩
  | .hbm, ⟨23, _⟩ => ⟨S34816x1, .f32⟩
  | .hbm, ⟨24, _⟩ => ⟨S_, .f32⟩
  | .hbm, ⟨25, _⟩ => ⟨S34816x1, .f32⟩
  | .hbm, ⟨26, _⟩ => ⟨S34816x1, .f32⟩
  | .hbm, ⟨27, _⟩ => ⟨S34816x1, .f32⟩
  | .hbm, ⟨28, _⟩ => ⟨S34816x1024, .f32⟩
  | .hbm, ⟨29, _⟩ => ⟨S34816x1024, .f32⟩
  | .hbm, ⟨30, _⟩ => ⟨S34816x1024, .f32⟩
  | .hbm, ⟨31, _⟩ => ⟨S34816x1024, .f32⟩
  | .hbm, ⟨32, _⟩ => ⟨S34816x2816, .f32⟩
  | .hbm, ⟨33, _⟩ => ⟨S34816x2816, .f32⟩
  | .hbm, ⟨34, _⟩ => ⟨S34816x2816, .f32⟩
  | .hbm, ⟨35, _⟩ => ⟨S_, .f32⟩
  | .hbm, ⟨36, _⟩ => ⟨S34816x2816, .f32⟩
  | .hbm, ⟨37, _⟩ => ⟨S34816x2816, .f32⟩
  | .hbm, ⟨38, _⟩ => ⟨S_, .f32⟩
  | .hbm, ⟨39, _⟩ => ⟨S34816x2816, .f32⟩
  | .hbm, ⟨40, _⟩ => ⟨S34816x2816, .f32⟩
  | .hbm, ⟨41, _⟩ => ⟨S34816x2816, .f32⟩
  | .hbm, ⟨42, _⟩ => ⟨S34816x2816, .f32⟩
  | .hbm, ⟨43, _⟩ => ⟨S34816x2816, .f32⟩
  | .hbm, ⟨44, _⟩ => ⟨S34816x1024, .f32⟩
  | .hbm, ⟨45, _⟩ => ⟨S34816x1024, .f32⟩
  | .hbm, ⟨46, _⟩ => ⟨S34816x1024, .f32⟩
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Norm.lean ====
abbrev S34816x1024 : Shape := ⟨2, ![34816, 1024]⟩
abbrev S1024 : Shape := ⟨1, ![1024]⟩
abbrev S8x4352x1024 : Shape := ⟨3, ![8, 4352, 1024]⟩
abbrev S1x1024 : Shape := ⟨2, ![1, 1024]⟩
abbrev S8x4096x1024 : Shape := ⟨3, ![8, 4096, 1024]⟩
abbrev S1x1024x1024 : Shape := ⟨3, ![1, 1024, 1024]⟩
abbrev S1024x1024 : Shape := ⟨2, ![1024, 1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S34816x1024, .f32⟩
  | .hbm, ⟨1, _⟩ => ⟨S1024, .f32⟩
  | .hbm, ⟨2, _⟩ => ⟨S8x4352x1024, .f32⟩
  | .hbm, ⟨3, _⟩ => ⟨S1x1024, .f32⟩
  | .hbm, ⟨4, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024x1024, .f32⟩
  | .local _ .vmem, ⟨4, _⟩ => ⟨S1x1024x1024, .f32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NormReferenceIdeal.lean ====
abbrev S34816x1024 : Shape := ⟨2, ![34816, 1024]⟩
abbrev S1024 : Shape := ⟨1, ![1024]⟩
abbrev S8x4352x1024 : Shape := ⟨3, ![8, 4352, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S34816x1024, .f32⟩
  | .hbm, ⟨1, _⟩ => ⟨S1024, .f32⟩
  | .hbm, ⟨2, _⟩ => ⟨S8x4352x1024, .f32⟩
  | .hbm, ⟨3, _⟩ => ⟨S8x4096x1024, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Ffn.lean ====
/- The dense feed-forward kernel's value: what each point leaves in the scratch and in the output, entry by entry. -/
module

public import proofs.«01_k».proof.Defs
public import proofs.«01_k».proof.Proof.Gen.FfnIdeal.Value
public import proofs.«01_k».proof.Proof.Gen.FfnReferenceIdeal.Run
public import Idealize.ShloMosaic.Lib.Pointwise
public import Idealize.ShloMosaic.Lib.IdealHost

@[expose] public section

set_option maxRecDepth 16384

noncomputable section

namespace Cert.Proof.FfnValue

open Cert.FfnIdeal Cert.FfnIdeal.Gen Cert.FfnIdeal.Value
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

/-- The normalised and modulated rows of a block of rows `h` whose four modulation tiles are `mod`. -/
def Un (h : FVec Ideal S1024x1024 .f32) (md : FVec Ideal S4x8x1024 .f32) : FVec Ideal S1024x1024 .bf16 := fun i =>
  h i * Ideal.rsqrt (Ideal.div (∑ k : Fin 1024, h (ix2 (i 0) k) * h (ix2 (i 0) k)) (Ideal.ofBits .f32 0x44800000#32)
    + Ideal.ofBits .f32 0x358637BD#32) * md (ix3 ⟨(i 0).val / 256, Nat.div_lt_of_lt_mul (i 0).isLt⟩ 3 (i 1))
    + md (ix3 ⟨(i 0).val / 256, Nat.div_lt_of_lt_mul (i 0).isLt⟩ 4 (i 1))

/-- One tile's rows, normalised and modulated by that tile's modulation block. -/
def nrm (X : FVec Ideal S256x1024 .f32) (M : FVec Ideal S1x8x1024 .f32) : FVec Ideal S256x1024 .bf16 := fun i =>
  X i * Ideal.rsqrt (Ideal.div (∑ k : Fin 1024, X (ix2 (i 0) k) * X (ix2 (i 0) k)) (Ideal.ofBits .f32 0x44800000#32)
    + Ideal.ofBits .f32 0x358637BD#32) * M (ix3 0 3 (i 1)) + M (ix3 0 4 (i 1))

theorem pay5_eq (M : FVec Ideal S1x8x1024 .f32) (X : FVec Ideal S256x1024 .f32) : k0_pay5 (F := Ideal) M X = nrm X M := by
  funext i; idx_vars i; unfold k0_pay5; pointwise [nrm]

theorem pay10_eq (M : FVec Ideal S1x8x1024 .f32) (X : FVec Ideal S256x1024 .f32) : k0_pay10 (F := Ideal) M X = nrm X M := by
  funext i; idx_vars i; unfold k0_pay10; pointwise [nrm]

theorem pay9_eq (M : FVec Ideal S1x8x1024 .f32) (X : FVec Ideal S256x1024 .f32) :
    k0_pay9 (F := Ideal) (k0_pay7 (F := Ideal) M X) (k0_pay8 (F := Ideal) M) = nrm X M := by
  funext i; idx_vars i; unfold k0_pay9 k0_pay7 k0_pay8 k0_pay6; pointwise [nrm]

theorem pay1_eq (M : FVec Ideal S1x8x1024 .f32) (X : FVec Ideal S256x1024 .f32) :
    k0_pay1 (F := Ideal) X (k0_pay12 (F := Ideal) M) (k0_pay13 (F := Ideal) M) (k0_pay14 (F := Ideal) X) (FloatOps.ofBits FTy.f32 897988541#32) = nrm X M := by
  funext i; idx_vars i; unfold k0_pay1 k0_pay12 k0_pay13 k0_pay14 k0_pay11; pointwise [nrm]

theorem nrm_piece (x0 : Vec Ideal S1024x1024 .f32) (x1 : Vec Ideal S4x8x1024 .f32) (o q : ℕ) (ho : o = 256 * q)
    (inb : ∀ a, ![o, 0] a + ![256, 1024] a ≤ S1024x1024.size a) (inb' : ∀ a, ![q, 0, 0] a + ![1, 8, 1024] a ≤ S4x8x1024.size a)
    (x : S256x1024.Idx) :
    nrm (View.ld x0 (Rect.unit (s := S1024x1024) ![o, 0] ![256, 1024] inb)) (View.ld x1 (Rect.unit (s := S4x8x1024) ![q, 0, 0] ![1, 8, 1024] inb')) x
      = Un x0 x1 ((Rect.unit (s := S1024x1024) ![o, 0] ![256, 1024] inb).emb x) := by
  subst ho
  have hx : (x 0).val < 256 := (x 0).isLt
  have hm : ∀ p : Fin 8, (Rect.unit (s := S4x8x1024) ![q, 0, 0] ![1, 8, 1024] inb').idx (ix3 0 p (x 1) : S1x8x1024.Idx)
      = ix3 ⟨((Rect.unit (s := S1024x1024) ![256 * q, 0] ![256, 1024] inb).emb x 0).val / 256, Nat.div_lt_of_lt_mul ((Rect.unit (s := S1024x1024) ![256 * q, 0] ![256, 1024] inb).emb x 0).isLt⟩ p ((Rect.unit (s := S1024x1024) ![256 * q, 0] ![256, 1024] inb).emb x 1) := fun p => by
    funext a
    apply Fin.ext
    match a with
    | ⟨0, _⟩ => show q + 1 * 0 = (256 * q + 1 * (x 0).val) / 256; omega
    | ⟨1, _⟩ => show 0 + 1 * p.val = p.val; omega
    | ⟨2, _⟩ => rfl
  have hk : ∀ k : Fin 1024, (Rect.unit (s := S1024x1024) ![256 * q, 0] ![256, 1024] inb).idx (ix2 (x 0) k : S256x1024.Idx)
      = ix2 ((Rect.unit (s := S1024x1024) ![256 * q, 0] ![256, 1024] inb).emb x 0) k := fun k => by
    funext a
    apply Fin.ext
    match a with
    | ⟨0, _⟩ => rfl
    | ⟨1, _⟩ => show 0 + 1 * k.val = k.val; omega
  have l0 : ∀ k : Fin 1024, View.ld x0 (Rect.unit (s := S1024x1024) ![256 * q, 0] ![256, 1024] inb) (ix2 (x 0) k : S256x1024.Idx)
      = x0 (ix2 ((Rect.unit (s := S1024x1024) ![256 * q, 0] ![256, 1024] inb).emb x 0) k) := fun k => congrArg x0 (hk k)
  have l1 : ∀ p : Fin 8, View.ld x1 (Rect.unit (s := S4x8x1024) ![q, 0, 0] ![1, 8, 1024] inb') (ix3 0 p (x 1) : S1x8x1024.Idx) = _ := fun p => congrArg x1 (hm p)
  unfold nrm Un
  simp only [l0, l1]
  rfl

theorem u_A (c : Dev nD) (i : grid0.Coords) (arg2 : Memref sig .tc .vmem S1024x1024 .f32) (harg2 : arg2.IsWhole) (arg3 : Memref sig .tc .vmem S4x8x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole) (hc0 : cond0_0 i) (hc1 : ¬cond0_1 i)
    (x0 : Vec Ideal S1024x1024 .f32) (x1 : Vec Ideal S4x8x1024 .f32) (x2 : Vec Ideal S1024x256 .bf16) (x3 : Vec Ideal S1024x256 .bf16) (x4 : Vec Ideal S256x1024 .bf16) :
    sout0_A_0 (F := Ideal) c i arg2 harg2 arg3 harg3 arg4 harg4 arg5 harg5 arg6 harg6 arg7 harg7 arg8 harg8 arg9 harg9 hc0 hc1 x0 x1 x2 x3 x4 = Un x0 x1 := by
  funext y
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  refine View.canon_apply_of_pieces (Un x0 x1) _ ?_ y (scover0_A_0 c i arg2 harg2 arg3 harg3 arg4 harg4 arg5 harg5 arg6 harg6 arg7 harg7 arg8 harg8 arg9 harg9 hc0 hc1 x0 x1 x2 x3 x4 y)
  unfold kernelRun0_A
  dsimp only
  sl_unfold_words
  simp only [View.readAt_eq_ld, harg2.read_unread, harg3.read_unread, List.forall_mem_cons]
  refine ⟨fun x => ?_, fun x => ?_, fun x => ?_, fun x => ?_, by simp⟩
  · exact (congrFun (pay1_eq _ _) x).trans (nrm_piece x0 x1 768 3 rfl _ _ x)
  · exact (congrFun (pay10_eq _ _) x).trans (nrm_piece x0 x1 512 2 rfl _ _ x)
  · exact (congrFun (pay9_eq _ _) x).trans (nrm_piece x0 x1 256 1 rfl _ _ x)
  · exact (congrFun (pay5_eq _ _) x).trans (nrm_piece x0 x1 0 0 rfl _ _ x)

theorem readCov_whole {sp : Space} {e : EltTy} (v : View sig .tc sp S1024x1024 e) (L : List (View.Piece (Elt Ideal) S1024x1024 e))
    (inb : ∀ a, ![0, 0] a + ![1024, 1024] a ≤ S1024x1024.size a) :
    v.readCov L (Rect.unit (s := S1024x1024) ![0, 0] ![1024, 1024] inb).toLoadRect = View.canon L := by
  rw [View.readCov_eq_canon']
  funext j
  refine congrArg (View.canon L) (funext fun a => Fin.ext ?_)
  match a with
  | ⟨0, _⟩ => show 0 + 1 * (j 0).val = (j 0).val; omega
  | ⟨1, _⟩ => show 0 + 1 * (j 1).val = (j 1).val; omega

theorem readCov_part {sp : Space} {e : EltTy} (v : View sig .tc sp S1024x1024 e) (X : S1024x1024.Idx → Elt Ideal e)
    (r : Rect S1024x1024) (inb : ∀ a, ![0, 0] a + ![1024, 1024] a ≤ S1024x1024.size a) :
    v.readCov [⟨Rect.unit (s := S1024x1024) ![0, 0] ![1024, 1024] inb, X⟩] r.toLoadRect = View.ld X r := by
  rw [View.readCov_eq_canon', View.canon_unit_zero (S := S1024x1024) hz]

theorem acc_A (c : Dev nD) (i : grid0.Coords) (arg2 : Memref sig .tc .vmem S1024x1024 .f32) (harg2 : arg2.IsWhole) (arg3 : Memref sig .tc .vmem S4x8x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole) (hc0 : cond0_0 i) (hc1 : ¬cond0_1 i)
    (x0 : Vec Ideal S1024x1024 .f32) (x1 : Vec Ideal S4x8x1024 .f32) (x2 : Vec Ideal S1024x256 .bf16) (x3 : Vec Ideal S1024x256 .bf16) (x4 : Vec Ideal S256x1024 .bf16) :
    sout0_A_1 (F := Ideal) c i arg2 harg2 arg3 harg3 arg4 harg4 arg5 harg5 arg6 harg6 arg7 harg7 arg8 harg8 arg9 harg9 hc0 hc1 x0 x1 x2 x3 x4 = k0_pay3 (F := Ideal) (Un x0 x1) x2 x3 (k0_pay2 (F := Ideal)) x4 := by
  rw [← u_A c i arg2 harg2 arg3 harg3 arg4 harg4 arg5 harg5 arg6 harg6 arg7 harg7 arg8 harg8 arg9 harg9 hc0 hc1 x0 x1 x2 x3 x4]
  unfold sout0_A_1 sout0_A_0
  rw [View.read_writes_eq_canon _ _ _ (scover0_A_1 c i arg2 harg2 arg3 harg3 arg4 harg4 arg5 harg5 arg6 harg6 arg7 harg7 arg8 harg8 arg9 harg9 hc0 hc1 x0 x1 x2 x3 x4),
    View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz]
  simp only [View.readAt_eq_ld, harg2.read_unread, harg3.read_unread, harg4.read_unread, harg5.read_unread, harg6.read_unread,
    View.ld_unit_zero (S := S1024x1024) hz, View.ld_unit_zero (S := S1024x256) hz, View.ld_unit_zero (S := S256x1024) hz]
  simp only [readCov_whole]
  rw [View.canon_unit_zero (S := S1024x1024) hz]

theorem acc_B (c : Dev nD) (i : grid0.Coords) (arg2 : Memref sig .tc .vmem S1024x1024 .f32) (harg2 : arg2.IsWhole) (arg3 : Memref sig .tc .vmem S4x8x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : ¬cond0_1 i)
    (x0 : Vec Ideal S1024x1024 .f32) (x1 : Vec Ideal S4x8x1024 .f32) (x2 : Vec Ideal S1024x256 .bf16) (x3 : Vec Ideal S1024x256 .bf16) (x4 : Vec Ideal S256x1024 .bf16) (s0 : Vec Ideal S1024x1024 .bf16) (s1 : Vec Ideal S1024x1024 .f32) :
    sout0_B_1 (F := Ideal) c i arg2 harg2 arg3 harg3 arg4 harg4 arg5 harg5 arg6 harg6 arg7 harg7 arg8 harg8 arg9 harg9 hc0 hc1 x0 x1 x2 x3 x4 s0 s1 = k0_pay3 s0 x2 x3 s1 x4 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 s0 s1)]
  unfold kernelRun0_B
  dsimp only
  sl_unfold_words
  rw [View.canon_cons_unit_zero (S := S1024x1024) hz]
  simp only [View.readAt_eq_ld, harg2.read_unread, harg3.read_unread, harg4.read_unread, harg5.read_unread, harg6.read_unread, harg8.read_unread, harg9.read_unread,
    View.ld_unit_zero (S := S1024x1024) hz, View.ld_unit_zero (S := S1024x256) hz, View.ld_unit_zero (S := S256x1024) hz]

theorem acc_C (c : Dev nD) (i : grid0.Coords) (arg2 : Memref sig .tc .vmem S1024x1024 .f32) (harg2 : arg2.IsWhole) (arg3 : Memref sig .tc .vmem S4x8x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : cond0_1 i)
    (x0 : Vec Ideal S1024x1024 .f32) (x1 : Vec Ideal S4x8x1024 .f32) (x2 : Vec Ideal S1024x256 .bf16) (x3 : Vec Ideal S1024x256 .bf16) (x4 : Vec Ideal S256x1024 .bf16) (s0 : Vec Ideal S1024x1024 .bf16) (s1 : Vec Ideal S1024x1024 .f32) :
    sout0_C_1 (F := Ideal) c i arg2 harg2 arg3 harg3 arg4 harg4 arg5 harg5 arg6 harg6 arg7 harg7 arg8 harg8 arg9 harg9 hc0 hc1 x0 x1 x2 x3 x4 s0 s1 = k0_pay3 s0 x2 x3 s1 x4 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 s0 s1)]
  unfold kernelRun0_C
  dsimp only
  sl_unfold_words
  rw [View.canon_cons_unit_zero (S := S1024x1024) hz]
  simp only [View.readAt_eq_ld, harg2.read_unread, harg3.read_unread, harg4.read_unread, harg5.read_unread, harg6.read_unread, harg8.read_unread, harg9.read_unread,
    View.ld_unit_zero (S := S1024x1024) hz, View.ld_unit_zero (S := S1024x256) hz, View.ld_unit_zero (S := S256x1024) hz]

/-- The output block: the rows plus, times their tile's gate, the accumulated rows. -/
def On (h : FVec Ideal S1024x1024 .f32) (md : FVec Ideal S4x8x1024 .f32) (acc : FVec Ideal S1024x1024 .f32) : FVec Ideal S1024x1024 .f32 := fun i =>
  h i + md (ix3 ⟨(i 0).val / 256, Nat.div_lt_of_lt_mul (i 0).isLt⟩ 5 (i 1)) * acc i

/-- One tile of the output. -/
def gat (X : FVec Ideal S256x1024 .f32) (M : FVec Ideal S1x1x1024 .f32) (A : FVec Ideal S256x1024 .f32) : FVec Ideal S256x1024 .f32 := fun i =>
  X i + M (ix3 0 0 (i 1)) * A i

theorem pay4_eq (X : FVec Ideal S256x1024 .f32) (M : FVec Ideal S1x1x1024 .f32) (A : FVec Ideal S256x1024 .f32) : k0_pay4 (F := Ideal) X M A = gat X M A := by
  funext i; idx_vars i; unfold k0_pay4; pointwise [gat]
theorem pay15_eq (X : FVec Ideal S256x1024 .f32) (M : FVec Ideal S1x1x1024 .f32) (A : FVec Ideal S256x1024 .f32) : k0_pay15 (F := Ideal) X M A = gat X M A := by
  funext i; idx_vars i; unfold k0_pay15; pointwise [gat]
theorem pay16_eq (X : FVec Ideal S256x1024 .f32) (M : FVec Ideal S1x1x1024 .f32) (A : FVec Ideal S256x1024 .f32) : k0_pay16 (F := Ideal) X M A = gat X M A := by
  funext i; idx_vars i; unfold k0_pay16; pointwise [gat]
theorem pay17_eq (X : FVec Ideal S256x1024 .f32) (M : FVec Ideal S1x1x1024 .f32) (A : FVec Ideal S256x1024 .f32) : k0_pay17 (F := Ideal) X M A = gat X M A := by
  funext i; idx_vars i; unfold k0_pay17; pointwise [gat]

theorem gat_piece (x0 A : Vec Ideal S1024x1024 .f32) (x1 : Vec Ideal S4x8x1024 .f32) (o q : ℕ) (ho : o = 256 * q)
    (inb : ∀ a, ![o, 0] a + ![256, 1024] a ≤ S1024x1024.size a) (inb' : ∀ a, ![q, 5, 0] a + ![1, 1, 1024] a ≤ S4x8x1024.size a)
    (x : S256x1024.Idx) :
    gat (View.ld x0 (Rect.unit (s := S1024x1024) ![o, 0] ![256, 1024] inb)) (View.ld x1 (Rect.unit (s := S4x8x1024) ![q, 5, 0] ![1, 1, 1024] inb'))
        (View.ld A (Rect.unit (s := S1024x1024) ![o, 0] ![256, 1024] inb)) x
      = On x0 x1 A ((Rect.unit (s := S1024x1024) ![o, 0] ![256, 1024] inb).emb x) := by
  subst ho
  have hx : (x 0).val < 256 := (x 0).isLt
  have hm : (Rect.unit (s := S4x8x1024) ![q, 5, 0] ![1, 1, 1024] inb').idx (ix3 0 0 (x 1) : S1x1x1024.Idx)
      = ix3 ⟨((Rect.unit (s := S1024x1024) ![256 * q, 0] ![256, 1024] inb).emb x 0).val / 256, Nat.div_lt_of_lt_mul ((Rect.unit (s := S1024x1024) ![256 * q, 0] ![256, 1024] inb).emb x 0).isLt⟩ 5 ((Rect.unit (s := S1024x1024) ![256 * q, 0] ![256, 1024] inb).emb x 1) := by
    funext a
    apply Fin.ext
    match a with
    | ⟨0, _⟩ => show q + 1 * 0 = (256 * q + 1 * (x 0).val) / 256; omega
    | ⟨1, _⟩ => rfl
    | ⟨2, _⟩ => rfl
  have l1 : View.ld x1 (Rect.unit (s := S4x8x1024) ![q, 5, 0] ![1, 1, 1024] inb') (ix3 0 0 (x 1) : S1x1x1024.Idx) = _ := congrArg x1 hm
  unfold gat On
  rw [l1]
  rfl

theorem out_C (c : Dev nD) (i : grid0.Coords) (arg2 : Memref sig .tc .vmem S1024x1024 .f32) (harg2 : arg2.IsWhole) (arg3 : Memref sig .tc .vmem S4x8x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole) (hc0 : ¬cond0_0 i) (hc1 : cond0_1 i)
    (x0 : Vec Ideal S1024x1024 .f32) (x1 : Vec Ideal S4x8x1024 .f32) (x2 : Vec Ideal S1024x256 .bf16) (x3 : Vec Ideal S1024x256 .bf16) (x4 : Vec Ideal S256x1024 .bf16) (s0 : Vec Ideal S1024x1024 .bf16) (s1 : Vec Ideal S1024x1024 .f32) :
    out0_C_5 (F := Ideal) c i arg2 harg2 arg3 harg3 arg4 harg4 arg5 harg5 arg6 harg6 arg7 harg7 arg8 harg8 arg9 harg9 hc0 hc1 x0 x1 x2 x3 x4 s0 s1 = On x0 x1 (k0_pay3 s0 x2 x3 s1 x4) := by
  funext y
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 s0 s1)]
  refine View.canon_apply_of_pieces (On x0 x1 (k0_pay3 s0 x2 x3 s1 x4)) _ ?_ y (cover0_C_5 c i arg2 harg2 arg3 harg3 arg4 harg4 arg5 harg5 arg6 harg6 arg7 harg7 arg8 harg8 arg9 harg9 hc0 hc1 x0 x1 x2 x3 x4 s0 s1 y)
  unfold kernelRun0_C
  dsimp only
  sl_unfold_words
  simp only [View.readAt_eq_ld, harg2.read_unread, harg3.read_unread, harg4.read_unread, harg5.read_unread, harg6.read_unread, harg8.read_unread, harg9.read_unread,
    View.ld_unit_zero (S := S1024x1024) hz, View.ld_unit_zero (S := S1024x256) hz, View.ld_unit_zero (S := S256x1024) hz, List.forall_mem_cons, readCov_part]
  refine ⟨fun x => ?_, fun x => ?_, fun x => ?_, fun x => ?_, by simp⟩
  · exact (congrFun (pay4_eq _ _ _) x).trans (gat_piece x0 _ x1 768 3 rfl _ _ x)
  · exact (congrFun (pay17_eq _ _ _) x).trans (gat_piece x0 _ x1 512 2 rfl _ _ x)
  · exact (congrFun (pay16_eq _ _ _) x).trans (gat_piece x0 _ x1 256 1 rfl _ _ x)
  · exact (congrFun (pay15_eq _ _ _) x).trans (gat_piece x0 _ x1 0 0 rfl _ _ x)

/-- The gated hidden unit: the gate product times its logistic, times the up product. -/
def sw (g u : EReal) : EReal := g * Ideal.div 1 (1 + Ideal.exp (-g)) * u

theorem pay3_apply (u : FVec Ideal S1024x1024 .bf16) (wg wu : FVec Ideal S1024x256 .bf16) (acc : FVec Ideal S1024x1024 .f32) (wd : FVec Ideal S256x1024 .bf16)
    (a d : Fin 1024) : k0_pay3 (F := Ideal) u wg wu acc wd (ix2 a d) = acc (ix2 a d)
      + ∑ q : Fin 256, sw (∑ k : Fin 1024, u (ix2 a k) * wg (ix2 k q)) (∑ k : Fin 1024, u (ix2 a k) * wu (ix2 k q)) * wd (ix2 q d) := by
  unfold k0_pay3
  pointwise [sw]
  simp only [zero_sub]

theorem pay2_apply (y : S1024x1024.Idx) : k0_pay2 (F := Ideal) y = 0 := by
  idx_vars y; unfold k0_pay2; pointwise

/-- The normalised and modulated rows of the whole array. -/
def U (h : FVec Ideal S34816x1024 .f32) (md : FVec Ideal S136x8x1024 .f32) (r : Fin 34816) (d : Fin 1024) : EReal :=
  h (ix2 r d) * Ideal.rsqrt (Ideal.div (∑ k : Fin 1024, h (ix2 r k) * h (ix2 r k)) (Ideal.ofBits .f32 0x44800000#32)
    + Ideal.ofBits .f32 0x358637BD#32) * md (ix3 ⟨r.val / 256, Nat.div_lt_of_lt_mul r.isLt⟩ 3 d)
    + md (ix3 ⟨r.val / 256, Nat.div_lt_of_lt_mul r.isLt⟩ 4 d)

/-- One hidden unit's share of one entry of the layer's output. -/
def part (h : FVec Ideal S34816x1024 .f32) (md : FVec Ideal S136x8x1024 .f32) (wg wu : FVec Ideal S1024x2816 .f32) (wd : FVec Ideal S2816x1024 .f32)
    (r : Fin 34816) (d : Fin 1024) (k : Fin 2816) : EReal :=
  sw (∑ l : Fin 1024, U h md r l * wg (ix2 l k)) (∑ l : Fin 1024, U h md r l * wu (ix2 l k)) * wd (ix2 k d)

/-- The layer's output: the rows plus their tile's gate times the gated product. -/
def G (h : FVec Ideal S34816x1024 .f32) (md : FVec Ideal S136x8x1024 .f32) (wg wu : FVec Ideal S1024x2816 .f32) (wd : FVec Ideal S2816x1024 .f32) :
    FVec Ideal S34816x1024 .f32 := fun i =>
  h i + md (ix3 ⟨(i 0).val / 256, Nat.div_lt_of_lt_mul (i 0).isLt⟩ 5 (i 1)) * ∑ k : Fin 2816, part h md wg wu wd (i 0) (i 1) k

theorem idx_facts : ∀ t : Fin cfg0.N, win0_0.index t = ![t.val / 11, 0] ∧ win0_1.index t = ![t.val / 11, 0, 0] ∧ win0_2.index t = ![0, t.val % 11]
    ∧ win0_3.index t = ![0, t.val % 11] ∧ win0_4.index t = ![t.val % 11, 0] ∧ win0_5.index t = ![t.val / 11, 0] :=
  (by decide +kernel : ∀ t : Fin grid0.N, win0_0.index t = ![t.val / 11, 0] ∧ win0_1.index t = ![t.val / 11, 0, 0] ∧ win0_2.index t = ![0, t.val % 11]
    ∧ win0_3.index t = ![0, t.val % 11] ∧ win0_4.index t = ![t.val % 11, 0] ∧ win0_5.index t = ![t.val / 11, 0])

variable (m : (ℓ : Loc nD τ sig) → Buf (Elt Ideal) ℓ)

theorem V_v0 (c : Dev nD) (y : S1024x2816.Idx) : V m c main_v0 y = m ((c : Thread nD τ).loc main_arg2) y := by
  unfold V hostOps0
  after_results
  rfl
theorem V_v1 (c : Dev nD) (y : S1024x2816.Idx) : V m c main_v1 y = m ((c : Thread nD τ).loc main_arg3) y := by
  unfold V hostOps0
  after_results
  rfl
theorem V_v2 (c : Dev nD) (y : S2816x1024.Idx) : V m c main_v2 y = m ((c : Thread nD τ).loc main_arg4) y := by
  unfold V hostOps0
  after_results
  rfl

theorem lt_N (t : Fin cfg0.N) : t.val < 374 := lt_of_lt_of_eq t.isLt N_0

/-- The row of the array that a point's block holds at its own row `a`. -/
def row (t : Fin cfg0.N) (a : Fin 1024) : Fin 34816 := ⟨t.val / 11 * 1024 + a.val, by have := lt_N t; omega⟩

/-- The hidden unit that a point's weight blocks hold at their own place `q`. -/
def col (t : Fin cfg0.N) (q : Fin 256) : Fin 2816 := ⟨t.val % 11 * 256 + q.val, by omega⟩

theorem b0 (c : Dev nD) (t : Fin cfg0.N) (a d : Fin 1024) : iblk m c 0 t (ix2 a d) = m ((c : Thread nD τ).loc main_arg0) (ix2 (row t a) d) := by
  obtain ⟨e0, e1, e2, e3, e4, e5⟩ := idx_facts t
  show V m c main_arg0 (((cfg0.win 0).blk t).view.emb (ix2 a d)) = _
  rw [V_main_arg0]
  refine congrArg _ (funext fun x => Fin.ext ?_)
  match x with
  | ⟨0, _⟩ => show win0_0.index t 0 * 1024 + 1 * a.val = t.val / 11 * 1024 + a.val; rw [e0]; show t.val / 11 * 1024 + _ = _; omega
  | ⟨1, _⟩ => show win0_0.index t 1 * 1024 + 1 * d.val = d.val; rw [e0]; show 0 * 1024 + _ = _; omega

theorem b1 (c : Dev nD) (t : Fin cfg0.N) (a : Fin 1024) (p : Fin 8) (d : Fin 1024) :
    iblk m c 1 t (ix3 ⟨a.val / 256, Nat.div_lt_of_lt_mul a.isLt⟩ p d)
      = m ((c : Thread nD τ).loc main_arg1) (ix3 ⟨(row t a).val / 256, Nat.div_lt_of_lt_mul (row t a).isLt⟩ p d) := by
  obtain ⟨e0, e1, e2, e3, e4, e5⟩ := idx_facts t
  show V m c main_arg1 (((cfg0.win 1).blk t).view.emb (ix3 ⟨a.val / 256, Nat.div_lt_of_lt_mul a.isLt⟩ p d)) = _
  rw [V_main_arg1]
  refine congrArg _ (funext fun x => Fin.ext ?_)
  match x with
  | ⟨0, _⟩ => show win0_1.index t 0 * 4 + 1 * (a.val / 256) = (t.val / 11 * 1024 + a.val) / 256; rw [e1]; show t.val / 11 * 4 + _ = _; omega
  | ⟨1, _⟩ => show win0_1.index t 1 * 8 + 1 * p.val = p.val; rw [e1]; show 0 * 8 + _ = _; omega
  | ⟨2, _⟩ => show win0_1.index t 2 * 1024 + 1 * d.val = d.val; rw [e1]; show 0 * 1024 + _ = _; omega

theorem b2 (c : Dev nD) (t : Fin cfg0.N) (k : Fin 1024) (q : Fin 256) : iblk m c 2 t (ix2 k q) = m ((c : Thread nD τ).loc main_arg2) (ix2 k (col t q)) := by
  obtain ⟨e0, e1, e2, e3, e4, e5⟩ := idx_facts t
  show V m c main_v0 (((cfg0.win 2).blk t).view.emb (ix2 k q)) = _
  refine (V_v0 m c _).trans (congrArg _ (funext fun x => Fin.ext ?_))
  match x with
  | ⟨0, _⟩ => show win0_2.index t 0 * 1024 + 1 * k.val = k.val; rw [e2]; show 0 * 1024 + _ = _; omega
  | ⟨1, _⟩ => show win0_2.index t 1 * 256 + 1 * q.val = t.val % 11 * 256 + q.val; rw [e2]; show t.val % 11 * 256 + _ = _; omega

theorem b3 (c : Dev nD) (t : Fin cfg0.N) (k : Fin 1024) (q : Fin 256) : iblk m c 3 t (ix2 k q) = m ((c : Thread nD τ).loc main_arg3) (ix2 k (col t q)) := by
  obtain ⟨e0, e1, e2, e3, e4, e5⟩ := idx_facts t
  show V m c main_v1 (((cfg0.win 3).blk t).view.emb (ix2 k q)) = _
  refine (V_v1 m c _).trans (congrArg _ (funext fun x => Fin.ext ?_))
  match x with
  | ⟨0, _⟩ => show win0_3.index t 0 * 1024 + 1 * k.val = k.val; rw [e3]; show 0 * 1024 + _ = _; omega
  | ⟨1, _⟩ => show win0_3.index t 1 * 256 + 1 * q.val = t.val % 11 * 256 + q.val; rw [e3]; show t.val % 11 * 256 + _ = _; omega

theorem b4 (c : Dev nD) (t : Fin cfg0.N) (q : Fin 256) (d : Fin 1024) : iblk m c 4 t (ix2 q d) = m ((c : Thread nD τ).loc main_arg4) (ix2 (col t q) d) := by
  obtain ⟨e0, e1, e2, e3, e4, e5⟩ := idx_facts t
  show V m c main_v2 (((cfg0.win 4).blk t).view.emb (ix2 q d)) = _
  refine (V_v2 m c _).trans (congrArg _ (funext fun x => Fin.ext ?_))
  match x with
  | ⟨0, _⟩ => show win0_4.index t 0 * 256 + 1 * q.val = t.val % 11 * 256 + q.val; rw [e4]; show t.val % 11 * 256 + _ = _; omega
  | ⟨1, _⟩ => show win0_4.index t 1 * 1024 + 1 * d.val = d.val; rw [e4]; show 0 * 1024 + _ = _; omega

/-- The arrays the kernel reads, on device `c`. -/
abbrev Uc (c : Dev nD) := U (m ((c : Thread nD τ).loc main_arg0)) (m ((c : Thread nD τ).loc main_arg1))
abbrev Pc (c : Dev nD) := part (m ((c : Thread nD τ).loc main_arg0)) (m ((c : Thread nD τ).loc main_arg1)) (m ((c : Thread nD τ).loc main_arg2))
  (m ((c : Thread nD τ).loc main_arg3)) (m ((c : Thread nD τ).loc main_arg4))

abbrev A0 (c : Dev nD) : FVec Ideal S34816x1024 .f32 := m ((c : Thread nD τ).loc main_arg0)
abbrev A1 (c : Dev nD) : FVec Ideal S136x8x1024 .f32 := m ((c : Thread nD τ).loc main_arg1)
abbrev A2 (c : Dev nD) : FVec Ideal S1024x2816 .f32 := m ((c : Thread nD τ).loc main_arg2)
abbrev A3 (c : Dev nD) : FVec Ideal S1024x2816 .f32 := m ((c : Thread nD τ).loc main_arg3)
abbrev A4 (c : Dev nD) : FVec Ideal S2816x1024 .f32 := m ((c : Thread nD τ).loc main_arg4)

/-- The blocks of a point. -/
abbrev B0 (c : Dev nD) (t : Fin cfg0.N) : FVec Ideal S1024x1024 .f32 := iblk m c 0 t
abbrev B1 (c : Dev nD) (t : Fin cfg0.N) : FVec Ideal S4x8x1024 .f32 := iblk m c 1 t
abbrev B2 (c : Dev nD) (t : Fin cfg0.N) : FVec Ideal S1024x256 .bf16 := iblk m c 2 t
abbrev B3 (c : Dev nD) (t : Fin cfg0.N) : FVec Ideal S1024x256 .bf16 := iblk m c 3 t
abbrev B4 (c : Dev nD) (t : Fin cfg0.N) : FVec Ideal S256x1024 .bf16 := iblk m c 4 t

theorem Un_apply (c : Dev nD) (t : Fin cfg0.N) (a d : Fin 1024) : Un (iblk m c 0 t) (iblk m c 1 t) (ix2 a d) = Uc m c (row t a) d := by
  have e : ∀ k : Fin 1024, B0 m c t (ix2 a k) = A0 m c (ix2 (row t a) k) := fun k => b0 m c t a k
  have f : ∀ p : Fin 8, B1 m c t (ix3 ⟨a.val / 256, Nat.div_lt_of_lt_mul a.isLt⟩ p d)
      = A1 m c (ix3 ⟨(row t a).val / 256, Nat.div_lt_of_lt_mul (row t a).isLt⟩ p d) := fun p => b1 m c t a p d
  show B0 m c t (ix2 a d) * Ideal.rsqrt (Ideal.div (∑ k : Fin 1024, B0 m c t (ix2 a k) * B0 m c t (ix2 a k)) (Ideal.ofBits .f32 0x44800000#32)
    + Ideal.ofBits .f32 0x358637BD#32) * B1 m c t (ix3 ⟨a.val / 256, Nat.div_lt_of_lt_mul a.isLt⟩ 3 d)
    + B1 m c t (ix3 ⟨a.val / 256, Nat.div_lt_of_lt_mul a.isLt⟩ 4 d) = _
  simp only [e, f]
  rfl

theorem On_apply (c : Dev nD) (t : Fin cfg0.N) (acc : FVec Ideal S1024x1024 .f32) (a d : Fin 1024) :
    On (iblk m c 0 t) (iblk m c 1 t) acc (ix2 a d) = A0 m c (ix2 (row t a) d)
      + A1 m c (ix3 ⟨(row t a).val / 256, Nat.div_lt_of_lt_mul (row t a).isLt⟩ 5 d) * acc (ix2 a d) :=
  congrArg₂ (fun p q : EReal => p + q * acc (ix2 a d)) (b0 m c t a d) (b1 m c t a 5 d)

/-- A point's own share of the accumulated rows. -/
theorem share (c : Dev nD) (t : Fin cfg0.N) (u : FVec Ideal S1024x1024 .bf16) (hu : ∀ a d, u (ix2 a d) = Uc m c (row t a) d)
    (acc : FVec Ideal S1024x1024 .f32) (a d : Fin 1024) :
    k0_pay3 (F := Ideal) u (iblk m c 2 t) (iblk m c 3 t) acc (iblk m c 4 t) (ix2 a d) = acc (ix2 a d) + ∑ q : Fin 256, Pc m c (row t a) d (col t q) := by
  have e2 : ∀ k q, B2 m c t (ix2 k q) = A2 m c (ix2 k (col t q)) := fun k q => b2 m c t k q
  have e3 : ∀ k q, B3 m c t (ix2 k q) = A3 m c (ix2 k (col t q)) := fun k q => b3 m c t k q
  have e4 : ∀ q d, B4 m c t (ix2 q d) = A4 m c (ix2 (col t q) d) := fun q d => b4 m c t q d
  refine (pay3_apply u (iblk m c 2 t) (iblk m c 3 t) acc (iblk m c 4 t) a d).trans ?_
  simp only [hu, e2, e3, e4]
  rfl

/-- The share of the hidden units `256 j` to `256 j + 255`, zero past the last. -/
def grp (c : Dev nD) (r : Fin 34816) (d : Fin 1024) (j : ℕ) : EReal :=
  if hj : j < 11 then ∑ q : Fin 256, Pc m c r d ⟨j * 256 + q.val, by omega⟩ else 0

theorem grp_eq (c : Dev nD) (t : Fin cfg0.N) (r : Fin 34816) (d : Fin 1024) : ∑ q : Fin 256, Pc m c r d (col t q) = grp m c r d (t.val % 11) := by
  unfold grp
  rw [dif_pos (by omega)]
  rfl

/-- What a point leaves in the two scratch buffers: the normalised rows, and the shares of the hidden units so far. -/
theorem scratch (c : Dev nD) : ∀ (n : ℕ) (hn : n < cfg0.N),
    (∀ a d : Fin 1024, (outsAt0 m c n hn).2.1 (ix2 a d) = Uc m c (row ⟨n, hn⟩ a) d)
    ∧ ∀ a d : Fin 1024, (outsAt0 m c n hn).2.2 (ix2 a d) = ∑ j ∈ Finset.range (n % 11 + 1), grp m c (row ⟨n, hn⟩ a) d j := by
  intro n
  induction n with
  | zero =>
    intro hn
    rw [outsAt0_A m c ⟨0, hn⟩ rfl (by show ¬0 % 11 = 10; decide)]
    dsimp only
    rw [u_A, acc_A]
    refine ⟨Un_apply m c _, fun a d => ?_⟩
    rw [share m c ⟨0, hn⟩ _ (Un_apply m c _), pay2_apply, grp_eq, zero_add]
    show _ = ∑ j ∈ Finset.range 1, _
    rw [Finset.sum_range_one]
    rfl
  | succ n ih =>
    intro hn
    obtain ⟨hu, ha⟩ := ih (Nat.lt_of_succ_lt hn)
    by_cases h0 : (n + 1) % 11 = 0
    · rw [outsAt0_A m c ⟨n + 1, hn⟩ h0 (by dsimp only; omega)]
      dsimp only
      rw [u_A, acc_A]
      refine ⟨Un_apply m c _, fun a d => ?_⟩
      rw [share m c ⟨n + 1, hn⟩ _ (Un_apply m c _), pay2_apply, grp_eq, zero_add]
      dsimp only
      rw [h0, Finset.sum_range_one]
    · have hr : ∀ a, row ⟨n, Nat.lt_of_succ_lt hn⟩ a = row ⟨n + 1, hn⟩ a := fun a => Fin.ext (by
        show n / 11 * 1024 + a.val = (n + 1) / 11 * 1024 + a.val
        omega)
      simp only [hr] at hu ha
      have hs : ∀ a d : Fin 1024, (∑ j ∈ Finset.range (n % 11 + 1), grp m c (row ⟨n + 1, hn⟩ a) d j) + grp m c (row ⟨n + 1, hn⟩ a) d ((n + 1) % 11)
          = ∑ j ∈ Finset.range ((n + 1) % 11 + 1), grp m c (row ⟨n + 1, hn⟩ a) d j := fun a d => by
        rw [show (n + 1) % 11 = n % 11 + 1 by omega, Finset.sum_range_succ _ (n % 11 + 1)]
      by_cases h1 : (n + 1) % 11 = 10
      · rw [outsAt0_C m c ⟨n + 1, hn⟩ h0 h1]
        dsimp only
        rw [acc_C]
        refine ⟨hu, fun a d => ?_⟩
        refine (share m c ⟨n + 1, hn⟩ _ hu _ a d).trans ?_
        rw [grp_eq]
        exact (congrArg (· + _) (ha a d)).trans (hs a d)
      · rw [outsAt0_B m c ⟨n + 1, hn⟩ h0 h1]
        dsimp only
        rw [acc_B]
        refine ⟨hu, fun a d => ?_⟩
        refine (share m c ⟨n + 1, hn⟩ _ hu _ a d).trans ?_
        rw [grp_eq]
        exact (congrArg (· + _) (ha a d)).trans (hs a d)

theorem grps (c : Dev nD) (r : Fin 34816) (d : Fin 1024) : ∑ j ∈ Finset.range 11, grp m c r d j = ∑ k : Fin 2816, Pc m c r d k := by
  rw [Fin.sum_univ_tiles 11 256 rfl, Finset.sum_range]
  refine Finset.sum_congr rfl fun j _ => ?_
  unfold grp
  rw [dif_pos j.isLt]

/-- The result array as a function of the arguments. -/
abbrev Gc (c : Dev nD) := G (m ((c : Thread nD τ).loc main_arg0)) (m ((c : Thread nD τ).loc main_arg1)) (m ((c : Thread nD τ).loc main_arg2))
  (m ((c : Thread nD τ).loc main_arg3)) (m ((c : Thread nD τ).loc main_arg4))

theorem flushed_eq (c : Dev nD) (t : Fin cfg0.N) (hf : (cfg0.win 5).flush t = true) :
    (dats m 0 c).flushed 5 t = ((cfg0.win 5).blk t).view.read (Elt Ideal) (Gc m c) := by
  have h1 : t.val % 11 = 10 := (flush0_5 t).mp hf
  have h0 : ¬t.val % 11 = 0 := by omega
  have hs := scratch m c t.val t.isLt
  obtain ⟨e0, e1, e2, e3, e4, e5⟩ := idx_facts t
  rw [flushed5_C m c t h0 h1, out_C]
  rw [outsAt0_C m c t h0 h1] at hs
  dsimp only at hs
  rw [acc_C] at hs
  funext y
  show On (iblk m c 0 t) (iblk m c 1 t) (k0_pay3 (F := Ideal) _ (iblk m c 2 t) (iblk m c 3 t) _ (iblk m c 4 t)) y = Gc m c (((cfg0.win 5).blk t).view.emb y)
  obtain ⟨a, d, rfl⟩ : ∃ (a : Fin 1024) (d : Fin 1024), y = ix2 a d := ⟨y 0, y 1, eq_ix2 y⟩
  have he : ((cfg0.win 5).blk t).view.emb (ix2 a d) = ix2 (row t a) d := by
    funext x
    apply Fin.ext
    match x with
    | ⟨0, _⟩ => show win0_5.index t 0 * 1024 + 1 * a.val = t.val / 11 * 1024 + a.val; rw [e5]; show t.val / 11 * 1024 + _ = _; omega
    | ⟨1, _⟩ => show win0_5.index t 1 * 1024 + 1 * d.val = d.val; rw [e5]; show 0 * 1024 + _ = _; omega
  rw [he]
  refine (On_apply m c t _ a d).trans ?_
  rw [hs.2 a d, h1, grps]
  rfl

theorem final (c : Dev nD) : (dats m 0 c).arrAt 5 cfg0.N = Gc m c :=
  (dats m 0 c).arrAt_eq_of_cover 5 _ (flushed_eq m c) (fun i => by
    have h0 : (i 0).val < 34816 := (i 0).isLt
    have h1 : (i 1).val < 1024 := (i 1).isLt
    obtain ⟨t, hf, ht⟩ := idx_onto5 ⟨(i 0).val / 1024, by omega⟩ 0
    refine ⟨t, hf, ?_⟩
    rw [mem_blk5, ht]
    intro a
    match a with
    | ⟨0, _⟩ => show ((i 0).val / 1024 + 0) * 1024 ≤ (i 0).val ∧ (i 0).val < ((i 0).val / 1024 + 0) * 1024 + 1024; omega
    | ⟨1, _⟩ => show (0 + 0) * 1024 ≤ (i 1).val ∧ (i 1).val < (0 + 0) * 1024 + 1024; omega)

/-- The dense feed-forward kernel and its reference end with equal results, as extended reals. -/
theorem algebraic : Cert.algebraic_FfnIdeal_FfnReferenceIdeal
    (hFfnIdeal := Cert.FfnIdeal.Gen.facts) (hFfnReferenceIdeal := Cert.FfnReferenceIdeal.Gen.facts) := by
  intro m g m' g' _ hm
  refine ⟨fun c => Gc m c, ?_, ?_⟩
  · exact (θ_run _ _ _).mono (fun r h c => ⟨(h c).1.trans (final m c), (h c).2⟩) (run_blocks m g)
  · refine (θ_run _ _ _).mono (fun r h c => ⟨(h c).1.trans ?_, (h c).2⟩) (Cert.FfnReferenceIdeal.Value.run m' g')
    obtain ⟨a0, a1, a2, a3, a4⟩ := hm c
    unfold Cert.FfnReferenceIdeal.Value.res_main_v30
    rw [a0, a1, a2, a3, a4]
    funext i
    obtain ⟨r, d, rfl⟩ : ∃ (a : Fin 34816) (b : Fin 1024), i = ix2 a b := ⟨i 0, i 1, eq_ix2 i⟩
    pointwise [G, part, U, sw]

end Cert.Proof.FfnValue
-- ==== Proof.Norm.lean ====
/- The last norm's value: each array of the kernel's run is, entry by entry, the reference's normalised row times its gain. -/
module

public import proofs.«01_k».proof.Defs
public import proofs.«01_k».proof.Proof.Gen.NormIdeal.Value
public import proofs.«01_k».proof.Proof.Gen.NormReferenceIdeal.Run
public import Idealize.ShloMosaic.Lib.Pointwise
public import Idealize.ShloMosaic.Lib.IdealHost

@[expose] public section

set_option maxRecDepth 16384

noncomputable section

namespace Cert.Proof.NormValue

open Cert.NormIdeal Cert.NormIdeal.Gen Cert.NormIdeal.Value
open Idealize.ShloMosaic Idealize.ShloMosaic.TcCoe Idealize.SL.Sem
open Idealize.ShloMosaic.Pipeline (Dat)

/-- The row of the stream's array that is row `b` of batch element `a`: each element has 4352 rows. -/
def row (a : Fin 8) (b : Fin 4096) : Fin 34816 := ⟨a.val * 4352 + b.val, by omega⟩

/-- The normalised array: each entry times the reciprocal root of its row's mean square plus the constant, times the gain. -/
def G (h : FVec Ideal S34816x1024 .f32) (g : FVec Ideal S1024 .f32) : FVec Ideal S8x4096x1024 .f32 := fun i =>
  h (ix2 (row (i 0) (i 1)) (i 2)) * Ideal.rsqrt (Ideal.div (∑ k : Fin 1024, h (ix2 (row (i 0) (i 1)) k) * h (ix2 (row (i 0) (i 1)) k)) (Ideal.ofBits .f32 0x44800000#32)
    + Ideal.ofBits .f32 0x358637BD#32) * g (ix1 (i 2))

/-- The value the body stores, entry by entry. -/
theorem pay_apply (P0 : FVec Ideal S1x1024x1024 .f32) (P1 : FVec Ideal S1x1024 .f32) (y : S1x1024x1024.Idx) :
    k0_pay1 (F := Ideal) P0 P1 y = P0 y * Ideal.rsqrt (Ideal.div (∑ k : Fin 1024, P0 (ix3 (y 0) (y 1) k) * P0 (ix3 (y 0) (y 1) k)) (Ideal.ofBits .f32 0x44800000#32)
      + Ideal.ofBits .f32 0x358637BD#32) * P1 (ix2 0 (y 2)) := by
  idx_vars y
  have h0 : y0 = 0 := Subsingleton.elim _ _
  subst h0
  unfold k0_pay1
  pointwise

theorem hz3 : (![0, 0, 0] : Fin 3 → ℕ) = fun _ => 0 := by
  funext a; match a with | ⟨0, _⟩ => rfl | ⟨1, _⟩ => rfl | ⟨2, _⟩ => rfl

theorem hz2 : (![0, 0] : Fin 2 → ℕ) = fun _ => 0 := by
  funext a; match a with | ⟨0, _⟩ => rfl | ⟨1, _⟩ => rfl

/-- What the body leaves in the output's buffer is the value it stores. -/
theorem out_eq (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1x1024x1024 .f32) (harg4 : arg4.IsWhole)
    (x0 : Vec Ideal S1x1024x1024 .f32) (x1 : Vec Ideal S1x1024 .f32) :
    out0_A_2 (F := Ideal) c i arg2 harg2 arg3 harg3 arg4 harg4 x0 x1 = k0_pay1 (F := Ideal) x0 x1 := by
  unfold out0_A_2
  rw [View.read_writes_eq_canon _ _ _ (cover0_A_2 c i arg2 harg2 arg3 harg3 arg4 harg4 x0 x1)]
  unfold kernelRun0_A
  dsimp only
  sl_unfold_words
  rw [View.canon_unit_zero (S := S1x1024x1024) hz3]
  simp only [View.readAt_eq_ld, harg2.read_unread, harg3.read_unread,
    View.ld_unit_zero (S := S1x1024x1024) hz3, View.ld_unit_zero (S := S1x1024) hz2]

theorem idx_facts : ∀ t : Fin cfg0.N, win0_0.index t = win0_2.index t ∧ win0_1.index t = ![0, 0] ∧ win0_2.index t 2 = 0
    ∧ win0_2.index t 0 < 8 ∧ win0_2.index t 1 < 4 :=
  (by decide +kernel : ∀ t : Fin grid0.N, win0_0.index t = win0_2.index t ∧ win0_1.index t = ![0, 0] ∧ win0_2.index t 2 = 0
    ∧ win0_2.index t 0 < 8 ∧ win0_2.index t 1 < 4)

theorem onto : ∀ (q0 : Fin 8) (q1 : Fin 4), ∃ t : Fin cfg0.N, (cfg0.win 2).flush t = true ∧ win0_2.index t = ![q0.val, q1.val, 0] :=
  (by decide +kernel : ∀ (q0 : Fin 8) (q1 : Fin 4), ∃ t : Fin grid0.N, (cfg0.win 2).flush t = true ∧ win0_2.index t = ![q0.val, q1.val, 0])

theorem mem_blk (t : Fin cfg0.N) (i : S8x4096x1024.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v2).slice (win0_2.rect t)).set ↔ _
  rw [View.set_slice_whole, Rect.mem_set_unit]
  exact Iff.rfl

variable (m : (ℓ : Loc nD τ sig) → Buf (Elt Ideal) ℓ)

theorem V_v0 (c : Dev nD) : V m c main_v0 = shapeCast S8x4352x1024 (m ((c : Thread nD τ).loc main_arg0)) shapeCasts_S34816x1024_S8x4352x1024 := by
  unfold V hostOps0
  after_results
  rfl

theorem V_v1 (c : Dev nD) : V m c main_v1 = shapeCast S1x1024 (m ((c : Thread nD τ).loc main_arg1)) shapeCasts_S1024_S1x1024 := by
  unfold V hostOps0
  after_results
  rfl

/-- The stream by batch elements, at one of the first 4096 rows of an element. -/
theorem V_row (c : Dev nD) (a : Fin 8) (b : Fin 4096) (d : Fin 1024) :
    V m c main_v0 (ix3 a ⟨b.val, by omega⟩ d : S8x4352x1024.Idx) = m ((c : Thread nD τ).loc main_arg0) (ix2 (row a b) d) := by
  rw [V_v0]
  refine shapeCast_apply _ _ (ix3 a ⟨b.val, by omega⟩ d : S8x4352x1024.Idx) (ix2 (row a b) d : S34816x1024.Idx) ?_
  rw [Shape.rowMajor_val_two, Shape.rowMajor_val_three]
  rfl

/-- The first input's block at a point, at the place the output's block has in its array. -/
theorem ld0 (c : Dev nD) (t : Fin cfg0.N) (y : S1x1024x1024.Idx) :
    X0_0 m c t y = m ((c : Thread nD τ).loc main_arg0) (ix2 (row ((((cfg0.win 2).blk t).view.emb y) 0) ((((cfg0.win 2).blk t).view.emb y) 1)) (y 2)) := by
  obtain ⟨e0, e1, e2, e3, e4⟩ := idx_facts t
  unfold X0_0 Pipeline.Window.fill
  rw [dif_pos (moved0_0 t y)]
  refine Eq.trans ?_ (V_row m c _ _ _)
  unfold iblk
  show V m c main_v0 (((cfg0.win 0).blk t).view.emb _) = _
  refine congrArg _ (funext fun a => Fin.ext ?_)
  match a with
  | ⟨0, _⟩ => show win0_0.index t 0 * 1 + 1 * (y 0).val = win0_2.index t 0 * 1 + 1 * (y 0).val; rw [e0]
  | ⟨1, _⟩ => show win0_0.index t 1 * 1024 + 1 * (y 1).val = win0_2.index t 1 * 1024 + 1 * (y 1).val; rw [e0]
  | ⟨2, _⟩ => show win0_0.index t 2 * 1024 + 1 * (y 2).val = (y 2).val; rw [e0, e2]; omega

/-- The gain's block at a point is the gain. -/
theorem ld1 (c : Dev nD) (t : Fin cfg0.N) (k : Fin 1024) :
    iblk m c 1 t (ix2 0 k : S1x1024.Idx) = m ((c : Thread nD τ).loc main_arg1) (ix1 k) := by
  obtain ⟨e0, e1, e2, e3, e4⟩ := idx_facts t
  show V m c main_v1 (((cfg0.win 1).blk t).view.emb (ix2 0 k : S1x1024.Idx)) = _
  have he : ((cfg0.win 1).blk t).view.emb (ix2 0 k : S1x1024.Idx) = (ix2 0 k : S1x1024.Idx) := by
    funext a
    apply Fin.ext
    match a with
    | ⟨0, _⟩ => show win0_1.index t 0 * 1 + 1 * 0 = 0; rw [e1]; rfl
    | ⟨1, _⟩ => show win0_1.index t 1 * 1024 + 1 * k.val = k.val; rw [e1]; show 0 * 1024 + _ = _; omega
  rw [he, V_v1]
  pointwise

theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [flushed2_A, out_eq]
  obtain ⟨e0, e1, e2, e3, e4⟩ := idx_facts t
  funext y
  show k0_pay1 (F := Ideal) (X0_0 m c t) (iblk m c 1 t) y = G _ _ (((cfg0.win 2).blk t).view.emb y)
  rw [pay_apply]
  rw [ld0, ld1 m c t (y 2)]
  simp only [ld0]
  unfold G
  have hy : (((cfg0.win 2).blk t).view.emb y) 2 = y 2 := by
    apply Fin.ext; show win0_2.index t 2 * 1024 + 1 * (y 2).val = (y 2).val; rw [e2]; omega
  rw [hy]
  rfl

theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) (fun i => by
    have h0 : (i 0).val < 8 := (i 0).isLt
    have h1 : (i 1).val < 4096 := (i 1).isLt
    have h2 : (i 2).val < 1024 := (i 2).isLt
    obtain ⟨t, hf, ht⟩ := onto ⟨(i 0).val, h0⟩ ⟨(i 1).val / 1024, by omega⟩
    refine ⟨t, hf, ?_⟩
    rw [mem_blk, ht]
    intro a
    match a with
    | ⟨0, _⟩ => show (i 0).val * 1 ≤ (i 0).val ∧ (i 0).val < (i 0).val * 1 + 1; omega
    | ⟨1, _⟩ => show (i 1).val / 1024 * 1024 ≤ (i 1).val ∧ (i 1).val < (i 1).val / 1024 * 1024 + 1024; omega
    | ⟨2, _⟩ => show 0 * 1024 ≤ (i 2).val ∧ (i 2).val < 0 * 1024 + 1024; omega)

/-- The first 4096 rows of each batch element of the stream, entry by entry. -/
theorem slab (h : FVec Ideal S34816x1024 .f32) (hc : S34816x1024.ShapeCasts S8x4352x1024) (hs : S8x4352x1024.Slices ![0, 0, 0] S8x4096x1024)
    (a : Fin 8) (b : Fin 4096) (d : Fin 1024) :
    (extractStridedSlice S8x4096x1024 ![0, 0, 0] (shapeCast S8x4352x1024 h hc) hs : FVec Ideal S8x4096x1024 .f32) (ix3 a b d) = h (ix2 (row a b) d) := by
  refine (extractStridedSlice_apply _ _ _ _ (ix3 a ⟨b.val, by omega⟩ d : S8x4352x1024.Idx) (fun x => match x with
    | ⟨0, _⟩ => by show a.val = 0 + a.val; omega
    | ⟨1, _⟩ => by show b.val = 0 + b.val; omega
    | ⟨2, _⟩ => by show d.val = 0 + d.val; omega)).trans ?_
  refine shapeCast_apply _ _ (ix3 a ⟨b.val, by omega⟩ d : S8x4352x1024.Idx) (ix2 (row a b) d : S34816x1024.Idx) ?_
  rw [Shape.rowMajor_val_two, Shape.rowMajor_val_three]
  rfl

/-- The kernel of the last norm and its reference end with equal results, as extended reals. -/
theorem algebraic : Cert.algebraic_NormIdeal_NormReferenceIdeal
    (hNormIdeal := Cert.NormIdeal.Gen.facts) (hNormReferenceIdeal := Cert.NormReferenceIdeal.Gen.facts) := by
  intro m g m' g' _ hm
  refine ⟨fun c => G (m ((c : Thread nD τ).loc main_arg0)) (m ((c : Thread nD τ).loc main_arg1)), ?_, ?_⟩
  · exact (θ_run _ _ _).mono (fun r h c => ⟨(h c).1.trans (final m c), (h c).2⟩) (run_blocks m g)
  · refine (θ_run _ _ _).mono (fun r h c => ⟨(h c).1.trans ?_, (h c).2⟩) (Cert.NormReferenceIdeal.Value.run m' g')
    rw [(hm c).1, (hm c).2]
    funext i
    obtain ⟨i0, i1, i2, rfl⟩ : ∃ (a : Fin 8) (b : Fin 4096) (d : Fin 1024), i = ix3 a b d := ⟨i 0, i 1, i 2, eq_ix3 i⟩
    have hA := slab (m ((c : Thread nD τ).loc main_arg0)) shapeCasts_S34816x1024_S8x4352x1024 Cert.NormReferenceIdeal.Facts₀.slices_S8x4352x1024_S8x4096x1024_0_0_0
    generalize extractStridedSlice S8x4096x1024 ![0, 0, 0] (shapeCast S8x4352x1024 (m ((c : Thread nD τ).loc main_arg0)) shapeCasts_S34816x1024_S8x4352x1024) Cert.NormReferenceIdeal.Facts₀.slices_S8x4352x1024_S8x4096x1024_0_0_0 = A at hA ⊢
    pointwise [G, hA]

end Cert.Proof.NormValue
-- ==== Proof.MoeSame.lean ====
/-
The kernel and its idealization are one program: no operation of it was rewritten, so the two printed
texts differ in nothing but the names they are under. What is proved of the second at every float
instance is therefore true of the first.
-/
module

public import proofs.«01_k».proof.Kernel
public import proofs.«01_k».proof.KernelIdeal

@[expose] public section

set_option maxRecDepth 65536
set_option maxHeartbeats 4000000

namespace Cert.Proof.MoeSame

open Idealize.ShloMosaic

variable (F : FTy → Type) [FloatOps F] [h : Cert.Kernel.Facts] [h' : Cert.KernelIdeal.Facts]

/-- The two texts launch the same program on the host. -/
theorem main_same : @Cert.Kernel.main F _ h = @Cert.KernelIdeal.main F _ h' := rfl

/-- The two texts have the same kernel body. -/
theorem body_same : @Cert.Kernel.cc0_moe_experts F _ h = @Cert.KernelIdeal.cc0_moe_experts F _ h' := rfl

/-- The two texts give their body label the same body. -/
theorem defs₀_same : @Cert.Kernel.defs₀ F _ h = @Cert.KernelIdeal.defs₀ F _ h' := by
  unfold Cert.Kernel.defs₀ Cert.KernelIdeal.defs₀
  refine congrArg Defs.onTc ?_
  funext l x
  match l, x with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (body_same F) _) _) _) _) _) _) _) _) _) _) _) _) _) _) _) _) _) _) _) _) _) _) _) _) _) _) _
  | ⟨_ + 1, h⟩, _ => exact absurd h (Nat.not_lt.2 (Nat.le_add_left _ _))

/-- The two texts give every label the same meaning. -/
theorem defs_same : @Cert.Kernel.defs F _ h = @Cert.KernelIdeal.defs F _ h' :=
  congrArg (Pipeline.defs (Cert.Kernel.pcfgs (F := F))) (defs₀_same F)

end Cert.Proof.MoeSame
-- ==== Proof.MoeSet.lean ====
/-
The launch of the routed experts' kernel, set up: the memory the pipeline finds, the windows' blocks, the buffers the
body is called with, and the body run at a grid point. What the output window and the scratch buffers hold is a
parameter of the pipeline's data (`dat`): the frame claims take it at unnamed contents, the value claim at the
running sums.
-/
module

public import proofs.«01_k».proof.Proof.Gen.KernelIdeal.Launch
public import Idealize.ShloMosaic.Lib.Pipeline.Kit
public import Idealize.ShloMosaic.Lib.Pipeline.FrameBody
public import Idealize.ShloMosaic.Lib.Claim

@[expose] public section

set_option maxRecDepth 16384

noncomputable section

namespace Cert.Proof.MoeSet

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the pipeline starts: as launched, but for the host's own results — the rounded weights and the
    table of chunk counts. -/
def V (c : Dev nD) (b : Ref sig .tc) : Buf (Elt F) ((c : Thread nD τ).loc b) :=
  StableHlo.after (List.flatten [hostOps0, hostOps0_1, hostOps0_2]) (fun b => m (c, b)) b

/-! The host's operations leave the arguments as launched. -/
theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl
theorem V_arg4 (c : Dev nD) : V m c main_arg4 = m ((c : Thread nD τ).loc main_arg4) := rfl
theorem V_arg5 (c : Dev nD) : V m c main_arg5 = m ((c : Thread nD τ).loc main_arg5) := rfl
theorem V_arg6 (c : Dev nD) : V m c main_arg6 = m ((c : Thread nD τ).loc main_arg6) := rfl
theorem V_arg7 (c : Dev nD) : V m c main_arg7 = m ((c : Thread nD τ).loc main_arg7) := rfl
theorem V_arg8 (c : Dev nD) : V m c main_arg8 = m ((c : Thread nD τ).loc main_arg8) := rfl
theorem V_arg9 (c : Dev nD) : V m c main_arg9 = m ((c : Thread nD τ).loc main_arg9) := rfl

set_option maxHeartbeats 800000 in
/-- The program up to the pipeline is the host's operations. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] ⟨hostOps0_sub, hostOps0_1_sub, hostOps0_2_sub⟩
    ⟨⟨rfl, rfl, rfl, rfl, rfl, rfl, rfl, rfl, rfl, rfl⟩,
      ⟨rfl, rfl, rfl, rfl, rfl, rfl, rfl, rfl, rfl, rfl, rfl, rfl, rfl, rfl, rfl, rfl, rfl⟩, rfl⟩
    fun c => (main_chain c).trans rfl

/-- The table of counts, as the host makes it. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- No window's index map reads the table, so every table is admissible. -/
abbrev adm : (pcfg0 (F := F)).Adm := ⟨tbl m, trivial⟩
/-- The pipeline at the table. -/
abbrev cfgM : Pipeline.Cfg sig Λ₀ := cfg0 (adm m)

/-- The table's buffer. -/
abbrev tbM : Memref sig .tc .smem S136 .i32 := Memref.whole main_v9
/-- The type of a buffer's contents. -/
abbrev TbBuf (c : Dev nD) {S : Shape} {e : EltTy} (M : Memref sig .tc .smem S e) : Type := Buf (Elt F) (M.view.loc (c : Thread nD τ))
/-- Half of a buffer, at the given contents. -/
abbrev tbPt (c : Dev nD) {S : Shape} {e : EltTy} (M : Memref sig .tc .smem S e) (f : TbBuf (F := F) c M) : sProp 𝕄 :=
  M.view.loc (c : Thread nD τ) ↦{fullShare.right} f

/-- What the pipeline lends the body of the table: half of its buffer. -/
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- Window `w`'s block at a point: what the memory holds there when the pipeline starts. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-! The staging buffers at a point, typed. -/
abbrev ms0 (t : Fin (cfgM m).N) : Memref sig .tc .vmem S2048x1024 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S2048x1024 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S2048x128 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S2048x128 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S8x2048 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S8x8x1024 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S1x1x1024x512 .bf16 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S1x1x1024x512 .bf16 := spec0_7.stage ((cfgM m).slots t 7)
abbrev hs7 (t : Fin (cfgM m).N) : (ms7 m t).IsWhole := hstage0_7 (((cfgM m).slots t 7).cast nbuf0_7)
abbrev ms8 (t : Fin (cfgM m).N) : Memref sig .tc .vmem S1x1x512x1024 .bf16 := spec0_8.stage ((cfgM m).slots t 8)
abbrev hs8 (t : Fin (cfgM m).N) : (ms8 m t).IsWhole := hstage0_8 (((cfgM m).slots t 8).cast nbuf0_8)
abbrev ms9 (t : Fin (cfgM m).N) : Memref sig .tc .vmem S2048x1024 .f32 := spec0_9.stage ((cfgM m).slots t 9)
abbrev hs9 (t : Fin (cfgM m).N) : (ms9 m t).IsWhole := hstage0_9 (((cfgM m).slots t 9).cast nbuf0_9)

/-- The two scratch buffers: the gathered rows and the running outputs. -/
abbrev scX : Memref sig .tc .vmem S2048x1024 .bf16 := Memref.whole cc0_scratch0
abbrev scY : Memref sig .tc .vmem S2048x1024 .f32 := Memref.whole cc0_scratch1

/-- What the body may use beside the windows: the scratch buffers at any contents, and the generator register. -/
theorem PhiA_eq (c : Dev nD) :
    (Pipeline.ΦA spec0 c : sProp 𝕄)
      = iprop(iprop((∃ d, owns (c : Thread nD τ) scX fullShare d) ∗ (∃ d, owns (c : Thread nD τ) scY fullShare d)) ∗ (∃ r, prngReg c r)) := by
  unfold Pipeline.ΦA; rw [scopedRest0_eq]; simp only [scX, scY, owns_whole]; try rfl

/-- The output window is written back at the last point of each tile. -/
theorem flush9 (a : (pcfg0 (F := F)).Adm) : ∀ t : Fin (cfg0 a).N, ((cfg0 a).win 9).flush t = true ↔ t.val % 56 = 55 :=
  (fun t => Pipeline.Window.flushOf_reads cc0_transform_9 reads0_9 hreads0_9 0 (by decide) (by decide) (Pipeline.Window.sep_of_coord cc0_transform_9 0 0 (fun _ => rfl) (by decide)) (P := 56) (m := 55) (by decide) rfl t : ∀ t : Fin grid0.N, Pipeline.Window.flushOf grid0 true cc0_transform_9 t = true ↔ t.val % 56 = 55)

/-- The body at a point, on what the pipeline calls it with. -/
abbrev bodyAt (t : Fin (cfgM m).N) : Prog (TpuEff nD τ sig (Elt F) Λ₀ .tc) PUnit :=
  cc0_moe_experts (grid0.coords t) tbM (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) scX (Memref.isWhole_whole _) scY (Memref.isWhole_whole _)

/-- The pipeline's data: the inputs' buffers hold their blocks after every point, the output's what `out` says,
    and the invariant between points is `Φ`. -/
def dat (Φ : (c : Dev nD) → Fin ((cfgM m).N + 1) → sProp 𝕄)
    (out : (c : Dev nD) → (t : Fin (cfgM m).N) → (((cfgM m).win 9).block).Idx → Elt F ((cfgM m).win 9).elt)
    (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => out c t
  Φ := Φ c
  q _ := fullShare
  owed _ := 0

theorem A_eq (P : (c : Dev nD) → Fin ((cfgM m).N + 1) → sProp 𝕄) (out : (c : Dev nD) → (t : Fin (cfgM m).N) → (((cfgM m).win 9).block).Idx → Elt F ((cfgM m).win 9).elt) (c : Dev nD) (w : Fin (cfgM m).W) : (dat m P out 0 c).A w = V m c (Pipeline.arrRef spec0 w) := by
  dsimp only [dat]

theorem after9 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 9 t = out c t := by dsimp only [dat]; try rfl

/-! An input's buffer holds its block before the body and after it. -/
theorem after0 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 0 t = iblk m c 0 t := by dsimp only [dat]; try rfl
theorem after1 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 1 t = iblk m c 1 t := by dsimp only [dat]; try rfl
theorem after2 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 2 t = iblk m c 2 t := by dsimp only [dat]; try rfl
theorem after3 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 3 t = iblk m c 3 t := by dsimp only [dat]; try rfl
theorem after4 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 4 t = iblk m c 4 t := by dsimp only [dat]; try rfl
theorem after5 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 5 t = iblk m c 5 t := by dsimp only [dat]; try rfl
theorem after6 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 6 t = iblk m c 6 t := by dsimp only [dat]; try rfl
theorem after7 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 7 t = iblk m c 7 t := by dsimp only [dat]; try rfl
theorem after8 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 8 t = iblk m c 8 t := by dsimp only [dat]; try rfl
theorem before0 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) (d) : (dat m P out 0 c).before 0 t d = iblk m c 0 t :=
  ((dat m P out 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) (d) : (dat m P out 0 c).before 1 t d = iblk m c 1 t :=
  ((dat m P out 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) (d) : (dat m P out 0 c).before 2 t d = iblk m c 2 t :=
  ((dat m P out 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) (d) : (dat m P out 0 c).before 3 t d = iblk m c 3 t :=
  ((dat m P out 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) (d) : (dat m P out 0 c).before 4 t d = iblk m c 4 t :=
  ((dat m P out 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) (d) : (dat m P out 0 c).before 5 t d = iblk m c 5 t :=
  ((dat m P out 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) (d) : (dat m P out 0 c).before 6 t d = iblk m c 6 t :=
  ((dat m P out 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) (d) : (dat m P out 0 c).before 7 t d = iblk m c 7 t :=
  ((dat m P out 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) (d) : (dat m P out 0 c).before 8 t d = iblk m c 8 t :=
  ((dat m P out 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)

/-- The pipeline's row of the body table is the body at the point. -/
theorem defs₀_row (t : Fin (cfgM m).N) :
    defs₀ (F := F) .tc (cfgM m).body ((cfgM m).bodyArgs t ((cfgM m).slots t)) = bodyAt m t := by
  unfold defs₀; rw [Defs.onTc_tc]

/-- The arguments end unchanged, where the launch ends as the pipeline's frame says. -/
theorem frame_of (rdat : (c : Dev nD) → Pipeline.RDat τ (Elt F) Unit ℕ (UR sig nD τ) ℕ ((Pipeline.pin pcfgs fun _ => adm m) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 0 rfl).trans ((hA c 0).trans (V_arg0 m c)),
    (Pipeline.RDat.FramePost.arr_in h c 1 rfl).trans ((hA c 1).trans (V_arg1 m c)),
    (Pipeline.RDat.FramePost.arr_in h c 2 rfl).trans ((hA c 2).trans (V_arg2 m c)),
    (Pipeline.RDat.FramePost.arr_in h c 3 rfl).trans ((hA c 3).trans (V_arg3 m c)),
    (Pipeline.RDat.FramePost.arr_in h c 4 rfl).trans ((hA c 4).trans (V_arg4 m c)),
    ((h c).2 main_arg5 (by decide : main_arg5 ∈ Pipeline.restRefs sig spec0)).trans (V_arg5 m c),
    (Pipeline.RDat.FramePost.arr_in h c 5 rfl).trans ((hA c 5).trans (V_arg6 m c)),
    ((h c).2 main_arg7 (by decide : main_arg7 ∈ Pipeline.restRefs sig spec0)).trans (V_arg7 m c),
    ((h c).2 main_arg8 (by decide : main_arg8 ∈ Pipeline.restRefs sig spec0)).trans (V_arg8 m c),
    ((h c).2 main_arg9 (by decide : main_arg9 ∈ Pipeline.restRefs sig spec0)).trans (V_arg9 m c)⟩) h

end Cert.Proof.MoeSet

end
-- ==== Proof.MoeFun.lean ====
/-
What the routed experts' kernel body leaves in its two scratch arrays (the gathered rows and their running outputs)
and in its output block, as functions of what it finds there. Stated at every float instance.
-/
module

public import proofs.«01_k».proof.Proof.Gen.KernelIdeal.Skeleton
public import Idealize.ShloMosaic.Lib.Exec
public import Idealize.ShloMosaic.Lib.Tactic
public import Idealize.ShloMosaic.Lib.Pipeline.Value

@[expose] public section

set_option maxRecDepth 16384

noncomputable section

namespace Cert.Proof.MoeBody

open Cert.KernelIdeal Cert.KernelIdeal.Gen
open Idealize.ShloMosaic Idealize.ShloMosaic.TcCoe Idealize.ShloMosaic.Tactic

variable {F : FTy → Type} [FloatOps F]

/-- The whole of an array, loaded. -/
abbrev wR {F : FTy → Type} {e : EltTy} (X : Vec F S2048x1024 e) : Vec F S2048x1024 e :=
  View.ld X (Rect.unit (s := S2048x1024) ![0, 0] S2048x1024.size inb_S2048x1024_S2048x1024_0_0)
abbrev wG {F : FTy → Type} {e : EltTy} (X : Vec F S1x1x1024x512 e) : Vec F S1x1x1024x512 e :=
  View.ld X (Rect.unit (s := S1x1x1024x512) ![0, 0, 0, 0] S1x1x1024x512.size inb_S1x1x1024x512_S1x1x1024x512_0_0_0_0)
abbrev wD {F : FTy → Type} {e : EltTy} (X : Vec F S1x1x512x1024 e) : Vec F S1x1x512x1024 e :=
  View.ld X (Rect.unit (s := S1x1x512x1024) ![0, 0, 0, 0] S1x1x512x1024.size inb_S1x1x512x1024_S1x1x512x1024_0_0_0_0)
abbrev wC {F : FTy → Type} {e : EltTy} (X : Vec F S2048x128 e) : Vec F S2048x128 e :=
  View.ld X (Rect.unit (s := S2048x128) ![0, 0] S2048x128.size inb_S2048x128_S2048x128_0_0)
section Trip

variable (i : grid0.Coords) (v3 : BitVec 32) (hw : k0_chk1 i v3)

/-- The gathered rows after trip `k`: at the first block of hidden columns, 512 rows gathered afresh. -/
def gX (ST : Vec F S8x2048 .f32) (U : Vec F S2048x1024 .bf16) (k : Fin (k0_t1_loop v3).trips) (X : Vec F S2048x1024 .bf16) : Vec F S2048x1024 .bf16 :=
  if h : k0_cond2 i = 1#1 then
    (Rect.unit (s := S2048x1024) (k0_off3 v3 k) S512x1024.size (k0_off3_inb i v3 hw k h)).overlay X
      (k0_pay10 (F := F) v3 0#32 1#32 k (View.ld ST (Rect.unit (s := S8x2048) (k0_off2 i) S1x2048.size (k0_off2_inb i h))) (wR U))
  else X

/-- The running outputs after trip `k`, `X` the gathered rows it reads: 512 rows begun at the first block of hidden
    columns, added to at the others. -/
def gY (WG WU : Vec F S1x1x1024x512 .bf16) (WD : Vec F S1x1x512x1024 .bf16) (k : Fin (k0_t1_loop v3).trips)
    (X : Vec F S2048x1024 .bf16) (Y : Vec F S2048x1024 .f32) : Vec F S2048x1024 .f32 :=
  if h : k0_cond2 i = 1#1 then
    (Rect.unit (s := S2048x1024) (k0_off4 v3 k) S512x1024.size (k0_off4_inb i v3 hw k)).overlay Y
      (k0_pay12 (F := F) (View.ld X (Rect.unit (s := S2048x1024) (k0_off4 v3 k) S512x1024.size (k0_off4_inb i v3 hw k))) (wG WG) (wG WU) (wD WD))
  else
    (Rect.unit (s := S2048x1024) (k0_off4 v3 k) S512x1024.size (k0_off4_inb i v3 hw k)).overlay Y
      (k0_pay23 (F := F) (k0_pay11 (F := F) (View.ld X (Rect.unit (s := S2048x1024) (k0_off4 v3 k) S512x1024.size (k0_off4_inb i v3 hw k))) (wG WG) (wG WU) (wD WD))
        (View.ld Y (Rect.unit (s := S2048x1024) (k0_off4 v3 k) S512x1024.size (k0_off4_inb i v3 hw k))))

/-- The two scratch arrays before trip `k`. -/
def it (ST : Vec F S8x2048 .f32) (U : Vec F S2048x1024 .bf16) (WG WU : Vec F S1x1x1024x512 .bf16) (WD : Vec F S1x1x512x1024 .bf16)
    (X : Vec F S2048x1024 .bf16) (Y : Vec F S2048x1024 .f32) : ℕ → Vec F S2048x1024 .bf16 × Vec F S2048x1024 .f32
  | 0 => (X, Y)
  | k + 1 => if h : k < (k0_t1_loop v3).trips then
      (gX i v3 hw ST U ⟨k, h⟩ (it ST U WG WU WD X Y k).1,
        gY i v3 hw WG WU WD ⟨k, h⟩ (gX i v3 hw ST U ⟨k, h⟩ (it ST U WG WU WD X Y k).1) (it ST U WG WU WD X Y k).2)
    else it ST U WG WU WD X Y k

theorem it_succ (ST : Vec F S8x2048 .f32) (U : Vec F S2048x1024 .bf16) (WG WU : Vec F S1x1x1024x512 .bf16) (WD : Vec F S1x1x512x1024 .bf16)
    (X : Vec F S2048x1024 .bf16) (Y : Vec F S2048x1024 .f32) (k : Fin (k0_t1_loop v3).trips) :
    it i v3 hw ST U WG WU WD X Y (k.val + 1) = (gX i v3 hw ST U k (it i v3 hw ST U WG WU WD X Y k.val).1,
        gY i v3 hw WG WU WD k (gX i v3 hw ST U k (it i v3 hw ST U WG WU WD X Y k.val).1) (it i v3 hw ST U WG WU WD X Y k.val).2) := by
  rw [it, dif_pos k.isLt]

/-- The gathered rows after the block of 256 rows, if there is one. -/
def bX (ST : Vec F S8x2048 .f32) (U : Vec F S2048x1024 .bf16) (X : Vec F S2048x1024 .bf16) : Vec F S2048x1024 .bf16 :=
  if h8 : k0_cond8 v3 = 1#1 then
    if h : k0_cond2 i = 1#1 then
      (Rect.unit (s := S2048x1024) (k0_off13 v3) S256x1024.size (k0_off13_inb i v3 hw h8 h)).overlay X
        (k0_pay25 (F := F) v3 (View.ld ST (Rect.unit (s := S8x2048) (k0_off12 i) S1x2048.size (k0_off12_inb i h))) (wR U))
    else X
  else X

/-- The running outputs after the block of 256 rows, if there is one. -/
def bY (WG WU : Vec F S1x1x1024x512 .bf16) (WD : Vec F S1x1x512x1024 .bf16)
    (X : Vec F S2048x1024 .bf16) (Y : Vec F S2048x1024 .f32) : Vec F S2048x1024 .f32 :=
  if h8 : k0_cond8 v3 = 1#1 then
    if h : k0_cond2 i = 1#1 then
      (Rect.unit (s := S2048x1024) (k0_off14 v3) S256x1024.size (k0_off14_inb i v3 hw h8)).overlay Y
        (k0_pay27 (F := F) (View.ld X (Rect.unit (s := S2048x1024) (k0_off14 v3) S256x1024.size (k0_off14_inb i v3 hw h8))) (wG WG) (wG WU) (wD WD))
    else
      (Rect.unit (s := S2048x1024) (k0_off14 v3) S256x1024.size (k0_off14_inb i v3 hw h8)).overlay Y
        (k0_pay28 (F := F) (View.ld X (Rect.unit (s := S2048x1024) (k0_off14 v3) S256x1024.size (k0_off14_inb i v3 hw h8))) (wG WG) (wG WU) (wD WD)
          (View.ld Y (Rect.unit (s := S2048x1024) (k0_off14 v3) S256x1024.size (k0_off14_inb i v3 hw h8))))
  else Y

/-- The gathered rows after the block of 128 rows, if there is one. -/
def eX (ST : Vec F S8x2048 .f32) (U : Vec F S2048x1024 .bf16) (X : Vec F S2048x1024 .bf16) : Vec F S2048x1024 .bf16 :=
  if h12 : k0_cond12 v3 = 1#1 then
    if h : k0_cond2 i = 1#1 then
      (Rect.unit (s := S2048x1024) (k0_off18 v3) S128x1024.size (k0_off18_inb i v3 hw h12 h)).overlay X
        (k0_pay29 (F := F) v3 (View.ld ST (Rect.unit (s := S8x2048) (k0_off17 i) S1x2048.size (k0_off17_inb i h))) (wR U))
    else X
  else X

/-- The running outputs after the block of 128 rows, if there is one. -/
def eY (WG WU : Vec F S1x1x1024x512 .bf16) (WD : Vec F S1x1x512x1024 .bf16)
    (X : Vec F S2048x1024 .bf16) (Y : Vec F S2048x1024 .f32) : Vec F S2048x1024 .f32 :=
  if h12 : k0_cond12 v3 = 1#1 then
    if h : k0_cond2 i = 1#1 then
      (Rect.unit (s := S2048x1024) (k0_off19 v3) S128x1024.size (k0_off19_inb i v3 hw h12)).overlay Y
        (k0_pay31 (F := F) (View.ld X (Rect.unit (s := S2048x1024) (k0_off19 v3) S128x1024.size (k0_off19_inb i v3 hw h12))) (wG WG) (wG WU) (wD WD))
    else
      (Rect.unit (s := S2048x1024) (k0_off19 v3) S128x1024.size (k0_off19_inb i v3 hw h12)).overlay Y
        (k0_pay32 (F := F) (View.ld X (Rect.unit (s := S2048x1024) (k0_off19 v3) S128x1024.size (k0_off19_inb i v3 hw h12))) (wG WG) (wG WU) (wD WD)
          (View.ld Y (Rect.unit (s := S2048x1024) (k0_off19 v3) S128x1024.size (k0_off19_inb i v3 hw h12))))
  else Y

section Phase
variable (ST : Vec F S8x2048 .f32) (U : Vec F S2048x1024 .bf16) (WG WU : Vec F S1x1x1024x512 .bf16) (WD : Vec F S1x1x512x1024 .bf16)
    (X : Vec F S2048x1024 .bf16) (Y : Vec F S2048x1024 .f32)

/-- The gathered rows and the running outputs after all the blocks of a grid point. -/
def X1 : Vec F S2048x1024 .bf16 := (it i v3 hw ST U WG WU WD X Y (k0_t1_loop v3).trips).1
def Y1 : Vec F S2048x1024 .f32 := (it i v3 hw ST U WG WU WD X Y (k0_t1_loop v3).trips).2
def X2 : Vec F S2048x1024 .bf16 := bX i v3 hw ST U (X1 i v3 hw ST U WG WU WD X Y)
def Y2 : Vec F S2048x1024 .f32 := bY i v3 hw WG WU WD (X2 i v3 hw ST U WG WU WD X Y) (Y1 i v3 hw ST U WG WU WD X Y)
def X3 : Vec F S2048x1024 .bf16 := eX i v3 hw ST U (X2 i v3 hw ST U WG WU WD X Y)
def Y3 : Vec F S2048x1024 .f32 := eY i v3 hw WG WU WD (X3 i v3 hw ST U WG WU WD X Y) (Y2 i v3 hw ST U WG WU WD X Y)
end Phase

/-- The output block, cleared at a tile's first point. -/
def O1 (O : Vec F S2048x1024 .f32) : Vec F S2048x1024 .f32 :=
  if k0_cond1 i = 1#1 then k0_pay22 (F := F) else O

/-- The offsets of the block of 256 rows and of the block of 128 rows. -/
abbrev w11 : BitVec 32 := Scalar.muli (Scalar.shrui v3 2#32) 512#32
abbrev w15 : BitVec 32 := Scalar.addi (Scalar.muli (Scalar.shrui v3 2#32) 512#32) (Scalar.muli (Scalar.andi v3 2#32) 128#32)

/-- The output block after `k` scattered blocks of 512 rows (`S` the slots, `W` the weights, `Y` the running outputs). -/
def ot (h : k0_cond16 i v3 = 1#1) (W S : Vec F S2048x128 .f32) (Y O : Vec F S2048x1024 .f32) : ℕ → Vec F S2048x1024 .f32
  | 0 => O
  | k + 1 => if hk : k < (k0_t3_loop v3).trips then
      k0_pay4 (F := F) (BitVec.ofNat 32 (i 1).val) v3 (wC S) (wC W) ⟨k, hk⟩ (wR (ot h W S Y O k))
        (View.ld Y (Rect.unit (s := S2048x1024) (k0_off22 v3 ⟨k, hk⟩) S512x1024.size (k0_off22_inb i v3 hw ⟨k, hk⟩ h)))
    else ot h W S Y O k

/-- The output block after the block of 256 rows, if there is one. -/
def o17 (h : k0_cond16 i v3 = 1#1) (W S : Vec F S2048x128 .f32) (Y O : Vec F S2048x1024 .f32) : Vec F S2048x1024 .f32 :=
  if h17 : k0_cond17 v3 = 1#1 then
    k0_pay6 (F := F) (BitVec.ofNat 32 (i 1).val) (w11 v3) (wC S) (wC W) (wR O)
      (View.ld Y (Rect.unit (s := S2048x1024) (k0_off24 v3) S256x1024.size (k0_off24_inb i v3 hw h h17)))
  else O

/-- The output block after the block of 128 rows, if there is one. -/
def o18 (h : k0_cond16 i v3 = 1#1) (W S : Vec F S2048x128 .f32) (Y O : Vec F S2048x1024 .f32) : Vec F S2048x1024 .f32 :=
  if h18 : k0_cond18 v3 = 1#1 then
    k0_pay7 (F := F) (BitVec.ofNat 32 (i 1).val) (w15 v3) (wC S) (wC W) (wR O)
      (View.ld Y (Rect.unit (s := S2048x1024) (k0_off25 v3) S128x1024.size (k0_off25_inb i v3 hw h h18)))
  else O

/-- The output block after an expert's outputs are scattered. -/
def O2 (W S : Vec F S2048x128 .f32) (Y O : Vec F S2048x1024 .f32) : Vec F S2048x1024 .f32 :=
  if h : k0_cond16 i v3 = 1#1 then
    o18 i v3 hw h W S Y (o17 i v3 hw h W S Y (ot i v3 hw h W S Y O (k0_t3_loop v3).trips))
  else O

/-- The residual connection, eight row blocks one after the other. -/
def fin (H : Vec F S2048x1024 .f32) (M : Vec F S8x8x1024 .f32) (O : Vec F S2048x1024 .f32) : Vec F S2048x1024 .f32 :=
  ((Rect.unit (s := S2048x1024) ![1792, 0] S256x1024.size inb_S2048x1024_S256x1024_1792_0).overlay ((Rect.unit (s := S2048x1024) ![1536, 0] S256x1024.size inb_S2048x1024_S256x1024_1536_0).overlay ((Rect.unit (s := S2048x1024) ![1280, 0] S256x1024.size inb_S2048x1024_S256x1024_1280_0).overlay ((Rect.unit (s := S2048x1024) ![1024, 0] S256x1024.size inb_S2048x1024_S256x1024_1024_0).overlay ((Rect.unit (s := S2048x1024) ![768, 0] S256x1024.size inb_S2048x1024_S256x1024_768_0).overlay ((Rect.unit (s := S2048x1024) ![512, 0] S256x1024.size inb_S2048x1024_S256x1024_512_0).overlay ((Rect.unit (s := S2048x1024) ![256, 0] S256x1024.size inb_S2048x1024_S256x1024_256_0).overlay ((Rect.unit (s := S2048x1024) ![0, 0] S256x1024.size inb_S2048x1024_S256x1024_0_0).overlay O
    (k0_pay16 (F := F) (View.ld H (Rect.unit (s := S2048x1024) ![0, 0] S256x1024.size inb_S2048x1024_S256x1024_0_0)) (View.ld M (Rect.unit (s := S8x8x1024) ![0, 5, 0] S1x1x1024.size inb_S8x8x1024_S1x1x1024_0_5_0)) (View.ld O (Rect.unit (s := S2048x1024) ![0, 0] S256x1024.size inb_S2048x1024_S256x1024_0_0))))
    (k0_pay17 (F := F) (View.ld H (Rect.unit (s := S2048x1024) ![256, 0] S256x1024.size inb_S2048x1024_S256x1024_256_0)) (View.ld M (Rect.unit (s := S8x8x1024) ![1, 5, 0] S1x1x1024.size inb_S8x8x1024_S1x1x1024_1_5_0)) (View.ld O (Rect.unit (s := S2048x1024) ![256, 0] S256x1024.size inb_S2048x1024_S256x1024_256_0))))
    (k0_pay18 (F := F) (View.ld H (Rect.unit (s := S2048x1024) ![512, 0] S256x1024.size inb_S2048x1024_S256x1024_512_0)) (View.ld M (Rect.unit (s := S8x8x1024) ![2, 5, 0] S1x1x1024.size inb_S8x8x1024_S1x1x1024_2_5_0)) (View.ld O (Rect.unit (s := S2048x1024) ![512, 0] S256x1024.size inb_S2048x1024_S256x1024_512_0))))
    (k0_pay19 (F := F) (View.ld H (Rect.unit (s := S2048x1024) ![768, 0] S256x1024.size inb_S2048x1024_S256x1024_768_0)) (View.ld M (Rect.unit (s := S8x8x1024) ![3, 5, 0] S1x1x1024.size inb_S8x8x1024_S1x1x1024_3_5_0)) (View.ld O (Rect.unit (s := S2048x1024) ![768, 0] S256x1024.size inb_S2048x1024_S256x1024_768_0))))
    (k0_pay20 (F := F) (View.ld H (Rect.unit (s := S2048x1024) ![1024, 0] S256x1024.size inb_S2048x1024_S256x1024_1024_0)) (View.ld M (Rect.unit (s := S8x8x1024) ![4, 5, 0] S1x1x1024.size inb_S8x8x1024_S1x1x1024_4_5_0)) (View.ld O (Rect.unit (s := S2048x1024) ![1024, 0] S256x1024.size inb_S2048x1024_S256x1024_1024_0))))
    (k0_pay21 (F := F) (View.ld H (Rect.unit (s := S2048x1024) ![1280, 0] S256x1024.size inb_S2048x1024_S256x1024_1280_0)) (View.ld M (Rect.unit (s := S8x8x1024) ![5, 5, 0] S1x1x1024.size inb_S8x8x1024_S1x1x1024_5_5_0)) (View.ld O (Rect.unit (s := S2048x1024) ![1280, 0] S256x1024.size inb_S2048x1024_S256x1024_1280_0))))
    (k0_pay8 (F := F) (View.ld H (Rect.unit (s := S2048x1024) ![1536, 0] S256x1024.size inb_S2048x1024_S256x1024_1536_0)) (View.ld M (Rect.unit (s := S8x8x1024) ![6, 5, 0] S1x1x1024.size inb_S8x8x1024_S1x1x1024_6_5_0)) (View.ld O (Rect.unit (s := S2048x1024) ![1536, 0] S256x1024.size inb_S2048x1024_S256x1024_1536_0))))
    (k0_pay9 (F := F) (View.ld H (Rect.unit (s := S2048x1024) ![1792, 0] S256x1024.size inb_S2048x1024_S256x1024_1792_0)) (View.ld M (Rect.unit (s := S8x8x1024) ![7, 5, 0] S1x1x1024.size inb_S8x8x1024_S1x1x1024_7_5_0)) (View.ld O (Rect.unit (s := S2048x1024) ![1792, 0] S256x1024.size inb_S2048x1024_S256x1024_1792_0))))

/-- The output block at the end of the body. -/
def O3 (H : Vec F S2048x1024 .f32) (M : Vec F S8x8x1024 .f32) (W S : Vec F S2048x128 .f32) (Y O : Vec F S2048x1024 .f32) : Vec F S2048x1024 .f32 :=
  if k0_cond19 i = 1#1 then fin H M (O2 i v3 hw W S Y O) else O2 i v3 hw W S Y O

end Trip

end Cert.Proof.MoeBody
-- ==== Proof.MoeBody.lean ====
/-
The routed experts' kernel body, its first part, run once on whole buffers: it leaves in the two scratch arrays and
in the output block what the functions of `MoeFun` say. Stated at every float instance.
-/
module

public import proofs.«01_k».proof.Proof.MoeFun
public import proofs.«01_k».proof.Proof.Gen.KernelIdeal.Launch
public import Idealize.ShloMosaic.Lib.Exec
public import Idealize.ShloMosaic.Lib.Tactic
public import Idealize.ShloMosaic.Lib.LoopRemainder
public import Idealize.ShloMosaic.Lib.Writes
public import Idealize.ShloMosaic.Lib.Pipeline.Kit
public import Idealize.ShloMosaic.Lib.Pipeline.Value

@[expose] public section

set_option maxRecDepth 16384

noncomputable section

namespace Cert.Proof.MoeBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One store through a rectangle reads as the old contents overlaid there with what was stored. -/
theorem read_one {κ : Kind} {sp : Space} {s : Shape} {e : EltTy} (v : View sig κ sp s e) (f : v.ty.Contents (Elt F))
    (r : Rect s) (p : r.shape.Idx → Elt F e) :
    v.read (Elt F) (v.writes (Elt F) f [⟨r, p⟩]) = r.overlay (v.read (Elt F) f) p := by
  funext y
  by_cases hy : y ∈ r.set
  · obtain ⟨x, rfl⟩ := r.exists_idx_of_mem hy
    exact (View.read_writes_cons_emb v f r p [] x).trans (Rect.overlay_emb r _ _ x).symm
  · rw [View.read_writes_apply_of_forall_not_mem v f y _ (fun q hq => by
      obtain rfl := List.mem_singleton.mp hq; exact hy), Rect.overlay_of_not_mem _ _ _ hy]

/-- A store of a whole array reads as what was stored. -/
theorem read_all {sp : Space} {e : EltTy} (v : View sig .tc sp S2048x1024 e) (f : v.ty.Contents (Elt F)) (p : Vec F S2048x1024 e) :
    v.read (Elt F) (v.writes (Elt F) f [⟨Rect.unit (s := S2048x1024) ![0, 0] S2048x1024.size inb_S2048x1024_S2048x1024_0_0, p⟩]) = p := by
  funext y
  have hy : (Rect.unit (s := S2048x1024) ![0, 0] S2048x1024.size inb_S2048x1024_S2048x1024_0_0).emb y = y := by
    funext a; refine Fin.ext ?_
    show (![0, 0] a : ℕ) + 1 * (y a : ℕ) = (y a : ℕ)
    fin_cases a <;> exact (Nat.zero_add _).trans (Nat.one_mul _)
  have := View.read_writes_cons_emb v f (Rect.unit (s := S2048x1024) ![0, 0] S2048x1024.size inb_S2048x1024_S2048x1024_0_0) p [] y
  rwa [hy] at this

section Trip

variable (i : grid0.Coords) (v3 : BitVec 32) (hw : k0_chk1 i v3)

variable (c : Dev nD)
  (arg3 : Memref sig .tc .smem S136 .i32) (harg3 : arg3.IsWhole)
  (arg4 : Memref sig .tc .vmem S2048x1024 .f32) (harg4 : arg4.IsWhole)
  (arg5 : Memref sig .tc .vmem S2048x1024 .bf16) (harg5 : arg5.IsWhole)
  (arg6 : Memref sig .tc .vmem S2048x128 .f32) (harg6 : arg6.IsWhole)
  (arg7 : Memref sig .tc .vmem S2048x128 .f32) (harg7 : arg7.IsWhole)
  (arg8 : Memref sig .tc .vmem S8x2048 .f32) (harg8 : arg8.IsWhole)
  (arg9 : Memref sig .tc .vmem S8x8x1024 .f32) (harg9 : arg9.IsWhole)
  (arg10 : Memref sig .tc .vmem S1x1x1024x512 .bf16) (harg10 : arg10.IsWhole)
  (arg11 : Memref sig .tc .vmem S1x1x1024x512 .bf16) (harg11 : arg11.IsWhole)
  (arg12 : Memref sig .tc .vmem S1x1x512x1024 .bf16) (harg12 : arg12.IsWhole)
  (arg13 : Memref sig .tc .vmem S2048x1024 .f32) (harg13 : arg13.IsWhole)
  (arg14 : Memref sig .tc .vmem S2048x1024 .bf16) (harg14 : arg14.IsWhole)
  (arg15 : Memref sig .tc .vmem S2048x1024 .f32) (harg15 : arg15.IsWhole)

/-- A counter's comparisons with nought: equal, and greater. -/
theorem cond_first (h : (i 2).val = 0) : k0_cond2 i = 1#1 ∧ k0_cond3 i = 1#1 ∧ ¬k0_cond4 i = 1#1
    ∧ k0_cond9 i = 1#1 ∧ k0_cond10 i = 1#1 ∧ ¬k0_cond11 i = 1#1 ∧ k0_cond13 i = 1#1 ∧ k0_cond14 i = 1#1 ∧ ¬k0_cond15 i = 1#1 := by
  unfold k0_cond2 k0_cond3 k0_cond4 k0_cond9 k0_cond10 k0_cond11 k0_cond13 k0_cond14 k0_cond15; rw [h]; decide

theorem cond_later (h : (i 2).val ≠ 0) : ¬k0_cond2 i = 1#1 ∧ ¬k0_cond3 i = 1#1 ∧ k0_cond4 i = 1#1
    ∧ ¬k0_cond9 i = 1#1 ∧ ¬k0_cond10 i = 1#1 ∧ k0_cond11 i = 1#1 ∧ ¬k0_cond13 i = 1#1 ∧ ¬k0_cond14 i = 1#1 ∧ k0_cond15 i = 1#1 := by
  unfold k0_cond2 k0_cond3 k0_cond4 k0_cond9 k0_cond10 k0_cond11 k0_cond13 k0_cond14 k0_cond15
  generalize i 2 = q at h ⊢
  revert q; show ∀ q : Fin 7, _; decide

/-- What a trip reads and writes: the inputs it reads, the gathered rows and the running outputs. -/
abbrev Held (ST : Vec F S8x2048 .f32) (U : Vec F S2048x1024 .bf16) (WG WU : Vec F S1x1x1024x512 .bf16) (WD : Vec F S1x1x512x1024 .bf16)
    (X : Vec F S2048x1024 .bf16) (Y : Vec F S2048x1024 .f32) : sProp 𝕄 :=
  iprop(owns (c : Thread nD τ) arg8 fullShare ST ∗ owns (c : Thread nD τ) arg5 fullShare U ∗ owns (c : Thread nD τ) arg10 fullShare WG
    ∗ owns (c : Thread nD τ) arg11 fullShare WU ∗ owns (c : Thread nD τ) arg12 fullShare WD
    ∗ owns (c : Thread nD τ) arg14 fullShare X ∗ owns (c : Thread nD τ) arg15 fullShare Y)

set_option maxHeartbeats 2000000 in
/-- One trip over a block of 512 rows. -/
theorem trip (ST : Vec F S8x2048 .f32) (U : Vec F S2048x1024 .bf16) (WG WU : Vec F S1x1x1024x512 .bf16) (WD : Vec F S1x1x512x1024 .bf16)
    (X : Vec F S2048x1024 .bf16) (Y : Vec F S2048x1024 .f32) (k : Fin (k0_t1_loop v3).trips) (E : Set ℕ) (a1 : BitVec 32) (a2 : BitVec 32) :
    Held c arg5 arg8 arg10 arg11 arg12 arg14 arg15 ST U WG WU WD X Y
      ⊢ wp frame (wpE (defs₀ (F := F)) Variants.none (c : Thread nD τ) none) E
          (k0_t1_body (F := F) i arg3 harg3 arg4 harg4 arg5 harg5 arg6 harg6 arg7 harg7 arg8 harg8 arg9 harg9 arg10 harg10 arg11 harg11 arg12 harg12 arg13 harg13 arg14 harg14 arg15 harg15 a1 a2 v3 hw k ())
          (fun _ => Held c arg5 arg8 arg10 arg11 arg12 arg14 arg15 ST U WG WU WD (gX i v3 hw ST U k X) (gY i v3 hw WG WU WD k (gX i v3 hw ST U k X) Y)) := by
  unfold Held owns
  iintro ⟨⟨%f8, %hf8, H8⟩, ⟨%f5, %hf5, H5⟩, ⟨%f10, %hf10, H10⟩, ⟨%f11, %hf11, H11⟩, ⟨%f12, %hf12, H12⟩, ⟨%f14, %hf14, H14⟩, ⟨%f15, %hf15, H15⟩⟩
  subst hf8 hf5 hf10 hf11 hf12 hf14 hf15
  by_cases h0 : (i 2).val = 0
  · obtain ⟨hc2, hc3, hc4, -⟩ := cond_first i h0
    sl_unfold [k0_t1_body]
    sl_exec (disch := first | sl_exact hc2 | sl_exact hc3 | sl_exact hc4)
    sl_step
    isplitl [H8]; · iexists _; isplitr; · ipureintro; rfl
                    iexact H8
    isplitl [H5]; · iexists _; isplitr; · ipureintro; rfl
                    iexact H5
    isplitl [H10]; · iexists _; isplitr; · ipureintro; rfl
                     iexact H10
    isplitl [H11]; · iexists _; isplitr; · ipureintro; rfl
                     iexact H11
    isplitl [H12]; · iexists _; isplitr; · ipureintro; rfl
                     iexact H12
    isplitl [H14]
    · iexists _; isplitr; swap; · iexact H14
      ipureintro; unfold gX; rw [dif_pos hc2]; exact read_one _ _ _ _
    iexists _; isplitr; swap; · iexact H15
    ipureintro; unfold gY gX; rw [dif_pos hc2, dif_pos hc2]; refine (read_one _ _ _ _).trans ?_; exact congrArg _ (congrArg (fun q => k0_pay12 (F := F) q _ _ _) (congrArg (fun q => View.ld q _) (read_one _ _ _ _)))
  · obtain ⟨hc2, hc3, hc4, -⟩ := cond_later i h0
    sl_unfold [k0_t1_body]
    sl_exec (disch := first | sl_exact hc2 | sl_exact hc3 | sl_exact hc4)
    sl_step
    isplitl [H8]; · iexists _; isplitr; · ipureintro; rfl
                    iexact H8
    isplitl [H5]; · iexists _; isplitr; · ipureintro; rfl
                    iexact H5
    isplitl [H10]; · iexists _; isplitr; · ipureintro; rfl
                     iexact H10
    isplitl [H11]; · iexists _; isplitr; · ipureintro; rfl
                     iexact H11
    isplitl [H12]; · iexists _; isplitr; · ipureintro; rfl
                     iexact H12
    isplitl [H14]
    · iexists _; isplitr; swap; · iexact H14
      ipureintro; unfold gX; rw [dif_neg hc2]
    iexists _; isplitr; swap; · iexact H15
    ipureintro; unfold gY gX; rw [dif_neg hc2, dif_neg hc2]; exact read_one _ _ _ _

/-- One trip, from what the trips before it left. -/
theorem trip_it (ST : Vec F S8x2048 .f32) (U : Vec F S2048x1024 .bf16) (WG WU : Vec F S1x1x1024x512 .bf16) (WD : Vec F S1x1x512x1024 .bf16)
    (X : Vec F S2048x1024 .bf16) (Y : Vec F S2048x1024 .f32) (k : Fin (k0_t1_loop v3).trips) (E : Set ℕ) (a1 : BitVec 32) (a2 : BitVec 32) :
    Held c arg5 arg8 arg10 arg11 arg12 arg14 arg15 ST U WG WU WD (it i v3 hw ST U WG WU WD X Y k.val).1 (it i v3 hw ST U WG WU WD X Y k.val).2
      ⊢ wp frame (wpE (defs₀ (F := F)) Variants.none (c : Thread nD τ) none) E
          (k0_t1_body (F := F) i arg3 harg3 arg4 harg4 arg5 harg5 arg6 harg6 arg7 harg7 arg8 harg8 arg9 harg9 arg10 harg10 arg11 harg11 arg12 harg12 arg13 harg13 arg14 harg14 arg15 harg15 a1 a2 v3 hw k ())
          (fun _ => Held c arg5 arg8 arg10 arg11 arg12 arg14 arg15 ST U WG WU WD
            (it i v3 hw ST U WG WU WD X Y (k.val + 1)).1 (it i v3 hw ST U WG WU WD X Y (k.val + 1)).2) := by
  rw [it_succ]
  exact trip i v3 hw c arg3 harg3 arg4 harg4 arg5 harg5 arg6 harg6 arg7 harg7 arg8 harg8 arg9 harg9 arg10 harg10 arg11 harg11 arg12 harg12 arg13 harg13 arg14 harg14 arg15 harg15 ST U WG WU WD _ _ k E a1 a2

/-- The word of the table a grid point reads: how many blocks of 128 rows its expert has in its tile. -/
abbrev wd (T : arg3.view.ty.Contents (Elt F)) : BitVec 32 :=
  arg3.view.readAt (Elt F) (Rect.unit (s := S136) (k0_off1 i) S1.size (k0_off1_inb i)).toLoadRect T (Shape.Idx.first (numel1_S1.symm ▸ Nat.one_pos))

/-- A block of a weight, loaded whole. -/
abbrev rdG (a : Memref sig .tc .vmem S1x1x1024x512 .bf16) (f : a.view.ty.Contents (Elt F)) : Vec F S1x1x1024x512 .bf16 :=
  a.view.readAt (Elt F) (Rect.unit (s := S1x1x1024x512) ![0, 0, 0, 0] S1x1x1024x512.size inb_S1x1x1024x512_S1x1x1024x512_0_0_0_0).toLoadRect f
abbrev rdD (a : Memref sig .tc .vmem S1x1x512x1024 .bf16) (f : a.view.ty.Contents (Elt F)) : Vec F S1x1x512x1024 .bf16 :=
  a.view.readAt (Elt F) (Rect.unit (s := S1x1x512x1024) ![0, 0, 0, 0] S1x1x512x1024.size inb_S1x1x512x1024_S1x1x512x1024_0_0_0_0).toLoadRect f

/-- The same on buffers. -/
def bXc (f8 : arg8.view.ty.Contents (Elt F)) (f5 : arg5.view.ty.Contents (Elt F)) (f14 : arg14.view.ty.Contents (Elt F)) : arg14.view.ty.Contents (Elt F) :=
  if hb : k0_cond8 v3 = 1#1 then
    if h : k0_cond2 i = 1#1 then
      arg14.view.writes (Elt F) f14 [⟨Rect.unit (s := S2048x1024) (k0_off13 v3) S256x1024.size (k0_off13_inb i v3 hw hb h),
        k0_pay25 (F := F) v3 (arg8.view.readAt (Elt F) (Rect.unit (s := S8x2048) (k0_off12 i) S1x2048.size (k0_off12_inb i h)).toLoadRect f8)
          (arg5.view.readAt (Elt F) (Rect.unit (s := S2048x1024) ![0, 0] S2048x1024.size inb_S2048x1024_S2048x1024_0_0).toLoadRect f5)⟩]
    else f14
  else f14

def bYc (f10 : arg10.view.ty.Contents (Elt F)) (f11 : arg11.view.ty.Contents (Elt F)) (f12 : arg12.view.ty.Contents (Elt F))
    (f14 : arg14.view.ty.Contents (Elt F)) (f15 : arg15.view.ty.Contents (Elt F)) : arg15.view.ty.Contents (Elt F) :=
  if hb : k0_cond8 v3 = 1#1 then
    if h : k0_cond2 i = 1#1 then
      arg15.view.writes (Elt F) f15 [⟨Rect.unit (s := S2048x1024) (k0_off14 v3) S256x1024.size (k0_off14_inb i v3 hw hb),
        k0_pay27 (F := F) (arg14.view.readAt (Elt F) (Rect.unit (s := S2048x1024) (k0_off14 v3) S256x1024.size (k0_off14_inb i v3 hw hb)).toLoadRect f14)
          (rdG arg10 f10) (rdG arg11 f11) (rdD arg12 f12)⟩]
    else
      arg15.view.writes (Elt F) f15 [⟨Rect.unit (s := S2048x1024) (k0_off14 v3) S256x1024.size (k0_off14_inb i v3 hw hb),
        k0_pay28 (F := F) (arg14.view.readAt (Elt F) (Rect.unit (s := S2048x1024) (k0_off14 v3) S256x1024.size (k0_off14_inb i v3 hw hb)).toLoadRect f14)
          (rdG arg10 f10) (rdG arg11 f11) (rdD arg12 f12)
          (arg15.view.readAt (Elt F) (Rect.unit (s := S2048x1024) (k0_off14 v3) S256x1024.size (k0_off14_inb i v3 hw hb)).toLoadRect f15)⟩]
  else f15

theorem read_bXc (f8 : arg8.view.ty.Contents (Elt F)) (f5 : arg5.view.ty.Contents (Elt F)) (f14 : arg14.view.ty.Contents (Elt F)) :
    arg14.view.read (Elt F) (bXc i v3 hw arg5 arg8 arg14 f8 f5 f14)
      = bX i v3 hw (arg8.view.read (Elt F) f8) (arg5.view.read (Elt F) f5) (arg14.view.read (Elt F) f14) := by
  unfold bXc bX; split_ifs
  · exact read_one _ _ _ _
  · rfl
  · rfl

theorem read_bYc (f10 : arg10.view.ty.Contents (Elt F)) (f11 : arg11.view.ty.Contents (Elt F)) (f12 : arg12.view.ty.Contents (Elt F))
    (f14 : arg14.view.ty.Contents (Elt F)) (f15 : arg15.view.ty.Contents (Elt F)) :
    arg15.view.read (Elt F) (bYc i v3 hw arg10 arg11 arg12 arg14 arg15 f10 f11 f12 f14 f15)
      = bY i v3 hw (arg10.view.read (Elt F) f10) (arg11.view.read (Elt F) f11) (arg12.view.read (Elt F) f12)
          (arg14.view.read (Elt F) f14) (arg15.view.read (Elt F) f15) := by
  unfold bYc bY; split_ifs
  · exact read_one _ _ _ _
  · exact read_one _ _ _ _
  · rfl

/-- The same on buffers. -/
def eXc (f8 : arg8.view.ty.Contents (Elt F)) (f5 : arg5.view.ty.Contents (Elt F)) (f14 : arg14.view.ty.Contents (Elt F)) : arg14.view.ty.Contents (Elt F) :=
  if hb : k0_cond12 v3 = 1#1 then
    if h : k0_cond2 i = 1#1 then
      arg14.view.writes (Elt F) f14 [⟨Rect.unit (s := S2048x1024) (k0_off18 v3) S128x1024.size (k0_off18_inb i v3 hw hb h),
        k0_pay29 (F := F) v3 (arg8.view.readAt (Elt F) (Rect.unit (s := S8x2048) (k0_off17 i) S1x2048.size (k0_off17_inb i h)).toLoadRect f8)
          (arg5.view.readAt (Elt F) (Rect.unit (s := S2048x1024) ![0, 0] S2048x1024.size inb_S2048x1024_S2048x1024_0_0).toLoadRect f5)⟩]
    else f14
  else f14

def eYc (f10 : arg10.view.ty.Contents (Elt F)) (f11 : arg11.view.ty.Contents (Elt F)) (f12 : arg12.view.ty.Contents (Elt F))
    (f14 : arg14.view.ty.Contents (Elt F)) (f15 : arg15.view.ty.Contents (Elt F)) : arg15.view.ty.Contents (Elt F) :=
  if hb : k0_cond12 v3 = 1#1 then
    if h : k0_cond2 i = 1#1 then
      arg15.view.writes (Elt F) f15 [⟨Rect.unit (s := S2048x1024) (k0_off19 v3) S128x1024.size (k0_off19_inb i v3 hw hb),
        k0_pay31 (F := F) (arg14.view.readAt (Elt F) (Rect.unit (s := S2048x1024) (k0_off19 v3) S128x1024.size (k0_off19_inb i v3 hw hb)).toLoadRect f14)
          (rdG arg10 f10) (rdG arg11 f11) (rdD arg12 f12)⟩]
    else
      arg15.view.writes (Elt F) f15 [⟨Rect.unit (s := S2048x1024) (k0_off19 v3) S128x1024.size (k0_off19_inb i v3 hw hb),
        k0_pay32 (F := F) (arg14.view.readAt (Elt F) (Rect.unit (s := S2048x1024) (k0_off19 v3) S128x1024.size (k0_off19_inb i v3 hw hb)).toLoadRect f14)
          (rdG arg10 f10) (rdG arg11 f11) (rdD arg12 f12)
          (arg15.view.readAt (Elt F) (Rect.unit (s := S2048x1024) (k0_off19 v3) S128x1024.size (k0_off19_inb i v3 hw hb)).toLoadRect f15)⟩]
  else f15

theorem read_eXc (f8 : arg8.view.ty.Contents (Elt F)) (f5 : arg5.view.ty.Contents (Elt F)) (f14 : arg14.view.ty.Contents (Elt F)) :
    arg14.view.read (Elt F) (eXc i v3 hw arg5 arg8 arg14 f8 f5 f14)
      = eX i v3 hw (arg8.view.read (Elt F) f8) (arg5.view.read (Elt F) f5) (arg14.view.read (Elt F) f14) := by
  unfold eXc eX; split_ifs
  · exact read_one _ _ _ _
  · rfl
  · rfl

theorem read_eYc (f10 : arg10.view.ty.Contents (Elt F)) (f11 : arg11.view.ty.Contents (Elt F)) (f12 : arg12.view.ty.Contents (Elt F))
    (f14 : arg14.view.ty.Contents (Elt F)) (f15 : arg15.view.ty.Contents (Elt F)) :
    arg15.view.read (Elt F) (eYc i v3 hw arg10 arg11 arg12 arg14 arg15 f10 f11 f12 f14 f15)
      = eY i v3 hw (arg10.view.read (Elt F) f10) (arg11.view.read (Elt F) f11) (arg12.view.read (Elt F) f12)
          (arg14.view.read (Elt F) f14) (arg15.view.read (Elt F) f15) := by
  unfold eYc eY; split_ifs
  · exact read_one _ _ _ _
  · exact read_one _ _ _ _
  · rfl

set_option maxHeartbeats 16000000 in
/-- The first part of a grid point: the output cleared where it must be, then every block of rows gathered and taken
    through one block of hidden columns. -/
theorem part5 (ST : Vec F S8x2048 .f32) (U : Vec F S2048x1024 .bf16) (WG WU : Vec F S1x1x1024x512 .bf16) (WD : Vec F S1x1x512x1024 .bf16)
    (X : Vec F S2048x1024 .bf16) (Y : Vec F S2048x1024 .f32) (O : Vec F S2048x1024 .f32) (q : PosShare TreeShare) (T : arg3.view.ty.Contents (Elt F)) (E : Set ℕ)
    (hv : k0_chk1 i (wd i arg3 T)) :
    iprop((arg3.view.loc (c : Thread nD τ) ↦{q} T) ∗ owns (c : Thread nD τ) arg13 fullShare O ∗ Held c arg5 arg8 arg10 arg11 arg12 arg14 arg15 ST U WG WU WD X Y)
      ⊢ wp frame (wpE (defs₀ (F := F)) Variants.none (c : Thread nD τ) none) E
          (k0_part5 (F := F) i arg3 harg3 arg4 harg4 arg5 harg5 arg6 harg6 arg7 harg7 arg8 harg8 arg9 harg9 arg10 harg10 arg11 harg11 arg12 harg12 arg13 harg13 arg14 harg14 arg15 harg15)
          (fun r => iprop(⌜r = ⟨BitVec.ofNat 32 (i 1).val, BitVec.ofNat 32 (i 2).val, wd i arg3 T, hv, Scalar.shrui (wd i arg3 T) 2#32,
              Scalar.muli (Scalar.shrui (wd i arg3 T) 2#32) 512#32,
              Scalar.addi (Scalar.muli (Scalar.shrui (wd i arg3 T) 2#32) 512#32) (Scalar.muli (Scalar.andi (wd i arg3 T) 2#32) 128#32),
              Scalar.cmpi .eq (BitVec.ofNat 32 (i 2).val) 6#32, 0#32⟩⌝
            ∗ (arg3.view.loc (c : Thread nD τ) ↦{q} T) ∗ owns (c : Thread nD τ) arg13 fullShare (O1 i O)
            ∗ Held c arg5 arg8 arg10 arg11 arg12 arg14 arg15 ST U WG WU WD
                (X3 i (wd i arg3 T) hv ST U WG WU WD X Y) (Y3 i (wd i arg3 T) hv ST U WG WU WD X Y))) := by
  unfold Held owns
  iintro ⟨H3, ⟨%f13, %hf13, H13⟩, ⟨%f8, %hf8, H8⟩, ⟨%f5, %hf5, H5⟩, ⟨%f10, %hf10, H10⟩, ⟨%f11, %hf11, H11⟩, ⟨%f12, %hf12, H12⟩, ⟨%f14, %hf14, H14⟩, ⟨%f15, %hf15, H15⟩⟩
  subst hf8 hf5 hf10 hf11 hf12 hf14 hf15 hf13
  sl_unfold [k0_part5]
  have hc := Classical.em ((i 2).val = 0)
  rcases hc.imp (cond_first i) (cond_later i) with ⟨hc2, hc3, hc4, hc9, hc10, hc11, hc13, hc14, hc15⟩ | ⟨hc2, hc3, hc4, hc9, hc10, hc11, hc13, hc14, hc15⟩
    <;> by_cases h1 : k0_cond1 i = 1#1 <;> by_cases h8 : k0_cond8 (wd i arg3 T) = 1#1
    <;> by_cases h12 : k0_cond12 (wd i arg3 T) = 1#1
  all_goals
    sl_exec (disch := first | sl_exact hv | sl_exact h1)
    sl_for (fun k _ => Held c arg5 arg8 arg10 arg11 arg12 arg14 arg15 (arg8.view.read (Elt F) f8) (arg5.view.read (Elt F) f5) (arg10.view.read (Elt F) f10) (arg11.view.read (Elt F) f11) (arg12.view.read (Elt F) f12)
        (it i (wd i arg3 T) hv (arg8.view.read (Elt F) f8) (arg5.view.read (Elt F) f5) (arg10.view.read (Elt F) f10) (arg11.view.read (Elt F) f11) (arg12.view.read (Elt F) f12) (arg14.view.read (Elt F) f14) (arg15.view.read (Elt F) f15) k).1
        (it i (wd i arg3 T) hv (arg8.view.read (Elt F) f8) (arg5.view.read (Elt F) f5) (arg10.view.read (Elt F) f10) (arg11.view.read (Elt F) f11) (arg12.view.read (Elt F) f12) (arg14.view.read (Elt F) f14) (arg15.view.read (Elt F) f15) k).2) $$ [H8 H5 H10 H11 H12 H14 H15]
    · intro k acc
      exact trip_it i (wd i arg3 T) hv c arg3 harg3 arg4 harg4 arg5 harg5 arg6 harg6 arg7 harg7 arg8 harg8 arg9 harg9 arg10 harg10 arg11 harg11 arg12 harg12 arg13 harg13 arg14 harg14 arg15 harg15 _ _ _ _ _ _ _ k _ _ _
    · unfold Held owns
      isplitl [H8]
      · iexists _; isplitr; swap; · iexact H8
        ipureintro; rfl
      isplitl [H5]
      · iexists _; isplitr; swap; · iexact H5
        ipureintro; rfl
      isplitl [H10]
      · iexists _; isplitr; swap; · iexact H10
        ipureintro; rfl
      isplitl [H11]
      · iexists _; isplitr; swap; · iexact H11
        ipureintro; rfl
      isplitl [H12]
      · iexists _; isplitr; swap; · iexact H12
        ipureintro; rfl
      isplitl [H14]
      · iexists _; isplitr; swap; · iexact H14
        ipureintro; rfl
      iexists _; isplitr; swap; · iexact H15
      ipureintro; rfl
    · unfold Held owns
      iintro %acc ⟨⟨%g8, %hg8, H8⟩, ⟨%g5, %hg5, H5⟩, ⟨%g10, %hg10, H10⟩, ⟨%g11, %hg11, H11⟩, ⟨%g12, %hg12, H12⟩, ⟨%g14, %hg14, H14⟩, ⟨%g15, %hg15, H15⟩⟩
      sl_exec (disch := first | sl_exact h8 | sl_exact h12 | sl_exact hc9 | sl_exact hc10 | sl_exact hc11 | sl_exact hc13 | sl_exact hc14 | sl_exact hc15)
      sl_step
      isplitr
      · ipureintro; rfl
      isplitl [H3]; · iexact H3
      isplitl [H13]
      · iexists _; isplitr; swap; · iexact H13
        ipureintro; unfold O1
        first
          | rw [if_pos h1]; exact read_all _ _ _
          | rw [if_neg h1]
      isplitl [H8]
      · iexists _; isplitr; swap; · iexact H8
        ipureintro; exact hg8
      isplitl [H5]
      · iexists _; isplitr; swap; · iexact H5
        ipureintro; exact hg5
      isplitl [H10]
      · iexists _; isplitr; swap; · iexact H10
        ipureintro; exact hg10
      isplitl [H11]
      · iexists _; isplitr; swap; · iexact H11
        ipureintro; exact hg11
      isplitl [H12]
      · iexists _; isplitr; swap; · iexact H12
        ipureintro; exact hg12
      isplitl [H14]
      · iexists _; isplitr; swap; · iexact H14
        ipureintro
        refine Eq.trans (congrArg (arg14.view.read (Elt F)) (?_ : _ = eXc i (wd i arg3 T) hv arg5 arg8 arg14 g8 g5 (bXc i (wd i arg3 T) hv arg5 arg8 arg14 g8 g5 g14))) ?_
        · simp only [eXc, bXc, h8, h12, hc2, dite_true, dite_false, eq_self] <;> rfl
        · rw [read_eXc, read_bXc, hg8, hg5, hg14]; rfl
      iexists _; isplitr; swap; · iexact H15
      ipureintro
      refine Eq.trans (congrArg (arg15.view.read (Elt F)) (?_ : _ = eYc i (wd i arg3 T) hv arg10 arg11 arg12 arg14 arg15 g10 g11 g12 (eXc i (wd i arg3 T) hv arg5 arg8 arg14 g8 g5 (bXc i (wd i arg3 T) hv arg5 arg8 arg14 g8 g5 g14)) (bYc i (wd i arg3 T) hv arg10 arg11 arg12 arg14 arg15 g10 g11 g12 (bXc i (wd i arg3 T) hv arg5 arg8 arg14 g8 g5 g14) g15))) ?_
      · simp only [eYc, eXc, bYc, bXc, h8, h12, hc2, dite_true, dite_false, eq_self] <;> rfl
      · rw [read_eYc, read_eXc, read_bYc, read_bXc, hg8, hg5, hg10, hg11, hg12, hg14, hg15]; rfl

end Trip

end Cert.Proof.MoeBody
-- ==== Proof.MoeRoot.lean ====
/-
The routed experts' kernel body, its second half: the running outputs of an expert scattered to the rows routed to
it, and, at the last block of the last expert, the residual connection. With the first half this gives the whole
body as a function of what it finds.
-/
module

public import proofs.«01_k».proof.Proof.MoeBody

@[expose] public section

set_option maxRecDepth 16384

noncomputable section

namespace Cert.Proof.MoeBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Root

variable (i : grid0.Coords) (v3 : BitVec 32) (hw : k0_chk1 i v3)

variable (c : Dev nD)
  (arg3 : Memref sig .tc .smem S136 .i32) (harg3 : arg3.IsWhole)
  (arg4 : Memref sig .tc .vmem S2048x1024 .f32) (harg4 : arg4.IsWhole)
  (arg5 : Memref sig .tc .vmem S2048x1024 .bf16) (harg5 : arg5.IsWhole)
  (arg6 : Memref sig .tc .vmem S2048x128 .f32) (harg6 : arg6.IsWhole)
  (arg7 : Memref sig .tc .vmem S2048x128 .f32) (harg7 : arg7.IsWhole)
  (arg8 : Memref sig .tc .vmem S8x2048 .f32) (harg8 : arg8.IsWhole)
  (arg9 : Memref sig .tc .vmem S8x8x1024 .f32) (harg9 : arg9.IsWhole)
  (arg10 : Memref sig .tc .vmem S1x1x1024x512 .bf16) (harg10 : arg10.IsWhole)
  (arg11 : Memref sig .tc .vmem S1x1x1024x512 .bf16) (harg11 : arg11.IsWhole)
  (arg12 : Memref sig .tc .vmem S1x1x512x1024 .bf16) (harg12 : arg12.IsWhole)
  (arg13 : Memref sig .tc .vmem S2048x1024 .f32) (harg13 : arg13.IsWhole)
  (arg14 : Memref sig .tc .vmem S2048x1024 .bf16) (harg14 : arg14.IsWhole)
  (arg15 : Memref sig .tc .vmem S2048x1024 .f32) (harg15 : arg15.IsWhole)

set_option maxHeartbeats 2000000 in
/-- One block of 512 running outputs scattered. -/
theorem trip3 (h : k0_cond16 i v3 = 1#1) (W S : Vec F S2048x128 .f32) (Y O : Vec F S2048x1024 .f32) (k : Fin (k0_t3_loop v3).trips) (E : Set ℕ) (a1 : BitVec 32) :
    (iprop(owns (c : Thread nD τ) arg13 fullShare O ∗ owns (c : Thread nD τ) arg15 fullShare Y) : sProp 𝕄)
      ⊢ wp frame (wpE (defs₀ (F := F)) Variants.none (c : Thread nD τ) none) E
          (k0_t3_body (F := F) i arg3 harg3 arg4 harg4 arg5 harg5 arg6 harg6 arg7 harg7 arg8 harg8 arg9 harg9 arg10 harg10 arg11 harg11 arg12 harg12 arg13 harg13 arg14 harg14 arg15 harg15 a1 v3 hw h S W k ())
          (fun _ => iprop(owns (c : Thread nD τ) arg13 fullShare (k0_pay4 (F := F) a1 v3 S W k (wR O)
              (View.ld Y (Rect.unit (s := S2048x1024) (k0_off22 v3 k) S512x1024.size (k0_off22_inb i v3 hw k h))))
            ∗ owns (c : Thread nD τ) arg15 fullShare Y)) := by
  unfold owns
  iintro ⟨⟨%f13, %hf13, H13⟩, ⟨%f15, %hf15, H15⟩⟩
  subst hf13 hf15
  sl_unfold [k0_t3_body]
  sl_exec
  sl_step
  isplitl [H13]
  · iexists _; isplitr; swap; · iexact H13
    ipureintro; exact read_all _ _ _
  iexists _; isplitr; swap; · iexact H15
  ipureintro; rfl

/-- A further store through a rectangle reads as what there was, overlaid. -/
theorem read_cons {κ : Kind} {sp : Space} {s : Shape} {e : EltTy} (v : View sig κ sp s e) (f : v.ty.Contents (Elt F))
    (r : Rect s) (p : r.shape.Idx → Elt F e) (L : List (View.Piece (Elt F) s e)) :
    v.read (Elt F) (v.writes (Elt F) f (⟨r, p⟩ :: L)) = r.overlay (v.read (Elt F) (v.writes (Elt F) f L)) p := by
  funext y
  by_cases hy : y ∈ r.set
  · obtain ⟨x, rfl⟩ := r.exists_idx_of_mem hy
    exact (View.read_writes_cons_emb v f r p L x).trans (Rect.overlay_emb r _ _ x).symm
  · rw [View.read_writes_cons_miss v f ⟨r, p⟩ L y hy, Rect.overlay_of_not_mem _ _ _ hy]

/-- A last store of a whole array reads as what was stored. -/
theorem read_last {sp : Space} {e : EltTy} (v : View sig .tc sp S2048x1024 e) (f : v.ty.Contents (Elt F)) (p : Vec F S2048x1024 e)
    (L : List (View.Piece (Elt F) S2048x1024 e)) :
    v.read (Elt F) (v.writes (Elt F) f (⟨Rect.unit (s := S2048x1024) ![0, 0] S2048x1024.size inb_S2048x1024_S2048x1024_0_0, p⟩ :: L)) = p := by
  rw [View.writes_cons, ← View.writes_singleton]
  exact read_all _ _ _

/-- A load of the whole array after a store of it takes what was stored. -/
theorem read_cov {sp : Space} (v : View sig .tc sp S2048x1024 .f32) (p : Vec F S2048x1024 .f32)
    (L : List (View.Piece (Elt F) S2048x1024 .f32)) :
    v.readCov (⟨Rect.unit (s := S2048x1024) ![0, 0] S2048x1024.size inb_S2048x1024_S2048x1024_0_0, p⟩ :: L)
      (Rect.unit (s := S2048x1024) ![0, 0] S2048x1024.size inb_S2048x1024_S2048x1024_0_0).toLoadRect = wR p :=
  congrArg (fun g : Vec F S2048x1024 .f32 => wR g) (read_last v v.junk p L)

/-- The eight stores of the residual connection read as `fin`. -/
theorem read_fin {κ : Kind} {sp : Space} (v : View sig κ sp S2048x1024 .f32) (g : v.ty.Contents (Elt F)) (H : Vec F S2048x1024 .f32) (M : Vec F S8x8x1024 .f32) :
    v.read (Elt F) (v.writes (Elt F) g [
      ⟨(Rect.unit (s := S2048x1024) ![1792, 0] S256x1024.size inb_S2048x1024_S256x1024_1792_0), k0_pay9 (F := F) (View.ld H (Rect.unit (s := S2048x1024) ![1792, 0] S256x1024.size inb_S2048x1024_S256x1024_1792_0)) (View.ld M (Rect.unit (s := S8x8x1024) ![7, 5, 0] S1x1x1024.size inb_S8x8x1024_S1x1x1024_7_5_0)) (View.ld (v.read (Elt F) g) (Rect.unit (s := S2048x1024) ![1792, 0] S256x1024.size inb_S2048x1024_S256x1024_1792_0))⟩,
      ⟨(Rect.unit (s := S2048x1024) ![1536, 0] S256x1024.size inb_S2048x1024_S256x1024_1536_0), k0_pay8 (F := F) (View.ld H (Rect.unit (s := S2048x1024) ![1536, 0] S256x1024.size inb_S2048x1024_S256x1024_1536_0)) (View.ld M (Rect.unit (s := S8x8x1024) ![6, 5, 0] S1x1x1024.size inb_S8x8x1024_S1x1x1024_6_5_0)) (View.ld (v.read (Elt F) g) (Rect.unit (s := S2048x1024) ![1536, 0] S256x1024.size inb_S2048x1024_S256x1024_1536_0))⟩,
      ⟨(Rect.unit (s := S2048x1024) ![1280, 0] S256x1024.size inb_S2048x1024_S256x1024_1280_0), k0_pay21 (F := F) (View.ld H (Rect.unit (s := S2048x1024) ![1280, 0] S256x1024.size inb_S2048x1024_S256x1024_1280_0)) (View.ld M (Rect.unit (s := S8x8x1024) ![5, 5, 0] S1x1x1024.size inb_S8x8x1024_S1x1x1024_5_5_0)) (View.ld (v.read (Elt F) g) (Rect.unit (s := S2048x1024) ![1280, 0] S256x1024.size inb_S2048x1024_S256x1024_1280_0))⟩,
      ⟨(Rect.unit (s := S2048x1024) ![1024, 0] S256x1024.size inb_S2048x1024_S256x1024_1024_0), k0_pay20 (F := F) (View.ld H (Rect.unit (s := S2048x1024) ![1024, 0] S256x1024.size inb_S2048x1024_S256x1024_1024_0)) (View.ld M (Rect.unit (s := S8x8x1024) ![4, 5, 0] S1x1x1024.size inb_S8x8x1024_S1x1x1024_4_5_0)) (View.ld (v.read (Elt F) g) (Rect.unit (s := S2048x1024) ![1024, 0] S256x1024.size inb_S2048x1024_S256x1024_1024_0))⟩,
      ⟨(Rect.unit (s := S2048x1024) ![768, 0] S256x1024.size inb_S2048x1024_S256x1024_768_0), k0_pay19 (F := F) (View.ld H (Rect.unit (s := S2048x1024) ![768, 0] S256x1024.size inb_S2048x1024_S256x1024_768_0)) (View.ld M (Rect.unit (s := S8x8x1024) ![3, 5, 0] S1x1x1024.size inb_S8x8x1024_S1x1x1024_3_5_0)) (View.ld (v.read (Elt F) g) (Rect.unit (s := S2048x1024) ![768, 0] S256x1024.size inb_S2048x1024_S256x1024_768_0))⟩,
      ⟨(Rect.unit (s := S2048x1024) ![512, 0] S256x1024.size inb_S2048x1024_S256x1024_512_0), k0_pay18 (F := F) (View.ld H (Rect.unit (s := S2048x1024) ![512, 0] S256x1024.size inb_S2048x1024_S256x1024_512_0)) (View.ld M (Rect.unit (s := S8x8x1024) ![2, 5, 0] S1x1x1024.size inb_S8x8x1024_S1x1x1024_2_5_0)) (View.ld (v.read (Elt F) g) (Rect.unit (s := S2048x1024) ![512, 0] S256x1024.size inb_S2048x1024_S256x1024_512_0))⟩,
      ⟨(Rect.unit (s := S2048x1024) ![256, 0] S256x1024.size inb_S2048x1024_S256x1024_256_0), k0_pay17 (F := F) (View.ld H (Rect.unit (s := S2048x1024) ![256, 0] S256x1024.size inb_S2048x1024_S256x1024_256_0)) (View.ld M (Rect.unit (s := S8x8x1024) ![1, 5, 0] S1x1x1024.size inb_S8x8x1024_S1x1x1024_1_5_0)) (View.ld (v.read (Elt F) g) (Rect.unit (s := S2048x1024) ![256, 0] S256x1024.size inb_S2048x1024_S256x1024_256_0))⟩,
      ⟨(Rect.unit (s := S2048x1024) ![0, 0] S256x1024.size inb_S2048x1024_S256x1024_0_0), k0_pay16 (F := F) (View.ld H (Rect.unit (s := S2048x1024) ![0, 0] S256x1024.size inb_S2048x1024_S256x1024_0_0)) (View.ld M (Rect.unit (s := S8x8x1024) ![0, 5, 0] S1x1x1024.size inb_S8x8x1024_S1x1x1024_0_5_0)) (View.ld (v.read (Elt F) g) (Rect.unit (s := S2048x1024) ![0, 0] S256x1024.size inb_S2048x1024_S256x1024_0_0))⟩])
      = fin H M (v.read (Elt F) g) := by
  rw [read_cons, read_cons, read_cons, read_cons, read_cons, read_cons, read_cons, read_cons]
  rfl

set_option maxHeartbeats 20000000 in
/-- The body, run on whole buffers. -/
theorem body (H : Vec F S2048x1024 .f32) (M : Vec F S8x8x1024 .f32) (W S : Vec F S2048x128 .f32)
    (ST : Vec F S8x2048 .f32) (U : Vec F S2048x1024 .bf16) (WG WU : Vec F S1x1x1024x512 .bf16) (WD : Vec F S1x1x512x1024 .bf16)
    (X : Vec F S2048x1024 .bf16) (Y : Vec F S2048x1024 .f32) (O : Vec F S2048x1024 .f32) (q : PosShare TreeShare) (T : arg3.view.ty.Contents (Elt F)) (E : Set ℕ)
    (hv : k0_chk1 i (wd i arg3 T)) :
    iprop(((arg3.view.loc (c : Thread nD τ) ↦{q} T) ∗ owns (c : Thread nD τ) arg13 fullShare O ∗ Held c arg5 arg8 arg10 arg11 arg12 arg14 arg15 ST U WG WU WD X Y)
        ∗ owns (c : Thread nD τ) arg4 fullShare H ∗ owns (c : Thread nD τ) arg9 fullShare M ∗ owns (c : Thread nD τ) arg6 fullShare W ∗ owns (c : Thread nD τ) arg7 fullShare S)
      ⊢ wp frame (wpE (defs₀ (F := F)) Variants.none (c : Thread nD τ) none) E
          (cc0_moe_experts (F := F) i arg3 harg3 arg4 harg4 arg5 harg5 arg6 harg6 arg7 harg7 arg8 harg8 arg9 harg9 arg10 harg10 arg11 harg11 arg12 harg12 arg13 harg13 arg14 harg14 arg15 harg15)
          (fun _ => iprop(((arg3.view.loc (c : Thread nD τ) ↦{q} T)
            ∗ owns (c : Thread nD τ) arg13 fullShare (O3 i (wd i arg3 T) hv H M W S (Y3 i (wd i arg3 T) hv ST U WG WU WD X Y) (O1 i O))
            ∗ Held c arg5 arg8 arg10 arg11 arg12 arg14 arg15 ST U WG WU WD
                (X3 i (wd i arg3 T) hv ST U WG WU WD X Y) (Y3 i (wd i arg3 T) hv ST U WG WU WD X Y))
            ∗ owns (c : Thread nD τ) arg4 fullShare H ∗ owns (c : Thread nD τ) arg9 fullShare M ∗ owns (c : Thread nD τ) arg6 fullShare W ∗ owns (c : Thread nD τ) arg7 fullShare S)) := by
  rw [cc0_moe_experts_eq_skeleton]
  unfold cc0_moe_experts_skel
  show _ ⊢ wp _ _ _ (k0_part5 (F := F) i arg3 harg3 arg4 harg4 arg5 harg5 arg6 harg6 arg7 harg7 arg8 harg8 arg9 harg9 arg10 harg10 arg11 harg11 arg12 harg12 arg13 harg13 arg14 harg14 arg15 harg15 >>= _) _
  rw [wp_bind]
  refine (sep_mono_l (part5 i c arg3 harg3 arg4 harg4 arg5 harg5 arg6 harg6 arg7 harg7 arg8 harg8 arg9 harg9 arg10 harg10 arg11 harg11 arg12 harg12 arg13 harg13 arg14 harg14 arg15 harg15 ST U WG WU WD X Y O q T E hv)).trans ((wp_frame_r _ _ _).trans (wp_mono _ _ _ fun r => ?_))
  generalize X3 i (wd i arg3 T) hv ST U WG WU WD X Y = X'
  generalize Y3 i (wd i arg3 T) hv ST U WG WU WD X Y = Y'
  generalize O1 i O = O'
  generalize wd i arg3 T = v3 at hv ⊢
  unfold Held owns
  iintro ⟨⟨%hr, H3, ⟨%f13, %hf13, H13⟩, ⟨%f8, %hf8, H8⟩, ⟨%f5, %hf5, H5⟩, ⟨%f10, %hf10, H10⟩, ⟨%f11, %hf11, H11⟩, ⟨%f12, %hf12, H12⟩, ⟨%f14, %hf14, H14⟩, ⟨%f15, %hf15, H15⟩⟩, ⟨%f4, %hf4, H4⟩, ⟨%f9, %hf9, H9⟩, ⟨%f6, %hf6, H6⟩, ⟨%f7, %hf7, H7⟩⟩
  subst hf8 hf5 hf10 hf11 hf12 hf14 hf15 hf13 hf4 hf9 hf6 hf7 hr
  by_cases h16 : k0_cond16 i v3 = 1#1
  · sl_exec (disch := first | sl_exact h16)
    sl_for (fun k _ => iprop(owns (c : Thread nD τ) arg13 fullShare (ot i v3 hv h16 (View.read (Elt F) arg6.view f6) (View.read (Elt F) arg7.view f7) (View.read (Elt F) arg15.view f15) (View.read (Elt F) arg13.view f13) k)
        ∗ owns (c : Thread nD τ) arg15 fullShare (View.read (Elt F) arg15.view f15))) $$ [H13 H15]
    · intro k acc
      have e : ot i v3 hv h16 (View.read (Elt F) arg6.view f6) (View.read (Elt F) arg7.view f7) (View.read (Elt F) arg15.view f15) (View.read (Elt F) arg13.view f13) (k.val + 1) = _ := dif_pos k.isLt
      rw [e]
      exact trip3 i v3 hv c arg3 harg3 arg4 harg4 arg5 harg5 arg6 harg6 arg7 harg7 arg8 harg8 arg9 harg9 arg10 harg10 arg11 harg11 arg12 harg12 arg13 harg13 arg14 harg14 arg15 harg15 h16 _ _ _ _ k _ _
    · unfold owns
      isplitl [H13]; · iexists _; isplitr; swap; · iexact H13
                       ipureintro; rfl
      iexists _; isplitr; swap; · iexact H15
      ipureintro; rfl
    unfold owns
    iintro %acc ⟨⟨%g13, %hg13, H13⟩, ⟨%g15, %hg15, H15⟩⟩
    have ht : ot i v3 hv h16 (View.read (Elt F) arg6.view f6) (View.read (Elt F) arg7.view f7) (View.read (Elt F) arg15.view f15) (View.read (Elt F) arg13.view f13) (k0_t3_loop v3).trips = View.read (Elt F) arg13.view g13 := hg13.symm
    by_cases h17 : k0_cond17 v3 = 1#1 <;> by_cases h18 : k0_cond18 v3 = 1#1 <;> by_cases h19 : k0_cond19 i = 1#1
    all_goals
      set_option sl_exec.stopBefore "k0_cond19" in sl_exec (disch := first | sl_exact h17 | sl_exact h18 | sl_exact h19)
      ihave ⟨%g, %hg, H13⟩ : iprop(∃ g : arg13.view.ty.Contents (Elt F), ⌜arg13.view.read (Elt F) g = O2 i v3 hv (View.read (Elt F) arg6.view f6) (View.read (Elt F) arg7.view f7) (View.read (Elt F) arg15.view f15) (View.read (Elt F) arg13.view f13)⌝
        ∗ (arg13.view.loc (c : Thread nD τ) ↦[arg13.view.set]{fullShare} g)) $$ [H13]
      · iexists _; isplitr; swap; · iexact H13
        ipureintro; unfold O2 o17 o18
        rw [dif_pos h16]
        first
          | rw [dif_pos h17, dif_pos h18, ht, ← hg15]; refine (read_last _ _ _ _).trans (congrArg (fun z => k0_pay7 (F := F) _ _ _ _ z _) ?_); exact read_cov _ _ _
          | rw [dif_pos h17, dif_neg h18, ht, ← hg15]; exact read_all _ _ _
          | rw [dif_neg h17, dif_pos h18, ht, ← hg15]; exact read_all _ _ _
          | rw [dif_neg h17, dif_neg h18, ht]
      sl_exec
      sl_step
      isplitl [H3 H13 H8 H5 H10 H11 H12 H14 H15]
      · isplitl [H3]; · iexact H3
        isplitl [H13]
        · iexists _; isplitr; swap; · iexact H13
          ipureintro; unfold O3
          first
            | rw [if_pos h19, ← hg]; exact read_fin _ _ _ _
            | rw [if_neg h19, hg]
        isplitl [H8]; · iexists _; isplitr; swap; · iexact H8
                        ipureintro; rfl
        isplitl [H5]; · iexists _; isplitr; swap; · iexact H5
                        ipureintro; rfl
        isplitl [H10]; · iexists _; isplitr; swap; · iexact H10
                         ipureintro; rfl
        isplitl [H11]; · iexists _; isplitr; swap; · iexact H11
                         ipureintro; rfl
        isplitl [H12]; · iexists _; isplitr; swap; · iexact H12
                         ipureintro; rfl
        isplitl [H14]; · iexists _; isplitr; swap; · iexact H14
                         ipureintro; rfl
        iexists _; isplitr; swap; · iexact H15
        ipureintro; exact hg15
      isplitl [H4]; · iexists _; isplitr; swap; · iexact H4
                      ipureintro; rfl
      isplitl [H9]; · iexists _; isplitr; swap; · iexact H9
                      ipureintro; rfl
      isplitl [H6]; · iexists _; isplitr; swap; · iexact H6
                      ipureintro; rfl
      iexists _; isplitr; swap; · iexact H7
      ipureintro; rfl
  · by_cases h19 : k0_cond19 i = 1#1
    · sl_exec (disch := first | sl_exact h16 | sl_exact h19)
      sl_step
      isplitl [H3 H13 H8 H5 H10 H11 H12 H14 H15]
      · isplitl [H3]; · iexact H3
        isplitl [H13]
        · iexists _; isplitr; swap; · iexact H13
          ipureintro; unfold O3 O2; rw [if_pos h19, dif_neg h16]; exact read_fin _ _ _ _
        isplitl [H8]; · iexists _; isplitr; swap; · iexact H8
                        ipureintro; rfl
        isplitl [H5]; · iexists _; isplitr; swap; · iexact H5
                        ipureintro; rfl
        isplitl [H10]; · iexists _; isplitr; swap; · iexact H10
                         ipureintro; rfl
        isplitl [H11]; · iexists _; isplitr; swap; · iexact H11
                         ipureintro; rfl
        isplitl [H12]; · iexists _; isplitr; swap; · iexact H12
                         ipureintro; rfl
        isplitl [H14]; · iexists _; isplitr; swap; · iexact H14
                         ipureintro; rfl
        iexists _; isplitr; swap; · iexact H15
        ipureintro; rfl
      isplitl [H4]; · iexists _; isplitr; swap; · iexact H4
                      ipureintro; rfl
      isplitl [H9]; · iexists _; isplitr; swap; · iexact H9
                      ipureintro; rfl
      isplitl [H6]; · iexists _; isplitr; swap; · iexact H6
                      ipureintro; rfl
      iexists _; isplitr; swap; · iexact H7
      ipureintro; rfl
    · sl_exec (disch := first | sl_exact h16 | sl_exact h19)
      sl_step
      isplitl [H3 H13 H8 H5 H10 H11 H12 H14 H15]
      · isplitl [H3]; · iexact H3
        isplitl [H13]
        · iexists _; isplitr; swap; · iexact H13
          ipureintro; unfold O3 O2; rw [if_neg h19, dif_neg h16]
        isplitl [H8]; · iexists _; isplitr; swap; · iexact H8
                        ipureintro; rfl
        isplitl [H5]; · iexists _; isplitr; swap; · iexact H5
                        ipureintro; rfl
        isplitl [H10]; · iexists _; isplitr; swap; · iexact H10
                         ipureintro; rfl
        isplitl [H11]; · iexists _; isplitr; swap; · iexact H11
                         ipureintro; rfl
        isplitl [H12]; · iexists _; isplitr; swap; · iexact H12
                         ipureintro; rfl
        isplitl [H14]; · iexists _; isplitr; swap; · iexact H14
                         ipureintro; rfl
        iexists _; isplitr; swap; · iexact H15
        ipureintro; rfl
      isplitl [H4]; · iexists _; isplitr; swap; · iexact H4
                      ipureintro; rfl
      isplitl [H9]; · iexists _; isplitr; swap; · iexact H9
                      ipureintro; rfl
      isplitl [H6]; · iexists _; isplitr; swap; · iexact H6
                      ipureintro; rfl
      iexists _; isplitr; swap; · iexact H7
      ipureintro; rfl

end Root

end Cert.Proof.MoeBody
-- ==== Proof.MoeChk.lean ====
/-
The conditions the routed experts' kernel assumes of the word it reads: they hold of every word up to sixteen.
-/
module

public import proofs.«01_k».proof.KernelIdeal

@[expose] public section

set_option maxRecDepth 16384

noncomputable section

namespace Cert.Proof.MoeChk

open Cert.KernelIdeal Idealize.ShloMosaic

/-- The kernel's conditions hold of every number of row blocks up to sixteen. -/
theorem chk_ofNat (i : grid0.Coords) (n : Fin 17) : k0_chk1 i (BitVec.ofNat 32 n.val) := by
  refine ⟨⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩, ?_, ?_⟩
  all_goals
    first
    | (revert n; decide +kernel)
    | (intro k h; clear h; revert k n; decide +kernel)
    | (intro h; clear h; revert n; decide +kernel)

/-- The same, of a word whose value is at most sixteen. -/
theorem chk_of_le (i : grid0.Coords) (v : BitVec 32) (h : v.toNat ≤ 16) : k0_chk1 i v := by
  have := chk_ofNat i ⟨v.toNat, by omega⟩
  rwa [BitVec.ofNat_toNat, BitVec.setWidth_eq] at this

end Cert.Proof.MoeChk
-- ==== Proof.MoeFrame.lean ====
/-
The routed experts' kernel launched: the body at a grid point on the buffers the pipeline hands it, and the frame
claims, in which nothing is said of what the output holds.
-/
module

public import proofs.«01_k».proof.Proof.MoeSet
public import proofs.«01_k».proof.Proof.MoeRoot
public import proofs.«01_k».proof.Proof.MoeChk
public import Idealize.ShloMosaic.Lib.Pipeline.Frame

@[expose] public section

set_option maxRecDepth 16384

noncomputable section

namespace Cert.Proof.MoeFrame

open Cert.KernelIdeal Cert.KernelIdeal.Gen
open Cert.Proof.MoeSet Cert.Proof.MoeBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The input blocks at a point, typed. -/
abbrev b0 (c : Dev nD) (t : Fin (cfgM m).N) : Vec F S2048x1024 .f32 := iblk m c 0 t
abbrev b1 (c : Dev nD) (t : Fin (cfgM m).N) : Vec F S2048x1024 .bf16 := iblk m c 1 t
abbrev b2 (c : Dev nD) (t : Fin (cfgM m).N) : Vec F S2048x128 .f32 := iblk m c 2 t
abbrev b3 (c : Dev nD) (t : Fin (cfgM m).N) : Vec F S2048x128 .f32 := iblk m c 3 t
abbrev b4 (c : Dev nD) (t : Fin (cfgM m).N) : Vec F S8x2048 .f32 := iblk m c 4 t
abbrev b5 (c : Dev nD) (t : Fin (cfgM m).N) : Vec F S8x8x1024 .f32 := iblk m c 5 t
abbrev b6 (c : Dev nD) (t : Fin (cfgM m).N) : Vec F S1x1x1024x512 .bf16 := iblk m c 6 t
abbrev b7 (c : Dev nD) (t : Fin (cfgM m).N) : Vec F S1x1x1024x512 .bf16 := iblk m c 7 t
abbrev b8 (c : Dev nD) (t : Fin (cfgM m).N) : Vec F S1x1x512x1024 .bf16 := iblk m c 8 t

/-- The count of the point's tile and expert, as the body loads it. -/
abbrev word (t : Fin (cfgM m).N) : BitVec 32 := wd (F := F) (grid0.coords t) tbM (tbl m 0)

/-- The gathered rows after the point. -/
abbrev newX (c : Dev nD) (t : Fin (cfgM m).N) (hv : k0_chk1 (grid0.coords t) (word m t)) (X : Vec F S2048x1024 .bf16) (Y : Vec F S2048x1024 .f32) : Vec F S2048x1024 .bf16 :=
  X3 (grid0.coords t) (word m t) hv (b4 m c t) (b1 m c t) (b6 m c t) (b7 m c t) (b8 m c t) X Y
/-- The running outputs after the point. -/
abbrev newY (c : Dev nD) (t : Fin (cfgM m).N) (hv : k0_chk1 (grid0.coords t) (word m t)) (X : Vec F S2048x1024 .bf16) (Y : Vec F S2048x1024 .f32) : Vec F S2048x1024 .f32 :=
  Y3 (grid0.coords t) (word m t) hv (b4 m c t) (b1 m c t) (b6 m c t) (b7 m c t) (b8 m c t) X Y
/-- The output block after the point. -/
abbrev newO (c : Dev nD) (t : Fin (cfgM m).N) (hv : k0_chk1 (grid0.coords t) (word m t)) (X : Vec F S2048x1024 .bf16) (Y O : Vec F S2048x1024 .f32) : Vec F S2048x1024 .f32 :=
  O3 (grid0.coords t) (word m t) hv (b0 m c t) (b5 m c t) (b2 m c t) (b3 m c t) (newY m c t hv X Y) (O1 (grid0.coords t) O)

set_option maxHeartbeats 2400000 in
/-- The body at a point, on the pipeline's buffers. -/
theorem run (c : Dev nD) (t : Fin (cfgM m).N) (hv : k0_chk1 (grid0.coords t) (word m t)) (X : Vec F S2048x1024 .bf16) (Y O : Vec F S2048x1024 .f32) (R : sProp 𝕄) :
    iprop(tbPt c tbM (tbl m 0) ∗ owns (c : Thread nD τ) scX fullShare X ∗ owns (c : Thread nD τ) scY fullShare Y
        ∗ owns (c : Thread nD τ) (ms0 m t) fullShare (b0 m c t)
        ∗ owns (c : Thread nD τ) (ms1 m t) fullShare (b1 m c t)
        ∗ owns (c : Thread nD τ) (ms2 m t) fullShare (b2 m c t)
        ∗ owns (c : Thread nD τ) (ms3 m t) fullShare (b3 m c t)
        ∗ owns (c : Thread nD τ) (ms4 m t) fullShare (b4 m c t)
        ∗ owns (c : Thread nD τ) (ms5 m t) fullShare (b5 m c t)
        ∗ owns (c : Thread nD τ) (ms6 m t) fullShare (b6 m c t)
        ∗ owns (c : Thread nD τ) (ms7 m t) fullShare (b7 m c t)
        ∗ owns (c : Thread nD τ) (ms8 m t) fullShare (b8 m c t)
        ∗ owns (c : Thread nD τ) (ms9 m t) fullShare O ∗ R)
      ⊢ wp frame (wpE (defs₀ (F := F)) Variants.none (c : Thread nD τ) none) Set.univ (bodyAt m t) (fun _ =>
      iprop(tbPt c tbM (tbl m 0) ∗ owns (c : Thread nD τ) scX fullShare (newX m c t hv X Y) ∗ owns (c : Thread nD τ) scY fullShare (newY m c t hv X Y)
        ∗ owns (c : Thread nD τ) (ms0 m t) fullShare (b0 m c t)
        ∗ owns (c : Thread nD τ) (ms1 m t) fullShare (b1 m c t)
        ∗ owns (c : Thread nD τ) (ms2 m t) fullShare (b2 m c t)
        ∗ owns (c : Thread nD τ) (ms3 m t) fullShare (b3 m c t)
        ∗ owns (c : Thread nD τ) (ms4 m t) fullShare (b4 m c t)
        ∗ owns (c : Thread nD τ) (ms5 m t) fullShare (b5 m c t)
        ∗ owns (c : Thread nD τ) (ms6 m t) fullShare (b6 m c t)
        ∗ owns (c : Thread nD τ) (ms7 m t) fullShare (b7 m c t)
        ∗ owns (c : Thread nD τ) (ms8 m t) fullShare (b8 m c t)
        ∗ owns (c : Thread nD τ) (ms9 m t) fullShare (newO m c t hv X Y O) ∗ R)) := by
  refine Idealize.SL.BI.BIBase.Entails.trans (Q := iprop(((((tbM.view.loc (c : Thread nD τ)) ↦{fullShare.right} (tbl m 0)) ∗ owns (c : Thread nD τ) (ms9 m t) fullShare O ∗ Held c (ms1 m t) (ms4 m t) (ms6 m t) (ms7 m t) (ms8 m t) scX scY (b4 m c t) (b1 m c t) (b6 m c t) (b7 m c t) (b8 m c t) X Y)
      ∗ owns (c : Thread nD τ) (ms0 m t) fullShare (b0 m c t) ∗ owns (c : Thread nD τ) (ms5 m t) fullShare (b5 m c t) ∗ owns (c : Thread nD τ) (ms2 m t) fullShare (b2 m c t) ∗ owns (c : Thread nD τ) (ms3 m t) fullShare (b3 m c t)) ∗ R)) ?_ ((sep_mono_l (Q := R) (body (grid0.coords t) c tbM (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) scX (Memref.isWhole_whole _) scY (Memref.isWhole_whole _)
    (b0 m c t) (b5 m c t) (b2 m c t) (b3 m c t) (b4 m c t) (b1 m c t) (b6 m c t) (b7 m c t) (b8 m c t) X Y O fullShare.right (tbl m 0) Set.univ hv)).trans
    ((wp_frame_r _ _ _).trans (wp_mono _ _ _ fun _ => ?_)))
  · unfold Held
    iintro ⟨HT, HX, HY, H0, H1, H2, H3, H4, H5, H6, H7, H8, H9, HR⟩
    isplitr [HR]; swap; · iexact HR
    isplitl [HT HX HY H1 H4 H6 H7 H8 H9]
    · isplitl [HT]; · iexact HT
      isplitl [H9]; · iexact H9
      isplitl [H4]; · iexact H4
      isplitl [H1]; · iexact H1
      isplitl [H6]; · iexact H6
      isplitl [H7]; · iexact H7
      isplitl [H8]; · iexact H8
      isplitl [HX]; · iexact HX
      iexact HY
    isplitl [H0]; · iexact H0
    isplitl [H5]; · iexact H5
    isplitl [H2]; · iexact H2
    iexact H3
  · unfold Held
    iintro ⟨⟨⟨HT, H9, H4, H1, H6, H7, H8, HX, HY⟩, H0, H5, H2, H3⟩, HR⟩
    isplitl [HT]; · iexact HT
    isplitl [HX]; · iexact HX
    isplitl [HY]; · iexact HY
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HR

/-- The same, for what is to be shown afterwards. -/
theorem runK (c : Dev nD) (t : Fin (cfgM m).N) (hv : k0_chk1 (grid0.coords t) (word m t)) (X : Vec F S2048x1024 .bf16) (Y O : Vec F S2048x1024 .f32) (K : PUnit → sProp 𝕄) :
    iprop(tbPt c tbM (tbl m 0) ∗ owns (c : Thread nD τ) scX fullShare X ∗ owns (c : Thread nD τ) scY fullShare Y
        ∗ owns (c : Thread nD τ) (ms0 m t) fullShare (b0 m c t)
        ∗ owns (c : Thread nD τ) (ms1 m t) fullShare (b1 m c t)
        ∗ owns (c : Thread nD τ) (ms2 m t) fullShare (b2 m c t)
        ∗ owns (c : Thread nD τ) (ms3 m t) fullShare (b3 m c t)
        ∗ owns (c : Thread nD τ) (ms4 m t) fullShare (b4 m c t)
        ∗ owns (c : Thread nD τ) (ms5 m t) fullShare (b5 m c t)
        ∗ owns (c : Thread nD τ) (ms6 m t) fullShare (b6 m c t)
        ∗ owns (c : Thread nD τ) (ms7 m t) fullShare (b7 m c t)
        ∗ owns (c : Thread nD τ) (ms8 m t) fullShare (b8 m c t)
        ∗ owns (c : Thread nD τ) (ms9 m t) fullShare O
        ∗ ((tbPt c tbM (tbl m 0) ∗ owns (c : Thread nD τ) scX fullShare (newX m c t hv X Y) ∗ owns (c : Thread nD τ) scY fullShare (newY m c t hv X Y)
        ∗ owns (c : Thread nD τ) (ms0 m t) fullShare (b0 m c t)
        ∗ owns (c : Thread nD τ) (ms1 m t) fullShare (b1 m c t)
        ∗ owns (c : Thread nD τ) (ms2 m t) fullShare (b2 m c t)
        ∗ owns (c : Thread nD τ) (ms3 m t) fullShare (b3 m c t)
        ∗ owns (c : Thread nD τ) (ms4 m t) fullShare (b4 m c t)
        ∗ owns (c : Thread nD τ) (ms5 m t) fullShare (b5 m c t)
        ∗ owns (c : Thread nD τ) (ms6 m t) fullShare (b6 m c t)
        ∗ owns (c : Thread nD τ) (ms7 m t) fullShare (b7 m c t)
        ∗ owns (c : Thread nD τ) (ms8 m t) fullShare (b8 m c t)
        ∗ owns (c : Thread nD τ) (ms9 m t) fullShare (newO m c t hv X Y O)) -∗ K ⟨⟩))
      ⊢ wp frame (wpE (defs₀ (F := F)) Variants.none (c : Thread nD τ) none) Set.univ (bodyAt m t) K := by
  refine (run m c t hv X Y O _).trans (wp_mono _ _ _ fun _ => ?_)
  iintro ⟨HT, HX, HY, H0, H1, H2, H3, H4, H5, H6, H7, H8, H9, HR⟩
  iapply HR
  isplitl [HT]; · iexact HT
  isplitl [HX]; · iexact HX
  isplitl [HY]; · iexact HY
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The counts, each at most sixteen. -/
def Ok : Prop := ∀ t : Fin (cfgM m).N, k0_chk1 (grid0.coords t) (word m t)

/-- The pipeline's data for the frame: nothing carried, the output unnamed. -/
abbrev fdat (m : (ℓ : Loc nD τ sig) → Buf (Elt F) ℓ) : (p : Fin 1) → (c : Dev nD) → Dat τ (Elt F) Unit ℕ (UR sig nD τ) ℕ (cfgM m) c :=
  dat m (fun c _ => iprop(Pipeline.ΦA spec0 c ∗ Pipeline.ΦT pre0 (tbl m) c)) (fun c t => Dat.unnamed (cfg := cfgM m) 9 t)

/-- The output's window is forgotten. -/
def forgets : Fin 10 → Bool := fun w => w.val == 9

/-- What the body is called with. -/
def bodyPre (c : Dev nD) (t : Fin (cfgM m).N) : sProp 𝕄 :=
  iprop((fdat m 0 c).Φ t.castSucc ∗ (fdat m 0 c).owesAt () t.castSucc
    ∗ (∃ d, owns (c : Thread nD τ) (ms0 m t) fullShare ((fdat m 0 c).before 0 t d))
    ∗ (∃ d, owns (c : Thread nD τ) (ms1 m t) fullShare ((fdat m 0 c).before 1 t d))
    ∗ (∃ d, owns (c : Thread nD τ) (ms2 m t) fullShare ((fdat m 0 c).before 2 t d))
    ∗ (∃ d, owns (c : Thread nD τ) (ms3 m t) fullShare ((fdat m 0 c).before 3 t d))
    ∗ (∃ d, owns (c : Thread nD τ) (ms4 m t) fullShare ((fdat m 0 c).before 4 t d))
    ∗ (∃ d, owns (c : Thread nD τ) (ms5 m t) fullShare ((fdat m 0 c).before 5 t d))
    ∗ (∃ d, owns (c : Thread nD τ) (ms6 m t) fullShare ((fdat m 0 c).before 6 t d))
    ∗ (∃ d, owns (c : Thread nD τ) (ms7 m t) fullShare ((fdat m 0 c).before 7 t d))
    ∗ (∃ d, owns (c : Thread nD τ) (ms8 m t) fullShare ((fdat m 0 c).before 8 t d))
    ∗ (∃ d, owns (c : Thread nD τ) (ms9 m t) fullShare d))

/-- What the body returns. -/
def bodyPost (c : Dev nD) (t : Fin (cfgM m).N) : sProp 𝕄 :=
  iprop((fdat m 0 c).Φ t.succ ∗ (fdat m 0 c).owesAt () t.succ
    ∗ owns (c : Thread nD τ) (ms0 m t) fullShare ((fdat m 0 c).after 0 t)
    ∗ owns (c : Thread nD τ) (ms1 m t) fullShare ((fdat m 0 c).after 1 t)
    ∗ owns (c : Thread nD τ) (ms2 m t) fullShare ((fdat m 0 c).after 2 t)
    ∗ owns (c : Thread nD τ) (ms3 m t) fullShare ((fdat m 0 c).after 3 t)
    ∗ owns (c : Thread nD τ) (ms4 m t) fullShare ((fdat m 0 c).after 4 t)
    ∗ owns (c : Thread nD τ) (ms5 m t) fullShare ((fdat m 0 c).after 5 t)
    ∗ owns (c : Thread nD τ) (ms6 m t) fullShare ((fdat m 0 c).after 6 t)
    ∗ owns (c : Thread nD τ) (ms7 m t) fullShare ((fdat m 0 c).after 7 t)
    ∗ owns (c : Thread nD τ) (ms8 m t) fullShare ((fdat m 0 c).after 8 t)
    ∗ (∃ d, owns (c : Thread nD τ) (ms9 m t) fullShare d))

set_option maxHeartbeats 2400000 in
/-- The body at a point, nothing said of the output. -/
theorem sound_body (hO : Ok m) (c : Dev nD) (t : Fin (cfgM m).N) :
    bodyPre m c t ⊢ wp frame (wpE (defs₀ (F := F)) Variants.none (c : Thread nD τ) none) Set.univ (bodyAt m t) (fun _ => bodyPost m c t) := by
  unfold bodyPre bodyPost
  simp only [before0, before1, before2, before3, before4, before5, before6, before7, before8]
  rw [show (fdat m 0 c).Φ t.succ = (fdat m 0 c).Φ t.castSucc from rfl,
    show (fdat m 0 c).owesAt () t.succ = (fdat m 0 c).owesAt () t.castSucc from rfl,
    after0, after1, after2, after3, after4, after5, after6, after7, after8]
  rw [show (fdat m 0 c).Φ t.castSucc = iprop(Pipeline.ΦA spec0 c ∗ Pipeline.ΦT pre0 (tbl m) c) from rfl, PhiT_eq, PhiA_eq]
  iintro ⟨⟨⟨⟨⟨%X, HX⟩, ⟨%Y, HY⟩⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%O, H9⟩⟩
  iapply (runK m c t (hO t) X Y O _)
  isplitl [HT]; · iexact HT
  isplitl [HX]; · iexact HX
  isplitl [HY]; · iexact HY
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨HT, HX, HY, H0, H1, H2, H3, H4, H5, H6, H7, H8, H9⟩
  isplitl [HX HY Hg HT]
  · isplitl [HX HY Hg]
    · isplitl [HX HY]
      · isplitl [HX]
        · iexists _; iexact HX
        iexists _; iexact HY
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

/-- The same, as the pipeline asks for it. -/
theorem body_obligation (hO : Ok m) (c : Dev nD) : BodyObligation (fdat m 0 c) (defs₀ (F := F)) Variants.none () Set.univ forgets := fun t => by
  rw [bigSep_W0, bigSep_W0, defs₀_row m]
  exact triple_restated (sound_body m hO c t) rfl .rfl fun _ => .rfl

set_option backward.isDefEq.respectTransparency.types false in
/-- The launch ends, the inputs unchanged and the counters at nought. -/
theorem run_main (hO : Ok m) : θ_run defs (onTc (τ := τ) (main (F := F))) (s₀ m ρ) (fun r => (Pipeline.RDat.FramePost ((Pipeline.pin pcfgs fun _ => adm m) 0) (fun c => (fdat m 0 c).toRForget forgets) (V m)) r ∧ r.2.sem = fun _ => 0) :=
  Pipeline.θ_run_frameP_forget (Q' := _) pcfgs (fun _ => adm m) (fdat m) (0 : Fin 1) launch0 defs₀ Variants.none forgets m ρ main
    (hbody := fun c => (body_obligation m hO c).loose) (hshare := fun c => (fdat m 0 c).share_full fun _ => rfl)
    (howed := fun _ _ => rfl) (V := V m) (hmain := hmain m Variants.none) (hA := A_eq m _ _) (hpf := V_pre m) (hΦ := fun _ _ => rfl)

/-- The frame: every argument ends unchanged, and every counter at nought. -/
theorem frame_all (hO : Ok m) : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (fun c => (fdat m 0 c).toRForget forgets) (A_eq m (fun c _ => iprop(Pipeline.ΦA spec0 c ∗ Pipeline.ΦT pre0 (tbl m) c)) (fun c t => Dat.unnamed (cfg := cfgM m) 9 t)) ((θ_run defs _ _).mono (fun _ h => h.1) (run_main m ρ hO)))
    ((θ_run defs _ _).mono (fun _ h => h.2) (run_main m ρ hO))

end Cert.Proof.MoeFrame

end
-- ==== Proof.MoePre.lean ====
/-
What the precondition of the routed experts' kernel says, element by element.
-/
module

public import proofs.«01_k».proof.Pre_moe_pre
public import Idealize.ShloMosaic.Lib.ReduceAll
public import Idealize.ShloMosaic.Lib.WordCmp
public import Idealize.ShloMosaic.Lib.Pointwise
public import Idealize.ShloMosaic.Lib.Affine

@[expose] public section

set_option maxRecDepth 16384

noncomputable section

namespace Cert.Proof.MoePre

open Cert.Pre_moe_pre Cert.Pre_moe_pre.Facts
open Idealize.ShloMosaic

variable [Facts]

section Any

variable {F : FTy → Type} [FloatOps F]
variable {a0 : FVec F S34816x1024 .f32} {a1 : FVec F S34816x1024 .bf16} {a2 a3 : FVec F S34816x128 .f32} {a4 : FVec F S8x34816 .f32} {a5 : FVec F S17x8x128 .f32}
  {a6 : FVec F S136x8x1024 .f32} {a7 a8 : FVec F S2x8x1024x3584 .f32} {a9 : FVec F S2x8x3584x1024 .f32}

/-- How many chunks of rows each tile and expert has, from the counts. -/
def nch (a5 : FVec F S17x8x128 .f32) : IVec S136 32 :=
  shapeCast S136 (fn_floor_divide (F := F) (addi (fptosi 32 (shapeCast S17x8 (extractStridedSlice S17x1x8 ![0, 0, 0] a5 slices_S17x8x128_S17x1x8_0_0_0)
    shapeCasts_S17x1x8_S17x8)) (broadcastInDim S17x8 ![] bcast_S_S17x8 (constantI S_ 32 127#32))) (constantI S_ 32 128#32)) shapeCasts_S17x8_S136

/-- Two bits both set. -/
theorem both {a b : IVec S_ 1} {j : S_.Idx} (h : andi a b j = 1#1) : a j = 1#1 ∧ b j = 1#1 := IntOp.andi_eq_one.1 h

/-- The precondition read element by element: every number of chunks lies from zero to sixteen, the transposed slots are the
    slots, a slot that is used is a whole number in the rows the chunks cover, and no two rows of a tile use one slot. -/
theorem parts (h : fn (F := F) a0 a1 a2 a3 a4 a5 a6 a7 a8 a9 = fun _ => 1#1) :
    (∀ i : Fin 136, IntOp.andi (IntOp.cmpi .sge (nch a5 (ix1 i)) 0#32) (IntOp.cmpi .sle (nch a5 (ix1 i)) 16#32) = 1#1)
    ∧ (∀ (e : Fin 8) (r : Fin 34816), FloatOps.cmpf .oeq (a4 (ix2 e r)) (a3 (ix2 r (⟨e.val, by omega⟩ : Fin 128))) = 1#1)
    ∧ (∀ (t : Fin 17) (j : Fin 2048) (e : Fin 8),
      IntOp.ori (FloatOps.cmpf .oeq (a2 (ix2 (⟨t.val * 2048 + j.val, by omega⟩ : Fin 34816) (⟨e.val, by omega⟩ : Fin 128))) (FloatOps.ofBits .f32 0#32))
        (IntOp.andi (IntOp.andi (FloatOps.cmpf .oeq (FloatOps.hostUnary .floor (a3 (ix2 (⟨t.val * 2048 + j.val, by omega⟩ : Fin 34816) (⟨e.val, by omega⟩ : Fin 128)))) (a3 (ix2 (⟨t.val * 2048 + j.val, by omega⟩ : Fin 34816) (⟨e.val, by omega⟩ : Fin 128))))
            (FloatOps.cmpf .oge (a3 (ix2 (⟨t.val * 2048 + j.val, by omega⟩ : Fin 34816) (⟨e.val, by omega⟩ : Fin 128))) (FloatOps.ofBits .f32 0#32)))
          (FloatOps.cmpf .olt (a3 (ix2 (⟨t.val * 2048 + j.val, by omega⟩ : Fin 34816) (⟨e.val, by omega⟩ : Fin 128))) (FloatOps.sitofp .f32 (IntOp.muli (nch a5 (ix1 (⟨t.val * 8 + e.val, by omega⟩ : Fin 136))) 128#32)))) = 1#1)
    ∧ (∀ (t : Fin 17) (j k : Fin 2048) (e : Fin 8),
      IntOp.ori (IntOp.ori (IntOp.cmpi .eq (BitVec.ofNat 32 j.val) (BitVec.ofNat 32 k.val))
          (FloatOps.cmpf .oeq (a2 (ix2 (⟨t.val * 2048 + j.val, by omega⟩ : Fin 34816) (⟨e.val, by omega⟩ : Fin 128))) (FloatOps.ofBits .f32 0#32)))
        (FloatOps.cmpf .une (a3 (ix2 (⟨t.val * 2048 + j.val, by omega⟩ : Fin 34816) (⟨e.val, by omega⟩ : Fin 128))) (a3 (ix2 (⟨t.val * 2048 + k.val, by omega⟩ : Fin 34816) (⟨e.val, by omega⟩ : Fin 128)))) = 1#1) := by
  have h0 := congrFun h (fun a => a.elim0)
  unfold fn at h0
  dsimp only at h0
  generalize hN : nch a5 = N
  unfold nch at hN
  rw [hN] at h0
  unfold fn_part1 fn_part2 at h0
  have h1 := both h0
  have h3 := both h1.1
  have h5 := both h3.1
  have k5 := fun i : Fin 136 => Host.reduce_andi_all _ _ _ _ _ h5.1 (ix1 i)
  have k6 := fun (e : Fin 8) (r : Fin 34816) => Host.reduce_andi_all _ _ _ _ _ h5.2 (ix2 e r)
  have k4 := fun (t : Fin 17) (j : Fin 2048) (e : Fin 8) => Host.reduce_andi_all _ _ _ _ _ h3.2 (ix3 t j e)
  have k2 := fun (t : Fin 17) (j k : Fin 2048) (e : Fin 8) => Host.reduce_andi_all _ _ _ _ _ h1.2 (ix4 t j k e)
  clear h0 h1 h3 h5
  pointwise at k5 k6 k4 k2
  exact ⟨k5, k6, k4, k2⟩

/-- Every number of chunks is at most sixteen. -/
theorem counted (h : fn (F := F) a0 a1 a2 a3 a4 a5 a6 a7 a8 a9 = fun _ => 1#1) (i : Fin 136) : (nch a5 (ix1 i)).toNat ≤ 16 := by
  have h1 := IntOp.andi_eq_one.1 ((parts h).1 i)
  have h2 : 0 ≤ (nch a5 (ix1 i)).toInt := IntOp.cmpi_sge.1 h1.1
  have h3 : (nch a5 (ix1 i)).toInt ≤ 16 := IntOp.cmpi_sle.1 h1.2
  rw [BitVec.toInt_eq_toNat_cond] at h2 h3
  split_ifs at h2 h3 <;> omega

end Any

section Reals

variable {a0 : FVec Ideal S34816x1024 .f32} {a1 : FVec Ideal S34816x1024 .bf16} {a2 a3 : FVec Ideal S34816x128 .f32} {a4 : FVec Ideal S8x34816 .f32} {a5 : FVec Ideal S17x8x128 .f32}
  {a6 : FVec Ideal S136x8x1024 .f32} {a7 a8 : FVec Ideal S2x8x1024x3584 .f32} {a9 : FVec Ideal S2x8x3584x1024 .f32}

theorem cmp_eq_one {p : CmpFPredicate} {x y : EReal} {q : Prop} [Decidable q] (hq : Ideal.cmp p x y = BitVec.ofBool (decide q)) (h : FloatOps.cmpf (F := Ideal) (φ := .f32) p x y = 1#1) : q := by
  have h' : BitVec.ofBool (decide q) = 1#1 := hq.symm.trans h
  by_contra hn
  rw [decide_eq_false hn] at h'
  exact absurd h' (by decide)

theorem zero_eq : (FloatOps.ofBits (F := Ideal) .f32 0#32 : EReal) = 0 := by simp [Ideal.ofBits, Ideal.ieee]

/-- The transposed slots are the slots. -/
theorem same (h : fn (F := Ideal) a0 a1 a2 a3 a4 a5 a6 a7 a8 a9 = fun _ => 1#1) (e : Fin 8) (r : Fin 34816) :
    a4 (ix2 e r) = a3 (ix2 r (⟨e.val, by omega⟩ : Fin 128)) := cmp_eq_one rfl ((parts h).2.1 e r)

/-- A row with a weight for an expert has for its slot a whole number below the rows its chunks cover. -/
theorem placed (h : fn (F := Ideal) a0 a1 a2 a3 a4 a5 a6 a7 a8 a9 = fun _ => 1#1) (t : Fin 17) (j : Fin 2048) (e : Fin 8) :
    a2 (ix2 (⟨t.val * 2048 + j.val, by omega⟩ : Fin 34816) (⟨e.val, by omega⟩ : Fin 128)) = 0
    ∨ ∃ k : ℕ, a3 (ix2 (⟨t.val * 2048 + j.val, by omega⟩ : Fin 34816) (⟨e.val, by omega⟩ : Fin 128)) = ((k : ℕ) : EReal)
      ∧ k < 128 * (nch a5 (ix1 (⟨t.val * 8 + e.val, by omega⟩ : Fin 136))).toNat := by
  rcases IntOp.ori_eq_one.1 ((parts h).2.2.1 t j e) with hc | hs
  · exact Or.inl ((cmp_eq_one rfl hc).trans zero_eq)
  · right
    obtain ⟨h12, h3⟩ := IntOp.andi_eq_one.1 hs
    obtain ⟨h1, h2⟩ := IntOp.andi_eq_one.1 h12
    have hn := counted h (⟨t.val * 8 + e.val, by omega⟩ : Fin 136)
    have g1 := cmp_eq_one (q := _ = _) rfl h1
    have g2 := cmp_eq_one (q := _ ≤ _) rfl h2
    have g3 := cmp_eq_one (q := _ < _) rfl h3
    rw [zero_eq] at g2
    generalize a3 (ix2 (⟨t.val * 2048 + j.val, by omega⟩ : Fin 34816) (⟨e.val, by omega⟩ : Fin 128)) = s at g1 g2 g3 ⊢
    generalize nch a5 (ix1 (⟨t.val * 8 + e.val, by omega⟩ : Fin 136)) = n at g3 hn ⊢
    have hm : (IntOp.muli n 128#32).toInt = ((128 * n.toNat : ℕ) : ℤ) := by
      show (n * 128#32).toInt = _
      rw [BitVec.toInt_eq_toNat_of_lt (by rw [BitVec.toNat_mul]; simp; omega), BitVec.toNat_mul]
      simp; omega
    have g3' : s < (((IntOp.muli n 128#32).toInt : ℝ) : EReal) := g3
    rw [hm] at g3'
    have g1' : Ideal.liftRound Int.floor s = s := g1
    revert g1' g2 g3'
    clear g1 g3
    induction s using EReal.rec with
    | bot => intro g2; exact absurd g2 (by simp)
    | top => intro _ g3; exact absurd g3 (by simp)
    | coe x =>
      intro g2 g3 g1
      have g2' : (0 : ℝ) ≤ x := by exact_mod_cast g2
      have g1' : ((⌊x⌋ : ℝ)) = x := by
        have : (((⌊x⌋ : ℝ)) : EReal) = (x : EReal) := g1
        exact_mod_cast this
      have g3'' : x < ((128 * n.toNat : ℕ) : ℝ) := by
        have : (x : EReal) < ((((128 * n.toNat : ℕ) : ℤ) : ℝ) : EReal) := g3
        have := EReal.coe_lt_coe_iff.1 this
        exact_mod_cast this
      obtain ⟨k, hk⟩ := Int.eq_ofNat_of_zero_le (Int.floor_nonneg.2 g2')
      have hx : x = (k : ℝ) := by rw [← g1', hk]; simp
      subst hx
      exact ⟨k, by simp, by exact_mod_cast g3''⟩

/-- Two rows of a tile, the first with a weight for an expert, have different slots there. -/
theorem apart (h : fn (F := Ideal) a0 a1 a2 a3 a4 a5 a6 a7 a8 a9 = fun _ => 1#1) (t : Fin 17) (j k : Fin 2048) (e : Fin 8) (hjk : j ≠ k)
    (hw : a2 (ix2 (⟨t.val * 2048 + j.val, by omega⟩ : Fin 34816) (⟨e.val, by omega⟩ : Fin 128)) ≠ 0) :
    a3 (ix2 (⟨t.val * 2048 + j.val, by omega⟩ : Fin 34816) (⟨e.val, by omega⟩ : Fin 128)) ≠ a3 (ix2 (⟨t.val * 2048 + k.val, by omega⟩ : Fin 34816) (⟨e.val, by omega⟩ : Fin 128)) := by
  rcases IntOp.ori_eq_one.1 ((parts h).2.2.2 t j k e) with hc | hs
  · rcases IntOp.ori_eq_one.1 hc with h1 | h2
    · exfalso
      have := congrArg BitVec.toNat (IntOp.cmpi_eq.1 h1)
      rw [BitVec.toNat_ofNat, BitVec.toNat_ofNat, Nat.mod_eq_of_lt (by omega), Nat.mod_eq_of_lt (by omega)] at this
      exact hjk (Fin.ext this)
    · exact absurd ((cmp_eq_one rfl h2).trans zero_eq) hw
  · exact cmp_eq_one (q := _ ≠ _) rfl hs

end Reals

end Cert.Proof.MoePre

end
-- ==== Proof.MoePay.lean ====
/-
What the routed experts' kernel computes between its loads and its stores, entry by entry, over the extended reals.
-/
module

public import proofs.«01_k».proof.Proof.Gen.KernelIdeal.Skeleton
public import Idealize.ShloMosaic.Lib.Pointwise
public import Idealize.ShloMosaic.Lib.IdealHost
public import Idealize.ShloMosaic.Lib.Tactic

@[expose] public section

set_option maxRecDepth 16384

noncomputable section

namespace Cert.Proof.MoePay

open Cert.KernelIdeal Cert.KernelIdeal.Gen
open Idealize.ShloMosaic Idealize.ShloMosaic.TcCoe Idealize.ShloMosaic.Tactic

/-- One where the two are equal, nought elsewhere. -/
def oh (a b : EReal) : EReal := if a = b then 1 else 0

/-- The gated hidden unit: the gate product times its logistic, times the up product. -/
def sw (g u : EReal) : EReal := g * Ideal.div 1 (1 + Ideal.exp (-g)) * u

/-- A small counter, read as a float, is the number it counts. -/
theorem word_val (n : ℕ) (h : n < 2 ^ 31) : FloatOps.sitofp (F := Ideal) .f32 (BitVec.ofNat 32 n) = ((n : ℕ) : EReal) := by
  show (((BitVec.ofNat 32 n).toInt : ℝ) : EReal) = _
  have h1 : (BitVec.ofNat 32 n).toNat = n := by rw [BitVec.toNat_ofNat]; exact Nat.mod_eq_of_lt (by omega)
  rw [BitVec.toInt_eq_toNat_of_lt (by rw [h1]; omega), h1]
  norm_cast

/-- A row's number inside a block plus the block's first row. -/
theorem row_val (x b : ℕ) (w : BitVec 32) (hw : w = BitVec.ofNat 32 b) (h : b + x < 2 ^ 31) :
    FloatOps.sitofp (F := Ideal) .f32 (IntOp.addi (BitVec.ofNat 32 x) w) = ((b + x : ℕ) : EReal) := by
  rw [← word_val _ h, hw]
  refine congrArg _ ?_
  show BitVec.ofNat 32 x + BitVec.ofNat 32 b = _
  rw [← BitVec.ofNat_add, Nat.add_comm]

/-- The first row of a block of 512. -/
theorem iv_val (k : ℕ) : Scalar.muli (Scf.iv 0#32 1#32 k) 512#32 = BitVec.ofNat 32 (512 * k) := by
  unfold Scf.iv
  show (0#32 + BitVec.ofNat 32 k * 1#32) * 512#32 = _
  rw [BitVec.mul_one, BitVec.zero_add, Nat.mul_comm, BitVec.ofNat_mul]

theorem trips1 (n : Fin 17) : (k0_t1_loop (BitVec.ofNat 32 n.val)).trips = n.val / 4 := by revert n; decide +kernel
theorem trips3 (n : Fin 17) : (k0_t3_loop (BitVec.ofNat 32 n.val)).trips = n.val / 4 := by revert n; decide +kernel
/-- The first row of the block of 256, and of the block of 128. -/
theorem w256 (n : Fin 17) : Scalar.muli (Scalar.shrui (BitVec.ofNat 32 n.val) 2#32) 512#32 = BitVec.ofNat 32 (512 * (n.val / 4)) := by revert n; decide +kernel
theorem w128 (n : Fin 17) : Scalar.addi (Scalar.muli (Scalar.shrui (BitVec.ofNat 32 n.val) 2#32) 512#32) (Scalar.muli (Scalar.andi (BitVec.ofNat 32 n.val) 2#32) 128#32)
    = BitVec.ofNat 32 (512 * (n.val / 4) + 256 * (n.val / 2 % 2)) := by revert n; decide +kernel

/-- Row `p` of the gathered rows: the sum of the rows whose slot is `p`. -/
def gat (S : FVec Ideal S1x2048 .f32) (U : FVec Ideal S2048x1024 .bf16) (p : ℕ) (d : Fin 1024) : EReal :=
  ∑ j : Fin 2048, oh (S (ix2 0 j)) ((p : ℕ) : EReal) * U (ix2 j d)

/-- One block of hidden columns' share of the expert's output for a row `x`. -/
def shr (x : Fin 1024 → EReal) (G U : FVec Ideal S1x1x1024x512 .bf16) (D : FVec Ideal S1x1x512x1024 .bf16) (d : Fin 1024) : EReal :=
  ∑ q : Fin 512, sw (∑ k : Fin 1024, x k * G (ix4 0 0 k q)) (∑ k : Fin 1024, x k * U (ix4 0 0 k q)) * D (ix4 0 0 q d)

/-! The gathers. -/

theorem gath512 (n : Fin 17) (k : Fin (k0_t1_loop (BitVec.ofNat 32 n.val)).trips) (S : FVec Ideal S1x2048 .f32) (U : FVec Ideal S2048x1024 .bf16) (x : Fin 512) (d : Fin 1024) :
    k0_pay10 (F := Ideal) (BitVec.ofNat 32 n.val) 0#32 1#32 k S U (ix2 x d) = gat S U (512 * k.val + x.val) d := by
  have hk := k.isLt.trans_eq (trips1 n)
  unfold k0_pay10
  pointwise [oh, gat]
  rw [row_val _ _ _ (iv_val k.val) (by omega)]

theorem gath256 (n : Fin 17) (S : FVec Ideal S1x2048 .f32) (U : FVec Ideal S2048x1024 .bf16) (x : Fin 256) (d : Fin 1024) :
    k0_pay25 (F := Ideal) (BitVec.ofNat 32 n.val) S U (ix2 x d) = gat S U (512 * (n.val / 4) + x.val) d := by
  unfold k0_pay25
  pointwise [oh, gat]
  rw [row_val _ _ _ (w256 n) (by omega)]

theorem gath128 (n : Fin 17) (S : FVec Ideal S1x2048 .f32) (U : FVec Ideal S2048x1024 .bf16) (x : Fin 128) (d : Fin 1024) :
    k0_pay29 (F := Ideal) (BitVec.ofNat 32 n.val) S U (ix2 x d) = gat S U (512 * (n.val / 4) + 256 * (n.val / 2 % 2) + x.val) d := by
  unfold k0_pay29
  pointwise [oh, gat]
  rw [row_val _ _ _ (w128 n) (by omega)]

/-! An expert's share, and its sum with what was there. -/

theorem part512 (X : FVec Ideal S512x1024 .bf16) (G U : FVec Ideal S1x1x1024x512 .bf16) (D : FVec Ideal S1x1x512x1024 .bf16) (x : Fin 512) (d : Fin 1024) :
    k0_pay11 (F := Ideal) X G U D (ix2 x d) = shr (fun k => X (ix2 x k)) G U D d := by
  unfold k0_pay11
  pointwise [sw, shr]
  simp only [zero_sub]

theorem first512 (X : FVec Ideal S512x1024 .bf16) (G U : FVec Ideal S1x1x1024x512 .bf16) (D : FVec Ideal S1x1x512x1024 .bf16) (x : Fin 512) (d : Fin 1024) :
    k0_pay12 (F := Ideal) X G U D (ix2 x d) = shr (fun k => X (ix2 x k)) G U D d := by
  unfold k0_pay12
  pointwise
  exact part512 X G U D x d

theorem later512 (P : FVec Ideal S512x1024 .f32) (Y : FVec Ideal S512x1024 .f32) (x : Fin 512) (d : Fin 1024) :
    k0_pay23 (F := Ideal) P Y (ix2 x d) = Y (ix2 x d) + P (ix2 x d) := by
  unfold k0_pay23
  pointwise

theorem part256 (X : FVec Ideal S256x1024 .bf16) (G U : FVec Ideal S1x1x1024x512 .bf16) (D : FVec Ideal S1x1x512x1024 .bf16) (x : Fin 256) (d : Fin 1024) :
    k0_pay26 (F := Ideal) X G U D (ix2 x d) = shr (fun k => X (ix2 x k)) G U D d := by
  unfold k0_pay26
  pointwise [sw, shr]
  simp only [zero_sub]

theorem first256 (X : FVec Ideal S256x1024 .bf16) (G U : FVec Ideal S1x1x1024x512 .bf16) (D : FVec Ideal S1x1x512x1024 .bf16) (x : Fin 256) (d : Fin 1024) :
    k0_pay27 (F := Ideal) X G U D (ix2 x d) = shr (fun k => X (ix2 x k)) G U D d := by
  unfold k0_pay27
  pointwise
  exact part256 X G U D x d

theorem later256 (X : FVec Ideal S256x1024 .bf16) (G U : FVec Ideal S1x1x1024x512 .bf16) (D : FVec Ideal S1x1x512x1024 .bf16) (Y : FVec Ideal S256x1024 .f32) (x : Fin 256) (d : Fin 1024) :
    k0_pay28 (F := Ideal) X G U D Y (ix2 x d) = Y (ix2 x d) + shr (fun k => X (ix2 x k)) G U D d := by
  unfold k0_pay28
  pointwise
  exact congrArg _ (part256 X G U D x d)

theorem part128 (X : FVec Ideal S128x1024 .bf16) (G U : FVec Ideal S1x1x1024x512 .bf16) (D : FVec Ideal S1x1x512x1024 .bf16) (x : Fin 128) (d : Fin 1024) :
    k0_pay30 (F := Ideal) X G U D (ix2 x d) = shr (fun k => X (ix2 x k)) G U D d := by
  unfold k0_pay30
  pointwise [sw, shr]
  simp only [zero_sub]

theorem first128 (X : FVec Ideal S128x1024 .bf16) (G U : FVec Ideal S1x1x1024x512 .bf16) (D : FVec Ideal S1x1x512x1024 .bf16) (x : Fin 128) (d : Fin 1024) :
    k0_pay31 (F := Ideal) X G U D (ix2 x d) = shr (fun k => X (ix2 x k)) G U D d := by
  unfold k0_pay31
  pointwise
  exact part128 X G U D x d

theorem later128 (X : FVec Ideal S128x1024 .bf16) (G U : FVec Ideal S1x1x1024x512 .bf16) (D : FVec Ideal S1x1x512x1024 .bf16) (Y : FVec Ideal S128x1024 .f32) (x : Fin 128) (d : Fin 1024) :
    k0_pay32 (F := Ideal) X G U D Y (ix2 x d) = Y (ix2 x d) + shr (fun k => X (ix2 x k)) G U D d := by
  unfold k0_pay32
  pointwise
  exact congrArg _ (part128 X G U D x d)

/-! The weighted sums back over the rows. -/

/-- The lane of expert `i`. -/
abbrev ln (i : Fin 8) : Fin 128 := ⟨i.val, by omega⟩

theorem lane (i : Fin 8) (r : Fin 2048) (x : Fin 128) (a : EReal) :
    Scalar.select (k0_pay1 (BitVec.ofNat 32 i.val) (ix2 r x)) a 0 = if x = ln i then a else 0 := by
  have h : k0_pay1 (BitVec.ofNat 32 i.val) (ix2 r x) = if x = ln i then 1#1 else 0#1 := by
    unfold k0_pay1
    pointwise
    revert i x; decide +kernel
  rw [h]
  split_ifs
  · rfl
  · rfl

theorem col (i : Fin 8) (S : FVec Ideal S2048x128 .f32) (r : Fin 2048) :
    ∑ x : Fin 128, Scalar.select (k0_pay1 (BitVec.ofNat 32 i.val) (ix2 r x)) (S (ix2 r x)) (0 : EReal) = S (ix2 r (ln i)) := by
  simp only [lane]
  rw [Finset.sum_ite_eq' Finset.univ (ln i) (fun x => S (ix2 r x)), if_pos (Finset.mem_univ _)]

/-- What a block of `B` rows from row `p` on puts back to a row: its weight times the row its slot names, if it is in the block. -/
def putB {B : ℕ} (w s : EReal) (p : ℕ) (Y : Fin B → EReal) : EReal := w * ∑ j : Fin B, oh s ((p + j.val : ℕ) : EReal) * Y j

theorem put512 (i : Fin 8) (n : Fin 17) (S W : FVec Ideal S2048x128 .f32) (k : Fin (k0_t3_loop (BitVec.ofNat 32 n.val)).trips) (O : FVec Ideal S2048x1024 .f32) (Y : FVec Ideal S512x1024 .f32)
    (r : Fin 2048) (d : Fin 1024) :
    k0_pay4 (F := Ideal) (BitVec.ofNat 32 i.val) (BitVec.ofNat 32 n.val) S W k O Y (ix2 r d) = O (ix2 r d)
      + putB (W (ix2 r (ln i))) (S (ix2 r (ln i))) (512 * k.val) fun j => Y (ix2 j d) := by
  have hk := k.isLt.trans_eq (trips3 n)
  unfold k0_pay4 k0_pay2 k0_pay3
  pointwise [oh, putB]
  simp only [col]
  refine congrArg _ (congrArg _ (Finset.sum_congr rfl fun x _ => ?_))
  rw [row_val _ _ _ (iv_val k.val) (by omega)]

theorem put256 (i : Fin 8) (v : BitVec 32) (b : ℕ) (hv : v = BitVec.ofNat 32 b) (hb : b < 4096) (S W : FVec Ideal S2048x128 .f32) (O : FVec Ideal S2048x1024 .f32) (Y : FVec Ideal S256x1024 .f32)
    (r : Fin 2048) (d : Fin 1024) :
    k0_pay6 (F := Ideal) (BitVec.ofNat 32 i.val) v S W O Y (ix2 r d) = O (ix2 r d)
      + putB (W (ix2 r (ln i))) (S (ix2 r (ln i))) b fun j => Y (ix2 j d) := by
  unfold k0_pay6 k0_pay2 k0_pay3
  pointwise [oh, putB]
  simp only [col]
  refine congrArg _ (congrArg _ (Finset.sum_congr rfl fun x _ => ?_))
  rw [row_val _ _ _ hv (by omega)]

theorem put128 (i : Fin 8) (v : BitVec 32) (b : ℕ) (hv : v = BitVec.ofNat 32 b) (hb : b < 4096) (S W : FVec Ideal S2048x128 .f32) (O : FVec Ideal S2048x1024 .f32) (Y : FVec Ideal S128x1024 .f32)
    (r : Fin 2048) (d : Fin 1024) :
    k0_pay7 (F := Ideal) (BitVec.ofNat 32 i.val) v S W O Y (ix2 r d) = O (ix2 r d)
      + putB (W (ix2 r (ln i))) (S (ix2 r (ln i))) b fun j => Y (ix2 j d) := by
  unfold k0_pay7 k0_pay2 k0_pay3
  pointwise [oh, putB]
  simp only [col]
  refine congrArg _ (congrArg _ (Finset.sum_congr rfl fun x _ => ?_))
  rw [row_val _ _ _ hv (by omega)]

end Cert.Proof.MoePay
-- ==== Proof.MoeRow.lean ====
/-
The routed experts' kernel body, row by row, over the extended reals: which rows of the two scratch arrays one run
makes anew and what it puts there, what it adds to the rows of the output block, and the residual connection at the end.
-/
module

public import proofs.«01_k».proof.Proof.MoeFun
public import proofs.«01_k».proof.Proof.MoePay

@[expose] public section

set_option maxRecDepth 16384

noncomputable section

namespace Cert.Proof.MoeRow

open Cert.KernelIdeal Cert.KernelIdeal.Gen
open Idealize.ShloMosaic Idealize.ShloMosaic.TcCoe Idealize.ShloMosaic.Tactic
open Cert.Proof.MoeBody Cert.Proof.MoePay

/-! Blocks of whole rows of an array. -/

section Rows
variable {α : Type} (e : EltTy) {off sz : Fin 2 → ℕ} {inb : ∀ a : Fin 2, off a + sz a ≤ S2048x1024.size a}

theorem emb_eq (x : (Rect.unit (s := S2048x1024) off sz inb).shape.Idx) (y : S2048x1024.Idx)
    (h0 : (y 0).val = off 0 + (x 0).val) (h1 : (y 1).val = off 1 + (x 1).val) : (Rect.unit (s := S2048x1024) off sz inb).emb x = y := by
  funext a; refine Fin.ext ?_
  show off a + 1 * (x a : ℕ) = (y a : ℕ)
  match a with
  | ⟨0, _⟩ => rw [Nat.one_mul]; exact h0.symm
  | ⟨1, _⟩ => rw [Nat.one_mul]; exact h1.symm

/-- A row outside the block stays. -/
theorem ov_out {m : ℕ} (ho : off = ![m, 0]) (X : S2048x1024.Idx → α) (P : (Rect.unit (s := S2048x1024) off sz inb).shape.Idx → α)
    (p : Fin 2048) (d : Fin 1024) (h : ¬(m ≤ p.val ∧ p.val < m + sz 0)) :
    (Rect.unit (s := S2048x1024) off sz inb).overlay X P (ix2 p d) = X (ix2 p d) := by
  subst ho
  exact Rect.overlay_of_not_mem _ _ _ fun hm => h (Rect.mem_set_unit.mp hm 0)

/-- A row inside a block of 512 rows is the block's; loaded with the block, it is the array's. -/
theorem ov_in512 {m : ℕ} {inb : ∀ a : Fin 2, off a + S512x1024.size a ≤ S2048x1024.size a} (ho : off = ![m, 0]) (X : S2048x1024.Idx → α)
    (P : S512x1024.Idx → α) (p : Fin 2048) (d : Fin 1024) (h : m ≤ p.val ∧ p.val < m + 512) :
    (Rect.unit (s := S2048x1024) off S512x1024.size inb).overlay X P (ix2 p d) = P (ix2 ⟨p.val - m, by omega⟩ d) := by
  subst ho
  have he := emb_eq (off := ![m, 0]) (sz := S512x1024.size) (inb := inb) (ix2 (⟨p.val - m, by omega⟩ : Fin 512) d) (ix2 p d)
    (by show p.val = m + (p.val - m); omega) (by show d.val = 0 + d.val; omega)
  rw [← he]; exact Rect.overlay_emb _ _ _ _
theorem ld_512 {m : ℕ} {inb : ∀ a : Fin 2, off a + S512x1024.size a ≤ S2048x1024.size a} (ho : off = ![m, 0]) (X : Vec Ideal S2048x1024 e)
    (p : Fin 2048) (d : Fin 1024) (h : m ≤ p.val ∧ p.val < m + 512) :
    View.ld (Val := Elt Ideal) (e' := e) X (Rect.unit (s := S2048x1024) off S512x1024.size inb) (ix2 (⟨p.val - m, by omega⟩ : Fin 512) d) = X (ix2 p d) := by
  subst ho
  exact congrArg X (emb_eq (off := ![m, 0]) (sz := S512x1024.size) (inb := inb) (ix2 (⟨p.val - m, by omega⟩ : Fin 512) d) (ix2 p d)
    (by show p.val = m + (p.val - m); omega) (by show d.val = 0 + d.val; omega))

/-- A row inside a block of 256 rows is the block's; loaded with the block, it is the array's. -/
theorem ov_in256 {m : ℕ} {inb : ∀ a : Fin 2, off a + S256x1024.size a ≤ S2048x1024.size a} (ho : off = ![m, 0]) (X : S2048x1024.Idx → α)
    (P : S256x1024.Idx → α) (p : Fin 2048) (d : Fin 1024) (h : m ≤ p.val ∧ p.val < m + 256) :
    (Rect.unit (s := S2048x1024) off S256x1024.size inb).overlay X P (ix2 p d) = P (ix2 ⟨p.val - m, by omega⟩ d) := by
  subst ho
  have he := emb_eq (off := ![m, 0]) (sz := S256x1024.size) (inb := inb) (ix2 (⟨p.val - m, by omega⟩ : Fin 256) d) (ix2 p d)
    (by show p.val = m + (p.val - m); omega) (by show d.val = 0 + d.val; omega)
  rw [← he]; exact Rect.overlay_emb _ _ _ _
theorem ld_256 {m : ℕ} {inb : ∀ a : Fin 2, off a + S256x1024.size a ≤ S2048x1024.size a} (ho : off = ![m, 0]) (X : Vec Ideal S2048x1024 e)
    (p : Fin 2048) (d : Fin 1024) (h : m ≤ p.val ∧ p.val < m + 256) :
    View.ld (Val := Elt Ideal) (e' := e) X (Rect.unit (s := S2048x1024) off S256x1024.size inb) (ix2 (⟨p.val - m, by omega⟩ : Fin 256) d) = X (ix2 p d) := by
  subst ho
  exact congrArg X (emb_eq (off := ![m, 0]) (sz := S256x1024.size) (inb := inb) (ix2 (⟨p.val - m, by omega⟩ : Fin 256) d) (ix2 p d)
    (by show p.val = m + (p.val - m); omega) (by show d.val = 0 + d.val; omega))

/-- A row inside a block of 128 rows is the block's; loaded with the block, it is the array's. -/
theorem ov_in128 {m : ℕ} {inb : ∀ a : Fin 2, off a + S128x1024.size a ≤ S2048x1024.size a} (ho : off = ![m, 0]) (X : S2048x1024.Idx → α)
    (P : S128x1024.Idx → α) (p : Fin 2048) (d : Fin 1024) (h : m ≤ p.val ∧ p.val < m + 128) :
    (Rect.unit (s := S2048x1024) off S128x1024.size inb).overlay X P (ix2 p d) = P (ix2 ⟨p.val - m, by omega⟩ d) := by
  subst ho
  have he := emb_eq (off := ![m, 0]) (sz := S128x1024.size) (inb := inb) (ix2 (⟨p.val - m, by omega⟩ : Fin 128) d) (ix2 p d)
    (by show p.val = m + (p.val - m); omega) (by show d.val = 0 + d.val; omega)
  rw [← he]; exact Rect.overlay_emb _ _ _ _
theorem ld_128 {m : ℕ} {inb : ∀ a : Fin 2, off a + S128x1024.size a ≤ S2048x1024.size a} (ho : off = ![m, 0]) (X : Vec Ideal S2048x1024 e)
    (p : Fin 2048) (d : Fin 1024) (h : m ≤ p.val ∧ p.val < m + 128) :
    View.ld (Val := Elt Ideal) (e' := e) X (Rect.unit (s := S2048x1024) off S128x1024.size inb) (ix2 (⟨p.val - m, by omega⟩ : Fin 128) d) = X (ix2 p d) := by
  subst ho
  exact congrArg X (emb_eq (off := ![m, 0]) (sz := S128x1024.size) (inb := inb) (ix2 (⟨p.val - m, by omega⟩ : Fin 128) d) (ix2 p d)
    (by show p.val = m + (p.val - m); omega) (by show d.val = 0 + d.val; omega))

end Rows

theorem wR_eq {e : EltTy} (X : Vec Ideal S2048x1024 e) : wR X = X := View.ld_unit_zero (by funext a; fin_cases a <;> rfl) _ _
theorem wC_eq {e : EltTy} (X : Vec Ideal S2048x128 e) : wC X = X := View.ld_unit_zero (by funext a; fin_cases a <;> rfl) _ _
theorem wG_eq {e : EltTy} (X : Vec Ideal S1x1x1024x512 e) : wG X = X := View.ld_unit_zero (by funext a; fin_cases a <;> rfl) _ _
theorem wD_eq {e : EltTy} (X : Vec Ideal S1x1x512x1024 e) : wD X = X := View.ld_unit_zero (by funext a; fin_cases a <;> rfl) _ _

/-! Where the blocks lie and when they are run, for a count `n` of blocks of 128 rows. -/

abbrev wn (n : Fin 17) : BitVec 32 := BitVec.ofNat 32 n.val

theorem off3 (n : Fin 17) (k : Fin (k0_t1_loop (wn n)).trips) : k0_off3 (wn n) k = ![512 * k.val, 0] := by revert k; revert n; decide +kernel
theorem off4 (n : Fin 17) (k : Fin (k0_t1_loop (wn n)).trips) : k0_off4 (wn n) k = ![512 * k.val, 0] := by revert k; revert n; decide +kernel
theorem off22 (n : Fin 17) (k : Fin (k0_t3_loop (wn n)).trips) : k0_off22 (wn n) k = ![512 * k.val, 0] := by revert k; revert n; decide +kernel
theorem off13 (n : Fin 17) : k0_off13 (wn n) = ![512 * (n.val / 4), 0] := by revert n; decide +kernel
theorem off14 (n : Fin 17) : k0_off14 (wn n) = ![512 * (n.val / 4), 0] := by revert n; decide +kernel
theorem off24 (n : Fin 17) : k0_off24 (wn n) = ![512 * (n.val / 4), 0] := by revert n; decide +kernel
theorem off18 (n : Fin 17) : k0_off18 (wn n) = ![512 * (n.val / 4) + 256 * (n.val / 2 % 2), 0] := by revert n; decide +kernel
theorem off19 (n : Fin 17) : k0_off19 (wn n) = ![512 * (n.val / 4) + 256 * (n.val / 2 % 2), 0] := by revert n; decide +kernel
theorem off25 (n : Fin 17) : k0_off25 (wn n) = ![512 * (n.val / 4) + 256 * (n.val / 2 % 2), 0] := by revert n; decide +kernel
theorem cond8 (n : Fin 17) : k0_cond8 (wn n) = 1#1 ↔ n.val / 2 % 2 = 1 := by revert n; decide +kernel
theorem cond17 (n : Fin 17) : k0_cond17 (wn n) = 1#1 ↔ n.val / 2 % 2 = 1 := by revert n; decide +kernel
theorem cond12 (n : Fin 17) : k0_cond12 (wn n) = 1#1 ↔ n.val % 2 = 1 := by revert n; decide +kernel
theorem cond18 (n : Fin 17) : k0_cond18 (wn n) = 1#1 ↔ n.val % 2 = 1 := by revert n; decide +kernel
theorem off2 (i : grid0.Coords) : k0_off2 i = ![(i 1).val, 0] := by unfold k0_off2; generalize i 1 = q; revert q; show ∀ q : Fin 8, _; decide +kernel
theorem off12 (i : grid0.Coords) : k0_off12 i = ![(i 1).val, 0] := by unfold k0_off12; generalize i 1 = q; revert q; show ∀ q : Fin 8, _; decide +kernel
theorem off17 (i : grid0.Coords) : k0_off17 i = ![(i 1).val, 0] := by unfold k0_off17; generalize i 1 = q; revert q; show ∀ q : Fin 8, _; decide +kernel
theorem cond2 (i : grid0.Coords) : k0_cond2 i = 1#1 ↔ (i 2).val = 0 := by unfold k0_cond2; generalize i 2 = q; revert q; show ∀ q : Fin 7, _; decide +kernel
theorem cond16 (i : grid0.Coords) (n : Fin 17) : k0_cond16 i (wn n) = 1#1 ↔ (i 2).val = 6 ∧ 0 < n.val := by
  unfold k0_cond16; generalize i 2 = q; revert n; revert q; show ∀ q : Fin 7, _; decide +kernel
theorem cond1 (i : grid0.Coords) : k0_cond1 i = 1#1 ↔ (i 1).val = 0 ∧ (i 2).val = 0 := by
  unfold k0_cond1; generalize i 2 = q; generalize i 1 = p; revert p q; show ∀ q : Fin 7, ∀ p : Fin 8, _; decide +kernel
theorem cond19 (i : grid0.Coords) : k0_cond19 i = 1#1 ↔ (i 1).val = 7 ∧ (i 2).val = 6 := by
  unfold k0_cond19; generalize i 2 = q; generalize i 1 = p; revert p q; show ∀ q : Fin 7, ∀ p : Fin 8, _; decide +kernel

/-- The expert's row of the slot table. -/
def row (i : grid0.Coords) (ST : FVec Ideal S8x2048 .f32) : FVec Ideal S1x2048 .f32 := fun j => ST (ix2 (i 1) (j 1))

theorem ld_row (i : grid0.Coords) (ST : FVec Ideal S8x2048 .f32) (off : Fin 2 → ℕ) (h : off = ![(i 1).val, 0]) (inb) :
    View.ld (Val := Elt Ideal) (e' := .f32) ST (Rect.unit (s := S8x2048) off S1x2048.size inb) = row i ST := by
  subst h
  funext j
  refine congrArg ST ?_
  funext a; refine Fin.ext ?_
  show (![(i 1).val, 0] a : ℕ) + 1 * (j a : ℕ) = _
  have h0 : (j 0).val < 1 := (j 0).isLt
  match a with
  | ⟨0, _⟩ => show (i 1).val + 1 * (j 0).val = (i 1).val; omega
  | ⟨1, _⟩ => show 0 + 1 * (j 1).val = (j 1).val; omega

section Up

variable (i : grid0.Coords) (n : Fin 17) (hw : k0_chk1 i (wn n))
  (ST : FVec Ideal S8x2048 .f32) (U : FVec Ideal S2048x1024 .bf16) (G V : FVec Ideal S1x1x1024x512 .bf16) (D : FVec Ideal S1x1x512x1024 .bf16)

/-- The gathered rows with the rows from `a` up to `b` made anew. -/
def upX (a b : ℕ) (X : FVec Ideal S2048x1024 .bf16) (p : Fin 2048) (d : Fin 1024) : EReal :=
  if a ≤ p.val ∧ p.val < b then (if (i 2).val = 0 then gat (row i ST) U p.val d else X (ix2 p d)) else X (ix2 p d)

/-- The running outputs with the rows from `a` up to `b` made anew. -/
def upY (a b : ℕ) (X : FVec Ideal S2048x1024 .bf16) (Y : FVec Ideal S2048x1024 .f32) (p : Fin 2048) (d : Fin 1024) : EReal :=
  if a ≤ p.val ∧ p.val < b then (if (i 2).val = 0 then 0 else Y (ix2 p d)) + shr (fun k => X (ix2 p k)) G V D d else Y (ix2 p d)

theorem gX_row (k : Fin (k0_t1_loop (wn n)).trips) (X : FVec Ideal S2048x1024 .bf16) (p : Fin 2048) (d : Fin 1024) :
    gX (F := Ideal) i (wn n) hw ST U k X (ix2 p d) = upX i ST U (512 * k.val) (512 * (k.val + 1)) X p d := by
  unfold gX upX
  have ho := off3 n k
  by_cases h : (i 2).val = 0
  · rw [dif_pos ((cond2 i).mpr h), if_pos h, ld_row i ST _ (off2 i), wR_eq]
    by_cases hp : 512 * k.val ≤ p.val ∧ p.val < 512 * (k.val + 1)
    · rw [if_pos hp]
      have hp' : 512 * k.val ≤ p.val ∧ p.val < 512 * k.val + 512 := ⟨hp.1, by omega⟩
      have e1 := ov_in512 (inb := k0_off3_inb i (wn n) hw k ((cond2 i).mpr h)) ho X (k0_pay10 (F := Ideal) (wn n) 0#32 1#32 k (row i ST) U) p d hp'
      have e2 := gath512 n k (row i ST) U ⟨p.val - 512 * k.val, by omega⟩ d
      have e3 : 512 * k.val + (p.val - 512 * k.val) = p.val := by omega
      rw [e3] at e2
      exact e1.trans e2
    · rw [if_neg hp]
      exact ov_out ho X _ p d (by rintro ⟨h1, h2⟩; exact hp ⟨h1, by have : p.val < 512 * k.val + 512 := h2; omega⟩)
  · rw [dif_neg (mt (cond2 i).mp h), if_neg h, ite_self]

theorem gY_row (k : Fin (k0_t1_loop (wn n)).trips) (X : FVec Ideal S2048x1024 .bf16) (Y : FVec Ideal S2048x1024 .f32) (p : Fin 2048) (d : Fin 1024) :
    gY (F := Ideal) i (wn n) hw G V D k X Y (ix2 p d) = upY i G V D (512 * k.val) (512 * (k.val + 1)) X Y p d := by
  unfold gY upY
  have ho := off4 n k
  rw [wG_eq, wG_eq, wD_eq]
  by_cases hp : 512 * k.val ≤ p.val ∧ p.val < 512 * (k.val + 1)
  · have hp' : 512 * k.val ≤ p.val ∧ p.val < 512 * k.val + 512 := ⟨hp.1, by omega⟩
    rw [if_pos hp]
    by_cases h : (i 2).val = 0
    · rw [dif_pos ((cond2 i).mpr h), if_pos h, zero_add]
      refine (ov_in512 ho Y _ p d hp').trans ((first512 _ _ _ _ _ _).trans ?_)
      exact congrArg (fun z => shr z G V D d) (funext fun q => ld_512 .bf16 ho X p q hp')
    · rw [dif_neg (mt (cond2 i).mp h), if_neg h]
      refine (ov_in512 ho Y _ p d hp').trans ((later512 _ _ _ _).trans (congrArg₂ (· + ·) (ld_512 .f32 ho Y p d hp') ((part512 _ _ _ _ _ _).trans ?_)))
      exact congrArg (fun z => shr z G V D d) (funext fun q => ld_512 .bf16 ho X p q hp')
  · rw [if_neg hp]
    have hq : ¬(512 * k.val ≤ p.val ∧ p.val < 512 * k.val + 512) := fun q => hp ⟨q.1, by omega⟩
    split_ifs
    · exact ov_out ho Y _ p d hq
    · exact ov_out ho Y _ p d hq

theorem bX_row (X : FVec Ideal S2048x1024 .bf16) (p : Fin 2048) (d : Fin 1024) :
    bX (F := Ideal) i (wn n) hw ST U X (ix2 p d) = upX i ST U (512 * (n.val / 4)) (512 * (n.val / 4) + 256 * (n.val / 2 % 2)) X p d := by
  unfold bX upX
  have ho := off13 n
  by_cases hb : n.val / 2 % 2 = 1
  · rw [show 512 * (n.val / 4) + 256 * (n.val / 2 % 2) = 512 * (n.val / 4) + 256 from by omega, dif_pos ((cond8 n).mpr hb)]
    by_cases h : (i 2).val = 0
    · rw [dif_pos ((cond2 i).mpr h), if_pos h, ld_row i ST _ (off12 i), wR_eq]
      by_cases hp : 512 * (n.val / 4) ≤ p.val ∧ p.val < 512 * (n.val / 4) + 256
      · rw [if_pos hp]
        have hp' : 512 * (n.val / 4) ≤ p.val ∧ p.val < 512 * (n.val / 4) + 256 := hp
        have e2 := gath256 n (row i ST) U ⟨p.val - (512 * (n.val / 4)), by omega⟩ d
        have e3 : 512 * (n.val / 4) + (p.val - (512 * (n.val / 4))) = p.val := by omega
        rw [e3] at e2
        exact (ov_in256 ho X _ p d hp').trans e2
      · rw [if_neg hp]
        exact ov_out ho X _ p d hp
    · rw [dif_neg (mt (cond2 i).mp h), if_neg h, ite_self]
  · rw [dif_neg (mt (cond8 n).mp hb), if_neg (by omega)]

theorem bY_row (X : FVec Ideal S2048x1024 .bf16) (Y : FVec Ideal S2048x1024 .f32) (p : Fin 2048) (d : Fin 1024) :
    bY (F := Ideal) i (wn n) hw G V D X Y (ix2 p d) = upY i G V D (512 * (n.val / 4)) (512 * (n.val / 4) + 256 * (n.val / 2 % 2)) X Y p d := by
  unfold bY upY
  have ho := off14 n
  rw [wG_eq, wG_eq, wD_eq]
  by_cases hb : n.val / 2 % 2 = 1
  · rw [show 512 * (n.val / 4) + 256 * (n.val / 2 % 2) = 512 * (n.val / 4) + 256 from by omega, dif_pos ((cond8 n).mpr hb)]
    by_cases hp : 512 * (n.val / 4) ≤ p.val ∧ p.val < 512 * (n.val / 4) + 256
    · have hp' : 512 * (n.val / 4) ≤ p.val ∧ p.val < 512 * (n.val / 4) + 256 := hp
      rw [if_pos hp]
      by_cases h : (i 2).val = 0
      · rw [dif_pos ((cond2 i).mpr h), if_pos h, zero_add]
        refine (ov_in256 ho Y _ p d hp').trans ((first256 _ _ _ _ _ _).trans ?_)
        exact congrArg (fun z => shr z G V D d) (funext fun q => ld_256 .bf16 ho X p q hp')
      · rw [dif_neg (mt (cond2 i).mp h), if_neg h]
        refine (ov_in256 ho Y _ p d hp').trans ((later256 _ _ _ _ _ _ _).trans (congrArg₂ (· + ·) (ld_256 .f32 ho Y p d hp') ?_))
        exact congrArg (fun z => shr z G V D d) (funext fun q => ld_256 .bf16 ho X p q hp')
    · rw [if_neg hp]
      split_ifs
      · exact ov_out ho Y _ p d hp
      · exact ov_out ho Y _ p d hp
  · rw [dif_neg (mt (cond8 n).mp hb), if_neg (by omega)]

theorem eX_row (X : FVec Ideal S2048x1024 .bf16) (p : Fin 2048) (d : Fin 1024) :
    eX (F := Ideal) i (wn n) hw ST U X (ix2 p d) = upX i ST U (512 * (n.val / 4) + 256 * (n.val / 2 % 2)) (512 * (n.val / 4) + 256 * (n.val / 2 % 2) + 128 * (n.val % 2)) X p d := by
  unfold eX upX
  have ho := off18 n
  by_cases hb : n.val % 2 = 1
  · rw [show 512 * (n.val / 4) + 256 * (n.val / 2 % 2) + 128 * (n.val % 2) = 512 * (n.val / 4) + 256 * (n.val / 2 % 2) + 128 from by omega, dif_pos ((cond12 n).mpr hb)]
    by_cases h : (i 2).val = 0
    · rw [dif_pos ((cond2 i).mpr h), if_pos h, ld_row i ST _ (off17 i), wR_eq]
      by_cases hp : 512 * (n.val / 4) + 256 * (n.val / 2 % 2) ≤ p.val ∧ p.val < 512 * (n.val / 4) + 256 * (n.val / 2 % 2) + 128
      · rw [if_pos hp]
        have hp' : 512 * (n.val / 4) + 256 * (n.val / 2 % 2) ≤ p.val ∧ p.val < 512 * (n.val / 4) + 256 * (n.val / 2 % 2) + 128 := hp
        have e2 := gath128 n (row i ST) U ⟨p.val - (512 * (n.val / 4) + 256 * (n.val / 2 % 2)), by omega⟩ d
        have e3 : 512 * (n.val / 4) + 256 * (n.val / 2 % 2) + (p.val - (512 * (n.val / 4) + 256 * (n.val / 2 % 2))) = p.val := by omega
        rw [e3] at e2
        exact (ov_in128 ho X _ p d hp').trans e2
      · rw [if_neg hp]
        exact ov_out ho X _ p d hp
    · rw [dif_neg (mt (cond2 i).mp h), if_neg h, ite_self]
  · rw [dif_neg (mt (cond12 n).mp hb), if_neg (by omega)]

theorem eY_row (X : FVec Ideal S2048x1024 .bf16) (Y : FVec Ideal S2048x1024 .f32) (p : Fin 2048) (d : Fin 1024) :
    eY (F := Ideal) i (wn n) hw G V D X Y (ix2 p d) = upY i G V D (512 * (n.val / 4) + 256 * (n.val / 2 % 2)) (512 * (n.val / 4) + 256 * (n.val / 2 % 2) + 128 * (n.val % 2)) X Y p d := by
  unfold eY upY
  have ho := off19 n
  rw [wG_eq, wG_eq, wD_eq]
  by_cases hb : n.val % 2 = 1
  · rw [show 512 * (n.val / 4) + 256 * (n.val / 2 % 2) + 128 * (n.val % 2) = 512 * (n.val / 4) + 256 * (n.val / 2 % 2) + 128 from by omega, dif_pos ((cond12 n).mpr hb)]
    by_cases hp : 512 * (n.val / 4) + 256 * (n.val / 2 % 2) ≤ p.val ∧ p.val < 512 * (n.val / 4) + 256 * (n.val / 2 % 2) + 128
    · have hp' : 512 * (n.val / 4) + 256 * (n.val / 2 % 2) ≤ p.val ∧ p.val < 512 * (n.val / 4) + 256 * (n.val / 2 % 2) + 128 := hp
      rw [if_pos hp]
      by_cases h : (i 2).val = 0
      · rw [dif_pos ((cond2 i).mpr h), if_pos h, zero_add]
        refine (ov_in128 ho Y _ p d hp').trans ((first128 _ _ _ _ _ _).trans ?_)
        exact congrArg (fun z => shr z G V D d) (funext fun q => ld_128 .bf16 ho X p q hp')
      · rw [dif_neg (mt (cond2 i).mp h), if_neg h]
        refine (ov_in128 ho Y _ p d hp').trans ((later128 _ _ _ _ _ _ _).trans (congrArg₂ (· + ·) (ld_128 .f32 ho Y p d hp') ?_))
        exact congrArg (fun z => shr z G V D d) (funext fun q => ld_128 .bf16 ho X p q hp')
    · rw [if_neg hp]
      split_ifs
      · exact ov_out ho Y _ p d hp
      · exact ov_out ho Y _ p d hp
  · rw [dif_neg (mt (cond12 n).mp hb), if_neg (by omega)]

/-- A gathered row at the end of the run: made anew at the first block of hidden columns, and else as it was. -/
def nX (X : FVec Ideal S2048x1024 .bf16) (p : Fin 2048) (d : Fin 1024) : EReal :=
  if (i 2).val = 0 then gat (row i ST) U p.val d else X (ix2 p d)

/-- A running output at the end of the run. -/
def nY (X : FVec Ideal S2048x1024 .bf16) (Y : FVec Ideal S2048x1024 .f32) (p : Fin 2048) (d : Fin 1024) : EReal :=
  (if (i 2).val = 0 then 0 else Y (ix2 p d)) + shr (fun k => nX i ST U X p k) G V D d

/-- The rows below `m` are done, the others as they were. -/
def Done (m : ℕ) (X : FVec Ideal S2048x1024 .bf16) (Y : FVec Ideal S2048x1024 .f32) (X' : FVec Ideal S2048x1024 .bf16) (Y' : FVec Ideal S2048x1024 .f32) : Prop :=
  ∀ p : Fin 2048, ∀ d : Fin 1024, (p.val < m → X' (ix2 p d) = nX i ST U X p d ∧ Y' (ix2 p d) = nY i ST U G V D X Y p d)
    ∧ (m ≤ p.val → X' (ix2 p d) = X (ix2 p d) ∧ Y' (ix2 p d) = Y (ix2 p d))

theorem Done.step {X X' X'' : FVec Ideal S2048x1024 .bf16} {Y Y' Y'' : FVec Ideal S2048x1024 .f32} {a b : ℕ} (hab : a ≤ b)
    (h : Done i ST U G V D a X Y X' Y') (hX : ∀ p d, X'' (ix2 p d) = upX i ST U a b X' p d) (hY : ∀ p d, Y'' (ix2 p d) = upY i G V D a b X'' Y' p d) :
    Done i ST U G V D b X Y X'' Y'' := by
  have hx : ∀ p : Fin 2048, ∀ d : Fin 1024, p.val < b → X'' (ix2 p d) = nX i ST U X p d := fun p d hp => by
    rw [hX]; unfold upX
    split_ifs with h1 h2
    · unfold nX; rw [if_pos h2]
    · rw [((h p d).2 h1.1).1]; unfold nX; rw [if_neg h2]
    · exact ((h p d).1 (by omega)).1
  intro p d
  refine ⟨fun hp => ⟨hx p d hp, ?_⟩, fun hp => ⟨?_, ?_⟩⟩
  · rw [hY]; unfold upY
    split_ifs with h1 h2
    · unfold nY; rw [if_pos h2]; exact congrArg (fun z => 0 + shr z G V D d) (funext fun q => hx p q hp)
    · unfold nY; rw [if_neg h2, ((h p d).2 h1.1).2]; exact congrArg (fun z => Y (ix2 p d) + shr z G V D d) (funext fun q => hx p q hp)
    · exact ((h p d).1 (by omega)).2
  · rw [hX]; unfold upX; rw [if_neg (by omega)]; exact ((h p d).2 (by omega)).1
  · rw [hY]; unfold upY; rw [if_neg (by omega)]; exact ((h p d).2 (by omega)).2

theorem done_it (X : FVec Ideal S2048x1024 .bf16) (Y : FVec Ideal S2048x1024 .f32) (k : ℕ) (hk : k ≤ (k0_t1_loop (wn n)).trips) :
    Done i ST U G V D (512 * k) X Y (it (F := Ideal) i (wn n) hw ST U G V D X Y k).1 (it (F := Ideal) i (wn n) hw ST U G V D X Y k).2 := by
  induction k with
  | zero => exact fun p d => ⟨fun h => absurd h (by omega), fun _ => ⟨rfl, rfl⟩⟩
  | succ k ih =>
    rw [it_succ (F := Ideal) i (wn n) hw ST U G V D X Y ⟨k, hk⟩]
    exact (ih (by omega)).step i ST U G V D (by omega) (fun p d => gX_row i n hw ST U ⟨k, hk⟩ _ p d) (fun p d => gY_row i n hw G V D ⟨k, hk⟩ _ _ p d)

/-- After the run, the first `128 n` rows are done and the others as they were. -/
theorem done (X : FVec Ideal S2048x1024 .bf16) (Y : FVec Ideal S2048x1024 .f32) :
    Done i ST U G V D (128 * n.val) X Y (X3 (F := Ideal) i (wn n) hw ST U G V D X Y) (Y3 (F := Ideal) i (wn n) hw ST U G V D X Y) := by
  have h1 := done_it i n hw ST U G V D X Y _ le_rfl
  rw [show 512 * (k0_t1_loop (wn n)).trips = 512 * (n.val / 4) from congrArg _ (trips1 n)] at h1
  have h2 := h1.step i ST U G V D (b := 512 * (n.val / 4) + 256 * (n.val / 2 % 2)) (by omega) (fun p d => bX_row i n hw ST U _ p d) (fun p d => bY_row i n hw G V D _ _ p d)
  have h3 := h2.step i ST U G V D (b := 512 * (n.val / 4) + 256 * (n.val / 2 % 2) + 128 * (n.val % 2)) (by omega) (fun p d => eX_row i n hw ST U _ p d) (fun p d => eY_row i n hw G V D _ _ p d)
  rw [show 128 * n.val = 512 * (n.val / 4) + 256 * (n.val / 2 % 2) + 128 * (n.val % 2) from by omega]
  exact h3
end Up

/-! What the run adds to the rows of the output block. -/

theorem oh_nat (a b : ℕ) : oh ((a : ℕ) : EReal) ((b : ℕ) : EReal) = if a = b then 1 else 0 := by
  unfold oh
  have : (((a : ℕ) : EReal) = ((b : ℕ) : EReal)) ↔ a = b := by
    constructor
    · intro h; exact_mod_cast h
    · rintro rfl; rfl
  simp only [this]

/-- A block puts back to a row its weight times the row its slot names, if the slot is in the block. -/
theorem putB_eq {B : ℕ} (w s : EReal) (a q : ℕ) (hws : w = 0 ∨ s = ((q : ℕ) : EReal)) (Y : Fin B → EReal) (z : EReal) (hz : ∀ h : a ≤ q ∧ q < a + B, Y ⟨q - a, by omega⟩ = z) :
    putB w s a Y = if a ≤ q ∧ q < a + B then w * z else 0 := by
  unfold putB
  rcases hws with rfl | rfl
  · simp only [zero_mul, ite_self]
  · split_ifs with h
    · rw [Finset.sum_eq_single ⟨q - a, by omega⟩, hz h, oh_nat, if_pos (by show q = a + (q - a); omega), one_mul]
      · intro j _ hj
        rw [oh_nat, if_neg (fun e => hj (Fin.ext (by show j.val = q - a; omega))), zero_mul]
      · exact fun h => absurd (Finset.mem_univ _) h
    · rw [Finset.sum_eq_zero, mul_zero]
      intro j _
      rw [oh_nat, if_neg (by have := j.isLt; omega), zero_mul]

section Put
variable (i : grid0.Coords) (n : Fin 17) (hw : k0_chk1 i (wn n)) (h : k0_cond16 i (wn n) = 1#1) (W S : FVec Ideal S2048x128 .f32) (Y : FVec Ideal S2048x1024 .f32)
  (r : Fin 2048) (q : Fin 2048) (hws : W (ix2 r (ln (i 1))) = 0 ∨ S (ix2 r (ln (i 1))) = ((q.val : ℕ) : EReal))

/-- The row's share of the outputs, once the blocks below row `m` are put back. -/
def share (m : ℕ) (d : Fin 1024) : EReal := if q.val < m then W (ix2 r (ln (i 1))) * Y (ix2 q d) else 0

theorem share_step (a b : ℕ) (hab : a ≤ b) (d : Fin 1024) (o z : EReal) (h : z = o + share i W Y r q a d) :
    z + (if a ≤ q.val ∧ q.val < b then W (ix2 r (ln (i 1))) * Y (ix2 q d) else 0) = o + share i W Y r q b d := by
  subst h
  unfold share
  split_ifs <;> first | omega | rw [add_zero] | rw [add_zero, add_zero]

include hws in
theorem ot_row (O : FVec Ideal S2048x1024 .f32) (d : Fin 1024) (k : ℕ) (hk : k ≤ (k0_t3_loop (wn n)).trips) :
    ot (F := Ideal) i (wn n) hw h W S Y O k (ix2 r d) = O (ix2 r d) + share i W Y r q (512 * k) d := by
  induction k with
  | zero => unfold ot share; rw [if_neg (by omega), add_zero]
  | succ k ih =>
    have hk' : k < (k0_t3_loop (wn n)).trips := hk
    rw [ot, dif_pos hk', wC_eq, wC_eq, wR_eq]
    refine (put512 (i 1) n S W ⟨k, hk'⟩ _ _ r d).trans ?_
    rw [putB_eq _ _ _ q.val hws _ (Y (ix2 q d)) (fun hq => ld_512 .f32 (off22 n ⟨k, hk'⟩) Y q d hq)]
    exact share_step i W Y r q (512 * k) (512 * k + 512) (by omega) d _ _ (ih (by omega))

include hws in
theorem o17_row (O O' : FVec Ideal S2048x1024 .f32) (d : Fin 1024) (e : O' (ix2 r d) = O (ix2 r d) + share i W Y r q (512 * (n.val / 4)) d) :
    o17 (F := Ideal) i (wn n) hw h W S Y O' (ix2 r d) = O (ix2 r d) + share i W Y r q (512 * (n.val / 4) + 256 * (n.val / 2 % 2)) d := by
  unfold o17
  by_cases hb : n.val / 2 % 2 = 1
  · rw [show 512 * (n.val / 4) + 256 * (n.val / 2 % 2) = 512 * (n.val / 4) + 256 from by omega, dif_pos ((cond17 n).mpr hb), wC_eq, wC_eq, wR_eq]
    refine (put256 (i 1) _ (512 * (n.val / 4)) (w256 n) (by omega) S W _ _ r d).trans ?_
    rw [putB_eq _ _ _ q.val hws _ (Y (ix2 q d)) (fun hq => ld_256 .f32 (off24 n) Y q d hq)]
    exact share_step i W Y r q _ _ (by omega) d _ _ e
  · rw [dif_neg (mt (cond17 n).mp hb), show n.val / 2 % 2 = 0 from by omega]; exact e

include hws in
theorem o18_row (O O' : FVec Ideal S2048x1024 .f32) (d : Fin 1024) (e : O' (ix2 r d) = O (ix2 r d) + share i W Y r q (512 * (n.val / 4) + 256 * (n.val / 2 % 2)) d) :
    o18 (F := Ideal) i (wn n) hw h W S Y O' (ix2 r d) = O (ix2 r d) + share i W Y r q (512 * (n.val / 4) + 256 * (n.val / 2 % 2) + 128 * (n.val % 2)) d := by
  unfold o18
  by_cases hb : n.val % 2 = 1
  · rw [show 512 * (n.val / 4) + 256 * (n.val / 2 % 2) + 128 * (n.val % 2) = 512 * (n.val / 4) + 256 * (n.val / 2 % 2) + 128 from by omega, dif_pos ((cond18 n).mpr hb), wC_eq, wC_eq, wR_eq]
    refine (put128 (i 1) _ (512 * (n.val / 4) + 256 * (n.val / 2 % 2)) (w128 n) (by omega) S W _ _ r d).trans ?_
    rw [putB_eq _ _ _ q.val hws _ (Y (ix2 q d)) (fun hq => ld_128 .f32 (off25 n) Y q d hq)]
    exact share_step i W Y r q _ _ (by omega) d _ _ e
  · rw [dif_neg (mt (cond18 n).mp hb), show n.val % 2 = 0 from by omega]; exact e

include hws in
/-- At the last block of hidden columns a row gets its weight times the output of the row its slot names; before, nothing. -/
theorem O2_row (O : FVec Ideal S2048x1024 .f32) (d : Fin 1024) :
    O2 (F := Ideal) i (wn n) hw W S Y O (ix2 r d)
      = O (ix2 r d) + (if (i 2).val = 6 then share i W Y r q (128 * n.val) d else 0) := by
  unfold O2
  by_cases h : (i 2).val = 6 ∧ 0 < n.val
  · rw [dif_pos ((cond16 i n).mpr h), if_pos h.1]
    have e1 := ot_row i n hw ((cond16 i n).mpr h) W S Y r q hws O d _ le_rfl
    rw [show 512 * (k0_t3_loop (wn n)).trips = 512 * (n.val / 4) from congrArg _ (trips3 n)] at e1
    rw [show 128 * n.val = 512 * (n.val / 4) + 256 * (n.val / 2 % 2) + 128 * (n.val % 2) from by omega]
    exact o18_row i n hw _ W S Y r q hws O _ d (o17_row i n hw _ W S Y r q hws O _ d e1)
  · rw [dif_neg (mt (cond16 i n).mp h)]
    split_ifs with h6
    · unfold share; rw [if_neg (by omega), add_zero]
    · rw [add_zero]
end Put

/-! The residual connection. -/

/-- The residual connection at an entry: the input plus the gate of its block of 256 rows times the output. -/
def res (H : FVec Ideal S2048x1024 .f32) (M : FVec Ideal S8x8x1024 .f32) (O : FVec Ideal S2048x1024 .f32) (r : Fin 2048) (d : Fin 1024) : EReal :=
  H (ix2 r d) + M (ix3 (⟨r.val / 256, by omega⟩ : Fin 8) 5 d) * O (ix2 r d)

/-- One of its eight blocks of rows overlaid. -/
theorem res_piece (H : FVec Ideal S2048x1024 .f32) (M : FVec Ideal S8x8x1024 .f32) (O O' : FVec Ideal S2048x1024 .f32) (b : ℕ) (m : ℕ) (hm : m = 256 * b) {inb inb' inb'' inbM}
    (pay : FVec Ideal S256x1024 .f32 → FVec Ideal S1x1x1024 .f32 → FVec Ideal S256x1024 .f32 → FVec Ideal S256x1024 .f32)
    (hpay : ∀ h g o x d, pay h g o (ix2 x d) = h (ix2 x d) + g (ix3 0 0 d) * o (ix2 x d)) (r : Fin 2048) (d : Fin 1024) :
    (Rect.unit (s := S2048x1024) ![m, 0] S256x1024.size inb).overlay O'
        (pay (View.ld (Val := Elt Ideal) (e' := .f32) H (Rect.unit (s := S2048x1024) ![m, 0] S256x1024.size inb'))
          (View.ld (Val := Elt Ideal) (e' := .f32) M (Rect.unit (s := S8x8x1024) ![b, 5, 0] S1x1x1024.size inbM))
          (View.ld (Val := Elt Ideal) (e' := .f32) O (Rect.unit (s := S2048x1024) ![m, 0] S256x1024.size inb''))) (ix2 r d)
      = if r.val / 256 = b then res H M O r d else O' (ix2 r d) := by
  subst hm
  by_cases hr : r.val / 256 = b
  · have hp : 256 * b ≤ r.val ∧ r.val < 256 * b + 256 := by omega
    rw [if_pos hr]
    refine (ov_in256 rfl O' _ r d hp).trans ((hpay _ _ _ _ _).trans ?_)
    unfold res
    refine congrArg₂ (· + ·) (ld_256 .f32 rfl H r d hp) (congrArg₂ (· * ·) (congrArg M ?_) (ld_256 .f32 rfl O r d hp))
    funext a; refine Fin.ext ?_
    match a with
    | ⟨0, _⟩ => show b + 1 * 0 = r.val / 256; omega
    | ⟨1, _⟩ => rfl
    | ⟨2, _⟩ => show 0 + 1 * d.val = d.val; omega
  · rw [if_neg hr]
    exact ov_out rfl O' _ r d (by rintro ⟨h1, h2⟩; have h3 : r.val < 256 * b + 256 := h2; omega)

theorem fin_row (H : FVec Ideal S2048x1024 .f32) (M : FVec Ideal S8x8x1024 .f32) (O : FVec Ideal S2048x1024 .f32) (r : Fin 2048) (d : Fin 1024) :
    fin (F := Ideal) H M O (ix2 r d) = res H M O r d := by
  unfold fin
  rw [res_piece H M O _ 7 1792 rfl (k0_pay9 (F := Ideal)) (fun h g o x d => by unfold k0_pay9; pointwise)]
  rw [res_piece H M O _ 6 1536 rfl (k0_pay8 (F := Ideal)) (fun h g o x d => by unfold k0_pay8; pointwise)]
  rw [res_piece H M O _ 5 1280 rfl (k0_pay21 (F := Ideal)) (fun h g o x d => by unfold k0_pay21; pointwise)]
  rw [res_piece H M O _ 4 1024 rfl (k0_pay20 (F := Ideal)) (fun h g o x d => by unfold k0_pay20; pointwise)]
  rw [res_piece H M O _ 3 768 rfl (k0_pay19 (F := Ideal)) (fun h g o x d => by unfold k0_pay19; pointwise)]
  rw [res_piece H M O _ 2 512 rfl (k0_pay18 (F := Ideal)) (fun h g o x d => by unfold k0_pay18; pointwise)]
  rw [res_piece H M O _ 1 256 rfl (k0_pay17 (F := Ideal)) (fun h g o x d => by unfold k0_pay17; pointwise)]
  rw [res_piece H M O _ 0 0 rfl (k0_pay16 (F := Ideal)) (fun h g o x d => by unfold k0_pay16; pointwise)]
  have := r.isLt
  split_ifs with h7 h6 h5 h4 h3 h2 h1 h0
  all_goals first | rfl | (exfalso; omega)

/-- The cleared output block. -/
theorem clear_row (r : Fin 2048) (d : Fin 1024) : k0_pay22 (F := Ideal) (ix2 r d) = 0 := by
  unfold k0_pay22; pointwise

end Cert.Proof.MoeRow
-- ==== Proof.MoeStep.lean ====
/-
One point of the routed experts' kernel over the extended reals, on the blocks of a tile: a row with a weight for the
expert has, at its slot, its own entry of the gathered rows and the sum of the hidden blocks so far.
-/
module

public import proofs.«01_k».proof.Proof.MoeRow

@[expose] public section

set_option maxRecDepth 16384

noncomputable section

namespace Cert.Proof.MoeStep

open Cert.KernelIdeal Cert.KernelIdeal.Gen
open Idealize.ShloMosaic Idealize.ShloMosaic.TcCoe Idealize.ShloMosaic.Tactic
open Cert.Proof.MoeBody Cert.Proof.MoePay Cert.Proof.MoeRow

/-- After `f` hidden blocks of expert `e`: each row with a weight has a slot below `m`, where the gathered array holds
    the row and the running array the sum of its shares. -/
def Kept (w s : Fin 2048 → EReal) (m f : ℕ) (u : Fin 2048 → Fin 1024 → EReal) (B : ℕ → Fin 2048 → Fin 1024 → EReal)
    (X : FVec Ideal S2048x1024 .bf16) (Y : FVec Ideal S2048x1024 .f32) : Prop :=
  ∀ r : Fin 2048, w r ≠ 0 → ∃ q : Fin 2048, s r = ((q.val : ℕ) : EReal) ∧ q.val < m
    ∧ (∀ d, X (ix2 q d) = u r d) ∧ (∀ d, Y (ix2 q d) = ∑ a ∈ Finset.range f, B a r d)

theorem nat_inj {a b : ℕ} (h : ((a : ℕ) : EReal) = ((b : ℕ) : EReal)) : a = b := by exact_mod_cast h

variable (i : grid0.Coords) (n : Fin 17) (hw : k0_chk1 i (wn n))
variable (ST : FVec Ideal S8x2048 .f32) (U : FVec Ideal S2048x1024 .bf16) (G V : FVec Ideal S1x1x1024x512 .bf16) (D : FVec Ideal S1x1x512x1024 .bf16)
variable (W S : FVec Ideal S2048x128 .f32)
variable (B : ℕ → Fin 2048 → Fin 1024 → EReal)
variable (same : ∀ r : Fin 2048, ST (ix2 (i 1) r) = S (ix2 r (ln (i 1))))
variable (placed : ∀ r : Fin 2048, W (ix2 r (ln (i 1))) = 0 ∨ ∃ k : ℕ, S (ix2 r (ln (i 1))) = ((k : ℕ) : EReal) ∧ k < 128 * n.val)
variable (apart : ∀ r j : Fin 2048, r ≠ j → W (ix2 r (ln (i 1))) ≠ 0 → S (ix2 r (ln (i 1))) ≠ S (ix2 j (ln (i 1))))

include same apart in
/-- The gather at a used slot is the row that uses it. -/
theorem gat_eq (r : Fin 2048) (hr : W (ix2 r (ln (i 1))) ≠ 0) (q : Fin 2048) (hq : S (ix2 r (ln (i 1))) = ((q.val : ℕ) : EReal)) (d : Fin 1024) :
    gat (row i ST) U q.val d = U (ix2 r d) := by
  unfold gat
  rw [Finset.sum_eq_single r]
  · show oh (ST (ix2 (i 1) r)) _ * _ = _
    rw [same r, hq, oh_nat, if_pos rfl, one_mul]
  · intro j _ hj
    show oh (ST (ix2 (i 1) j)) _ * _ = _
    unfold oh
    rw [if_neg, zero_mul]
    rw [same j, ← hq]
    exact fun h => apart r j (Ne.symm hj) hr h.symm
  · exact fun h => absurd (Finset.mem_univ r) h

include same placed apart in
/-- One more hidden block. -/
theorem kept_step (hB : ∀ r d, shr (fun k => U (ix2 r k)) G V D d = B (i 2).val r d) (X : FVec Ideal S2048x1024 .bf16) (Y : FVec Ideal S2048x1024 .f32)
    (h : (i 2).val ≠ 0 → Kept (fun r => W (ix2 r (ln (i 1)))) (fun r => S (ix2 r (ln (i 1)))) (128 * n.val) (i 2).val (fun r d => U (ix2 r d)) B X Y) :
    Kept (fun r => W (ix2 r (ln (i 1)))) (fun r => S (ix2 r (ln (i 1)))) (128 * n.val) ((i 2).val + 1) (fun r d => U (ix2 r d)) B
      (X3 (F := Ideal) i (wn n) hw ST U G V D X Y) (Y3 (F := Ideal) i (wn n) hw ST U G V D X Y) := by
  intro r hr
  obtain ⟨k, hk, hkn⟩ := (placed r).resolve_left hr
  have hn : n.val < 17 := n.isLt
  have hk' : k < 2048 := by omega
  have hX : ∀ d, nX i ST U X ⟨k, hk'⟩ d = U (ix2 r d) := fun d => by
    unfold nX
    split_ifs with h0
    · exact gat_eq i ST U W S same apart r hr ⟨k, hk'⟩ hk d
    · obtain ⟨q, hq, _, hx, _⟩ := h h0 r hr
      have e : q = ⟨k, hk'⟩ := Fin.ext (nat_inj (hq.symm.trans hk))
      rw [← e]; exact hx d
  refine ⟨⟨k, hk'⟩, hk, hkn, fun d => ?_, fun d => ?_⟩
  · rw [((done i n hw ST U G V D X Y ⟨k, hk'⟩ d).1 hkn).1]; exact hX d
  · rw [((done i n hw ST U G V D X Y ⟨k, hk'⟩ d).1 hkn).2]
    unfold nY
    rw [show (fun j => nX i ST U X ⟨k, hk'⟩ j) = fun j => U (ix2 r j) from funext hX, hB r d, Finset.sum_range_succ]
    congr 1
    split_ifs with h0
    · rw [h0, Finset.sum_range_zero]
    · obtain ⟨q, hq, _, _, hy⟩ := h h0 r hr
      have e : q = ⟨k, hk'⟩ := Fin.ext (nat_inj (hq.symm.trans hk))
      rw [← e]; exact hy d

/-- What the output block has gained by the point's end: at the last hidden block, the weighted sum of the shares. -/
theorem gained (X : FVec Ideal S2048x1024 .bf16) (Y : FVec Ideal S2048x1024 .f32)
    (h : Kept (fun r => W (ix2 r (ln (i 1)))) (fun r => S (ix2 r (ln (i 1)))) (128 * n.val) ((i 2).val + 1) (fun r d => U (ix2 r d)) B X Y)
    (O : FVec Ideal S2048x1024 .f32) (r : Fin 2048) (d : Fin 1024) :
    O2 (F := Ideal) i (wn n) hw W S Y O (ix2 r d)
      = O (ix2 r d) + (if (i 2).val = 6 then W (ix2 r (ln (i 1))) * ∑ a ∈ Finset.range 7, B a r d else 0) := by
  by_cases hr : W (ix2 r (ln (i 1))) = 0
  · rw [O2_row i n hw W S Y r ⟨0, by omega⟩ (Or.inl hr) O d]
    unfold share
    rw [hr, zero_mul, zero_mul, ite_self]
  · obtain ⟨q, hq, hqn, _, hy⟩ := h r hr
    rw [O2_row i n hw W S Y r q (Or.inr hq) O d]
    unfold share
    rw [if_pos hqn, hy d]
    split_ifs with h6
    · rw [h6]
    · rfl

end Cert.Proof.MoeStep

end
-- ==== Proof.MoeGlob.lean ====
/-
The blocks of the routed experts' kernel as parts of the launched arrays, over the extended reals, and the running
output of a tile as a function of the arrays.
-/
module

public import proofs.«01_k».proof.Proof.MoeFrame
public import proofs.«01_k».proof.Proof.MoePre
public import proofs.«01_k».proof.Proof.MoeStep

@[expose] public section

set_option maxRecDepth 16384

noncomputable section

namespace Cert.Proof.MoeGlob

open Cert.KernelIdeal Cert.KernelIdeal.Gen
open Cert.Proof.MoeSet Cert.Proof.MoeBody Cert.Proof.MoeFrame Cert.Proof.MoePay Cert.Proof.MoeRow Cert.Proof.MoeStep
open Idealize.ShloMosaic Idealize.ShloMosaic.TcCoe Idealize.ShloMosaic.Tactic
open Idealize.ShloMosaic.Pipeline (Dat Cfg Window)

variable (m : (ℓ : Loc nD τ sig) → Buf (Elt Ideal) ℓ)

/-! The launched arrays, and the table of chunk counts the host makes of the counts. -/
abbrev aH (c : Dev nD) : FVec Ideal S34816x1024 .f32 := m ((c : Thread nD τ).loc main_arg0)
abbrev aU (c : Dev nD) : FVec Ideal S34816x1024 .bf16 := m ((c : Thread nD τ).loc main_arg1)
abbrev aW (c : Dev nD) : FVec Ideal S34816x128 .f32 := m ((c : Thread nD τ).loc main_arg2)
abbrev aS (c : Dev nD) : FVec Ideal S34816x128 .f32 := m ((c : Thread nD τ).loc main_arg3)
abbrev aT (c : Dev nD) : FVec Ideal S8x34816 .f32 := m ((c : Thread nD τ).loc main_arg4)
abbrev aC (c : Dev nD) : FVec Ideal S17x8x128 .f32 := m ((c : Thread nD τ).loc main_arg5)
abbrev aN (c : Dev nD) : IVec S136 32 := V m c main_v9
abbrev aM (c : Dev nD) : FVec Ideal S136x8x1024 .f32 := m ((c : Thread nD τ).loc main_arg6)
abbrev aG (c : Dev nD) : FVec Ideal S2x8x1024x3584 .f32 := m ((c : Thread nD τ).loc main_arg7)
abbrev aP (c : Dev nD) : FVec Ideal S2x8x1024x3584 .f32 := m ((c : Thread nD τ).loc main_arg8)
abbrev aD (c : Dev nD) : FVec Ideal S2x8x3584x1024 .f32 := m ((c : Thread nD τ).loc main_arg9)

/-! Over the extended reals the rounding of the weights is no change. -/
theorem V_v0 (c : Dev nD) (y : S2x8x1024x3584.Idx) : V m c main_v0 y = aG m c y := rfl
theorem V_v1 (c : Dev nD) (y : S2x8x1024x3584.Idx) : V m c main_v1 y = aP m c y := rfl
theorem V_v2 (c : Dev nD) (y : S2x8x3584x1024.Idx) : V m c main_v2 y = aD m c y := rfl

theorem lt_N (t : Fin grid0.N) : t.val < 952 := lt_of_lt_of_eq t.isLt N_0

/-! A point's tile, expert and block of hidden units. -/
theorem tile_val (t : Fin grid0.N) : (grid0.coords t 0).val = t.val / 56 := by
  rw [Pipeline.Grid.coords_val t 0 (S := 56) (B := 17) (by decide) rfl]
  have := lt_N t
  show t.val / 56 % 17 = _
  omega
theorem exp_val (t : Fin grid0.N) : (grid0.coords t 1).val = t.val / 7 % 8 := Pipeline.Grid.coords_val t 1 (by decide) rfl
theorem hid_val (t : Fin grid0.N) : (grid0.coords t 2).val = t.val % 7 := by
  rw [Pipeline.Grid.coords_val t 2 (S := 1) (B := 7) (by decide) rfl]
  show t.val / 1 % 7 = _
  omega
abbrev tl (t : Fin grid0.N) : Fin 17 := grid0.coords t 0
abbrev ex (t : Fin grid0.N) : Fin 8 := grid0.coords t 1
abbrev hd (t : Fin grid0.N) : Fin 7 := grid0.coords t 2

/-- A tile's row in the whole array. -/
abbrev rw' (T : Fin 17) (r : Fin 2048) : Fin 34816 := ⟨T.val * 2048 + r.val, by omega⟩
/-- A block's hidden unit among all. -/
abbrev cl (f : Fin 7) (q : Fin 512) : Fin 3584 := ⟨f.val * 512 + q.val, by omega⟩

theorem ix_tile (i : grid0.Coords) : cc0_transform_0 i = ![(i 0).val, 0] := by
  unfold cc0_transform_0; generalize i 0 = q; revert q; show ∀ q : Fin 17, _; decide +kernel
theorem ix_slots (i : grid0.Coords) : cc0_transform_4 i = ![0, (i 0).val] := by
  unfold cc0_transform_4; generalize i 0 = q; revert q; show ∀ q : Fin 17, _; decide +kernel
theorem ix_mod (i : grid0.Coords) : cc0_transform_5 i = ![(i 0).val, 0, 0] := by
  unfold cc0_transform_5; generalize i 0 = q; revert q; show ∀ q : Fin 17, _; decide +kernel
theorem ix_up (i : grid0.Coords) : cc0_transform_6 i = ![0, (i 1).val, 0, (i 2).val] := by
  unfold cc0_transform_6; generalize i 1 = q; generalize i 2 = p; revert p q; show ∀ q : Fin 8, ∀ p : Fin 7, _; decide +kernel
theorem ix_down (i : grid0.Coords) : cc0_transform_8 i = ![0, (i 1).val, (i 2).val, 0] := by
  unfold cc0_transform_8; generalize i 1 = q; generalize i 2 = p; revert p q; show ∀ q : Fin 8, ∀ p : Fin 7, _; decide +kernel
theorem ix_word (i : grid0.Coords) : k0_off1 i = ![(i 0).val * 8 + (i 1).val] := by
  unfold k0_off1; generalize i 1 = q; generalize i 0 = p; revert p q; show ∀ q : Fin 8, ∀ p : Fin 17, _; decide +kernel

/-! Each input block at a point, entry by entry. -/

theorem b0_at (c : Dev nD) (t : Fin (cfgM m).N) (r : Fin 2048) (d : Fin 1024) : b0 m c t (ix2 r d) = aH m c (ix2 (rw' (tl t) r) d) := by
  refine (congrFun (V_arg0 m c) ((((cfgM m).win 0).blk t).view.emb (ix2 r d))).trans ?_
  refine congrArg _ (funext fun x => Fin.ext ?_)
  match x with
  | ⟨0, _⟩ => show cc0_transform_0 (grid0.coords t) 0 * 2048 + 1 * r.val = _; rw [ix_tile, Nat.one_mul]; rfl
  | ⟨1, _⟩ => show cc0_transform_0 (grid0.coords t) 1 * 1024 + 1 * d.val = d.val; rw [ix_tile]; show 0 * 1024 + _ = _; omega

theorem b1_at (c : Dev nD) (t : Fin (cfgM m).N) (r : Fin 2048) (d : Fin 1024) : b1 m c t (ix2 r d) = aU m c (ix2 (rw' (tl t) r) d) := by
  refine (congrFun (V_arg1 m c) ((((cfgM m).win 1).blk t).view.emb (ix2 r d))).trans ?_
  refine congrArg _ (funext fun x => Fin.ext ?_)
  match x with
  | ⟨0, _⟩ => show cc0_transform_0 (grid0.coords t) 0 * 2048 + 1 * r.val = _; rw [ix_tile, Nat.one_mul]; rfl
  | ⟨1, _⟩ => show cc0_transform_0 (grid0.coords t) 1 * 1024 + 1 * d.val = d.val; rw [ix_tile]; show 0 * 1024 + _ = _; omega

theorem b2_at (c : Dev nD) (t : Fin (cfgM m).N) (r : Fin 2048) (d : Fin 128) : b2 m c t (ix2 r d) = aW m c (ix2 (rw' (tl t) r) d) := by
  refine (congrFun (V_arg2 m c) ((((cfgM m).win 2).blk t).view.emb (ix2 r d))).trans ?_
  refine congrArg _ (funext fun x => Fin.ext ?_)
  match x with
  | ⟨0, _⟩ => show cc0_transform_0 (grid0.coords t) 0 * 2048 + 1 * r.val = _; rw [ix_tile, Nat.one_mul]; rfl
  | ⟨1, _⟩ => show cc0_transform_0 (grid0.coords t) 1 * 128 + 1 * d.val = d.val; rw [ix_tile]; show 0 * 128 + _ = _; omega

theorem b3_at (c : Dev nD) (t : Fin (cfgM m).N) (r : Fin 2048) (d : Fin 128) : b3 m c t (ix2 r d) = aS m c (ix2 (rw' (tl t) r) d) := by
  refine (congrFun (V_arg3 m c) ((((cfgM m).win 3).blk t).view.emb (ix2 r d))).trans ?_
  refine congrArg _ (funext fun x => Fin.ext ?_)
  match x with
  | ⟨0, _⟩ => show cc0_transform_0 (grid0.coords t) 0 * 2048 + 1 * r.val = _; rw [ix_tile, Nat.one_mul]; rfl
  | ⟨1, _⟩ => show cc0_transform_0 (grid0.coords t) 1 * 128 + 1 * d.val = d.val; rw [ix_tile]; show 0 * 128 + _ = _; omega

theorem b4_at (c : Dev nD) (t : Fin (cfgM m).N) (e : Fin 8) (r : Fin 2048) : b4 m c t (ix2 e r) = aT m c (ix2 e (rw' (tl t) r)) := by
  refine (congrFun (V_arg4 m c) ((((cfgM m).win 4).blk t).view.emb (ix2 e r))).trans ?_
  refine congrArg _ (funext fun x => Fin.ext ?_)
  match x with
  | ⟨0, _⟩ => show cc0_transform_4 (grid0.coords t) 0 * 8 + 1 * e.val = e.val; rw [ix_slots]; show 0 * 8 + _ = _; omega
  | ⟨1, _⟩ => show cc0_transform_4 (grid0.coords t) 1 * 2048 + 1 * r.val = _; rw [ix_slots, Nat.one_mul]; rfl

theorem b5_at (c : Dev nD) (t : Fin (cfgM m).N) (a p : Fin 8) (d : Fin 1024) :
    b5 m c t (ix3 a p d) = aM m c (ix3 (⟨(tl t).val * 8 + a.val, by have := (tl t).isLt; omega⟩ : Fin 136) p d) := by
  refine (congrFun (V_arg6 m c) ((((cfgM m).win 5).blk t).view.emb (ix3 a p d))).trans ?_
  refine congrArg _ (funext fun x => Fin.ext ?_)
  match x with
  | ⟨0, _⟩ => show cc0_transform_5 (grid0.coords t) 0 * 8 + 1 * a.val = _; rw [ix_mod, Nat.one_mul]; rfl
  | ⟨1, _⟩ => show cc0_transform_5 (grid0.coords t) 1 * 8 + 1 * p.val = p.val; rw [ix_mod]; show 0 * 8 + _ = _; omega
  | ⟨2, _⟩ => show cc0_transform_5 (grid0.coords t) 2 * 1024 + 1 * d.val = d.val; rw [ix_mod]; show 0 * 1024 + _ = _; omega

theorem b6_at (c : Dev nD) (t : Fin (cfgM m).N) (k : Fin 1024) (q : Fin 512) : b6 m c t (ix4 0 0 k q) = aG m c (ix4 0 (ex t) k (cl (hd t) q)) := by
  refine (V_v0 m c ((((cfgM m).win 6).blk t).view.emb (ix4 0 0 k q))).trans ?_
  refine congrArg _ (funext fun x => Fin.ext ?_)
  match x with
  | ⟨0, _⟩ => show cc0_transform_6 (grid0.coords t) 0 * 1 + 1 * 0 = 0; rw [ix_up]; rfl
  | ⟨1, _⟩ => show cc0_transform_6 (grid0.coords t) 1 * 1 + 1 * 0 = _; rw [ix_up, Nat.mul_one]; rfl
  | ⟨2, _⟩ => show cc0_transform_6 (grid0.coords t) 2 * 1024 + 1 * k.val = k.val; rw [ix_up]; show 0 * 1024 + _ = _; omega
  | ⟨3, _⟩ => show cc0_transform_6 (grid0.coords t) 3 * 512 + 1 * q.val = _; rw [ix_up, Nat.one_mul]; rfl

theorem b7_at (c : Dev nD) (t : Fin (cfgM m).N) (k : Fin 1024) (q : Fin 512) : b7 m c t (ix4 0 0 k q) = aP m c (ix4 0 (ex t) k (cl (hd t) q)) := by
  refine (V_v1 m c ((((cfgM m).win 7).blk t).view.emb (ix4 0 0 k q))).trans ?_
  refine congrArg _ (funext fun x => Fin.ext ?_)
  match x with
  | ⟨0, _⟩ => show cc0_transform_6 (grid0.coords t) 0 * 1 + 1 * 0 = 0; rw [ix_up]; rfl
  | ⟨1, _⟩ => show cc0_transform_6 (grid0.coords t) 1 * 1 + 1 * 0 = _; rw [ix_up, Nat.mul_one]; rfl
  | ⟨2, _⟩ => show cc0_transform_6 (grid0.coords t) 2 * 1024 + 1 * k.val = k.val; rw [ix_up]; show 0 * 1024 + _ = _; omega
  | ⟨3, _⟩ => show cc0_transform_6 (grid0.coords t) 3 * 512 + 1 * q.val = _; rw [ix_up, Nat.one_mul]; rfl

theorem b8_at (c : Dev nD) (t : Fin (cfgM m).N) (q : Fin 512) (d : Fin 1024) : b8 m c t (ix4 0 0 q d) = aD m c (ix4 0 (ex t) (cl (hd t) q) d) := by
  refine (V_v2 m c ((((cfgM m).win 8).blk t).view.emb (ix4 0 0 q d))).trans ?_
  refine congrArg _ (funext fun x => Fin.ext ?_)
  match x with
  | ⟨0, _⟩ => show cc0_transform_8 (grid0.coords t) 0 * 1 + 1 * 0 = 0; rw [ix_down]; rfl
  | ⟨1, _⟩ => show cc0_transform_8 (grid0.coords t) 1 * 1 + 1 * 0 = _; rw [ix_down, Nat.mul_one]; rfl
  | ⟨2, _⟩ => show cc0_transform_8 (grid0.coords t) 2 * 512 + 1 * q.val = _; rw [ix_down, Nat.one_mul]; rfl
  | ⟨3, _⟩ => show cc0_transform_8 (grid0.coords t) 3 * 1024 + 1 * d.val = d.val; rw [ix_down]; show 0 * 1024 + _ = _; omega

/-! The counts. -/

abbrev wix (t : Fin grid0.N) : Fin 136 := ⟨(tl t).val * 8 + (ex t).val, by have h0 := (tl t).isLt; have h1 := (ex t).isLt; omega⟩

/-- The word the body loads is the number of chunks of its tile and expert. -/
theorem word_at {F : FTy → Type} [FloatOps F] (m : (ℓ : Loc nD τ sig) → Buf (Elt F) ℓ) (c : Dev nD) (t : Fin (cfgM m).N) :
    word m t = (V m c main_v9 : IVec S136 32) (ix1 (wix t)) := by
  obtain rfl : c = 0 := Subsingleton.elim _ _
  show (V m (0 : Dev nD) main_v9 : IVec S136 32) ((Rect.unit (s := S136) (k0_off1 (grid0.coords t)) S1.size (k0_off1_inb (grid0.coords t))).emb (Shape.Idx.first (numel1_S1.symm ▸ Nat.one_pos))) = _
  refine congrArg _ (funext fun x => Fin.ext ?_)
  match x with
  | ⟨0, _⟩ =>
    show k0_off1 (grid0.coords t) 0 + 1 * 0 = _
    rw [ix_word]; rfl

/-- The count as a natural. -/
theorem counts_ok {F : FTy → Type} [FloatOps F] (m : (ℓ : Loc nD τ sig) → Buf (Elt F) ℓ)
    (h : ∀ i : Fin 136, ((V m (0 : Dev nD) main_v9 : IVec S136 32) (ix1 i)).toNat ≤ 16) : Ok m := fun t =>
  MoeChk.chk_of_le _ _ (by rw [word_at m 0 t]; exact h _)

/-! The value: a hidden block's share of a row, an expert's weighted output, the sum over the first experts, the result. -/

/-- One hidden block of one expert, for one row. -/
def blk (c : Dev nD) (r : Fin 34816) (e : Fin 8) (f : Fin 7) (d : Fin 1024) : EReal :=
  ∑ q : Fin 512, sw (∑ k : Fin 1024, aU m c (ix2 r k) * aG m c (ix4 0 e k (cl f q))) (∑ k : Fin 1024, aU m c (ix2 r k) * aP m c (ix4 0 e k (cl f q)))
    * aD m c (ix4 0 e (cl f q) d)
/-- The same, by the block's number. -/
def blkN (c : Dev nD) (r : Fin 34816) (e : Fin 8) (f : ℕ) (d : Fin 1024) : EReal := if h : f < 7 then blk m c r e ⟨f, h⟩ d else 0
/-- One expert's weighted output for one row. -/
def wexp (c : Dev nD) (r : Fin 34816) (e : Fin 8) (d : Fin 1024) : EReal := aW m c (ix2 r (ln e)) * ∑ f ∈ Finset.range 7, blkN m c r e f d
/-- The first `n` experts' weighted outputs, added. -/
def acc (c : Dev nD) (r : Fin 34816) (n : ℕ) (d : Fin 1024) : EReal := ∑ e ∈ Finset.range n, if h : e < 8 then wexp m c r ⟨e, h⟩ d else 0
/-- The result: the residual connection over the sum of all experts. -/
def outAt (c : Dev nD) (r : Fin 34816) (d : Fin 1024) : EReal :=
  aH m c (ix2 r d) + aM m c (ix3 (⟨r.val / 256, Nat.div_lt_of_lt_mul r.isLt⟩ : Fin 136) 5 d) * acc m c r 8 d

theorem acc_succ (c : Dev nD) (r : Fin 34816) (e : Fin 8) (d : Fin 1024) : acc m c r (e.val + 1) d = acc m c r e.val d + wexp m c r e d := by
  unfold acc
  rw [Finset.sum_range_succ, dif_pos e.isLt]

/-- A point's weight blocks give its hidden block's share. -/
theorem shr_at (c : Dev nD) (t : Fin (cfgM m).N) (r : Fin 2048) (d : Fin 1024) :
    shr (fun k => b1 m c t (ix2 r k)) (b6 m c t) (b7 m c t) (b8 m c t) d = blkN m c (rw' (tl t) r) (ex t) (hd t).val d := by
  unfold shr blkN
  rw [dif_pos (hd t).isLt]
  unfold blk
  refine Finset.sum_congr rfl fun q _ => ?_
  rw [b8_at m c t q d]
  refine congrArg (· * _) (congrArg₂ sw (Finset.sum_congr rfl fun k _ => ?_) (Finset.sum_congr rfl fun k _ => ?_))
  · show b1 m c t (ix2 r k) * b6 m c t (ix4 0 0 k q) = _
    rw [b1_at m c t r k, b6_at m c t k q]
  · show b1 m c t (ix2 r k) * b7 m c t (ix4 0 0 k q) = _
    rw [b1_at m c t r k, b7_at m c t k q]

end Cert.Proof.MoeGlob

end
-- ==== Proof.MoeTab.lean ====
/-
The table of chunk counts the host makes for the routed experts' kernel: the precondition's, from the same counts.
-/
module

public import proofs.«01_k».proof.Proof.MoeGlob
public import proofs.«01_k».proof.Proof.MoePre
public import proofs.«01_k».proof.Proof.Gen.Pre_moe_pre

@[expose] public section

set_option maxRecDepth 16384

noncomputable section

namespace Cert.Proof.MoeTab

open Cert.KernelIdeal Cert.KernelIdeal.Gen
open Cert.Proof.MoeSet
open Idealize.ShloMosaic Idealize.ShloMosaic.TcCoe Idealize.ShloMosaic.Tactic

variable {F : FTy → Type} [FloatOps F]
variable (m : (ℓ : Loc nD τ sig) → Buf (Elt F) ℓ)

/-- The table is the precondition's numbers of chunks. -/
theorem table (c : Dev nD) : (V m c main_v9 : IVec S136 32) = MoePre.nch (F := F) (m ((c : Thread nD τ).loc main_arg5)) := by
  unfold V hostOps0 hostOps0_1 hostOps0_2
  simp only [List.flatten_cons, List.flatten_nil, List.append_nil, List.cons_append, List.nil_append]
  after_results
  unfold MoePre.nch Cert.Pre_moe_pre.fn_floor_divide Cert.Pre_moe_pre.fn_where
  dsimp only
  rfl

/-- Where the precondition holds, the body reads no row beyond its tile. -/
theorem counts_ok {a0 : FVec F S34816x1024 .f32} {a1 : FVec F S34816x1024 .bf16} {a2 a3 : FVec F S34816x128 .f32} {a4 : FVec F S8x34816 .f32}
    {a6 : FVec F S136x8x1024 .f32} {a7 a8 : FVec F S2x8x1024x3584 .f32} {a9 : FVec F S2x8x3584x1024 .f32}
    (h : Cert.Pre_moe_pre.fn (F := F) a0 a1 a2 a3 a4 (m (((0 : Dev nD) : Thread nD τ).loc main_arg5)) a6 a7 a8 a9 = fun _ => 1#1) : MoeFrame.Ok m :=
  MoeGlob.counts_ok m fun i => by rw [table]; exact MoePre.counted h i

end Cert.Proof.MoeTab

end
-- ==== Proof.MoeVal.lean ====
/-
What the routed experts' kernel computes, over the extended reals, where the precondition holds: the output block of
a tile at each point in closed form, the body shown to keep it, and the array the launch leaves.
-/
module

public import proofs.«01_k».proof.Proof.MoeGlob
public import proofs.«01_k».proof.Proof.MoeTab
public import proofs.«01_k».proof.Proof.Gen.Pre_moe_pre

@[expose] public section

set_option maxRecDepth 16384

noncomputable section

namespace Cert.Proof.MoeVal

open Cert.KernelIdeal Cert.KernelIdeal.Gen
open Cert.Proof.MoeSet Cert.Proof.MoeBody Cert.Proof.MoeFrame Cert.Proof.MoePay Cert.Proof.MoeRow Cert.Proof.MoeStep Cert.Proof.MoeGlob
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The precondition on the launched arrays. -/
abbrev Pre : Prop := ∀ c : Dev nD, Cert.Pre_moe_pre.fn (F := Ideal) (aH m c) (aU m c) (aW m c) (aS m c) (aT m c) (aC m c) (aM m c) (aG m c) (aP m c) (aD m c) = fun _ => 1#1

/-- The table the host makes is the precondition's numbers of chunks. -/
theorem aN_eq (c : Dev nD) : aN m c = MoePre.nch (aC m c) := MoeTab.table m c

variable {m} in
theorem Pre.count (hp : Pre m) (c : Dev nD) (i : Fin 136) : (aN m c (ix1 i)).toNat ≤ 16 := by
  rw [aN_eq]; exact MoePre.counted (hp c) i
variable {m} in
theorem Pre.ok (hp : Pre m) : Ok m := counts_ok m fun i => hp.count 0 i

/-- The count of a tile and an expert. -/
abbrev cnt (c : Dev nD) (T : Fin 17) (e : Fin 8) : ℕ := (aN m c (ix1 (⟨T.val * 8 + e.val, by omega⟩ : Fin 136))).toNat

/-- The scratch arrays after `f` hidden blocks of an expert on a tile. -/
def KeptT (c : Dev nD) (T : Fin 17) (e : Fin 8) (f : ℕ) (X : FVec Ideal S2048x1024 .bf16) (Y : FVec Ideal S2048x1024 .f32) : Prop :=
  Kept (fun r => aW m c (ix2 (rw' T r) (ln e))) (fun r => aS m c (ix2 (rw' T r) (ln e))) (128 * cnt m c T e) f (fun r d => aU m c (ix2 (rw' T r) d))
    (fun a r d => blkN m c (rw' T r) e a d) X Y

theorem word_eq (hp : Pre m) (c : Dev nD) (t : Fin (cfgM m).N) : word m t = wn ⟨cnt m c (tl t) (ex t), Nat.lt_succ_of_le (hp.count c _)⟩ := by
  rw [word_at m c t]
  refine BitVec.eq_of_toNat_eq ?_
  have := hp.count c (wix t)
  rw [BitVec.toNat_ofNat, Nat.mod_eq_of_lt (by omega)]

section Local
variable (hp : Pre m) (c : Dev nD) (t : Fin (cfgM m).N)

include hp in
theorem same_t (r : Fin 2048) : b4 m c t (ix2 (ex t) r) = b3 m c t (ix2 r (ln (ex t))) := by
  rw [b4_at m c t, b3_at m c t]; exact MoePre.same (hp c) _ _
include hp in
theorem placed_t (r : Fin 2048) : b2 m c t (ix2 r (ln (ex t))) = 0 ∨ ∃ k : ℕ, b3 m c t (ix2 r (ln (ex t))) = ((k : ℕ) : EReal) ∧ k < 128 * cnt m c (tl t) (ex t) := by
  rw [b2_at m c t, b3_at m c t]; unfold cnt; rw [aN_eq]; exact MoePre.placed (hp c) (tl t) r (ex t)
include hp in
theorem apart_t (r j : Fin 2048) (h : r ≠ j) (hw : b2 m c t (ix2 r (ln (ex t))) ≠ 0) : b3 m c t (ix2 r (ln (ex t))) ≠ b3 m c t (ix2 j (ln (ex t))) := by
  rw [b2_at m c t] at hw
  rw [b3_at m c t, b3_at m c t]; exact MoePre.apart (hp c) (tl t) r j (ex t) h hw

/-- The blocks' reading of `KeptT`. -/
theorem kept_iff (f : ℕ) (X : FVec Ideal S2048x1024 .bf16) (Y : FVec Ideal S2048x1024 .f32) :
    Kept (fun r => b2 m c t (ix2 r (ln (ex t)))) (fun r => b3 m c t (ix2 r (ln (ex t)))) (128 * cnt m c (tl t) (ex t)) f (fun r d => b1 m c t (ix2 r d))
      (fun a r d => blkN m c (rw' (tl t) r) (ex t) a d) X Y ↔ KeptT m c (tl t) (ex t) f X Y := by
  unfold KeptT
  rw [show (fun r => b2 m c t (ix2 r (ln (ex t)))) = fun r => aW m c (ix2 (rw' (tl t) r) (ln (ex t))) from funext fun r => b2_at m c t r _,
    show (fun r => b3 m c t (ix2 r (ln (ex t)))) = fun r => aS m c (ix2 (rw' (tl t) r) (ln (ex t))) from funext fun r => b3_at m c t r _,
    show (fun r d => b1 m c t (ix2 r d)) = fun r d => aU m c (ix2 (rw' (tl t) r) d) from funext fun r => funext fun d => b1_at m c t r d]

include hp in
/-- A point adds its hidden block to the scratch arrays. -/
theorem step (hv : k0_chk1 (grid0.coords t) (word m t)) (X : FVec Ideal S2048x1024 .bf16) (Y : FVec Ideal S2048x1024 .f32)
    (h : (hd t).val ≠ 0 → KeptT m c (tl t) (ex t) (hd t).val X Y) : KeptT m c (tl t) (ex t) ((hd t).val + 1) (newX m c t hv X Y) (newY m c t hv X Y) := by
  have key : ∀ (v : BitVec 32) (hv : k0_chk1 (grid0.coords t) v), v = wn ⟨cnt m c (tl t) (ex t), Nat.lt_succ_of_le (hp.count c _)⟩ →
      KeptT m c (tl t) (ex t) ((hd t).val + 1) (X3 (F := Ideal) (grid0.coords t) v hv (b4 m c t) (b1 m c t) (b6 m c t) (b7 m c t) (b8 m c t) X Y)
        (Y3 (F := Ideal) (grid0.coords t) v hv (b4 m c t) (b1 m c t) (b6 m c t) (b7 m c t) (b8 m c t) X Y) := by
    rintro v hv rfl
    exact (kept_iff m c t _ _ _).1 (kept_step (grid0.coords t) _ hv (b4 m c t) (b1 m c t) (b6 m c t) (b7 m c t) (b8 m c t) (b2 m c t) (b3 m c t)
      (fun a r d => blkN m c (rw' (tl t) r) (ex t) a d) (same_t m hp c t) (placed_t m hp c t) (apart_t m hp c t) (shr_at m c t) X Y
      (fun h0 => (kept_iff m c t _ _ _).2 (h h0)))
  exact key _ hv (word_eq m hp c t)

/-- The tile's output before a point that does not begin it: the experts done. -/
def preO (c : Dev nD) (t : Fin (cfgM m).N) : FVec Ideal S2048x1024 .f32 := fun y => acc m c (rw' (tl t) (y 0)) (t.val % 56 / 7) (y 1)
/-- The tile's output after a point: the experts done, and at the last point the result. -/
def outO (c : Dev nD) (t : Fin (cfgM m).N) : FVec Ideal S2048x1024 .f32 := fun y =>
  if t.val % 56 = 55 then outAt m c (rw' (tl t) (y 0)) (y 1) else acc m c (rw' (tl t) (y 0)) ((t.val % 56 + 1) / 7) (y 1)

theorem cond1_t : k0_cond1 (grid0.coords t) = 1#1 ↔ t.val % 56 = 0 := by
  rw [cond1, exp_val, hid_val]; omega
theorem cond19_t : k0_cond19 (grid0.coords t) = 1#1 ↔ t.val % 56 = 55 := by
  rw [cond19, exp_val, hid_val]; omega

include hp in
/-- A point brings the tile's output to its closed form. -/
theorem out_step (hv : k0_chk1 (grid0.coords t) (word m t)) (X : FVec Ideal S2048x1024 .bf16) (Y O : FVec Ideal S2048x1024 .f32)
    (h : (hd t).val ≠ 0 → KeptT m c (tl t) (ex t) (hd t).val X Y) (hO : t.val % 56 ≠ 0 → O = preO m c t) :
    newO m c t hv X Y O = outO m c t := by
  have hk := step m hp c t hv X Y h
  have hr := hid_val t
  have he := exp_val t
  have h1 : ∀ (r : Fin 2048) (d : Fin 1024), O1 (F := Ideal) (grid0.coords t) O (ix2 r d) = acc m c (rw' (tl t) r) (ex t).val d := fun r d => by
    unfold O1
    by_cases h0 : t.val % 56 = 0
    · rw [if_pos ((cond1_t m t).2 h0), clear_row]
      unfold acc
      rw [show (ex t).val = 0 from he.trans (by omega), Finset.sum_range_zero]
    · rw [if_neg (fun hc => h0 ((cond1_t m t).1 hc)), hO h0]
      show acc m c (rw' (tl t) r) (t.val % 56 / 7) d = _
      rw [show t.val % 56 / 7 = (ex t).val from by rw [show (ex t).val = t.val / 7 % 8 from he]; omega]
  have key : ∀ (v : BitVec 32) (hv : k0_chk1 (grid0.coords t) v) (Y' : FVec Ideal S2048x1024 .f32), v = wn ⟨cnt m c (tl t) (ex t), Nat.lt_succ_of_le (hp.count c _)⟩ →
      (∃ X', KeptT m c (tl t) (ex t) ((hd t).val + 1) X' Y') → ∀ (r : Fin 2048) (d : Fin 1024),
      O2 (F := Ideal) (grid0.coords t) v hv (b2 m c t) (b3 m c t) Y' (O1 (grid0.coords t) O) (ix2 r d) = acc m c (rw' (tl t) r) ((t.val % 56 + 1) / 7) d := by
    rintro v hv Y' rfl ⟨X', hX'⟩ r d
    refine (gained (grid0.coords t) _ hv (b1 m c t) (b2 m c t) (b3 m c t) (fun a r d => blkN m c (rw' (tl t) r) (ex t) a d) X' Y' ((kept_iff m c t _ _ _).2 hX') _ r d).trans ?_
    rw [h1 r d]
    by_cases h6 : (hd t).val = 6
    · rw [if_pos h6, b2_at m c t r (ln (ex t)), show (t.val % 56 + 1) / 7 = (ex t).val + 1 from by
        rw [show (ex t).val = t.val / 7 % 8 from he]; have : t.val % 7 = 6 := hr.symm.trans h6; omega, acc_succ]
      rfl
    · rw [if_neg h6, add_zero, show (t.val % 56 + 1) / 7 = (ex t).val from by
        rw [show (ex t).val = t.val / 7 % 8 from he]; have : ¬t.val % 7 = 6 := fun hc => h6 (hr.trans hc); omega]
  have h2 := key _ hv (newY m c t hv X Y) (word_eq m hp c t) ⟨_, hk⟩
  funext y
  obtain ⟨r, d, rfl⟩ : ∃ (r : Fin 2048) (d : Fin 1024), y = ix2 r d := ⟨y 0, y 1, eq_ix2 y⟩
  show O3 (F := Ideal) (grid0.coords t) (word m t) hv (b0 m c t) (b5 m c t) (b2 m c t) (b3 m c t) (newY m c t hv X Y) (O1 (grid0.coords t) O) (ix2 r d)
    = if t.val % 56 = 55 then outAt m c (rw' (tl t) r) d else acc m c (rw' (tl t) r) ((t.val % 56 + 1) / 7) d
  unfold O3
  by_cases h55 : t.val % 56 = 55
  · rw [if_pos ((cond19_t m t).2 h55), if_pos h55, fin_row]
    unfold res outAt
    rw [b0_at m c t r d, b5_at m c t _ 5 d, h2 r d, h55]
    refine congrArg₂ (fun x y : EReal => _ + x * y) (congrArg (fun z => aM m c (ix3 z 5 d)) (Fin.ext ?_)) rfl
    show (tl t).val * 8 + r.val / 256 = ((tl t).val * 2048 + r.val) / 256
    omega
  · rw [if_neg (fun hc => h55 ((cond19_t m t).1 hc)), if_neg h55]
    exact h2 r d

/-- Where the body stores nothing into the output's buffer, the buffer stays. -/
theorem idle_same (hv : k0_chk1 (grid0.coords t) (word m t)) (X : FVec Ideal S2048x1024 .bf16) (Y O : FVec Ideal S2048x1024 .f32)
    (h1 : ¬k0_cond1 (grid0.coords t) = 1#1) (h16 : ¬k0_cond16 (grid0.coords t) (word m t) = 1#1) (h19 : ¬k0_cond19 (grid0.coords t) = 1#1) :
    newO m c t hv X Y O = O := by
  show O3 (F := Ideal) (grid0.coords t) (word m t) hv (b0 m c t) (b5 m c t) (b2 m c t) (b3 m c t) (newY m c t hv X Y) (O1 (grid0.coords t) O) = O
  unfold O3 O2 O1
  rw [if_neg h19, dif_neg h16, if_neg h1]

end Local

/-- The word by which the output's idle points are told is the one the body loads. -/
theorem atD_eq (t : Fin (cfgM m).N) : (tbl m).atD 0 (k0_off1 (grid0.coords t)) = word m t := by
  rw [word_at m 0 t]
  have h := ix_word (grid0.coords t)
  have hb : ∀ a, k0_off1 (grid0.coords t) a + 1 ≤ (pre0.ref 0).ty.shape.size a := fun a => match a with
    | ⟨0, _⟩ => k0_off1_inb (grid0.coords t) 0
  refine (dif_pos hb).trans ?_
  show (V m (0 : Dev nD) main_v9 : IVec S136 32) (fun a => ⟨k0_off1 (grid0.coords t) a, hb a⟩) = _
  refine congrArg _ (funext fun x => Fin.ext ?_)
  match x with
  | ⟨0, _⟩ => show k0_off1 (grid0.coords t) 0 = _; rw [h]; rfl

theorem idle9 (t : Fin (cfgM m).N) (h : (cfgM m).idle 9 ((cfgM m).grid.coords t) = true) :
    ¬k0_cond1 (grid0.coords t) = 1#1 ∧ ¬k0_cond16 (grid0.coords t) (word m t) = 1#1 ∧ ¬k0_cond19 (grid0.coords t) = 1#1 := by
  have h' : (!(k0_cond1 (grid0.coords t) == 1#1) && !(k0_cond16 (grid0.coords t) ((tbl m).atD 0 (k0_off1 (grid0.coords t))) == 1#1) && !(k0_cond16 (grid0.coords t) ((tbl m).atD 0 (k0_off1 (grid0.coords t))) == 1#1 && k0_cond17 ((tbl m).atD 0 (k0_off1 (grid0.coords t))) == 1#1) && !(k0_cond16 (grid0.coords t) ((tbl m).atD 0 (k0_off1 (grid0.coords t))) == 1#1 && k0_cond18 ((tbl m).atD 0 (k0_off1 (grid0.coords t))) == 1#1) && !(k0_cond19 (grid0.coords t) == 1#1)) = true := h
  rw [atD_eq] at h'
  simp only [Bool.and_eq_true, Bool.not_eq_true', beq_eq_false_iff_ne, ne_eq] at h'
  exact ⟨h'.1.1.1.1, h'.1.1.1.2, h'.2⟩

/-- What holds of the scratch arrays before point `n`. -/
def Inv (c : Dev nD) (n : ℕ) (X : FVec Ideal S2048x1024 .bf16) (Y : FVec Ideal S2048x1024 .f32) : Prop :=
  ∀ t : Fin (cfgM m).N, t.val = n → (hd t).val ≠ 0 → KeptT m c (tl t) (ex t) (hd t).val X Y

theorem inv_next (c : Dev nD) (t : Fin (cfgM m).N) (X : FVec Ideal S2048x1024 .bf16) (Y : FVec Ideal S2048x1024 .f32)
    (h : KeptT m c (tl t) (ex t) ((hd t).val + 1) X Y) : Inv m c (t.val + 1) X Y := by
  intro t' ht' h0
  have a1 : (hd t).val = t.val % 7 := hid_val t
  have a2 : (hd t').val = t'.val % 7 := hid_val t'
  have a3 : (ex t).val = t.val / 7 % 8 := exp_val t
  have a4 : (ex t').val = t'.val / 7 % 8 := exp_val t'
  have a5 : (tl t).val = t.val / 56 := tile_val t
  have a6 : (tl t').val = t'.val / 56 := tile_val t'
  rw [show tl t' = tl t from Fin.ext (by omega), show ex t' = ex t from Fin.ext (by omega), show (hd t').val = (hd t).val + 1 from by omega]
  exact h

/-- The pipeline's invariant between points. -/
def Phi (c : Dev nD) (n : Fin ((cfgM m).N + 1)) : sProp 𝕄 :=
  iprop(∃ X Y, ⌜Inv m c n.val X Y⌝ ∗ owns (c : Thread nD τ) scX fullShare X ∗ owns (c : Thread nD τ) scY fullShare Y ∗ (∃ r, prngReg c r) ∗ tbPt c tbM (tbl m 0))

/-- The tile's output after a point, as the output's window holds it. -/
def outW (c : Dev nD) (t : Fin (cfgM m).N) : (((cfgM m).win 9).block).Idx → Elt Ideal ((cfgM m).win 9).elt := outO m c t

/-- The pipeline's data for the value. -/
abbrev vdat (m : (ℓ : Loc nD τ sig) → Buf (Elt Ideal) ℓ) : (p : Fin 1) → (c : Dev nD) → Dat τ (Elt Ideal) Unit ℕ (UR sig nD τ) ℕ (cfgM m) c :=
  dat m (Phi m) (outW m)

theorem clip9 (i : (cfgM m).grid.Coords) (a) : ((cfgM m).win 9).clip i a = none := rfl

theorem kept9 (c : Dev nD) (t : Fin (cfgM m).N) (d) : (vdat m 0 c).kept 9 t d = outO m c t := by
  unfold Dat.kept
  rw [Pipeline.fill_of_clip_none 9 _ (clip9 m _) d ((vdat m 0 c).after 9 t), Window.fill_cut, after9]
  rfl

/-- Before a point that does not begin its tile, the output's buffer holds the experts done. -/
theorem before9 (hp : Pre m) (c : Dev nD) : ∀ (n : ℕ) (hn : n < (cfgM m).N) (d), n % 56 ≠ 0 → (vdat m 0 c).before 9 ⟨n, hn⟩ d = preO m c ⟨n, hn⟩ := by
  intro n
  induction n with
  | zero => intro hn d h; exact absurd rfl h
  | succ n ih =>
    intro hn d h
    have hn' : n < (cfgM m).N := Nat.lt_of_succ_lt hn
    rw [(vdat m 0 c).before_of_pos 9 ⟨n + 1, hn⟩ (Nat.succ_ne_zero n) (((cfgM m).win 9).fetch_out rfl _)]
    have hf : ¬((cfgM m).win 9).flush ⟨n, hn'⟩ = true := fun hc => by have := (flush9 (adm m) ⟨n, hn'⟩).1 hc; have e : n % 56 = 55 := this; omega
    show (if ((cfgM m).win 9).flush ⟨n, hn'⟩ = true then d else (vdat m 0 c).left 9 ⟨n, hn'⟩ d) = _
    rw [if_neg hf]
    have a3 := exp_val ⟨n, hn'⟩
    have a1 := hid_val ⟨n, hn'⟩
    have a5 : (tl (⟨n, hn'⟩ : Fin (cfgM m).N)).val = n / 56 := tile_val ⟨n, hn'⟩
    have a6 : (tl (⟨n + 1, hn⟩ : Fin (cfgM m).N)).val = (n + 1) / 56 := tile_val ⟨n + 1, hn⟩
    have hT : tl (⟨n + 1, hn⟩ : Fin (cfgM m).N) = tl (⟨n, hn'⟩ : Fin (cfgM m).N) := Fin.ext (by omega)
    unfold Dat.left
    cases hI : (cfgM m).idle 9 ((cfgM m).grid.coords ⟨n, hn'⟩) with
    | false =>
      refine (kept9 m c ⟨n, hn'⟩ d).trans ?_
      funext y
      unfold outO preO
      rw [if_neg (show ¬n % 56 = 55 from by omega), hT]
      show acc m c _ ((n % 56 + 1) / 7) _ = acc m c _ ((n + 1) % 56 / 7) _
      rw [show (n % 56 + 1) / 7 = (n + 1) % 56 / 7 from by omega]
    | true =>
      obtain ⟨h1, h16, h19⟩ := idle9 m ⟨n, hn'⟩ hI
      have h0 : n % 56 ≠ 0 := fun hc => h1 ((cond1_t m ⟨n, hn'⟩).2 hc)
      refine (ih hn' d h0).trans ?_
      funext y
      unfold preO
      rw [hT]
      show acc m c _ (n % 56 / 7) _ = acc m c _ ((n + 1) % 56 / 7) _
      by_cases h6 : n % 7 = 6
      · rw [show (n + 1) % 56 / 7 = n % 56 / 7 + 1 from by omega]
        have e1 : (ex (⟨n, hn'⟩ : Fin (cfgM m).N)).val = n % 56 / 7 := a3.trans (show n / 7 % 8 = _ by omega)
        rw [← e1]
        rw [word_eq m hp c ⟨n, hn'⟩, cond16] at h16
        have hz : cnt m c (tl (⟨n, hn'⟩ : Fin (cfgM m).N)) (ex (⟨n, hn'⟩ : Fin (cfgM m).N)) = 0 := by
          by_contra hne
          exact h16 ⟨a1.trans h6, Nat.pos_of_ne_zero hne⟩
        have wz : ∀ (r : Fin 2048) (d : Fin 1024), wexp m c (rw' (tl (⟨n, hn'⟩ : Fin (cfgM m).N)) r) (ex (⟨n, hn'⟩ : Fin (cfgM m).N)) d = 0 := fun r d => by
          unfold wexp
          rcases placed_t m hp c ⟨n, hn'⟩ r with hw | ⟨k, _, hk⟩
          · rw [b2_at m c ⟨n, hn'⟩] at hw
            rw [hw, zero_mul]
          · rw [hz] at hk; exact absurd hk (by omega)
        exact ((acc_succ m c _ (ex (⟨n, hn'⟩ : Fin (cfgM m).N)) _).trans ((congrArg (_ + ·) (wz _ _)).trans (add_zero _))).symm
      · rw [show (n + 1) % 56 / 7 = n % 56 / 7 from by omega]

end Cert.Proof.MoeVal

end
-- ==== Proof.MoeRun.lean ====
/-
The routed experts' kernel run over the extended reals: the body at each point keeps the closed forms, and the launch
ends with the arrays at what they say.
-/
module

public import proofs.«01_k».proof.Proof.MoeVal

@[expose] public section

set_option maxRecDepth 16384

noncomputable section

namespace Cert.Proof.MoeRun

open Cert.KernelIdeal Cert.KernelIdeal.Gen
open Cert.Proof.MoeSet Cert.Proof.MoeBody Cert.Proof.MoeFrame Cert.Proof.MoePay Cert.Proof.MoeRow Cert.Proof.MoeStep Cert.Proof.MoeGlob Cert.Proof.MoeVal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The output's buffer after a point: as found where the body stores nothing and the block is not written back,
    else the closed form. -/
def post9 (c : Dev nD) (t : Fin (cfgM m).N) : sProp 𝕄 :=
  match (cfgM m).idle 9 ((cfgM m).grid.coords t) with
  | true =>
    match ((cfgM m).win 9).flush t with
    | false => iprop(∃ d, owns (c : Thread nD τ) (ms9 m t) fullShare ((vdat m 0 c).before 9 t d))
    | true => owns (c : Thread nD τ) (ms9 m t) fullShare ((vdat m 0 c).after 9 t)
  | false => owns (c : Thread nD τ) (ms9 m t) fullShare ((vdat m 0 c).after 9 t)

theorem own_eq (c : Dev nD) (t : Fin (cfgM m).N) {Z Z' : Vec Ideal S2048x1024 .f32} (h : Z = Z') :
    owns (c : Thread nD τ) (ms9 m t) fullShare Z ⊢ (owns (c : Thread nD τ) (ms9 m t) fullShare Z' : sProp 𝕄) := by subst h; exact .rfl

theorem post9_of (hp : Pre m) (c : Dev nD) (t : Fin (cfgM m).N) (hv : k0_chk1 (grid0.coords t) (word m t)) (X : FVec Ideal S2048x1024 .bf16) (Y : FVec Ideal S2048x1024 .f32) (d)
    (h : Inv m c t.val X Y) : owns (c : Thread nD τ) (ms9 m t) fullShare (newO m c t hv X Y ((vdat m 0 c).before 9 t d)) ⊢ post9 m c t := by
  have hO : newO m c t hv X Y ((vdat m 0 c).before 9 t d) = (vdat m 0 c).after 9 t := by
    exact (out_step m hp c t hv X Y _ (h t rfl) fun h0 => before9 m hp c t.val t.isLt d h0).trans (after9 m (Phi m) (outW m) c t).symm
  unfold post9
  cases hI : (cfgM m).idle 9 ((cfgM m).grid.coords t) with
  | false => exact own_eq m c t hO
  | true =>
    cases hf : ((cfgM m).win 9).flush t with
    | true => exact own_eq m c t hO
    | false =>
      obtain ⟨h1, h16, h19⟩ := idle9 m t hI
      refine Idealize.SL.BI.BIBase.Entails.trans (own_eq m c t (idle_same m c t hv X Y _ h1 h16 h19)) ?_
      iintro H
      iexists d; iexact H

/-- What the body is called with. -/
def bodyPre (c : Dev nD) (t : Fin (cfgM m).N) : sProp 𝕄 :=
  iprop((vdat m 0 c).Φ t.castSucc ∗ (vdat m 0 c).owesAt () t.castSucc
    ∗ (∃ d, owns (c : Thread nD τ) (ms0 m t) fullShare ((vdat m 0 c).before 0 t d))
    ∗ (∃ d, owns (c : Thread nD τ) (ms1 m t) fullShare ((vdat m 0 c).before 1 t d))
    ∗ (∃ d, owns (c : Thread nD τ) (ms2 m t) fullShare ((vdat m 0 c).before 2 t d))
    ∗ (∃ d, owns (c : Thread nD τ) (ms3 m t) fullShare ((vdat m 0 c).before 3 t d))
    ∗ (∃ d, owns (c : Thread nD τ) (ms4 m t) fullShare ((vdat m 0 c).before 4 t d))
    ∗ (∃ d, owns (c : Thread nD τ) (ms5 m t) fullShare ((vdat m 0 c).before 5 t d))
    ∗ (∃ d, owns (c : Thread nD τ) (ms6 m t) fullShare ((vdat m 0 c).before 6 t d))
    ∗ (∃ d, owns (c : Thread nD τ) (ms7 m t) fullShare ((vdat m 0 c).before 7 t d))
    ∗ (∃ d, owns (c : Thread nD τ) (ms8 m t) fullShare ((vdat m 0 c).before 8 t d))
    ∗ (∃ d, owns (c : Thread nD τ) (ms9 m t) fullShare ((vdat m 0 c).before 9 t d)))

/-- What the body returns. -/
def bodyPost (c : Dev nD) (t : Fin (cfgM m).N) : sProp 𝕄 :=
  iprop((vdat m 0 c).Φ t.succ ∗ (vdat m 0 c).owesAt () t.succ
    ∗ owns (c : Thread nD τ) (ms0 m t) fullShare ((vdat m 0 c).after 0 t)
    ∗ owns (c : Thread nD τ) (ms1 m t) fullShare ((vdat m 0 c).after 1 t)
    ∗ owns (c : Thread nD τ) (ms2 m t) fullShare ((vdat m 0 c).after 2 t)
    ∗ owns (c : Thread nD τ) (ms3 m t) fullShare ((vdat m 0 c).after 3 t)
    ∗ owns (c : Thread nD τ) (ms4 m t) fullShare ((vdat m 0 c).after 4 t)
    ∗ owns (c : Thread nD τ) (ms5 m t) fullShare ((vdat m 0 c).after 5 t)
    ∗ owns (c : Thread nD τ) (ms6 m t) fullShare ((vdat m 0 c).after 6 t)
    ∗ owns (c : Thread nD τ) (ms7 m t) fullShare ((vdat m 0 c).after 7 t)
    ∗ owns (c : Thread nD τ) (ms8 m t) fullShare ((vdat m 0 c).after 8 t)
    ∗ post9 m c t)

set_option maxHeartbeats 2400000 in
/-- The body at a point. -/
theorem sound_body (hp : Pre m) (c : Dev nD) (t : Fin (cfgM m).N) :
    bodyPre m c t ⊢ wp frame (wpE (defs₀ (F := Ideal)) Variants.none (c : Thread nD τ) none) Set.univ (bodyAt m t) (fun _ => bodyPost m c t) := by
  unfold bodyPre bodyPost
  simp only [before0, before1, before2, before3, before4, before5, before6, before7, before8]
  rw [show (vdat m 0 c).owesAt () t.succ = (vdat m 0 c).owesAt () t.castSucc from rfl,
    after0, after1, after2, after3, after4, after5, after6, after7, after8]
  rw [show (vdat m 0 c).Φ t.castSucc = Phi m c t.castSucc from rfl, show (vdat m 0 c).Φ t.succ = Phi m c t.succ from rfl]
  unfold Phi
  iintro ⟨⟨%X, %Y, %hI, HX, HY, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [Fin.val_castSucc] at hI
  have hn : Inv m c t.succ.val (newX m c t (hp.ok t) X Y) (newY m c t (hp.ok t) X Y) := by
    rw [Fin.val_succ]
    exact inv_next m c t _ _ (step m hp c t (hp.ok t) X Y (hI t rfl))
  generalize t.succ.val = n' at hn ⊢
  iapply (runK m c t (hp.ok t) X Y ((vdat m 0 c).before 9 t d9) _)
  isplitl [HT]; · iexact HT
  isplitl [HX]; · iexact HX
  isplitl [HY]; · iexact HY
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨HT, HX, HY, H0, H1, H2, H3, H4, H5, H6, H7, H8, H9⟩
  isplitl [HX HY Hg HT]
  · iexists (newX m c t (hp.ok t) X Y); iexists (newY m c t (hp.ok t) X Y)
    isplitr
    swap
    · isplitl [HX]; · iexact HX
      isplitl [HY]; · iexact HY
      isplitl [Hg]; · iexact Hg
      iexact HT
    ipureintro
    exact hn
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (post9_of m hp c t (hp.ok t) X Y d9 hI)
  iexact H9

/-- The same, as the pipeline asks for it. -/
theorem body_obligation (hp : Pre m) (c : Dev nD) : BodyObligation (vdat m 0 c) (defs₀ (F := Ideal)) Variants.none () Set.univ := fun t => by
  rw [bigSep_W0, bigSep_W0, defs₀_row m]
  exact triple_restated (sound_body m hp c t) rfl .rfl fun _ => .rfl

set_option backward.isDefEq.respectTransparency.types false in
/-- The launch ends with each array at what the pipeline's data says. -/
theorem run_main (hp : Pre m) : θ_run defs (onTc (τ := τ) (main (F := Ideal))) (s₀ m ρ) (Pipeline.FramePost (Pipeline.pin pcfgs fun _ => adm m) (vdat m) 0 (V m)) :=
  Pipeline.θ_run_frameP_track pcfgs (fun _ => adm m) (vdat m) (0 : Fin 1) launch0 defs₀ Variants.none m ρ main
    (hbody := fun c => (body_obligation m hp c).loose) (hshare := fun c => (vdat m 0 c).share_full fun _ => rfl)
    (howed := fun _ _ => rfl) (V := V m) (hmain := hmain m Variants.none) (hA := A_eq m _ _) (hpf := V_pre m)
    (hin := fun c => by
      rw [show (vdat m 0 c).Φ 0 = Phi m c 0 from rfl]
      unfold Phi
      refine Idealize.SL.BI.BIBase.Entails.trans (Q := iprop((iprop((∃ d, owns (c : Thread nD τ) scX fullShare d) ∗ (∃ d, owns (c : Thread nD τ) scY fullShare d)) ∗ (∃ r, prngReg c r)) ∗ tbPt c tbM (tbl m 0))) (by rw [← PhiA_eq, ← PhiT_eq]) ?_
      iintro ⟨⟨⟨⟨%X, HX⟩, ⟨%Y, HY⟩⟩, Hg⟩, HT⟩
      iexists X; iexists Y
      isplitr
      swap
      · isplitl [HX]; · iexact HX
        isplitl [HY]; · iexact HY
        isplitl [Hg]; · iexact Hg
        iexact HT
      ipureintro
      intro t ht h0
      exact absurd ((hid_val t).trans (by rw [ht]; rfl)) h0)
    (hout := fun c => by
      rw [show (vdat m 0 c).Φ (Fin.last _) = Phi m c (Fin.last _) from rfl]
      unfold Phi
      refine Idealize.SL.BI.BIBase.Entails.trans (Q := iprop(iprop((∃ d, owns (c : Thread nD τ) scX fullShare d) ∗ (∃ d, owns (c : Thread nD τ) scY fullShare d)) ∗ (∃ r, prngReg c r))) ?_ (by rw [← PhiA_eq])
      iintro ⟨%X, %Y, %hI, HX, HY, Hg, HT⟩
      isplitl [HX HY]
      · isplitl [HX]
        · iexists X; iexact HX
        iexists Y; iexact HY
      iexact Hg)

end Cert.Proof.MoeRun

end
-- ==== Proof.MoeRef.lean ====
/-
The reference's routed experts, entry by entry: the residual connection over the eight experts' weighted outputs.
-/
module

public import proofs.«01_k».proof.Proof.Gen.ReferenceIdeal.Run
public import proofs.«01_k».proof.Proof.MoePay

@[expose] public section

set_option maxRecDepth 16384

noncomputable section

namespace Cert.Proof.MoeRef

open Cert.ReferenceIdeal Cert.ReferenceIdeal.Gen Cert.ReferenceIdeal.Value
open Idealize.SL.Sem
open Idealize.ShloMosaic Idealize.ShloMosaic.TcCoe Idealize.ShloMosaic.Tactic
open Cert.Proof.MoePay (sw)

/-- One expert's weighted output for one row. -/
def one (u : FVec Ideal S34816x1024 .bf16) (w : FVec Ideal S34816x128 .f32) (g p : FVec Ideal S2x8x1024x3584 .f32) (dn : FVec Ideal S2x8x3584x1024 .f32)
    (e : Fin 8) (r : Fin 34816) (d : Fin 1024) : EReal :=
  w (ix2 r (⟨e.val, by omega⟩ : Fin 128)) * ∑ k : Fin 3584, sw (∑ j : Fin 1024, u (ix2 r j) * g (ix4 0 e j k)) (∑ j : Fin 1024, u (ix2 r j) * p (ix4 0 e j k)) * dn (ix4 0 e k d)

/-- The result. -/
def all (h : FVec Ideal S34816x1024 .f32) (u : FVec Ideal S34816x1024 .bf16) (w : FVec Ideal S34816x128 .f32) (md : FVec Ideal S136x8x1024 .f32)
    (g p : FVec Ideal S2x8x1024x3584 .f32) (dn : FVec Ideal S2x8x3584x1024 .f32) (r : Fin 34816) (d : Fin 1024) : EReal :=
  h (ix2 r d) + md (ix3 (⟨r.val / 256, Nat.div_lt_of_lt_mul r.isLt⟩ : Fin 136) 5 d)
    * (0 + one u w g p dn 0 r d + one u w g p dn 1 r d + one u w g p dn 2 r d + one u w g p dn 3 r d + one u w g p dn 4 r d
        + one u w g p dn 5 r d + one u w g p dn 6 r d + one u w g p dn 7 r d)

/-- The reference ends with `all` of its arguments, which are unchanged. -/
theorem run_at (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (∀ (x : Fin 34816) (d : Fin 1024), (r.2.mem ((c.tc : Thread nD τ).loc main_v127) : FVec Ideal S34816x1024 .f32) (ix2 x d)
        = all (m ((c.tc : Thread nD τ).loc main_arg0)) (m ((c.tc : Thread nD τ).loc main_arg1)) (m ((c.tc : Thread nD τ).loc main_arg2)) (m ((c.tc : Thread nD τ).loc main_arg6))
          (m ((c.tc : Thread nD τ).loc main_arg7)) (m ((c.tc : Thread nD τ).loc main_arg8)) (m ((c.tc : Thread nD τ).loc main_arg9)) x d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ⟨fun x d => (congrFun (h c).1 (ix2 x d)).trans ?_, (h c).2⟩) (Value.run m ρ)
  clear h r
  show _ = all (m ((c.tc : Thread nD τ).loc main_arg0)) (m ((c.tc : Thread nD τ).loc main_arg1)) (m ((c.tc : Thread nD τ).loc main_arg2)) (m ((c.tc : Thread nD τ).loc main_arg6))
          (m ((c.tc : Thread nD τ).loc main_arg7)) (m ((c.tc : Thread nD τ).loc main_arg8)) (m ((c.tc : Thread nD τ).loc main_arg9)) x d
  pointwise [all, one, sw, res_main_v0, res_main_v9, res_main_v24, res_main_v39, res_main_v54, res_main_v69, res_main_v76, res_main_v84, res_main_v99, res_main_v114]

end Cert.Proof.MoeRef

end
-- ==== Proof.MoeEnd.lean ====
/-
The array the routed experts' kernel leaves, and that it is the reference's, over the extended reals.
-/
module

public import proofs.«01_k».proof.Defs
public import proofs.«01_k».proof.Proof.MoeRun
public import proofs.«01_k».proof.Proof.MoeRef
public import Idealize.ShloMosaic.Lib.Pipeline.Value

@[expose] public section

set_option maxRecDepth 16384

noncomputable section

namespace Cert.Proof.MoeEnd

open Cert.KernelIdeal Cert.KernelIdeal.Gen
open Cert.Proof.MoeSet Cert.Proof.MoeBody Cert.Proof.MoeFrame Cert.Proof.MoePay Cert.Proof.MoeRow Cert.Proof.MoeStep Cert.Proof.MoeGlob Cert.Proof.MoeVal Cert.Proof.MoeRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The result array. -/
def G (c : Dev nD) : FVec Ideal S34816x1024 .f32 := fun i => outAt m c (i 0) (i 1)

theorem ix_out (i : grid0.Coords) : cc0_transform_9 i = ![(i 0).val, 0] := ix_tile i

/-- What is written back at a tile's last point is the tile's block of the result. -/
theorem flushed_eq (c : Dev nD) (t : Fin (cfgM m).N) (hf : ((cfgM m).win 9).flush t = true) :
    (vdat m 0 c).flushed 9 t = (((cfgM m).win 9).blk t).view.read (Elt Ideal) (G m c) := by
  have h55 : t.val % 56 = 55 := (flush9 (adm m) t).1 hf
  show ((vdat m 0 c).after 9 t : FVec Ideal S2048x1024 .f32) = fun y => G m c ((((cfgM m).win 9).blk t).view.emb y)
  refine (after9 m (Phi m) (outW m) c t).trans ?_
  refine funext fun (y : S2048x1024.Idx) => ?_
  obtain ⟨a, d, rfl⟩ : ∃ (a : Fin 2048) (d : Fin 1024), y = ix2 a d := ⟨y 0, y 1, eq_ix2 y⟩
  have he : (((cfgM m).win 9).blk t).view.emb (ix2 a d) = ix2 (rw' (tl t) a) d := by
    funext x
    apply Fin.ext
    match x with
    | ⟨0, _⟩ => show cc0_transform_9 (grid0.coords t) 0 * 2048 + 1 * a.val = _; rw [ix_out, Nat.one_mul]; rfl
    | ⟨1, _⟩ => show cc0_transform_9 (grid0.coords t) 1 * 1024 + 1 * d.val = d.val; rw [ix_out]; show 0 * 1024 + _ = _; omega
  rw [he]
  show (if t.val % 56 = 55 then outAt m c (rw' (tl t) a) d else acc m c (rw' (tl t) a) ((t.val % 56 + 1) / 7) d) = outAt m c (rw' (tl t) a) d
  rw [if_pos h55]

theorem mem_blk9 (t : Fin (cfgM m).N) (i : S34816x1024.Idx) :
    i ∈ (((cfgM m).win 9).blk t).view.set ↔ ∀ a : Fin 2, cc0_transform_9 (grid0.coords t) a * S2048x1024.size a ≤ (i a).val ∧ (i a).val < cc0_transform_9 (grid0.coords t) a * S2048x1024.size a + S2048x1024.size a := by
  have h : ∀ R : Rect S34816x1024, i ∈ ((View.whole main_v10).slice R).set ↔ i ∈ R.set := fun R => by rw [View.set_slice_whole]
  refine (h (((cfgM m).win 9).rect t)).trans ?_
  exact (Rect.mem_set_unit (s := S34816x1024) ..).trans Iff.rfl

/-- Every entry of the result is in a block that is written back. -/
theorem cover9 (i : S34816x1024.Idx) : ∃ t : Fin (cfgM m).N, ((cfgM m).win 9).flush t = true ∧ i ∈ (((cfgM m).win 9).blk t).view.set := by
  have h0 : (i 0).val < 34816 := (i 0).isLt
  have h1 : (i 1).val < 1024 := (i 1).isLt
  have hN : (cfgM m).N = 952 := rfl
  have ht : 56 * ((i 0).val / 2048) + 55 < (cfgM m).N := by rw [hN]; omega
  refine ⟨⟨56 * ((i 0).val / 2048) + 55, ht⟩, (flush9 (adm m) _).2 (by show (56 * ((i 0).val / 2048) + 55) % 56 = 55; omega), ?_⟩
  refine (mem_blk9 m _ i).2 ?_
  have hc : ((grid0.coords (⟨56 * ((i 0).val / 2048) + 55, ht⟩ : Fin (cfgM m).N)) 0).val = (i 0).val / 2048 :=
    (tile_val (⟨56 * ((i 0).val / 2048) + 55, ht⟩ : Fin (cfgM m).N)).trans (by show (56 * ((i 0).val / 2048) + 55) / 56 = _; omega)
  intro a
  rw [ix_out, hc]
  match a with
  | ⟨0, _⟩ => show (i 0).val / 2048 * 2048 ≤ (i 0).val ∧ (i 0).val < (i 0).val / 2048 * 2048 + 2048; omega
  | ⟨1, _⟩ => show 0 * 1024 ≤ (i 1).val ∧ (i 1).val < 0 * 1024 + 1024; omega

/-- The array the launch leaves is the result. -/
theorem final (c : Dev nD) : (vdat m 0 c).arrAt 9 (cfgM m).N = G m c :=
  (vdat m 0 c).arrAt_eq_of_cover 9 _ (flushed_eq m c) (cover9 m)

/-- The reference's share of one expert is the kernel's seven hidden blocks. -/
theorem one_eq (c : Dev nD) (e : Fin 8) (r : Fin 34816) (d : Fin 1024) :
    MoeRef.one (aU m c) (aW m c) (aG m c) (aP m c) (aD m c) e r d = wexp m c r e d := by
  unfold MoeRef.one wexp
  refine congrArg₂ (· * ·) rfl ?_
  rw [Fin.sum_univ_tiles 7 512 rfl, Finset.sum_range]
  refine Finset.sum_congr rfl fun j _ => ?_
  unfold blkN
  rw [dif_pos j.isLt]
  rfl

/-- The reference's result is the kernel's. -/
theorem all_eq (c : Dev nD) (r : Fin 34816) (d : Fin 1024) :
    MoeRef.all (aH m c) (aU m c) (aW m c) (aM m c) (aG m c) (aP m c) (aD m c) r d = outAt m c r d := by
  unfold MoeRef.all outAt
  simp only [one_eq]
  have h : acc m c r 8 d = 0 + wexp m c r 0 d + wexp m c r 1 d + wexp m c r 2 d + wexp m c r 3 d + wexp m c r 4 d + wexp m c r 5 d + wexp m c r 6 d + wexp m c r 7 d := by
    unfold acc
    simp only [Finset.sum_range_succ, Finset.sum_range_zero]
    rfl
  rw [h]

/-- The routed experts' kernel and its reference end with equal results, as extended reals. -/
theorem algebraic : Cert.algebraic_KernelIdeal_ReferenceIdeal
    (hKernelIdeal := Cert.KernelIdeal.Gen.facts) (hReferenceIdeal := Cert.ReferenceIdeal.Gen.facts) (hPre_moe_pre := Cert.Pre_moe_pre.Gen.facts) := by
  intro m g m' g' hp hm
  have hp' : Pre m := hp
  refine ⟨fun c => G m c, ?_, ?_⟩
  · exact (θ_run _ _ _).mono (fun r h c => ⟨(h.1 c).trans (final m c), h.2.1 c⟩)
      (θ_run_and ((θ_run defs _ _).mono (fun r h c => (h c).1 9) (run_main m g hp')) (frame_all m g hp'.ok))
  · refine (θ_run _ _ _).mono (fun r h c => ⟨?_, (h c).2⟩) (MoeRef.run_at m' g')
    obtain ⟨a0, a1, a2, a3, a4, a5, a6, a7, a8, a9⟩ := hm c
    funext i
    obtain ⟨x, d, rfl⟩ : ∃ (a : Fin 34816) (b : Fin 1024), i = ix2 a b := ⟨i 0, i 1, eq_ix2 i⟩
    refine ((h c).1 x d).trans ?_
    rw [a0, a1, a2, a6, a7, a8, a9]
    exact all_eq m c x d

end Cert.Proof.MoeEnd

end
-- ==== Proof.LstSame.lean ====
/-
The kernel and its idealization are one program: no operation of it was rewritten, so the two printed
texts differ in nothing but the names they are under. What is proved of the second at every float
instance is therefore true of the first.
-/
module

public import proofs.«01_k».proof.Last
public import proofs.«01_k».proof.LastIdeal

@[expose] public section

set_option maxRecDepth 65536
set_option maxHeartbeats 4000000

namespace Cert.Proof.LstSame

open Idealize.ShloMosaic

variable (F : FTy → Type) [FloatOps F] [h : Cert.Last.Facts] [h' : Cert.LastIdeal.Facts]

/-- The two texts launch the same program on the host. -/
theorem main_same : @Cert.Last.main F _ h = @Cert.LastIdeal.main F _ h' := rfl

/-- The two texts have the same kernel body. -/
theorem body_same : @Cert.Last.cc0_moe_experts F _ h = @Cert.LastIdeal.cc0_moe_experts F _ h' := rfl

/-- The two texts give their body label the same body. -/
theorem defs₀_same : @Cert.Last.defs₀ F _ h = @Cert.LastIdeal.defs₀ F _ h' := by
  unfold Cert.Last.defs₀ Cert.LastIdeal.defs₀
  refine congrArg Defs.onTc ?_
  funext l x
  match l, x with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (body_same F) _) _) _) _) _) _) _) _) _) _) _) _) _) _) _) _) _) _) _) _) _) _) _) _) _) _) _
  | ⟨_ + 1, h⟩, _ => exact absurd h (Nat.not_lt.2 (Nat.le_add_left _ _))

/-- The two texts give every label the same meaning. -/
theorem defs_same : @Cert.Last.defs F _ h = @Cert.LastIdeal.defs F _ h' :=
  congrArg (Pipeline.defs (Cert.Last.pcfgs (F := F))) (defs₀_same F)

end Cert.Proof.LstSame
-- ==== Proof.LstSet.lean ====
/-
The launch of the routed experts' kernel, set up: the memory the pipeline finds, the windows' blocks, the buffers the
body is called with, and the body run at a grid point. What the output window and the scratch buffers hold is a
parameter of the pipeline's data (`dat`): the frame claims take it at unnamed contents, the value claim at the
running sums.
-/
module

public import proofs.«01_k».proof.Proof.Gen.LastIdeal.Launch
public import Idealize.ShloMosaic.Lib.Pipeline.Kit
public import Idealize.ShloMosaic.Lib.Pipeline.FrameBody
public import Idealize.ShloMosaic.Lib.Claim

@[expose] public section

set_option maxRecDepth 16384

noncomputable section

namespace Cert.Proof.LstSet

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the pipeline starts: as launched, but for the host's own results — the rounded weights and the
    table of chunk counts. -/
def V (c : Dev nD) (b : Ref sig .tc) : Buf (Elt F) ((c : Thread nD τ).loc b) :=
  StableHlo.after (List.flatten [hostOps0, hostOps0_1, hostOps0_2]) (fun b => m (c, b)) b

/-! The host's operations leave the arguments as launched. -/
theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl
theorem V_arg4 (c : Dev nD) : V m c main_arg4 = m ((c : Thread nD τ).loc main_arg4) := rfl
theorem V_arg5 (c : Dev nD) : V m c main_arg5 = m ((c : Thread nD τ).loc main_arg5) := rfl
theorem V_arg6 (c : Dev nD) : V m c main_arg6 = m ((c : Thread nD τ).loc main_arg6) := rfl
theorem V_arg7 (c : Dev nD) : V m c main_arg7 = m ((c : Thread nD τ).loc main_arg7) := rfl
theorem V_arg8 (c : Dev nD) : V m c main_arg8 = m ((c : Thread nD τ).loc main_arg8) := rfl
theorem V_arg9 (c : Dev nD) : V m c main_arg9 = m ((c : Thread nD τ).loc main_arg9) := rfl

set_option maxHeartbeats 800000 in
/-- The program up to the pipeline is the host's operations. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] ⟨hostOps0_sub, hostOps0_1_sub, hostOps0_2_sub⟩
    ⟨⟨rfl, rfl, rfl, rfl, rfl, rfl, rfl, rfl, rfl, rfl⟩,
      ⟨rfl, rfl, rfl, rfl, rfl, rfl, rfl, rfl, rfl, rfl, rfl, rfl, rfl, rfl, rfl, rfl, rfl⟩, rfl⟩
    fun c => (main_chain c).trans rfl

/-- The table of counts, as the host makes it. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- No window's index map reads the table, so every table is admissible. -/
abbrev adm : (pcfg0 (F := F)).Adm := ⟨tbl m, trivial⟩
/-- The pipeline at the table. -/
abbrev cfgM : Pipeline.Cfg sig Λ₀ := cfg0 (adm m)

/-- The table's buffer. -/
abbrev tbM : Memref sig .tc .smem S136 .i32 := Memref.whole main_v9
/-- The type of a buffer's contents. -/
abbrev TbBuf (c : Dev nD) {S : Shape} {e : EltTy} (M : Memref sig .tc .smem S e) : Type := Buf (Elt F) (M.view.loc (c : Thread nD τ))
/-- Half of a buffer, at the given contents. -/
abbrev tbPt (c : Dev nD) {S : Shape} {e : EltTy} (M : Memref sig .tc .smem S e) (f : TbBuf (F := F) c M) : sProp 𝕄 :=
  M.view.loc (c : Thread nD τ) ↦{fullShare.right} f

/-- What the pipeline lends the body of the table: half of its buffer. -/
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- Window `w`'s block at a point: what the memory holds there when the pipeline starts. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-! The staging buffers at a point, typed. -/
abbrev ms0 (t : Fin (cfgM m).N) : Memref sig .tc .vmem S2048x1024 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S2048x1024 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S2048x128 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S2048x128 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S8x2048 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S8x8x1024 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S1x1x1024x512 .bf16 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S1x1x1024x512 .bf16 := spec0_7.stage ((cfgM m).slots t 7)
abbrev hs7 (t : Fin (cfgM m).N) : (ms7 m t).IsWhole := hstage0_7 (((cfgM m).slots t 7).cast nbuf0_7)
abbrev ms8 (t : Fin (cfgM m).N) : Memref sig .tc .vmem S1x1x512x1024 .bf16 := spec0_8.stage ((cfgM m).slots t 8)
abbrev hs8 (t : Fin (cfgM m).N) : (ms8 m t).IsWhole := hstage0_8 (((cfgM m).slots t 8).cast nbuf0_8)
abbrev ms9 (t : Fin (cfgM m).N) : Memref sig .tc .vmem S2048x1024 .f32 := spec0_9.stage ((cfgM m).slots t 9)
abbrev hs9 (t : Fin (cfgM m).N) : (ms9 m t).IsWhole := hstage0_9 (((cfgM m).slots t 9).cast nbuf0_9)

/-- The two scratch buffers: the gathered rows and the running outputs. -/
abbrev scX : Memref sig .tc .vmem S2048x1024 .bf16 := Memref.whole cc0_scratch0
abbrev scY : Memref sig .tc .vmem S2048x1024 .f32 := Memref.whole cc0_scratch1

/-- What the body may use beside the windows: the scratch buffers at any contents, and the generator register. -/
theorem PhiA_eq (c : Dev nD) :
    (Pipeline.ΦA spec0 c : sProp 𝕄)
      = iprop(iprop((∃ d, owns (c : Thread nD τ) scX fullShare d) ∗ (∃ d, owns (c : Thread nD τ) scY fullShare d)) ∗ (∃ r, prngReg c r)) := by
  unfold Pipeline.ΦA; rw [scopedRest0_eq]; simp only [scX, scY, owns_whole]; try rfl

/-- The output window is written back at the last point of each tile. -/
theorem flush9 (a : (pcfg0 (F := F)).Adm) : ∀ t : Fin (cfg0 a).N, ((cfg0 a).win 9).flush t = true ↔ t.val % 56 = 55 :=
  (fun t => Pipeline.Window.flushOf_reads cc0_transform_9 reads0_9 hreads0_9 0 (by decide) (by decide) (Pipeline.Window.sep_of_coord cc0_transform_9 0 0 (fun _ => rfl) (by decide)) (P := 56) (m := 55) (by decide) rfl t : ∀ t : Fin grid0.N, Pipeline.Window.flushOf grid0 true cc0_transform_9 t = true ↔ t.val % 56 = 55)

/-- The body at a point, on what the pipeline calls it with. -/
abbrev bodyAt (t : Fin (cfgM m).N) : Prog (TpuEff nD τ sig (Elt F) Λ₀ .tc) PUnit :=
  cc0_moe_experts (grid0.coords t) tbM (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) scX (Memref.isWhole_whole _) scY (Memref.isWhole_whole _)

/-- The pipeline's data: the inputs' buffers hold their blocks after every point, the output's what `out` says,
    and the invariant between points is `Φ`. -/
def dat (Φ : (c : Dev nD) → Fin ((cfgM m).N + 1) → sProp 𝕄)
    (out : (c : Dev nD) → (t : Fin (cfgM m).N) → (((cfgM m).win 9).block).Idx → Elt F ((cfgM m).win 9).elt)
    (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => out c t
  Φ := Φ c
  q _ := fullShare
  owed _ := 0

theorem A_eq (P : (c : Dev nD) → Fin ((cfgM m).N + 1) → sProp 𝕄) (out : (c : Dev nD) → (t : Fin (cfgM m).N) → (((cfgM m).win 9).block).Idx → Elt F ((cfgM m).win 9).elt) (c : Dev nD) (w : Fin (cfgM m).W) : (dat m P out 0 c).A w = V m c (Pipeline.arrRef spec0 w) := by
  dsimp only [dat]

theorem after9 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 9 t = out c t := by dsimp only [dat]; try rfl

/-! An input's buffer holds its block before the body and after it. -/
theorem after0 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 0 t = iblk m c 0 t := by dsimp only [dat]; try rfl
theorem after1 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 1 t = iblk m c 1 t := by dsimp only [dat]; try rfl
theorem after2 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 2 t = iblk m c 2 t := by dsimp only [dat]; try rfl
theorem after3 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 3 t = iblk m c 3 t := by dsimp only [dat]; try rfl
theorem after4 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 4 t = iblk m c 4 t := by dsimp only [dat]; try rfl
theorem after5 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 5 t = iblk m c 5 t := by dsimp only [dat]; try rfl
theorem after6 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 6 t = iblk m c 6 t := by dsimp only [dat]; try rfl
theorem after7 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 7 t = iblk m c 7 t := by dsimp only [dat]; try rfl
theorem after8 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) : (dat m P out 0 c).after 8 t = iblk m c 8 t := by dsimp only [dat]; try rfl
theorem before0 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) (d) : (dat m P out 0 c).before 0 t d = iblk m c 0 t :=
  ((dat m P out 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) (d) : (dat m P out 0 c).before 1 t d = iblk m c 1 t :=
  ((dat m P out 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) (d) : (dat m P out 0 c).before 2 t d = iblk m c 2 t :=
  ((dat m P out 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) (d) : (dat m P out 0 c).before 3 t d = iblk m c 3 t :=
  ((dat m P out 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) (d) : (dat m P out 0 c).before 4 t d = iblk m c 4 t :=
  ((dat m P out 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) (d) : (dat m P out 0 c).before 5 t d = iblk m c 5 t :=
  ((dat m P out 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) (d) : (dat m P out 0 c).before 6 t d = iblk m c 6 t :=
  ((dat m P out 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) (d) : (dat m P out 0 c).before 7 t d = iblk m c 7 t :=
  ((dat m P out 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (P : (c : Dev nD) → Fin ((cfgM m).N + 1) → sProp 𝕄) (out : (c : Dev nD) → (t : Fin (cfgM m).N) → (((cfgM m).win 9).block).Idx → Elt F ((cfgM m).win 9).elt) (c : Dev nD) (t : Fin (cfgM m).N) (d) : (dat m P out 0 c).before 8 t d = iblk m c 8 t :=
  ((dat m P out 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)

/-- The pipeline's row of the body table is the body at the point. -/
theorem defs₀_row (t : Fin (cfgM m).N) :
    defs₀ (F := F) .tc (cfgM m).body ((cfgM m).bodyArgs t ((cfgM m).slots t)) = bodyAt m t := by
  unfold defs₀; rw [Defs.onTc_tc]

/-- The arguments end unchanged, where the launch ends as the pipeline's frame says. -/
theorem frame_of (rdat : (c : Dev nD) → Pipeline.RDat τ (Elt F) Unit ℕ (UR sig nD τ) ℕ ((Pipeline.pin pcfgs fun _ => adm m) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 0 rfl).trans ((hA c 0).trans (V_arg0 m c)),
    (Pipeline.RDat.FramePost.arr_in h c 1 rfl).trans ((hA c 1).trans (V_arg1 m c)),
    (Pipeline.RDat.FramePost.arr_in h c 2 rfl).trans ((hA c 2).trans (V_arg2 m c)),
    (Pipeline.RDat.FramePost.arr_in h c 3 rfl).trans ((hA c 3).trans (V_arg3 m c)),
    (Pipeline.RDat.FramePost.arr_in h c 4 rfl).trans ((hA c 4).trans (V_arg4 m c)),
    ((h c).2 main_arg5 (by decide : main_arg5 ∈ Pipeline.restRefs sig spec0)).trans (V_arg5 m c),
    (Pipeline.RDat.FramePost.arr_in h c 5 rfl).trans ((hA c 5).trans (V_arg6 m c)),
    ((h c).2 main_arg7 (by decide : main_arg7 ∈ Pipeline.restRefs sig spec0)).trans (V_arg7 m c),
    ((h c).2 main_arg8 (by decide : main_arg8 ∈ Pipeline.restRefs sig spec0)).trans (V_arg8 m c),
    ((h c).2 main_arg9 (by decide : main_arg9 ∈ Pipeline.restRefs sig spec0)).trans (V_arg9 m c)⟩) h

end Cert.Proof.LstSet

end
-- ==== Proof.LstFun.lean ====
/-
What the routed experts' kernel body leaves in its two scratch arrays (the gathered rows and their running outputs)
and in its output block, as functions of what it finds there. Stated at every float instance.
-/
module

public import proofs.«01_k».proof.Proof.Gen.LastIdeal.Skeleton
public import Idealize.ShloMosaic.Lib.Exec
public import Idealize.ShloMosaic.Lib.Tactic
public import Idealize.ShloMosaic.Lib.Pipeline.Value

@[expose] public section

set_option maxRecDepth 16384

noncomputable section

namespace Cert.Proof.LstBody

open Cert.LastIdeal Cert.LastIdeal.Gen
open Idealize.ShloMosaic Idealize.ShloMosaic.TcCoe Idealize.ShloMosaic.Tactic

variable {F : FTy → Type} [FloatOps F]

/-- The whole of an array, loaded. -/
abbrev wR {F : FTy → Type} {e : EltTy} (X : Vec F S2048x1024 e) : Vec F S2048x1024 e :=
  View.ld X (Rect.unit (s := S2048x1024) ![0, 0] S2048x1024.size inb_S2048x1024_S2048x1024_0_0)
abbrev wG {F : FTy → Type} {e : EltTy} (X : Vec F S1x1x1024x512 e) : Vec F S1x1x1024x512 e :=
  View.ld X (Rect.unit (s := S1x1x1024x512) ![0, 0, 0, 0] S1x1x1024x512.size inb_S1x1x1024x512_S1x1x1024x512_0_0_0_0)
abbrev wD {F : FTy → Type} {e : EltTy} (X : Vec F S1x1x512x1024 e) : Vec F S1x1x512x1024 e :=
  View.ld X (Rect.unit (s := S1x1x512x1024) ![0, 0, 0, 0] S1x1x512x1024.size inb_S1x1x512x1024_S1x1x512x1024_0_0_0_0)
abbrev wC {F : FTy → Type} {e : EltTy} (X : Vec F S2048x128 e) : Vec F S2048x128 e :=
  View.ld X (Rect.unit (s := S2048x128) ![0, 0] S2048x128.size inb_S2048x128_S2048x128_0_0)
section Trip

variable (i : grid0.Coords) (v3 : BitVec 32) (hw : k0_chk1 i v3)

/-- The gathered rows after trip `k`: at the first block of hidden columns, 512 rows gathered afresh. -/
def gX (ST : Vec F S8x2048 .f32) (U : Vec F S2048x1024 .bf16) (k : Fin (k0_t1_loop v3).trips) (X : Vec F S2048x1024 .bf16) : Vec F S2048x1024 .bf16 :=
  if h : k0_cond2 i = 1#1 then
    (Rect.unit (s := S2048x1024) (k0_off3 v3 k) S512x1024.size (k0_off3_inb i v3 hw k h)).overlay X
      (k0_pay10 (F := F) v3 0#32 1#32 k (View.ld ST (Rect.unit (s := S8x2048) (k0_off2 i) S1x2048.size (k0_off2_inb i h))) (wR U))
  else X

/-- The running outputs after trip `k`, `X` the gathered rows it reads: 512 rows begun at the first block of hidden
    columns, added to at the others. -/
def gY (WG WU : Vec F S1x1x1024x512 .bf16) (WD : Vec F S1x1x512x1024 .bf16) (k : Fin (k0_t1_loop v3).trips)
    (X : Vec F S2048x1024 .bf16) (Y : Vec F S2048x1024 .f32) : Vec F S2048x1024 .f32 :=
  if h : k0_cond2 i = 1#1 then
    (Rect.unit (s := S2048x1024) (k0_off4 v3 k) S512x1024.size (k0_off4_inb i v3 hw k)).overlay Y
      (k0_pay12 (F := F) (View.ld X (Rect.unit (s := S2048x1024) (k0_off4 v3 k) S512x1024.size (k0_off4_inb i v3 hw k))) (wG WG) (wG WU) (wD WD))
  else
    (Rect.unit (s := S2048x1024) (k0_off4 v3 k) S512x1024.size (k0_off4_inb i v3 hw k)).overlay Y
      (k0_pay23 (F := F) (k0_pay11 (F := F) (View.ld X (Rect.unit (s := S2048x1024) (k0_off4 v3 k) S512x1024.size (k0_off4_inb i v3 hw k))) (wG WG) (wG WU) (wD WD))
        (View.ld Y (Rect.unit (s := S2048x1024) (k0_off4 v3 k) S512x1024.size (k0_off4_inb i v3 hw k))))

/-- The two scratch arrays before trip `k`. -/
def it (ST : Vec F S8x2048 .f32) (U : Vec F S2048x1024 .bf16) (WG WU : Vec F S1x1x1024x512 .bf16) (WD : Vec F S1x1x512x1024 .bf16)
    (X : Vec F S2048x1024 .bf16) (Y : Vec F S2048x1024 .f32) : ℕ → Vec F S2048x1024 .bf16 × Vec F S2048x1024 .f32
  | 0 => (X, Y)
  | k + 1 => if h : k < (k0_t1_loop v3).trips then
      (gX i v3 hw ST U ⟨k, h⟩ (it ST U WG WU WD X Y k).1,
        gY i v3 hw WG WU WD ⟨k, h⟩ (gX i v3 hw ST U ⟨k, h⟩ (it ST U WG WU WD X Y k).1) (it ST U WG WU WD X Y k).2)
    else it ST U WG WU WD X Y k

theorem it_succ (ST : Vec F S8x2048 .f32) (U : Vec F S2048x1024 .bf16) (WG WU : Vec F S1x1x1024x512 .bf16) (WD : Vec F S1x1x512x1024 .bf16)
    (X : Vec F S2048x1024 .bf16) (Y : Vec F S2048x1024 .f32) (k : Fin (k0_t1_loop v3).trips) :
    it i v3 hw ST U WG WU WD X Y (k.val + 1) = (gX i v3 hw ST U k (it i v3 hw ST U WG WU WD X Y k.val).1,
        gY i v3 hw WG WU WD k (gX i v3 hw ST U k (it i v3 hw ST U WG WU WD X Y k.val).1) (it i v3 hw ST U WG WU WD X Y k.val).2) := by
  rw [it, dif_pos k.isLt]

/-- The gathered rows after the block of 256 rows, if there is one. -/
def bX (ST : Vec F S8x2048 .f32) (U : Vec F S2048x1024 .bf16) (X : Vec F S2048x1024 .bf16) : Vec F S2048x1024 .bf16 :=
  if h8 : k0_cond8 v3 = 1#1 then
    if h : k0_cond2 i = 1#1 then
      (Rect.unit (s := S2048x1024) (k0_off13 v3) S256x1024.size (k0_off13_inb i v3 hw h8 h)).overlay X
        (k0_pay25 (F := F) v3 (View.ld ST (Rect.unit (s := S8x2048) (k0_off12 i) S1x2048.size (k0_off12_inb i h))) (wR U))
    else X
  else X

/-- The running outputs after the block of 256 rows, if there is one. -/
def bY (WG WU : Vec F S1x1x1024x512 .bf16) (WD : Vec F S1x1x512x1024 .bf16)
    (X : Vec F S2048x1024 .bf16) (Y : Vec F S2048x1024 .f32) : Vec F S2048x1024 .f32 :=
  if h8 : k0_cond8 v3 = 1#1 then
    if h : k0_cond2 i = 1#1 then
      (Rect.unit (s := S2048x1024) (k0_off14 v3) S256x1024.size (k0_off14_inb i v3 hw h8)).overlay Y
        (k0_pay27 (F := F) (View.ld X (Rect.unit (s := S2048x1024) (k0_off14 v3) S256x1024.size (k0_off14_inb i v3 hw h8))) (wG WG) (wG WU) (wD WD))
    else
      (Rect.unit (s := S2048x1024) (k0_off14 v3) S256x1024.size (k0_off14_inb i v3 hw h8)).overlay Y
        (k0_pay28 (F := F) (View.ld X (Rect.unit (s := S2048x1024) (k0_off14 v3) S256x1024.size (k0_off14_inb i v3 hw h8))) (wG WG) (wG WU) (wD WD)
          (View.ld Y (Rect.unit (s := S2048x1024) (k0_off14 v3) S256x1024.size (k0_off14_inb i v3 hw h8))))
  else Y

/-- The gathered rows after the block of 128 rows, if there is one. -/
def eX (ST : Vec F S8x2048 .f32) (U : Vec F S2048x1024 .bf16) (X : Vec F S2048x1024 .bf16) : Vec F S2048x1024 .bf16 :=
  if h12 : k0_cond12 v3 = 1#1 then
    if h : k0_cond2 i = 1#1 then
      (Rect.unit (s := S2048x1024) (k0_off18 v3) S128x1024.size (k0_off18_inb i v3 hw h12 h)).overlay X
        (k0_pay29 (F := F) v3 (View.ld ST (Rect.unit (s := S8x2048) (k0_off17 i) S1x2048.size (k0_off17_inb i h))) (wR U))
    else X
  else X

/-- The running outputs after the block of 128 rows, if there is one. -/
def eY (WG WU : Vec F S1x1x1024x512 .bf16) (WD : Vec F S1x1x512x1024 .bf16)
    (X : Vec F S2048x1024 .bf16) (Y : Vec F S2048x1024 .f32) : Vec F S2048x1024 .f32 :=
  if h12 : k0_cond12 v3 = 1#1 then
    if h : k0_cond2 i = 1#1 then
      (Rect.unit (s := S2048x1024) (k0_off19 v3) S128x1024.size (k0_off19_inb i v3 hw h12)).overlay Y
        (k0_pay31 (F := F) (View.ld X (Rect.unit (s := S2048x1024) (k0_off19 v3) S128x1024.size (k0_off19_inb i v3 hw h12))) (wG WG) (wG WU) (wD WD))
    else
      (Rect.unit (s := S2048x1024) (k0_off19 v3) S128x1024.size (k0_off19_inb i v3 hw h12)).overlay Y
        (k0_pay32 (F := F) (View.ld X (Rect.unit (s := S2048x1024) (k0_off19 v3) S128x1024.size (k0_off19_inb i v3 hw h12))) (wG WG) (wG WU) (wD WD)
          (View.ld Y (Rect.unit (s := S2048x1024) (k0_off19 v3) S128x1024.size (k0_off19_inb i v3 hw h12))))
  else Y

section Phase
variable (ST : Vec F S8x2048 .f32) (U : Vec F S2048x1024 .bf16) (WG WU : Vec F S1x1x1024x512 .bf16) (WD : Vec F S1x1x512x1024 .bf16)
    (X : Vec F S2048x1024 .bf16) (Y : Vec F S2048x1024 .f32)

/-- The gathered rows and the running outputs after all the blocks of a grid point. -/
def X1 : Vec F S2048x1024 .bf16 := (it i v3 hw ST U WG WU WD X Y (k0_t1_loop v3).trips).1
def Y1 : Vec F S2048x1024 .f32 := (it i v3 hw ST U WG WU WD X Y (k0_t1_loop v3).trips).2
def X2 : Vec F S2048x1024 .bf16 := bX i v3 hw ST U (X1 i v3 hw ST U WG WU WD X Y)
def Y2 : Vec F S2048x1024 .f32 := bY i v3 hw WG WU WD (X2 i v3 hw ST U WG WU WD X Y) (Y1 i v3 hw ST U WG WU WD X Y)
def X3 : Vec F S2048x1024 .bf16 := eX i v3 hw ST U (X2 i v3 hw ST U WG WU WD X Y)
def Y3 : Vec F S2048x1024 .f32 := eY i v3 hw WG WU WD (X3 i v3 hw ST U WG WU WD X Y) (Y2 i v3 hw ST U WG WU WD X Y)
end Phase

/-- The output block, cleared at a tile's first point. -/
def O1 (O : Vec F S2048x1024 .f32) : Vec F S2048x1024 .f32 :=
  if k0_cond1 i = 1#1 then k0_pay22 (F := F) else O

/-- The offsets of the block of 256 rows and of the block of 128 rows. -/
abbrev w11 : BitVec 32 := Scalar.muli (Scalar.shrui v3 2#32) 512#32
abbrev w15 : BitVec 32 := Scalar.addi (Scalar.muli (Scalar.shrui v3 2#32) 512#32) (Scalar.muli (Scalar.andi v3 2#32) 128#32)

/-- The output block after `k` scattered blocks of 512 rows (`S` the slots, `W` the weights, `Y` the running outputs). -/
def ot (h : k0_cond16 i v3 = 1#1) (W S : Vec F S2048x128 .f32) (Y O : Vec F S2048x1024 .f32) : ℕ → Vec F S2048x1024 .f32
  | 0 => O
  | k + 1 => if hk : k < (k0_t3_loop v3).trips then
      k0_pay4 (F := F) (BitVec.ofNat 32 (i 1).val) v3 (wC S) (wC W) ⟨k, hk⟩ (wR (ot h W S Y O k))
        (View.ld Y (Rect.unit (s := S2048x1024) (k0_off22 v3 ⟨k, hk⟩) S512x1024.size (k0_off22_inb i v3 hw ⟨k, hk⟩ h)))
    else ot h W S Y O k

/-- The output block after the block of 256 rows, if there is one. -/
def o17 (h : k0_cond16 i v3 = 1#1) (W S : Vec F S2048x128 .f32) (Y O : Vec F S2048x1024 .f32) : Vec F S2048x1024 .f32 :=
  if h17 : k0_cond17 v3 = 1#1 then
    k0_pay6 (F := F) (BitVec.ofNat 32 (i 1).val) (w11 v3) (wC S) (wC W) (wR O)
      (View.ld Y (Rect.unit (s := S2048x1024) (k0_off24 v3) S256x1024.size (k0_off24_inb i v3 hw h h17)))
  else O

/-- The output block after the block of 128 rows, if there is one. -/
def o18 (h : k0_cond16 i v3 = 1#1) (W S : Vec F S2048x128 .f32) (Y O : Vec F S2048x1024 .f32) : Vec F S2048x1024 .f32 :=
  if h18 : k0_cond18 v3 = 1#1 then
    k0_pay7 (F := F) (BitVec.ofNat 32 (i 1).val) (w15 v3) (wC S) (wC W) (wR O)
      (View.ld Y (Rect.unit (s := S2048x1024) (k0_off25 v3) S128x1024.size (k0_off25_inb i v3 hw h h18)))
  else O

/-- The output block after an expert's outputs are scattered. -/
def O2 (W S : Vec F S2048x128 .f32) (Y O : Vec F S2048x1024 .f32) : Vec F S2048x1024 .f32 :=
  if h : k0_cond16 i v3 = 1#1 then
    o18 i v3 hw h W S Y (o17 i v3 hw h W S Y (ot i v3 hw h W S Y O (k0_t3_loop v3).trips))
  else O

/-- The residual connection, eight row blocks one after the other. -/
def fin (H : Vec F S2048x1024 .f32) (M : Vec F S8x8x1024 .f32) (O : Vec F S2048x1024 .f32) : Vec F S2048x1024 .f32 :=
  ((Rect.unit (s := S2048x1024) ![1792, 0] S256x1024.size inb_S2048x1024_S256x1024_1792_0).overlay ((Rect.unit (s := S2048x1024) ![1536, 0] S256x1024.size inb_S2048x1024_S256x1024_1536_0).overlay ((Rect.unit (s := S2048x1024) ![1280, 0] S256x1024.size inb_S2048x1024_S256x1024_1280_0).overlay ((Rect.unit (s := S2048x1024) ![1024, 0] S256x1024.size inb_S2048x1024_S256x1024_1024_0).overlay ((Rect.unit (s := S2048x1024) ![768, 0] S256x1024.size inb_S2048x1024_S256x1024_768_0).overlay ((Rect.unit (s := S2048x1024) ![512, 0] S256x1024.size inb_S2048x1024_S256x1024_512_0).overlay ((Rect.unit (s := S2048x1024) ![256, 0] S256x1024.size inb_S2048x1024_S256x1024_256_0).overlay ((Rect.unit (s := S2048x1024) ![0, 0] S256x1024.size inb_S2048x1024_S256x1024_0_0).overlay O
    (k0_pay16 (F := F) (View.ld H (Rect.unit (s := S2048x1024) ![0, 0] S256x1024.size inb_S2048x1024_S256x1024_0_0)) (View.ld M (Rect.unit (s := S8x8x1024) ![0, 5, 0] S1x1x1024.size inb_S8x8x1024_S1x1x1024_0_5_0)) (View.ld O (Rect.unit (s := S2048x1024) ![0, 0] S256x1024.size inb_S2048x1024_S256x1024_0_0))))
    (k0_pay17 (F := F) (View.ld H (Rect.unit (s := S2048x1024) ![256, 0] S256x1024.size inb_S2048x1024_S256x1024_256_0)) (View.ld M (Rect.unit (s := S8x8x1024) ![1, 5, 0] S1x1x1024.size inb_S8x8x1024_S1x1x1024_1_5_0)) (View.ld O (Rect.unit (s := S2048x1024) ![256, 0] S256x1024.size inb_S2048x1024_S256x1024_256_0))))
    (k0_pay18 (F := F) (View.ld H (Rect.unit (s := S2048x1024) ![512, 0] S256x1024.size inb_S2048x1024_S256x1024_512_0)) (View.ld M (Rect.unit (s := S8x8x1024) ![2, 5, 0] S1x1x1024.size inb_S8x8x1024_S1x1x1024_2_5_0)) (View.ld O (Rect.unit (s := S2048x1024) ![512, 0] S256x1024.size inb_S2048x1024_S256x1024_512_0))))
    (k0_pay19 (F := F) (View.ld H (Rect.unit (s := S2048x1024) ![768, 0] S256x1024.size inb_S2048x1024_S256x1024_768_0)) (View.ld M (Rect.unit (s := S8x8x1024) ![3, 5, 0] S1x1x1024.size inb_S8x8x1024_S1x1x1024_3_5_0)) (View.ld O (Rect.unit (s := S2048x1024) ![768, 0] S256x1024.size inb_S2048x1024_S256x1024_768_0))))
    (k0_pay20 (F := F) (View.ld H (Rect.unit (s := S2048x1024) ![1024, 0] S256x1024.size inb_S2048x1024_S256x1024_1024_0)) (View.ld M (Rect.unit (s := S8x8x1024) ![4, 5, 0] S1x1x1024.size inb_S8x8x1024_S1x1x1024_4_5_0)) (View.ld O (Rect.unit (s := S2048x1024) ![1024, 0] S256x1024.size inb_S2048x1024_S256x1024_1024_0))))
    (k0_pay21 (F := F) (View.ld H (Rect.unit (s := S2048x1024) ![1280, 0] S256x1024.size inb_S2048x1024_S256x1024_1280_0)) (View.ld M (Rect.unit (s := S8x8x1024) ![5, 5, 0] S1x1x1024.size inb_S8x8x1024_S1x1x1024_5_5_0)) (View.ld O (Rect.unit (s := S2048x1024) ![1280, 0] S256x1024.size inb_S2048x1024_S256x1024_1280_0))))
    (k0_pay8 (F := F) (View.ld H (Rect.unit (s := S2048x1024) ![1536, 0] S256x1024.size inb_S2048x1024_S256x1024_1536_0)) (View.ld M (Rect.unit (s := S8x8x1024) ![6, 5, 0] S1x1x1024.size inb_S8x8x1024_S1x1x1024_6_5_0)) (View.ld O (Rect.unit (s := S2048x1024) ![1536, 0] S256x1024.size inb_S2048x1024_S256x1024_1536_0))))
    (k0_pay9 (F := F) (View.ld H (Rect.unit (s := S2048x1024) ![1792, 0] S256x1024.size inb_S2048x1024_S256x1024_1792_0)) (View.ld M (Rect.unit (s := S8x8x1024) ![7, 5, 0] S1x1x1024.size inb_S8x8x1024_S1x1x1024_7_5_0)) (View.ld O (Rect.unit (s := S2048x1024) ![1792, 0] S256x1024.size inb_S2048x1024_S256x1024_1792_0))))

/-- The output block at the end of the body. -/
def O3 (H : Vec F S2048x1024 .f32) (M : Vec F S8x8x1024 .f32) (W S : Vec F S2048x128 .f32) (Y O : Vec F S2048x1024 .f32) : Vec F S2048x1024 .f32 :=
  if k0_cond19 i = 1#1 then fin H M (O2 i v3 hw W S Y O) else O2 i v3 hw W S Y O

end Trip

end Cert.Proof.LstBody
-- ==== Proof.LstBody.lean ====
/-
The routed experts' kernel body, its first part, run once on whole buffers: it leaves in the two scratch arrays and
in the output block what the functions of `LstFun` say. Stated at every float instance.
-/
module

public import proofs.«01_k».proof.Proof.LstFun
public import proofs.«01_k».proof.Proof.Gen.LastIdeal.Launch
public import Idealize.ShloMosaic.Lib.Exec
public import Idealize.ShloMosaic.Lib.Tactic
public import Idealize.ShloMosaic.Lib.LoopRemainder
public import Idealize.ShloMosaic.Lib.Writes
public import Idealize.ShloMosaic.Lib.Pipeline.Kit
public import Idealize.ShloMosaic.Lib.Pipeline.Value

@[expose] public section

set_option maxRecDepth 16384

noncomputable section

namespace Cert.Proof.LstBody

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One store through a rectangle reads as the old contents overlaid there with what was stored. -/
theorem read_one {κ : Kind} {sp : Space} {s : Shape} {e : EltTy} (v : View sig κ sp s e) (f : v.ty.Contents (Elt F))
    (r : Rect s) (p : r.shape.Idx → Elt F e) :
    v.read (Elt F) (v.writes (Elt F) f [⟨r, p⟩]) = r.overlay (v.read (Elt F) f) p := by
  funext y
  by_cases hy : y ∈ r.set
  · obtain ⟨x, rfl⟩ := r.exists_idx_of_mem hy
    exact (View.read_writes_cons_emb v f r p [] x).trans (Rect.overlay_emb r _ _ x).symm
  · rw [View.read_writes_apply_of_forall_not_mem v f y _ (fun q hq => by
      obtain rfl := List.mem_singleton.mp hq; exact hy), Rect.overlay_of_not_mem _ _ _ hy]

/-- A store of a whole array reads as what was stored. -/
theorem read_all {sp : Space} {e : EltTy} (v : View sig .tc sp S2048x1024 e) (f : v.ty.Contents (Elt F)) (p : Vec F S2048x1024 e) :
    v.read (Elt F) (v.writes (Elt F) f [⟨Rect.unit (s := S2048x1024) ![0, 0] S2048x1024.size inb_S2048x1024_S2048x1024_0_0, p⟩]) = p := by
  funext y
  have hy : (Rect.unit (s := S2048x1024) ![0, 0] S2048x1024.size inb_S2048x1024_S2048x1024_0_0).emb y = y := by
    funext a; refine Fin.ext ?_
    show (![0, 0] a : ℕ) + 1 * (y a : ℕ) = (y a : ℕ)
    fin_cases a <;> exact (Nat.zero_add _).trans (Nat.one_mul _)
  have := View.read_writes_cons_emb v f (Rect.unit (s := S2048x1024) ![0, 0] S2048x1024.size inb_S2048x1024_S2048x1024_0_0) p [] y
  rwa [hy] at this

section Trip

variable (i : grid0.Coords) (v3 : BitVec 32) (hw : k0_chk1 i v3)

variable (c : Dev nD)
  (arg3 : Memref sig .tc .smem S136 .i32) (harg3 : arg3.IsWhole)
  (arg4 : Memref sig .tc .vmem S2048x1024 .f32) (harg4 : arg4.IsWhole)
  (arg5 : Memref sig .tc .vmem S2048x1024 .bf16) (harg5 : arg5.IsWhole)
  (arg6 : Memref sig .tc .vmem S2048x128 .f32) (harg6 : arg6.IsWhole)
  (arg7 : Memref sig .tc .vmem S2048x128 .f32) (harg7 : arg7.IsWhole)
  (arg8 : Memref sig .tc .vmem S8x2048 .f32) (harg8 : arg8.IsWhole)
  (arg9 : Memref sig .tc .vmem S8x8x1024 .f32) (harg9 : arg9.IsWhole)
  (arg10 : Memref sig .tc .vmem S1x1x1024x512 .bf16) (harg10 : arg10.IsWhole)
  (arg11 : Memref sig .tc .vmem S1x1x1024x512 .bf16) (harg11 : arg11.IsWhole)
  (arg12 : Memref sig .tc .vmem S1x1x512x1024 .bf16) (harg12 : arg12.IsWhole)
  (arg13 : Memref sig .tc .vmem S2048x1024 .f32) (harg13 : arg13.IsWhole)
  (arg14 : Memref sig .tc .vmem S2048x1024 .bf16) (harg14 : arg14.IsWhole)
  (arg15 : Memref sig .tc .vmem S2048x1024 .f32) (harg15 : arg15.IsWhole)

/-- A counter's comparisons with nought: equal, and greater. -/
theorem cond_first (h : (i 2).val = 0) : k0_cond2 i = 1#1 ∧ k0_cond3 i = 1#1 ∧ ¬k0_cond4 i = 1#1
    ∧ k0_cond9 i = 1#1 ∧ k0_cond10 i = 1#1 ∧ ¬k0_cond11 i = 1#1 ∧ k0_cond13 i = 1#1 ∧ k0_cond14 i = 1#1 ∧ ¬k0_cond15 i = 1#1 := by
  unfold k0_cond2 k0_cond3 k0_cond4 k0_cond9 k0_cond10 k0_cond11 k0_cond13 k0_cond14 k0_cond15; rw [h]; decide

theorem cond_later (h : (i 2).val ≠ 0) : ¬k0_cond2 i = 1#1 ∧ ¬k0_cond3 i = 1#1 ∧ k0_cond4 i = 1#1
    ∧ ¬k0_cond9 i = 1#1 ∧ ¬k0_cond10 i = 1#1 ∧ k0_cond11 i = 1#1 ∧ ¬k0_cond13 i = 1#1 ∧ ¬k0_cond14 i = 1#1 ∧ k0_cond15 i = 1#1 := by
  unfold k0_cond2 k0_cond3 k0_cond4 k0_cond9 k0_cond10 k0_cond11 k0_cond13 k0_cond14 k0_cond15
  generalize i 2 = q at h ⊢
  revert q; show ∀ q : Fin 7, _; decide

/-- What a trip reads and writes: the inputs it reads, the gathered rows and the running outputs. -/
abbrev Held (ST : Vec F S8x2048 .f32) (U : Vec F S2048x1024 .bf16) (WG WU : Vec F S1x1x1024x512 .bf16) (WD : Vec F S1x1x512x1024 .bf16)
    (X : Vec F S2048x1024 .bf16) (Y : Vec F S2048x1024 .f32) : sProp 𝕄 :=
  iprop(owns (c : Thread nD τ) arg8 fullShare ST ∗ owns (c : Thread nD τ) arg5 fullShare U ∗ owns (c : Thread nD τ) arg10 fullShare WG
    ∗ owns (c : Thread nD τ) arg11 fullShare WU ∗ owns (c : Thread nD τ) arg12 fullShare WD
    ∗ owns (c : Thread nD τ) arg14 fullShare X ∗ owns (c : Thread nD τ) arg15 fullShare Y)

set_option maxHeartbeats 2000000 in
/-- One trip over a block of 512 rows. -/
theorem trip (ST : Vec F S8x2048 .f32) (U : Vec F S2048x1024 .bf16) (WG WU : Vec F S1x1x1024x512 .bf16) (WD : Vec F S1x1x512x1024 .bf16)
    (X : Vec F S2048x1024 .bf16) (Y : Vec F S2048x1024 .f32) (k : Fin (k0_t1_loop v3).trips) (E : Set ℕ) (a1 : BitVec 32) (a2 : BitVec 32) :
    Held c arg5 arg8 arg10 arg11 arg12 arg14 arg15 ST U WG WU WD X Y
      ⊢ wp frame (wpE (defs₀ (F := F)) Variants.none (c : Thread nD τ) none) E
          (k0_t1_body (F := F) i arg3 harg3 arg4 harg4 arg5 harg5 arg6 harg6 arg7 harg7 arg8 harg8 arg9 harg9 arg10 harg10 arg11 harg11 arg12 harg12 arg13 harg13 arg14 harg14 arg15 harg15 a1 a2 v3 hw k ())
          (fun _ => Held c arg5 arg8 arg10 arg11 arg12 arg14 arg15 ST U WG WU WD (gX i v3 hw ST U k X) (gY i v3 hw WG WU WD k (gX i v3 hw ST U k X) Y)) := by
  unfold Held owns
  iintro ⟨⟨%f8, %hf8, H8⟩, ⟨%f5, %hf5, H5⟩, ⟨%f10, %hf10, H10⟩, ⟨%f11, %hf11, H11⟩, ⟨%f12, %hf12, H12⟩, ⟨%f14, %hf14, H14⟩, ⟨%f15, %hf15, H15⟩⟩
  subst hf8 hf5 hf10 hf11 hf12 hf14 hf15
  by_cases h0 : (i 2).val = 0
  · obtain ⟨hc2, hc3, hc4, -⟩ := cond_first i h0
    sl_unfold [k0_t1_body]
    sl_exec (disch := first | sl_exact hc2 | sl_exact hc3 | sl_exact hc4)
    sl_step
    isplitl [H8]; · iexists _; isplitr; · ipureintro; rfl
                    iexact H8
    isplitl [H5]; · iexists _; isplitr; · ipureintro; rfl
                    iexact H5
    isplitl [H10]; · iexists _; isplitr; · ipureintro; rfl
                     iexact H10
    isplitl [H11]; · iexists _; isplitr; · ipureintro; rfl
                     iexact H11
    isplitl [H12]; · iexists _; isplitr; · ipureintro; rfl
                     iexact H12
    isplitl [H14]
    · iexists _; isplitr; swap; · iexact H14
      ipureintro; unfold gX; rw [dif_pos hc2]; exact read_one _ _ _ _
    iexists _; isplitr; swap; · iexact H15
    ipureintro; unfold gY gX; rw [dif_pos hc2, dif_pos hc2]; refine (read_one _ _ _ _).trans ?_; exact congrArg _ (congrArg (fun q => k0_pay12 (F := F) q _ _ _) (congrArg (fun q => View.ld q _) (read_one _ _ _ _)))
  · obtain ⟨hc2, hc3, hc4, -⟩ := cond_later i h0
    sl_unfold [k0_t1_body]
    sl_exec (disch := first | sl_exact hc2 | sl_exact hc3 | sl_exact hc4)
    sl_step
    isplitl [H8]; · iexists _; isplitr; · ipureintro; rfl
                    iexact H8
    isplitl [H5]; · iexists _; isplitr; · ipureintro; rfl
                    iexact H5
    isplitl [H10]; · iexists _; isplitr; · ipureintro; rfl
                     iexact H10
    isplitl [H11]; · iexists _; isplitr; · ipureintro; rfl
                     iexact H11
    isplitl [H12]; · iexists _; isplitr; · ipureintro; rfl
                     iexact H12
    isplitl [H14]
    · iexists _; isplitr; swap; · iexact H14
      ipureintro; unfold gX; rw [dif_neg hc2]
    iexists _; isplitr; swap; · iexact H15
    ipureintro; unfold gY gX; rw [dif_neg hc2, dif_neg hc2]; exact read_one _ _ _ _

/-- One trip, from what the trips before it left. -/
theorem trip_it (ST : Vec F S8x2048 .f32) (U : Vec F S2048x1024 .bf16) (WG WU : Vec F S1x1x1024x512 .bf16) (WD : Vec F S1x1x512x1024 .bf16)
    (X : Vec F S2048x1024 .bf16) (Y : Vec F S2048x1024 .f32) (k : Fin (k0_t1_loop v3).trips) (E : Set ℕ) (a1 : BitVec 32) (a2 : BitVec 32) :
    Held c arg5 arg8 arg10 arg11 arg12 arg14 arg15 ST U WG WU WD (it i v3 hw ST U WG WU WD X Y k.val).1 (it i v3 hw ST U WG WU WD X Y k.val).2
      ⊢ wp frame (wpE (defs₀ (F := F)) Variants.none (c : Thread nD τ) none) E
          (k0_t1_body (F := F) i arg3 harg3 arg4 harg4 arg5 harg5 arg6 harg6 arg7 harg7 arg8 harg8 arg9 harg9 arg10 harg10 arg11 harg11 arg12 harg12 arg13 harg13 arg14 harg14 arg15 harg15 a1 a2 v3 hw k ())
          (fun _ => Held c arg5 arg8 arg10 arg11 arg12 arg14 arg15 ST U WG WU WD
            (it i v3 hw ST U WG WU WD X Y (k.val + 1)).1 (it i v3 hw ST U WG WU WD X Y (k.val + 1)).2) := by
  rw [it_succ]
  exact trip i v3 hw c arg3 harg3 arg4 harg4 arg5 harg5 arg6 harg6 arg7 harg7 arg8 harg8 arg9 harg9 arg10 harg10 arg11 harg11 arg12 harg12 arg13 harg13 arg14 harg14 arg15 harg15 ST U WG WU WD _ _ k E a1 a2

/-- The word of the table a grid point reads: how many blocks of 128 rows its expert has in its tile. -/
abbrev wd (T : arg3.view.ty.Contents (Elt F)) : BitVec 32 :=
  arg3.view.readAt (Elt F) (Rect.unit (s := S136) (k0_off1 i) S1.size (k0_off1_inb i)).toLoadRect T (Shape.Idx.first (numel1_S1.symm ▸ Nat.one_pos))

/-- A block of a weight, loaded whole. -/
abbrev rdG (a : Memref sig .tc .vmem S1x1x1024x512 .bf16) (f : a.view.ty.Contents (Elt F)) : Vec F S1x1x1024x512 .bf16 :=
  a.view.readAt (Elt F) (Rect.unit (s := S1x1x1024x512) ![0, 0, 0, 0] S1x1x1024x512.size inb_S1x1x1024x512_S1x1x1024x512_0_0_0_0).toLoadRect f
abbrev rdD (a : Memref sig .tc .vmem S1x1x512x1024 .bf16) (f : a.view.ty.Contents (Elt F)) : Vec F S1x1x512x1024 .bf16 :=
  a.view.readAt (Elt F) (Rect.unit (s := S1x1x512x1024) ![0, 0, 0, 0] S1x1x512x1024.size inb_S1x1x512x1024_S1x1x512x1024_0_0_0_0).toLoadRect f

/-- The same on buffers. -/
def bXc (f8 : arg8.view.ty.Contents (Elt F)) (f5 : arg5.view.ty.Contents (Elt F)) (f14 : arg14.view.ty.Contents (Elt F)) : arg14.view.ty.Contents (Elt F) :=
  if hb : k0_cond8 v3 = 1#1 then
    if h : k0_cond2 i = 1#1 then
      arg14.view.writes (Elt F) f14 [⟨Rect.unit (s := S2048x1024) (k0_off13 v3) S256x1024.size (k0_off13_inb i v3 hw hb h),
        k0_pay25 (F := F) v3 (arg8.view.readAt (Elt F) (Rect.unit (s := S8x2048) (k0_off12 i) S1x2048.size (k0_off12_inb i h)).toLoadRect f8)
          (arg5.view.readAt (Elt F) (Rect.unit (s := S2048x1024) ![0, 0] S2048x1024.size inb_S2048x1024_S2048x1024_0_0).toLoadRect f5)⟩]
    else f14
  else f14

def bYc (f10 : arg10.view.ty.Contents (Elt F)) (f11 : arg11.view.ty.Contents (Elt F)) (f12 : arg12.view.ty.Contents (Elt F))
    (f14 : arg14.view.ty.Contents (Elt F)) (f15 : arg15.view.ty.Contents (Elt F)) : arg15.view.ty.Contents (Elt F) :=
  if hb : k0_cond8 v3 = 1#1 then
    if h : k0_cond2 i = 1#1 then
      arg15.view.writes (Elt F) f15 [⟨Rect.unit (s := S2048x1024) (k0_off14 v3) S256x1024.size (k0_off14_inb i v3 hw hb),
        k0_pay27 (F := F) (arg14.view.readAt (Elt F) (Rect.unit (s := S2048x1024) (k0_off14 v3) S256x1024.size (k0_off14_inb i v3 hw hb)).toLoadRect f14)
          (rdG arg10 f10) (rdG arg11 f11) (rdD arg12 f12)⟩]
    else
      arg15.view.writes (Elt F) f15 [⟨Rect.unit (s := S2048x1024) (k0_off14 v3) S256x1024.size (k0_off14_inb i v3 hw hb),
        k0_pay28 (F := F) (arg14.view.readAt (Elt F) (Rect.unit (s := S2048x1024) (k0_off14 v3) S256x1024.size (k0_off14_inb i v3 hw hb)).toLoadRect f14)
          (rdG arg10 f10) (rdG arg11 f11) (rdD arg12 f12)
          (arg15.view.readAt (Elt F) (Rect.unit (s := S2048x1024) (k0_off14 v3) S256x1024.size (k0_off14_inb i v3 hw hb)).toLoadRect f15)⟩]
  else f15

theorem read_bXc (f8 : arg8.view.ty.Contents (Elt F)) (f5 : arg5.view.ty.Contents (Elt F)) (f14 : arg14.view.ty.Contents (Elt F)) :
    arg14.view.read (Elt F) (bXc i v3 hw arg5 arg8 arg14 f8 f5 f14)
      = bX i v3 hw (arg8.view.read (Elt F) f8) (arg5.view.read (Elt F) f5) (arg14.view.read (Elt F) f14) := by
  unfold bXc bX; split_ifs
  · exact read_one _ _ _ _
  · rfl
  · rfl

theorem read_bYc (f10 : arg10.view.ty.Contents (Elt F)) (f11 : arg11.view.ty.Contents (Elt F)) (f12 : arg12.view.ty.Contents (Elt F))
    (f14 : arg14.view.ty.Contents (Elt F)) (f15 : arg15.view.ty.Contents (Elt F)) :
    arg15.view.read (Elt F) (bYc i v3 hw arg10 arg11 arg12 arg14 arg15 f10 f11 f12 f14 f15)
      = bY i v3 hw (arg10.view.read (Elt F) f10) (arg11.view.read (Elt F) f11) (arg12.view.read (Elt F) f12)
          (arg14.view.read (Elt F) f14) (arg15.view.read (Elt F) f15) := by
  unfold bYc bY; split_ifs
  · exact read_one _ _ _ _
  · exact read_one _ _ _ _
  · rfl

/-- The same on buffers. -/
def eXc (f8 : arg8.view.ty.Contents (Elt F)) (f5 : arg5.view.ty.Contents (Elt F)) (f14 : arg14.view.ty.Contents (Elt F)) : arg14.view.ty.Contents (Elt F) :=
  if hb : k0_cond12 v3 = 1#1 then
    if h : k0_cond2 i = 1#1 then
      arg14.view.writes (Elt F) f14 [⟨Rect.unit (s := S2048x1024) (k0_off18 v3) S128x1024.size (k0_off18_inb i v3 hw hb h),
        k0_pay29 (F := F) v3 (arg8.view.readAt (Elt F) (Rect.unit (s := S8x2048) (k0_off17 i) S1x2048.size (k0_off17_inb i h)).toLoadRect f8)
          (arg5.view.readAt (Elt F) (Rect.unit (s := S2048x1024) ![0, 0] S2048x1024.size inb_S2048x1024_S2048x1024_0_0).toLoadRect f5)⟩]
    else f14
  else f14

def eYc (f10 : arg10.view.ty.Contents (Elt F)) (f11 : arg11.view.ty.Contents (Elt F)) (f12 : arg12.view.ty.Contents (Elt F))
    (f14 : arg14.view.ty.Contents (Elt F)) (f15 : arg15.view.ty.Contents (Elt F)) : arg15.view.ty.Contents (Elt F) :=
  if hb : k0_cond12 v3 = 1#1 then
    if h : k0_cond2 i = 1#1 then
      arg15.view.writes (Elt F) f15 [⟨Rect.unit (s := S2048x1024) (k0_off19 v3) S128x1024.size (k0_off19_inb i v3 hw hb),
        k0_pay31 (F := F) (arg14.view.readAt (Elt F) (Rect.unit (s := S2048x1024) (k0_off19 v3) S128x1024.size (k0_off19_inb i v3 hw hb)).toLoadRect f14)
          (rdG arg10 f10) (rdG arg11 f11) (rdD arg12 f12)⟩]
    else
      arg15.view.writes (Elt F) f15 [⟨Rect.unit (s := S2048x1024) (k0_off19 v3) S128x1024.size (k0_off19_inb i v3 hw hb),
        k0_pay32 (F := F) (arg14.view.readAt (Elt F) (Rect.unit (s := S2048x1024) (k0_off19 v3) S128x1024.size (k0_off19_inb i v3 hw hb)).toLoadRect f14)
          (rdG arg10 f10) (rdG arg11 f11) (rdD arg12 f12)
          (arg15.view.readAt (Elt F) (Rect.unit (s := S2048x1024) (k0_off19 v3) S128x1024.size (k0_off19_inb i v3 hw hb)).toLoadRect f15)⟩]
  else f15

theorem read_eXc (f8 : arg8.view.ty.Contents (Elt F)) (f5 : arg5.view.ty.Contents (Elt F)) (f14 : arg14.view.ty.Contents (Elt F)) :
    arg14.view.read (Elt F) (eXc i v3 hw arg5 arg8 arg14 f8 f5 f14)
      = eX i v3 hw (arg8.view.read (Elt F) f8) (arg5.view.read (Elt F) f5) (arg14.view.read (Elt F) f14) := by
  unfold eXc eX; split_ifs
  · exact read_one _ _ _ _
  · rfl
  · rfl

theorem read_eYc (f10 : arg10.view.ty.Contents (Elt F)) (f11 : arg11.view.ty.Contents (Elt F)) (f12 : arg12.view.ty.Contents (Elt F))
    (f14 : arg14.view.ty.Contents (Elt F)) (f15 : arg15.view.ty.Contents (Elt F)) :
    arg15.view.read (Elt F) (eYc i v3 hw arg10 arg11 arg12 arg14 arg15 f10 f11 f12 f14 f15)
      = eY i v3 hw (arg10.view.read (Elt F) f10) (arg11.view.read (Elt F) f11) (arg12.view.read (Elt F) f12)
          (arg14.view.read (Elt F) f14) (arg15.view.read (Elt F) f15) := by
  unfold eYc eY; split_ifs
  · exact read_one _ _ _ _
  · exact read_one _ _ _ _
  · rfl

set_option maxHeartbeats 16000000 in
/-- The first part of a grid point: the output cleared where it must be, then every block of rows gathered and taken
    through one block of hidden columns. -/
theorem part5 (ST : Vec F S8x2048 .f32) (U : Vec F S2048x1024 .bf16) (WG WU : Vec F S1x1x1024x512 .bf16) (WD : Vec F S1x1x512x1024 .bf16)
    (X : Vec F S2048x1024 .bf16) (Y : Vec F S2048x1024 .f32) (O : Vec F S2048x1024 .f32) (q : PosShare TreeShare) (T : arg3.view.ty.Contents (Elt F)) (E : Set ℕ)
    (hv : k0_chk1 i (wd i arg3 T)) :
    iprop((arg3.view.loc (c : Thread nD τ) ↦{q} T) ∗ owns (c : Thread nD τ) arg13 fullShare O ∗ Held c arg5 arg8 arg10 arg11 arg12 arg14 arg15 ST U WG WU WD X Y)
      ⊢ wp frame (wpE (defs₀ (F := F)) Variants.none (c : Thread nD τ) none) E
          (k0_part5 (F := F) i arg3 harg3 arg4 harg4 arg5 harg5 arg6 harg6 arg7 harg7 arg8 harg8 arg9 harg9 arg10 harg10 arg11 harg11 arg12 harg12 arg13 harg13 arg14 harg14 arg15 harg15)
          (fun r => iprop(⌜r = ⟨BitVec.ofNat 32 (i 1).val, BitVec.ofNat 32 (i 2).val, wd i arg3 T, hv, Scalar.shrui (wd i arg3 T) 2#32,
              Scalar.muli (Scalar.shrui (wd i arg3 T) 2#32) 512#32,
              Scalar.addi (Scalar.muli (Scalar.shrui (wd i arg3 T) 2#32) 512#32) (Scalar.muli (Scalar.andi (wd i arg3 T) 2#32) 128#32),
              Scalar.cmpi .eq (BitVec.ofNat 32 (i 2).val) 6#32, 0#32⟩⌝
            ∗ (arg3.view.loc (c : Thread nD τ) ↦{q} T) ∗ owns (c : Thread nD τ) arg13 fullShare (O1 i O)
            ∗ Held c arg5 arg8 arg10 arg11 arg12 arg14 arg15 ST U WG WU WD
                (X3 i (wd i arg3 T) hv ST U WG WU WD X Y) (Y3 i (wd i arg3 T) hv ST U WG WU WD X Y))) := by
  unfold Held owns
  iintro ⟨H3, ⟨%f13, %hf13, H13⟩, ⟨%f8, %hf8, H8⟩, ⟨%f5, %hf5, H5⟩, ⟨%f10, %hf10, H10⟩, ⟨%f11, %hf11, H11⟩, ⟨%f12, %hf12, H12⟩, ⟨%f14, %hf14, H14⟩, ⟨%f15, %hf15, H15⟩⟩
  subst hf8 hf5 hf10 hf11 hf12 hf14 hf15 hf13
  sl_unfold [k0_part5]
  have hc := Classical.em ((i 2).val = 0)
  rcases hc.imp (cond_first i) (cond_later i) with ⟨hc2, hc3, hc4, hc9, hc10, hc11, hc13, hc14, hc15⟩ | ⟨hc2, hc3, hc4, hc9, hc10, hc11, hc13, hc14, hc15⟩
    <;> by_cases h1 : k0_cond1 i = 1#1 <;> by_cases h8 : k0_cond8 (wd i arg3 T) = 1#1
    <;> by_cases h12 : k0_cond12 (wd i arg3 T) = 1#1
  all_goals
    sl_exec (disch := first | sl_exact hv | sl_exact h1)
    sl_for (fun k _ => Held c arg5 arg8 arg10 arg11 arg12 arg14 arg15 (arg8.view.read (Elt F) f8) (arg5.view.read (Elt F) f5) (arg10.view.read (Elt F) f10) (arg11.view.read (Elt F) f11) (arg12.view.read (Elt F) f12)
        (it i (wd i arg3 T) hv (arg8.view.read (Elt F) f8) (arg5.view.read (Elt F) f5) (arg10.view.read (Elt F) f10) (arg11.view.read (Elt F) f11) (arg12.view.read (Elt F) f12) (arg14.view.read (Elt F) f14) (arg15.view.read (Elt F) f15) k).1
        (it i (wd i arg3 T) hv (arg8.view.read (Elt F) f8) (arg5.view.read (Elt F) f5) (arg10.view.read (Elt F) f10) (arg11.view.read (Elt F) f11) (arg12.view.read (Elt F) f12) (arg14.view.read (Elt F) f14) (arg15.view.read (Elt F) f15) k).2) $$ [H8 H5 H10 H11 H12 H14 H15]
    · intro k acc
      exact trip_it i (wd i arg3 T) hv c arg3 harg3 arg4 harg4 arg5 harg5 arg6 harg6 arg7 harg7 arg8 harg8 arg9 harg9 arg10 harg10 arg11 harg11 arg12 harg12 arg13 harg13 arg14 harg14 arg15 harg15 _ _ _ _ _ _ _ k _ _ _
    · unfold Held owns
      isplitl [H8]
      · iexists _; isplitr; swap; · iexact H8
        ipureintro; rfl
      isplitl [H5]
      · iexists _; isplitr; swap; · iexact H5
        ipureintro; rfl
      isplitl [H10]
      · iexists _; isplitr; swap; · iexact H10
        ipureintro; rfl
      isplitl [H11]
      · iexists _; isplitr; swap; · iexact H11
        ipureintro; rfl
      isplitl [H12]
      · iexists _; isplitr; swap; · iexact H12
        ipureintro; rfl
      isplitl [H14]
      · iexists _; isplitr; swap; · iexact H14
        ipureintro; rfl
      iexists _; isplitr; swap; · iexact H15
      ipureintro; rfl
    · unfold Held owns
      iintro %acc ⟨⟨%g8, %hg8, H8⟩, ⟨%g5, %hg5, H5⟩, ⟨%g10, %hg10, H10⟩, ⟨%g11, %hg11, H11⟩, ⟨%g12, %hg12, H12⟩, ⟨%g14, %hg14, H14⟩, ⟨%g15, %hg15, H15⟩⟩
      sl_exec (disch := first | sl_exact h8 | sl_exact h12 | sl_exact hc9 | sl_exact hc10 | sl_exact hc11 | sl_exact hc13 | sl_exact hc14 | sl_exact hc15)
      sl_step
      isplitr
      · ipureintro; rfl
      isplitl [H3]; · iexact H3
      isplitl [H13]
      · iexists _; isplitr; swap; · iexact H13
        ipureintro; unfold O1
        first
          | rw [if_pos h1]; exact read_all _ _ _
          | rw [if_neg h1]
      isplitl [H8]
      · iexists _; isplitr; swap; · iexact H8
        ipureintro; exact hg8
      isplitl [H5]
      · iexists _; isplitr; swap; · iexact H5
        ipureintro; exact hg5
      isplitl [H10]
      · iexists _; isplitr; swap; · iexact H10
        ipureintro; exact hg10
      isplitl [H11]
      · iexists _; isplitr; swap; · iexact H11
        ipureintro; exact hg11
      isplitl [H12]
      · iexists _; isplitr; swap; · iexact H12
        ipureintro; exact hg12
      isplitl [H14]
      · iexists _; isplitr; swap; · iexact H14
        ipureintro
        refine Eq.trans (congrArg (arg14.view.read (Elt F)) (?_ : _ = eXc i (wd i arg3 T) hv arg5 arg8 arg14 g8 g5 (bXc i (wd i arg3 T) hv arg5 arg8 arg14 g8 g5 g14))) ?_
        · simp only [eXc, bXc, h8, h12, hc2, dite_true, dite_false, eq_self] <;> rfl
        · rw [read_eXc, read_bXc, hg8, hg5, hg14]; rfl
      iexists _; isplitr; swap; · iexact H15
      ipureintro
      refine Eq.trans (congrArg (arg15.view.read (Elt F)) (?_ : _ = eYc i (wd i arg3 T) hv arg10 arg11 arg12 arg14 arg15 g10 g11 g12 (eXc i (wd i arg3 T) hv arg5 arg8 arg14 g8 g5 (bXc i (wd i arg3 T) hv arg5 arg8 arg14 g8 g5 g14)) (bYc i (wd i arg3 T) hv arg10 arg11 arg12 arg14 arg15 g10 g11 g12 (bXc i (wd i arg3 T) hv arg5 arg8 arg14 g8 g5 g14) g15))) ?_
      · simp only [eYc, eXc, bYc, bXc, h8, h12, hc2, dite_true, dite_false, eq_self] <;> rfl
      · rw [read_eYc, read_eXc, read_bYc, read_bXc, hg8, hg5, hg10, hg11, hg12, hg14, hg15]; rfl

end Trip

end Cert.Proof.LstBody
-- ==== Proof.LstRoot.lean ====
/-
The routed experts' kernel body, its second half: the running outputs of an expert scattered to the rows routed to
it, and, at the last block of the last expert, the residual connection. With the first half this gives the whole
body as a function of what it finds.
-/
module

public import proofs.«01_k».proof.Proof.LstBody

@[expose] public section

set_option maxRecDepth 16384

noncomputable section

namespace Cert.Proof.LstBody

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Root

variable (i : grid0.Coords) (v3 : BitVec 32) (hw : k0_chk1 i v3)

variable (c : Dev nD)
  (arg3 : Memref sig .tc .smem S136 .i32) (harg3 : arg3.IsWhole)
  (arg4 : Memref sig .tc .vmem S2048x1024 .f32) (harg4 : arg4.IsWhole)
  (arg5 : Memref sig .tc .vmem S2048x1024 .bf16) (harg5 : arg5.IsWhole)
  (arg6 : Memref sig .tc .vmem S2048x128 .f32) (harg6 : arg6.IsWhole)
  (arg7 : Memref sig .tc .vmem S2048x128 .f32) (harg7 : arg7.IsWhole)
  (arg8 : Memref sig .tc .vmem S8x2048 .f32) (harg8 : arg8.IsWhole)
  (arg9 : Memref sig .tc .vmem S8x8x1024 .f32) (harg9 : arg9.IsWhole)
  (arg10 : Memref sig .tc .vmem S1x1x1024x512 .bf16) (harg10 : arg10.IsWhole)
  (arg11 : Memref sig .tc .vmem S1x1x1024x512 .bf16) (harg11 : arg11.IsWhole)
  (arg12 : Memref sig .tc .vmem S1x1x512x1024 .bf16) (harg12 : arg12.IsWhole)
  (arg13 : Memref sig .tc .vmem S2048x1024 .f32) (harg13 : arg13.IsWhole)
  (arg14 : Memref sig .tc .vmem S2048x1024 .bf16) (harg14 : arg14.IsWhole)
  (arg15 : Memref sig .tc .vmem S2048x1024 .f32) (harg15 : arg15.IsWhole)

set_option maxHeartbeats 2000000 in
/-- One block of 512 running outputs scattered. -/
theorem trip3 (h : k0_cond16 i v3 = 1#1) (W S : Vec F S2048x128 .f32) (Y O : Vec F S2048x1024 .f32) (k : Fin (k0_t3_loop v3).trips) (E : Set ℕ) (a1 : BitVec 32) :
    (iprop(owns (c : Thread nD τ) arg13 fullShare O ∗ owns (c : Thread nD τ) arg15 fullShare Y) : sProp 𝕄)
      ⊢ wp frame (wpE (defs₀ (F := F)) Variants.none (c : Thread nD τ) none) E
          (k0_t3_body (F := F) i arg3 harg3 arg4 harg4 arg5 harg5 arg6 harg6 arg7 harg7 arg8 harg8 arg9 harg9 arg10 harg10 arg11 harg11 arg12 harg12 arg13 harg13 arg14 harg14 arg15 harg15 a1 v3 hw h S W k ())
          (fun _ => iprop(owns (c : Thread nD τ) arg13 fullShare (k0_pay4 (F := F) a1 v3 S W k (wR O)
              (View.ld Y (Rect.unit (s := S2048x1024) (k0_off22 v3 k) S512x1024.size (k0_off22_inb i v3 hw k h))))
            ∗ owns (c : Thread nD τ) arg15 fullShare Y)) := by
  unfold owns
  iintro ⟨⟨%f13, %hf13, H13⟩, ⟨%f15, %hf15, H15⟩⟩
  subst hf13 hf15
  sl_unfold [k0_t3_body]
  sl_exec
  sl_step
  isplitl [H13]
  · iexists _; isplitr; swap; · iexact H13
    ipureintro; exact read_all _ _ _
  iexists _; isplitr; swap; · iexact H15
  ipureintro; rfl

/-- A further store through a rectangle reads as what there was, overlaid. -/
theorem read_cons {κ : Kind} {sp : Space} {s : Shape} {e : EltTy} (v : View sig κ sp s e) (f : v.ty.Contents (Elt F))
    (r : Rect s) (p : r.shape.Idx → Elt F e) (L : List (View.Piece (Elt F) s e)) :
    v.read (Elt F) (v.writes (Elt F) f (⟨r, p⟩ :: L)) = r.overlay (v.read (Elt F) (v.writes (Elt F) f L)) p := by
  funext y
  by_cases hy : y ∈ r.set
  · obtain ⟨x, rfl⟩ := r.exists_idx_of_mem hy
    exact (View.read_writes_cons_emb v f r p L x).trans (Rect.overlay_emb r _ _ x).symm
  · rw [View.read_writes_cons_miss v f ⟨r, p⟩ L y hy, Rect.overlay_of_not_mem _ _ _ hy]

/-- A last store of a whole array reads as what was stored. -/
theorem read_last {sp : Space} {e : EltTy} (v : View sig .tc sp S2048x1024 e) (f : v.ty.Contents (Elt F)) (p : Vec F S2048x1024 e)
    (L : List (View.Piece (Elt F) S2048x1024 e)) :
    v.read (Elt F) (v.writes (Elt F) f (⟨Rect.unit (s := S2048x1024) ![0, 0] S2048x1024.size inb_S2048x1024_S2048x1024_0_0, p⟩ :: L)) = p := by
  rw [View.writes_cons, ← View.writes_singleton]
  exact read_all _ _ _

/-- A load of the whole array after a store of it takes what was stored. -/
theorem read_cov {sp : Space} (v : View sig .tc sp S2048x1024 .f32) (p : Vec F S2048x1024 .f32)
    (L : List (View.Piece (Elt F) S2048x1024 .f32)) :
    v.readCov (⟨Rect.unit (s := S2048x1024) ![0, 0] S2048x1024.size inb_S2048x1024_S2048x1024_0_0, p⟩ :: L)
      (Rect.unit (s := S2048x1024) ![0, 0] S2048x1024.size inb_S2048x1024_S2048x1024_0_0).toLoadRect = wR p :=
  congrArg (fun g : Vec F S2048x1024 .f32 => wR g) (read_last v v.junk p L)

/-- The eight stores of the residual connection read as `fin`. -/
theorem read_fin {κ : Kind} {sp : Space} (v : View sig κ sp S2048x1024 .f32) (g : v.ty.Contents (Elt F)) (H : Vec F S2048x1024 .f32) (M : Vec F S8x8x1024 .f32) :
    v.read (Elt F) (v.writes (Elt F) g [
      ⟨(Rect.unit (s := S2048x1024) ![1792, 0] S256x1024.size inb_S2048x1024_S256x1024_1792_0), k0_pay9 (F := F) (View.ld H (Rect.unit (s := S2048x1024) ![1792, 0] S256x1024.size inb_S2048x1024_S256x1024_1792_0)) (View.ld M (Rect.unit (s := S8x8x1024) ![7, 5, 0] S1x1x1024.size inb_S8x8x1024_S1x1x1024_7_5_0)) (View.ld (v.read (Elt F) g) (Rect.unit (s := S2048x1024) ![1792, 0] S256x1024.size inb_S2048x1024_S256x1024_1792_0))⟩,
      ⟨(Rect.unit (s := S2048x1024) ![1536, 0] S256x1024.size inb_S2048x1024_S256x1024_1536_0), k0_pay8 (F := F) (View.ld H (Rect.unit (s := S2048x1024) ![1536, 0] S256x1024.size inb_S2048x1024_S256x1024_1536_0)) (View.ld M (Rect.unit (s := S8x8x1024) ![6, 5, 0] S1x1x1024.size inb_S8x8x1024_S1x1x1024_6_5_0)) (View.ld (v.read (Elt F) g) (Rect.unit (s := S2048x1024) ![1536, 0] S256x1024.size inb_S2048x1024_S256x1024_1536_0))⟩,
      ⟨(Rect.unit (s := S2048x1024) ![1280, 0] S256x1024.size inb_S2048x1024_S256x1024_1280_0), k0_pay21 (F := F) (View.ld H (Rect.unit (s := S2048x1024) ![1280, 0] S256x1024.size inb_S2048x1024_S256x1024_1280_0)) (View.ld M (Rect.unit (s := S8x8x1024) ![5, 5, 0] S1x1x1024.size inb_S8x8x1024_S1x1x1024_5_5_0)) (View.ld (v.read (Elt F) g) (Rect.unit (s := S2048x1024) ![1280, 0] S256x1024.size inb_S2048x1024_S256x1024_1280_0))⟩,
      ⟨(Rect.unit (s := S2048x1024) ![1024, 0] S256x1024.size inb_S2048x1024_S256x1024_1024_0), k0_pay20 (F := F) (View.ld H (Rect.unit (s := S2048x1024) ![1024, 0] S256x1024.size inb_S2048x1024_S256x1024_1024_0)) (View.ld M (Rect.unit (s := S8x8x1024) ![4, 5, 0] S1x1x1024.size inb_S8x8x1024_S1x1x1024_4_5_0)) (View.ld (v.read (Elt F) g) (Rect.unit (s := S2048x1024) ![1024, 0] S256x1024.size inb_S2048x1024_S256x1024_1024_0))⟩,
      ⟨(Rect.unit (s := S2048x1024) ![768, 0] S256x1024.size inb_S2048x1024_S256x1024_768_0), k0_pay19 (F := F) (View.ld H (Rect.unit (s := S2048x1024) ![768, 0] S256x1024.size inb_S2048x1024_S256x1024_768_0)) (View.ld M (Rect.unit (s := S8x8x1024) ![3, 5, 0] S1x1x1024.size inb_S8x8x1024_S1x1x1024_3_5_0)) (View.ld (v.read (Elt F) g) (Rect.unit (s := S2048x1024) ![768, 0] S256x1024.size inb_S2048x1024_S256x1024_768_0))⟩,
      ⟨(Rect.unit (s := S2048x1024) ![512, 0] S256x1024.size inb_S2048x1024_S256x1024_512_0), k0_pay18 (F := F) (View.ld H (Rect.unit (s := S2048x1024) ![512, 0] S256x1024.size inb_S2048x1024_S256x1024_512_0)) (View.ld M (Rect.unit (s := S8x8x1024) ![2, 5, 0] S1x1x1024.size inb_S8x8x1024_S1x1x1024_2_5_0)) (View.ld (v.read (Elt F) g) (Rect.unit (s := S2048x1024) ![512, 0] S256x1024.size inb_S2048x1024_S256x1024_512_0))⟩,
      ⟨(Rect.unit (s := S2048x1024) ![256, 0] S256x1024.size inb_S2048x1024_S256x1024_256_0), k0_pay17 (F := F) (View.ld H (Rect.unit (s := S2048x1024) ![256, 0] S256x1024.size inb_S2048x1024_S256x1024_256_0)) (View.ld M (Rect.unit (s := S8x8x1024) ![1, 5, 0] S1x1x1024.size inb_S8x8x1024_S1x1x1024_1_5_0)) (View.ld (v.read (Elt F) g) (Rect.unit (s := S2048x1024) ![256, 0] S256x1024.size inb_S2048x1024_S256x1024_256_0))⟩,
      ⟨(Rect.unit (s := S2048x1024) ![0, 0] S256x1024.size inb_S2048x1024_S256x1024_0_0), k0_pay16 (F := F) (View.ld H (Rect.unit (s := S2048x1024) ![0, 0] S256x1024.size inb_S2048x1024_S256x1024_0_0)) (View.ld M (Rect.unit (s := S8x8x1024) ![0, 5, 0] S1x1x1024.size inb_S8x8x1024_S1x1x1024_0_5_0)) (View.ld (v.read (Elt F) g) (Rect.unit (s := S2048x1024) ![0, 0] S256x1024.size inb_S2048x1024_S256x1024_0_0))⟩])
      = fin H M (v.read (Elt F) g) := by
  rw [read_cons, read_cons, read_cons, read_cons, read_cons, read_cons, read_cons, read_cons]
  rfl

set_option maxHeartbeats 20000000 in
/-- The body, run on whole buffers. -/
theorem body (H : Vec F S2048x1024 .f32) (M : Vec F S8x8x1024 .f32) (W S : Vec F S2048x128 .f32)
    (ST : Vec F S8x2048 .f32) (U : Vec F S2048x1024 .bf16) (WG WU : Vec F S1x1x1024x512 .bf16) (WD : Vec F S1x1x512x1024 .bf16)
    (X : Vec F S2048x1024 .bf16) (Y : Vec F S2048x1024 .f32) (O : Vec F S2048x1024 .f32) (q : PosShare TreeShare) (T : arg3.view.ty.Contents (Elt F)) (E : Set ℕ)
    (hv : k0_chk1 i (wd i arg3 T)) :
    iprop(((arg3.view.loc (c : Thread nD τ) ↦{q} T) ∗ owns (c : Thread nD τ) arg13 fullShare O ∗ Held c arg5 arg8 arg10 arg11 arg12 arg14 arg15 ST U WG WU WD X Y)
        ∗ owns (c : Thread nD τ) arg4 fullShare H ∗ owns (c : Thread nD τ) arg9 fullShare M ∗ owns (c : Thread nD τ) arg6 fullShare W ∗ owns (c : Thread nD τ) arg7 fullShare S)
      ⊢ wp frame (wpE (defs₀ (F := F)) Variants.none (c : Thread nD τ) none) E
          (cc0_moe_experts (F := F) i arg3 harg3 arg4 harg4 arg5 harg5 arg6 harg6 arg7 harg7 arg8 harg8 arg9 harg9 arg10 harg10 arg11 harg11 arg12 harg12 arg13 harg13 arg14 harg14 arg15 harg15)
          (fun _ => iprop(((arg3.view.loc (c : Thread nD τ) ↦{q} T)
            ∗ owns (c : Thread nD τ) arg13 fullShare (O3 i (wd i arg3 T) hv H M W S (Y3 i (wd i arg3 T) hv ST U WG WU WD X Y) (O1 i O))
            ∗ Held c arg5 arg8 arg10 arg11 arg12 arg14 arg15 ST U WG WU WD
                (X3 i (wd i arg3 T) hv ST U WG WU WD X Y) (Y3 i (wd i arg3 T) hv ST U WG WU WD X Y))
            ∗ owns (c : Thread nD τ) arg4 fullShare H ∗ owns (c : Thread nD τ) arg9 fullShare M ∗ owns (c : Thread nD τ) arg6 fullShare W ∗ owns (c : Thread nD τ) arg7 fullShare S)) := by
  rw [cc0_moe_experts_eq_skeleton]
  unfold cc0_moe_experts_skel
  show _ ⊢ wp _ _ _ (k0_part5 (F := F) i arg3 harg3 arg4 harg4 arg5 harg5 arg6 harg6 arg7 harg7 arg8 harg8 arg9 harg9 arg10 harg10 arg11 harg11 arg12 harg12 arg13 harg13 arg14 harg14 arg15 harg15 >>= _) _
  rw [wp_bind]
  refine (sep_mono_l (part5 i c arg3 harg3 arg4 harg4 arg5 harg5 arg6 harg6 arg7 harg7 arg8 harg8 arg9 harg9 arg10 harg10 arg11 harg11 arg12 harg12 arg13 harg13 arg14 harg14 arg15 harg15 ST U WG WU WD X Y O q T E hv)).trans ((wp_frame_r _ _ _).trans (wp_mono _ _ _ fun r => ?_))
  generalize X3 i (wd i arg3 T) hv ST U WG WU WD X Y = X'
  generalize Y3 i (wd i arg3 T) hv ST U WG WU WD X Y = Y'
  generalize O1 i O = O'
  generalize wd i arg3 T = v3 at hv ⊢
  unfold Held owns
  iintro ⟨⟨%hr, H3, ⟨%f13, %hf13, H13⟩, ⟨%f8, %hf8, H8⟩, ⟨%f5, %hf5, H5⟩, ⟨%f10, %hf10, H10⟩, ⟨%f11, %hf11, H11⟩, ⟨%f12, %hf12, H12⟩, ⟨%f14, %hf14, H14⟩, ⟨%f15, %hf15, H15⟩⟩, ⟨%f4, %hf4, H4⟩, ⟨%f9, %hf9, H9⟩, ⟨%f6, %hf6, H6⟩, ⟨%f7, %hf7, H7⟩⟩
  subst hf8 hf5 hf10 hf11 hf12 hf14 hf15 hf13 hf4 hf9 hf6 hf7 hr
  by_cases h16 : k0_cond16 i v3 = 1#1
  · sl_exec (disch := first | sl_exact h16)
    sl_for (fun k _ => iprop(owns (c : Thread nD τ) arg13 fullShare (ot i v3 hv h16 (View.read (Elt F) arg6.view f6) (View.read (Elt F) arg7.view f7) (View.read (Elt F) arg15.view f15) (View.read (Elt F) arg13.view f13) k)
        ∗ owns (c : Thread nD τ) arg15 fullShare (View.read (Elt F) arg15.view f15))) $$ [H13 H15]
    · intro k acc
      have e : ot i v3 hv h16 (View.read (Elt F) arg6.view f6) (View.read (Elt F) arg7.view f7) (View.read (Elt F) arg15.view f15) (View.read (Elt F) arg13.view f13) (k.val + 1) = _ := dif_pos k.isLt
      rw [e]
      exact trip3 i v3 hv c arg3 harg3 arg4 harg4 arg5 harg5 arg6 harg6 arg7 harg7 arg8 harg8 arg9 harg9 arg10 harg10 arg11 harg11 arg12 harg12 arg13 harg13 arg14 harg14 arg15 harg15 h16 _ _ _ _ k _ _
    · unfold owns
      isplitl [H13]; · iexists _; isplitr; swap; · iexact H13
                       ipureintro; rfl
      iexists _; isplitr; swap; · iexact H15
      ipureintro; rfl
    unfold owns
    iintro %acc ⟨⟨%g13, %hg13, H13⟩, ⟨%g15, %hg15, H15⟩⟩
    have ht : ot i v3 hv h16 (View.read (Elt F) arg6.view f6) (View.read (Elt F) arg7.view f7) (View.read (Elt F) arg15.view f15) (View.read (Elt F) arg13.view f13) (k0_t3_loop v3).trips = View.read (Elt F) arg13.view g13 := hg13.symm
    by_cases h17 : k0_cond17 v3 = 1#1 <;> by_cases h18 : k0_cond18 v3 = 1#1 <;> by_cases h19 : k0_cond19 i = 1#1
    all_goals
      set_option sl_exec.stopBefore "k0_cond19" in sl_exec (disch := first | sl_exact h17 | sl_exact h18 | sl_exact h19)
      ihave ⟨%g, %hg, H13⟩ : iprop(∃ g : arg13.view.ty.Contents (Elt F), ⌜arg13.view.read (Elt F) g = O2 i v3 hv (View.read (Elt F) arg6.view f6) (View.read (Elt F) arg7.view f7) (View.read (Elt F) arg15.view f15) (View.read (Elt F) arg13.view f13)⌝
        ∗ (arg13.view.loc (c : Thread nD τ) ↦[arg13.view.set]{fullShare} g)) $$ [H13]
      · iexists _; isplitr; swap; · iexact H13
        ipureintro; unfold O2 o17 o18
        rw [dif_pos h16]
        first
          | rw [dif_pos h17, dif_pos h18, ht, ← hg15]; refine (read_last _ _ _ _).trans (congrArg (fun z => k0_pay7 (F := F) _ _ _ _ z _) ?_); exact read_cov _ _ _
          | rw [dif_pos h17, dif_neg h18, ht, ← hg15]; exact read_all _ _ _
          | rw [dif_neg h17, dif_pos h18, ht, ← hg15]; exact read_all _ _ _
          | rw [dif_neg h17, dif_neg h18, ht]
      sl_exec
      sl_step
      isplitl [H3 H13 H8 H5 H10 H11 H12 H14 H15]
      · isplitl [H3]; · iexact H3
        isplitl [H13]
        · iexists _; isplitr; swap; · iexact H13
          ipureintro; unfold O3
          first
            | rw [if_pos h19, ← hg]; exact read_fin _ _ _ _
            | rw [if_neg h19, hg]
        isplitl [H8]; · iexists _; isplitr; swap; · iexact H8
                        ipureintro; rfl
        isplitl [H5]; · iexists _; isplitr; swap; · iexact H5
                        ipureintro; rfl
        isplitl [H10]; · iexists _; isplitr; swap; · iexact H10
                         ipureintro; rfl
        isplitl [H11]; · iexists _; isplitr; swap; · iexact H11
                         ipureintro; rfl
        isplitl [H12]; · iexists _; isplitr; swap; · iexact H12
                         ipureintro; rfl
        isplitl [H14]; · iexists _; isplitr; swap; · iexact H14
                         ipureintro; rfl
        iexists _; isplitr; swap; · iexact H15
        ipureintro; exact hg15
      isplitl [H4]; · iexists _; isplitr; swap; · iexact H4
                      ipureintro; rfl
      isplitl [H9]; · iexists _; isplitr; swap; · iexact H9
                      ipureintro; rfl
      isplitl [H6]; · iexists _; isplitr; swap; · iexact H6
                      ipureintro; rfl
      iexists _; isplitr; swap; · iexact H7
      ipureintro; rfl
  · by_cases h19 : k0_cond19 i = 1#1
    · sl_exec (disch := first | sl_exact h16 | sl_exact h19)
      sl_step
      isplitl [H3 H13 H8 H5 H10 H11 H12 H14 H15]
      · isplitl [H3]; · iexact H3
        isplitl [H13]
        · iexists _; isplitr; swap; · iexact H13
          ipureintro; unfold O3 O2; rw [if_pos h19, dif_neg h16]; exact read_fin _ _ _ _
        isplitl [H8]; · iexists _; isplitr; swap; · iexact H8
                        ipureintro; rfl
        isplitl [H5]; · iexists _; isplitr; swap; · iexact H5
                        ipureintro; rfl
        isplitl [H10]; · iexists _; isplitr; swap; · iexact H10
                         ipureintro; rfl
        isplitl [H11]; · iexists _; isplitr; swap; · iexact H11
                         ipureintro; rfl
        isplitl [H12]; · iexists _; isplitr; swap; · iexact H12
                         ipureintro; rfl
        isplitl [H14]; · iexists _; isplitr; swap; · iexact H14
                         ipureintro; rfl
        iexists _; isplitr; swap; · iexact H15
        ipureintro; rfl
      isplitl [H4]; · iexists _; isplitr; swap; · iexact H4
                      ipureintro; rfl
      isplitl [H9]; · iexists _; isplitr; swap; · iexact H9
                      ipureintro; rfl
      isplitl [H6]; · iexists _; isplitr; swap; · iexact H6
                      ipureintro; rfl
      iexists _; isplitr; swap; · iexact H7
      ipureintro; rfl
    · sl_exec (disch := first | sl_exact h16 | sl_exact h19)
      sl_step
      isplitl [H3 H13 H8 H5 H10 H11 H12 H14 H15]
      · isplitl [H3]; · iexact H3
        isplitl [H13]
        · iexists _; isplitr; swap; · iexact H13
          ipureintro; unfold O3 O2; rw [if_neg h19, dif_neg h16]
        isplitl [H8]; · iexists _; isplitr; swap; · iexact H8
                        ipureintro; rfl
        isplitl [H5]; · iexists _; isplitr; swap; · iexact H5
                        ipureintro; rfl
        isplitl [H10]; · iexists _; isplitr; swap; · iexact H10
                         ipureintro; rfl
        isplitl [H11]; · iexists _; isplitr; swap; · iexact H11
                         ipureintro; rfl
        isplitl [H12]; · iexists _; isplitr; swap; · iexact H12
                         ipureintro; rfl
        isplitl [H14]; · iexists _; isplitr; swap; · iexact H14
                         ipureintro; rfl
        iexists _; isplitr; swap; · iexact H15
        ipureintro; rfl
      isplitl [H4]; · iexists _; isplitr; swap; · iexact H4
                      ipureintro; rfl
      isplitl [H9]; · iexists _; isplitr; swap; · iexact H9
                      ipureintro; rfl
      isplitl [H6]; · iexists _; isplitr; swap; · iexact H6
                      ipureintro; rfl
      iexists _; isplitr; swap; · iexact H7
      ipureintro; rfl

end Root

end Cert.Proof.LstBody
-- ==== Proof.LstChk.lean ====
/-
The conditions the routed experts' kernel assumes of the word it reads: they hold of every word up to sixteen.
-/
module

public import proofs.«01_k».proof.LastIdeal

@[expose] public section

set_option maxRecDepth 16384

noncomputable section

namespace Cert.Proof.LstChk

open Cert.LastIdeal Idealize.ShloMosaic

/-- The kernel's conditions hold of every number of row blocks up to sixteen. -/
theorem chk_ofNat (i : grid0.Coords) (n : Fin 17) : k0_chk1 i (BitVec.ofNat 32 n.val) := by
  refine ⟨⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩, ?_, ?_⟩
  all_goals
    first
    | (revert n; decide +kernel)
    | (intro k h; clear h; revert k n; decide +kernel)
    | (intro h; clear h; revert n; decide +kernel)

/-- The same, of a word whose value is at most sixteen. -/
theorem chk_of_le (i : grid0.Coords) (v : BitVec 32) (h : v.toNat ≤ 16) : k0_chk1 i v := by
  have := chk_ofNat i ⟨v.toNat, by omega⟩
  rwa [BitVec.ofNat_toNat, BitVec.setWidth_eq] at this

end Cert.Proof.LstChk
-- ==== Proof.LstFrame.lean ====
/-
The routed experts' kernel launched: the body at a grid point on the buffers the pipeline hands it, and the frame
claims, in which nothing is said of what the output holds.
-/
module

public import proofs.«01_k».proof.Proof.LstSet
public import proofs.«01_k».proof.Proof.LstRoot
public import proofs.«01_k».proof.Proof.LstChk
public import Idealize.ShloMosaic.Lib.Pipeline.Frame

@[expose] public section

set_option maxRecDepth 16384

noncomputable section

namespace Cert.Proof.LstFrame

open Cert.LastIdeal Cert.LastIdeal.Gen
open Cert.Proof.LstSet Cert.Proof.LstBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The input blocks at a point, typed. -/
abbrev b0 (c : Dev nD) (t : Fin (cfgM m).N) : Vec F S2048x1024 .f32 := iblk m c 0 t
abbrev b1 (c : Dev nD) (t : Fin (cfgM m).N) : Vec F S2048x1024 .bf16 := iblk m c 1 t
abbrev b2 (c : Dev nD) (t : Fin (cfgM m).N) : Vec F S2048x128 .f32 := iblk m c 2 t
abbrev b3 (c : Dev nD) (t : Fin (cfgM m).N) : Vec F S2048x128 .f32 := iblk m c 3 t
abbrev b4 (c : Dev nD) (t : Fin (cfgM m).N) : Vec F S8x2048 .f32 := iblk m c 4 t
abbrev b5 (c : Dev nD) (t : Fin (cfgM m).N) : Vec F S8x8x1024 .f32 := iblk m c 5 t
abbrev b6 (c : Dev nD) (t : Fin (cfgM m).N) : Vec F S1x1x1024x512 .bf16 := iblk m c 6 t
abbrev b7 (c : Dev nD) (t : Fin (cfgM m).N) : Vec F S1x1x1024x512 .bf16 := iblk m c 7 t
abbrev b8 (c : Dev nD) (t : Fin (cfgM m).N) : Vec F S1x1x512x1024 .bf16 := iblk m c 8 t

/-- The count of the point's tile and expert, as the body loads it. -/
abbrev word (t : Fin (cfgM m).N) : BitVec 32 := wd (F := F) (grid0.coords t) tbM (tbl m 0)

/-- The gathered rows after the point. -/
abbrev newX (c : Dev nD) (t : Fin (cfgM m).N) (hv : k0_chk1 (grid0.coords t) (word m t)) (X : Vec F S2048x1024 .bf16) (Y : Vec F S2048x1024 .f32) : Vec F S2048x1024 .bf16 :=
  X3 (grid0.coords t) (word m t) hv (b4 m c t) (b1 m c t) (b6 m c t) (b7 m c t) (b8 m c t) X Y
/-- The running outputs after the point. -/
abbrev newY (c : Dev nD) (t : Fin (cfgM m).N) (hv : k0_chk1 (grid0.coords t) (word m t)) (X : Vec F S2048x1024 .bf16) (Y : Vec F S2048x1024 .f32) : Vec F S2048x1024 .f32 :=
  Y3 (grid0.coords t) (word m t) hv (b4 m c t) (b1 m c t) (b6 m c t) (b7 m c t) (b8 m c t) X Y
/-- The output block after the point. -/
abbrev newO (c : Dev nD) (t : Fin (cfgM m).N) (hv : k0_chk1 (grid0.coords t) (word m t)) (X : Vec F S2048x1024 .bf16) (Y O : Vec F S2048x1024 .f32) : Vec F S2048x1024 .f32 :=
  O3 (grid0.coords t) (word m t) hv (b0 m c t) (b5 m c t) (b2 m c t) (b3 m c t) (newY m c t hv X Y) (O1 (grid0.coords t) O)

set_option maxHeartbeats 2400000 in
/-- The body at a point, on the pipeline's buffers. -/
theorem run (c : Dev nD) (t : Fin (cfgM m).N) (hv : k0_chk1 (grid0.coords t) (word m t)) (X : Vec F S2048x1024 .bf16) (Y O : Vec F S2048x1024 .f32) (R : sProp 𝕄) :
    iprop(tbPt c tbM (tbl m 0) ∗ owns (c : Thread nD τ) scX fullShare X ∗ owns (c : Thread nD τ) scY fullShare Y
        ∗ owns (c : Thread nD τ) (ms0 m t) fullShare (b0 m c t)
        ∗ owns (c : Thread nD τ) (ms1 m t) fullShare (b1 m c t)
        ∗ owns (c : Thread nD τ) (ms2 m t) fullShare (b2 m c t)
        ∗ owns (c : Thread nD τ) (ms3 m t) fullShare (b3 m c t)
        ∗ owns (c : Thread nD τ) (ms4 m t) fullShare (b4 m c t)
        ∗ owns (c : Thread nD τ) (ms5 m t) fullShare (b5 m c t)
        ∗ owns (c : Thread nD τ) (ms6 m t) fullShare (b6 m c t)
        ∗ owns (c : Thread nD τ) (ms7 m t) fullShare (b7 m c t)
        ∗ owns (c : Thread nD τ) (ms8 m t) fullShare (b8 m c t)
        ∗ owns (c : Thread nD τ) (ms9 m t) fullShare O ∗ R)
      ⊢ wp frame (wpE (defs₀ (F := F)) Variants.none (c : Thread nD τ) none) Set.univ (bodyAt m t) (fun _ =>
      iprop(tbPt c tbM (tbl m 0) ∗ owns (c : Thread nD τ) scX fullShare (newX m c t hv X Y) ∗ owns (c : Thread nD τ) scY fullShare (newY m c t hv X Y)
        ∗ owns (c : Thread nD τ) (ms0 m t) fullShare (b0 m c t)
        ∗ owns (c : Thread nD τ) (ms1 m t) fullShare (b1 m c t)
        ∗ owns (c : Thread nD τ) (ms2 m t) fullShare (b2 m c t)
        ∗ owns (c : Thread nD τ) (ms3 m t) fullShare (b3 m c t)
        ∗ owns (c : Thread nD τ) (ms4 m t) fullShare (b4 m c t)
        ∗ owns (c : Thread nD τ) (ms5 m t) fullShare (b5 m c t)
        ∗ owns (c : Thread nD τ) (ms6 m t) fullShare (b6 m c t)
        ∗ owns (c : Thread nD τ) (ms7 m t) fullShare (b7 m c t)
        ∗ owns (c : Thread nD τ) (ms8 m t) fullShare (b8 m c t)
        ∗ owns (c : Thread nD τ) (ms9 m t) fullShare (newO m c t hv X Y O) ∗ R)) := by
  refine Idealize.SL.BI.BIBase.Entails.trans (Q := iprop(((((tbM.view.loc (c : Thread nD τ)) ↦{fullShare.right} (tbl m 0)) ∗ owns (c : Thread nD τ) (ms9 m t) fullShare O ∗ Held c (ms1 m t) (ms4 m t) (ms6 m t) (ms7 m t) (ms8 m t) scX scY (b4 m c t) (b1 m c t) (b6 m c t) (b7 m c t) (b8 m c t) X Y)
      ∗ owns (c : Thread nD τ) (ms0 m t) fullShare (b0 m c t) ∗ owns (c : Thread nD τ) (ms5 m t) fullShare (b5 m c t) ∗ owns (c : Thread nD τ) (ms2 m t) fullShare (b2 m c t) ∗ owns (c : Thread nD τ) (ms3 m t) fullShare (b3 m c t)) ∗ R)) ?_ ((sep_mono_l (Q := R) (body (grid0.coords t) c tbM (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) scX (Memref.isWhole_whole _) scY (Memref.isWhole_whole _)
    (b0 m c t) (b5 m c t) (b2 m c t) (b3 m c t) (b4 m c t) (b1 m c t) (b6 m c t) (b7 m c t) (b8 m c t) X Y O fullShare.right (tbl m 0) Set.univ hv)).trans
    ((wp_frame_r _ _ _).trans (wp_mono _ _ _ fun _ => ?_)))
  · unfold Held
    iintro ⟨HT, HX, HY, H0, H1, H2, H3, H4, H5, H6, H7, H8, H9, HR⟩
    isplitr [HR]; swap; · iexact HR
    isplitl [HT HX HY H1 H4 H6 H7 H8 H9]
    · isplitl [HT]; · iexact HT
      isplitl [H9]; · iexact H9
      isplitl [H4]; · iexact H4
      isplitl [H1]; · iexact H1
      isplitl [H6]; · iexact H6
      isplitl [H7]; · iexact H7
      isplitl [H8]; · iexact H8
      isplitl [HX]; · iexact HX
      iexact HY
    isplitl [H0]; · iexact H0
    isplitl [H5]; · iexact H5
    isplitl [H2]; · iexact H2
    iexact H3
  · unfold Held
    iintro ⟨⟨⟨HT, H9, H4, H1, H6, H7, H8, HX, HY⟩, H0, H5, H2, H3⟩, HR⟩
    isplitl [HT]; · iexact HT
    isplitl [HX]; · iexact HX
    isplitl [HY]; · iexact HY
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HR

/-- The same, for what is to be shown afterwards. -/
theorem runK (c : Dev nD) (t : Fin (cfgM m).N) (hv : k0_chk1 (grid0.coords t) (word m t)) (X : Vec F S2048x1024 .bf16) (Y O : Vec F S2048x1024 .f32) (K : PUnit → sProp 𝕄) :
    iprop(tbPt c tbM (tbl m 0) ∗ owns (c : Thread nD τ) scX fullShare X ∗ owns (c : Thread nD τ) scY fullShare Y
        ∗ owns (c : Thread nD τ) (ms0 m t) fullShare (b0 m c t)
        ∗ owns (c : Thread nD τ) (ms1 m t) fullShare (b1 m c t)
        ∗ owns (c : Thread nD τ) (ms2 m t) fullShare (b2 m c t)
        ∗ owns (c : Thread nD τ) (ms3 m t) fullShare (b3 m c t)
        ∗ owns (c : Thread nD τ) (ms4 m t) fullShare (b4 m c t)
        ∗ owns (c : Thread nD τ) (ms5 m t) fullShare (b5 m c t)
        ∗ owns (c : Thread nD τ) (ms6 m t) fullShare (b6 m c t)
        ∗ owns (c : Thread nD τ) (ms7 m t) fullShare (b7 m c t)
        ∗ owns (c : Thread nD τ) (ms8 m t) fullShare (b8 m c t)
        ∗ owns (c : Thread nD τ) (ms9 m t) fullShare O
        ∗ ((tbPt c tbM (tbl m 0) ∗ owns (c : Thread nD τ) scX fullShare (newX m c t hv X Y) ∗ owns (c : Thread nD τ) scY fullShare (newY m c t hv X Y)
        ∗ owns (c : Thread nD τ) (ms0 m t) fullShare (b0 m c t)
        ∗ owns (c : Thread nD τ) (ms1 m t) fullShare (b1 m c t)
        ∗ owns (c : Thread nD τ) (ms2 m t) fullShare (b2 m c t)
        ∗ owns (c : Thread nD τ) (ms3 m t) fullShare (b3 m c t)
        ∗ owns (c : Thread nD τ) (ms4 m t) fullShare (b4 m c t)
        ∗ owns (c : Thread nD τ) (ms5 m t) fullShare (b5 m c t)
        ∗ owns (c : Thread nD τ) (ms6 m t) fullShare (b6 m c t)
        ∗ owns (c : Thread nD τ) (ms7 m t) fullShare (b7 m c t)
        ∗ owns (c : Thread nD τ) (ms8 m t) fullShare (b8 m c t)
        ∗ owns (c : Thread nD τ) (ms9 m t) fullShare (newO m c t hv X Y O)) -∗ K ⟨⟩))
      ⊢ wp frame (wpE (defs₀ (F := F)) Variants.none (c : Thread nD τ) none) Set.univ (bodyAt m t) K := by
  refine (run m c t hv X Y O _).trans (wp_mono _ _ _ fun _ => ?_)
  iintro ⟨HT, HX, HY, H0, H1, H2, H3, H4, H5, H6, H7, H8, H9, HR⟩
  iapply HR
  isplitl [HT]; · iexact HT
  isplitl [HX]; · iexact HX
  isplitl [HY]; · iexact HY
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The counts, each at most sixteen. -/
def Ok : Prop := ∀ t : Fin (cfgM m).N, k0_chk1 (grid0.coords t) (word m t)

/-- The pipeline's data for the frame: nothing carried, the output unnamed. -/
abbrev fdat (m : (ℓ : Loc nD τ sig) → Buf (Elt F) ℓ) : (p : Fin 1) → (c : Dev nD) → Dat τ (Elt F) Unit ℕ (UR sig nD τ) ℕ (cfgM m) c :=
  dat m (fun c _ => iprop(Pipeline.ΦA spec0 c ∗ Pipeline.ΦT pre0 (tbl m) c)) (fun c t => Dat.unnamed (cfg := cfgM m) 9 t)

/-- The output's window is forgotten. -/
def forgets : Fin 10 → Bool := fun w => w.val == 9

/-- What the body is called with. -/
def bodyPre (c : Dev nD) (t : Fin (cfgM m).N) : sProp 𝕄 :=
  iprop((fdat m 0 c).Φ t.castSucc ∗ (fdat m 0 c).owesAt () t.castSucc
    ∗ (∃ d, owns (c : Thread nD τ) (ms0 m t) fullShare ((fdat m 0 c).before 0 t d))
    ∗ (∃ d, owns (c : Thread nD τ) (ms1 m t) fullShare ((fdat m 0 c).before 1 t d))
    ∗ (∃ d, owns (c : Thread nD τ) (ms2 m t) fullShare ((fdat m 0 c).before 2 t d))
    ∗ (∃ d, owns (c : Thread nD τ) (ms3 m t) fullShare ((fdat m 0 c).before 3 t d))
    ∗ (∃ d, owns (c : Thread nD τ) (ms4 m t) fullShare ((fdat m 0 c).before 4 t d))
    ∗ (∃ d, owns (c : Thread nD τ) (ms5 m t) fullShare ((fdat m 0 c).before 5 t d))
    ∗ (∃ d, owns (c : Thread nD τ) (ms6 m t) fullShare ((fdat m 0 c).before 6 t d))
    ∗ (∃ d, owns (c : Thread nD τ) (ms7 m t) fullShare ((fdat m 0 c).before 7 t d))
    ∗ (∃ d, owns (c : Thread nD τ) (ms8 m t) fullShare ((fdat m 0 c).before 8 t d))
    ∗ (∃ d, owns (c : Thread nD τ) (ms9 m t) fullShare d))

/-- What the body returns. -/
def bodyPost (c : Dev nD) (t : Fin (cfgM m).N) : sProp 𝕄 :=
  iprop((fdat m 0 c).Φ t.succ ∗ (fdat m 0 c).owesAt () t.succ
    ∗ owns (c : Thread nD τ) (ms0 m t) fullShare ((fdat m 0 c).after 0 t)
    ∗ owns (c : Thread nD τ) (ms1 m t) fullShare ((fdat m 0 c).after 1 t)
    ∗ owns (c : Thread nD τ) (ms2 m t) fullShare ((fdat m 0 c).after 2 t)
    ∗ owns (c : Thread nD τ) (ms3 m t) fullShare ((fdat m 0 c).after 3 t)
    ∗ owns (c : Thread nD τ) (ms4 m t) fullShare ((fdat m 0 c).after 4 t)
    ∗ owns (c : Thread nD τ) (ms5 m t) fullShare ((fdat m 0 c).after 5 t)
    ∗ owns (c : Thread nD τ) (ms6 m t) fullShare ((fdat m 0 c).after 6 t)
    ∗ owns (c : Thread nD τ) (ms7 m t) fullShare ((fdat m 0 c).after 7 t)
    ∗ owns (c : Thread nD τ) (ms8 m t) fullShare ((fdat m 0 c).after 8 t)
    ∗ (∃ d, owns (c : Thread nD τ) (ms9 m t) fullShare d))

set_option maxHeartbeats 2400000 in
/-- The body at a point, nothing said of the output. -/
theorem sound_body (hO : Ok m) (c : Dev nD) (t : Fin (cfgM m).N) :
    bodyPre m c t ⊢ wp frame (wpE (defs₀ (F := F)) Variants.none (c : Thread nD τ) none) Set.univ (bodyAt m t) (fun _ => bodyPost m c t) := by
  unfold bodyPre bodyPost
  simp only [before0, before1, before2, before3, before4, before5, before6, before7, before8]
  rw [show (fdat m 0 c).Φ t.succ = (fdat m 0 c).Φ t.castSucc from rfl,
    show (fdat m 0 c).owesAt () t.succ = (fdat m 0 c).owesAt () t.castSucc from rfl,
    after0, after1, after2, after3, after4, after5, after6, after7, after8]
  rw [show (fdat m 0 c).Φ t.castSucc = iprop(Pipeline.ΦA spec0 c ∗ Pipeline.ΦT pre0 (tbl m) c) from rfl, PhiT_eq, PhiA_eq]
  iintro ⟨⟨⟨⟨⟨%X, HX⟩, ⟨%Y, HY⟩⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%O, H9⟩⟩
  iapply (runK m c t (hO t) X Y O _)
  isplitl [HT]; · iexact HT
  isplitl [HX]; · iexact HX
  isplitl [HY]; · iexact HY
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨HT, HX, HY, H0, H1, H2, H3, H4, H5, H6, H7, H8, H9⟩
  isplitl [HX HY Hg HT]
  · isplitl [HX HY Hg]
    · isplitl [HX HY]
      · isplitl [HX]
        · iexists _; iexact HX
        iexists _; iexact HY
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

/-- The same, as the pipeline asks for it. -/
theorem body_obligation (hO : Ok m) (c : Dev nD) : BodyObligation (fdat m 0 c) (defs₀ (F := F)) Variants.none () Set.univ forgets := fun t => by
  rw [bigSep_W0, bigSep_W0, defs₀_row m]
  exact triple_restated (sound_body m hO c t) rfl .rfl fun _ => .rfl

set_option backward.isDefEq.respectTransparency.types false in
/-- The launch ends, the inputs unchanged and the counters at nought. -/
theorem run_main (hO : Ok m) : θ_run defs (onTc (τ := τ) (main (F := F))) (s₀ m ρ) (fun r => (Pipeline.RDat.FramePost ((Pipeline.pin pcfgs fun _ => adm m) 0) (fun c => (fdat m 0 c).toRForget forgets) (V m)) r ∧ r.2.sem = fun _ => 0) :=
  Pipeline.θ_run_frameP_forget (Q' := _) pcfgs (fun _ => adm m) (fdat m) (0 : Fin 1) launch0 defs₀ Variants.none forgets m ρ main
    (hbody := fun c => (body_obligation m hO c).loose) (hshare := fun c => (fdat m 0 c).share_full fun _ => rfl)
    (howed := fun _ _ => rfl) (V := V m) (hmain := hmain m Variants.none) (hA := A_eq m _ _) (hpf := V_pre m) (hΦ := fun _ _ => rfl)

/-- The frame: every argument ends unchanged, and every counter at nought. -/
theorem frame_all (hO : Ok m) : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (fun c => (fdat m 0 c).toRForget forgets) (A_eq m (fun c _ => iprop(Pipeline.ΦA spec0 c ∗ Pipeline.ΦT pre0 (tbl m) c)) (fun c t => Dat.unnamed (cfg := cfgM m) 9 t)) ((θ_run defs _ _).mono (fun _ h => h.1) (run_main m ρ hO)))
    ((θ_run defs _ _).mono (fun _ h => h.2) (run_main m ρ hO))

end Cert.Proof.LstFrame

end
-- ==== Proof.LstPay.lean ====
/-
What the routed experts' kernel computes between its loads and its stores, entry by entry, over the extended reals.
-/
module

public import proofs.«01_k».proof.Proof.Gen.LastIdeal.Skeleton
public import Idealize.ShloMosaic.Lib.Pointwise
public import Idealize.ShloMosaic.Lib.IdealHost
public import Idealize.ShloMosaic.Lib.Tactic

@[expose] public section

set_option maxRecDepth 16384

noncomputable section

namespace Cert.Proof.LstPay

open Cert.LastIdeal Cert.LastIdeal.Gen
open Idealize.ShloMosaic Idealize.ShloMosaic.TcCoe Idealize.ShloMosaic.Tactic

/-- One where the two are equal, nought elsewhere. -/
def oh (a b : EReal) : EReal := if a = b then 1 else 0

/-- The gated hidden unit: the gate product times its logistic, times the up product. -/
def sw (g u : EReal) : EReal := g * Ideal.div 1 (1 + Ideal.exp (-g)) * u

/-- A small counter, read as a float, is the number it counts. -/
theorem word_val (n : ℕ) (h : n < 2 ^ 31) : FloatOps.sitofp (F := Ideal) .f32 (BitVec.ofNat 32 n) = ((n : ℕ) : EReal) := by
  show (((BitVec.ofNat 32 n).toInt : ℝ) : EReal) = _
  have h1 : (BitVec.ofNat 32 n).toNat = n := by rw [BitVec.toNat_ofNat]; exact Nat.mod_eq_of_lt (by omega)
  rw [BitVec.toInt_eq_toNat_of_lt (by rw [h1]; omega), h1]
  norm_cast

/-- A row's number inside a block plus the block's first row. -/
theorem row_val (x b : ℕ) (w : BitVec 32) (hw : w = BitVec.ofNat 32 b) (h : b + x < 2 ^ 31) :
    FloatOps.sitofp (F := Ideal) .f32 (IntOp.addi (BitVec.ofNat 32 x) w) = ((b + x : ℕ) : EReal) := by
  rw [← word_val _ h, hw]
  refine congrArg _ ?_
  show BitVec.ofNat 32 x + BitVec.ofNat 32 b = _
  rw [← BitVec.ofNat_add, Nat.add_comm]

/-- The first row of a block of 512. -/
theorem iv_val (k : ℕ) : Scalar.muli (Scf.iv 0#32 1#32 k) 512#32 = BitVec.ofNat 32 (512 * k) := by
  unfold Scf.iv
  show (0#32 + BitVec.ofNat 32 k * 1#32) * 512#32 = _
  rw [BitVec.mul_one, BitVec.zero_add, Nat.mul_comm, BitVec.ofNat_mul]

theorem trips1 (n : Fin 17) : (k0_t1_loop (BitVec.ofNat 32 n.val)).trips = n.val / 4 := by revert n; decide +kernel
theorem trips3 (n : Fin 17) : (k0_t3_loop (BitVec.ofNat 32 n.val)).trips = n.val / 4 := by revert n; decide +kernel
/-- The first row of the block of 256, and of the block of 128. -/
theorem w256 (n : Fin 17) : Scalar.muli (Scalar.shrui (BitVec.ofNat 32 n.val) 2#32) 512#32 = BitVec.ofNat 32 (512 * (n.val / 4)) := by revert n; decide +kernel
theorem w128 (n : Fin 17) : Scalar.addi (Scalar.muli (Scalar.shrui (BitVec.ofNat 32 n.val) 2#32) 512#32) (Scalar.muli (Scalar.andi (BitVec.ofNat 32 n.val) 2#32) 128#32)
    = BitVec.ofNat 32 (512 * (n.val / 4) + 256 * (n.val / 2 % 2)) := by revert n; decide +kernel

/-- Row `p` of the gathered rows: the sum of the rows whose slot is `p`. -/
def gat (S : FVec Ideal S1x2048 .f32) (U : FVec Ideal S2048x1024 .bf16) (p : ℕ) (d : Fin 1024) : EReal :=
  ∑ j : Fin 2048, oh (S (ix2 0 j)) ((p : ℕ) : EReal) * U (ix2 j d)

/-- One block of hidden columns' share of the expert's output for a row `x`. -/
def shr (x : Fin 1024 → EReal) (G U : FVec Ideal S1x1x1024x512 .bf16) (D : FVec Ideal S1x1x512x1024 .bf16) (d : Fin 1024) : EReal :=
  ∑ q : Fin 512, sw (∑ k : Fin 1024, x k * G (ix4 0 0 k q)) (∑ k : Fin 1024, x k * U (ix4 0 0 k q)) * D (ix4 0 0 q d)

/-! The gathers. -/

theorem gath512 (n : Fin 17) (k : Fin (k0_t1_loop (BitVec.ofNat 32 n.val)).trips) (S : FVec Ideal S1x2048 .f32) (U : FVec Ideal S2048x1024 .bf16) (x : Fin 512) (d : Fin 1024) :
    k0_pay10 (F := Ideal) (BitVec.ofNat 32 n.val) 0#32 1#32 k S U (ix2 x d) = gat S U (512 * k.val + x.val) d := by
  have hk := k.isLt.trans_eq (trips1 n)
  unfold k0_pay10
  pointwise [oh, gat]
  rw [row_val _ _ _ (iv_val k.val) (by omega)]

theorem gath256 (n : Fin 17) (S : FVec Ideal S1x2048 .f32) (U : FVec Ideal S2048x1024 .bf16) (x : Fin 256) (d : Fin 1024) :
    k0_pay25 (F := Ideal) (BitVec.ofNat 32 n.val) S U (ix2 x d) = gat S U (512 * (n.val / 4) + x.val) d := by
  unfold k0_pay25
  pointwise [oh, gat]
  rw [row_val _ _ _ (w256 n) (by omega)]

theorem gath128 (n : Fin 17) (S : FVec Ideal S1x2048 .f32) (U : FVec Ideal S2048x1024 .bf16) (x : Fin 128) (d : Fin 1024) :
    k0_pay29 (F := Ideal) (BitVec.ofNat 32 n.val) S U (ix2 x d) = gat S U (512 * (n.val / 4) + 256 * (n.val / 2 % 2) + x.val) d := by
  unfold k0_pay29
  pointwise [oh, gat]
  rw [row_val _ _ _ (w128 n) (by omega)]

/-! An expert's share, and its sum with what was there. -/

theorem part512 (X : FVec Ideal S512x1024 .bf16) (G U : FVec Ideal S1x1x1024x512 .bf16) (D : FVec Ideal S1x1x512x1024 .bf16) (x : Fin 512) (d : Fin 1024) :
    k0_pay11 (F := Ideal) X G U D (ix2 x d) = shr (fun k => X (ix2 x k)) G U D d := by
  unfold k0_pay11
  pointwise [sw, shr]
  simp only [zero_sub]

theorem first512 (X : FVec Ideal S512x1024 .bf16) (G U : FVec Ideal S1x1x1024x512 .bf16) (D : FVec Ideal S1x1x512x1024 .bf16) (x : Fin 512) (d : Fin 1024) :
    k0_pay12 (F := Ideal) X G U D (ix2 x d) = shr (fun k => X (ix2 x k)) G U D d := by
  unfold k0_pay12
  pointwise
  exact part512 X G U D x d

theorem later512 (P : FVec Ideal S512x1024 .f32) (Y : FVec Ideal S512x1024 .f32) (x : Fin 512) (d : Fin 1024) :
    k0_pay23 (F := Ideal) P Y (ix2 x d) = Y (ix2 x d) + P (ix2 x d) := by
  unfold k0_pay23
  pointwise

theorem part256 (X : FVec Ideal S256x1024 .bf16) (G U : FVec Ideal S1x1x1024x512 .bf16) (D : FVec Ideal S1x1x512x1024 .bf16) (x : Fin 256) (d : Fin 1024) :
    k0_pay26 (F := Ideal) X G U D (ix2 x d) = shr (fun k => X (ix2 x k)) G U D d := by
  unfold k0_pay26
  pointwise [sw, shr]
  simp only [zero_sub]

theorem first256 (X : FVec Ideal S256x1024 .bf16) (G U : FVec Ideal S1x1x1024x512 .bf16) (D : FVec Ideal S1x1x512x1024 .bf16) (x : Fin 256) (d : Fin 1024) :
    k0_pay27 (F := Ideal) X G U D (ix2 x d) = shr (fun k => X (ix2 x k)) G U D d := by
  unfold k0_pay27
  pointwise
  exact part256 X G U D x d

theorem later256 (X : FVec Ideal S256x1024 .bf16) (G U : FVec Ideal S1x1x1024x512 .bf16) (D : FVec Ideal S1x1x512x1024 .bf16) (Y : FVec Ideal S256x1024 .f32) (x : Fin 256) (d : Fin 1024) :
    k0_pay28 (F := Ideal) X G U D Y (ix2 x d) = Y (ix2 x d) + shr (fun k => X (ix2 x k)) G U D d := by
  unfold k0_pay28
  pointwise
  exact congrArg _ (part256 X G U D x d)

theorem part128 (X : FVec Ideal S128x1024 .bf16) (G U : FVec Ideal S1x1x1024x512 .bf16) (D : FVec Ideal S1x1x512x1024 .bf16) (x : Fin 128) (d : Fin 1024) :
    k0_pay30 (F := Ideal) X G U D (ix2 x d) = shr (fun k => X (ix2 x k)) G U D d := by
  unfold k0_pay30
  pointwise [sw, shr]
  simp only [zero_sub]

theorem first128 (X : FVec Ideal S128x1024 .bf16) (G U : FVec Ideal S1x1x1024x512 .bf16) (D : FVec Ideal S1x1x512x1024 .bf16) (x : Fin 128) (d : Fin 1024) :
    k0_pay31 (F := Ideal) X G U D (ix2 x d) = shr (fun k => X (ix2 x k)) G U D d := by
  unfold k0_pay31
  pointwise
  exact part128 X G U D x d

theorem later128 (X : FVec Ideal S128x1024 .bf16) (G U : FVec Ideal S1x1x1024x512 .bf16) (D : FVec Ideal S1x1x512x1024 .bf16) (Y : FVec Ideal S128x1024 .f32) (x : Fin 128) (d : Fin 1024) :
    k0_pay32 (F := Ideal) X G U D Y (ix2 x d) = Y (ix2 x d) + shr (fun k => X (ix2 x k)) G U D d := by
  unfold k0_pay32
  pointwise
  exact congrArg _ (part128 X G U D x d)

/-! The weighted sums back over the rows. -/

/-- The lane of expert `i`. -/
abbrev ln (i : Fin 8) : Fin 128 := ⟨i.val, by omega⟩

theorem lane (i : Fin 8) (r : Fin 2048) (x : Fin 128) (a : EReal) :
    Scalar.select (k0_pay1 (BitVec.ofNat 32 i.val) (ix2 r x)) a 0 = if x = ln i then a else 0 := by
  have h : k0_pay1 (BitVec.ofNat 32 i.val) (ix2 r x) = if x = ln i then 1#1 else 0#1 := by
    unfold k0_pay1
    pointwise
    revert i x; decide +kernel
  rw [h]
  split_ifs
  · rfl
  · rfl

theorem col (i : Fin 8) (S : FVec Ideal S2048x128 .f32) (r : Fin 2048) :
    ∑ x : Fin 128, Scalar.select (k0_pay1 (BitVec.ofNat 32 i.val) (ix2 r x)) (S (ix2 r x)) (0 : EReal) = S (ix2 r (ln i)) := by
  simp only [lane]
  rw [Finset.sum_ite_eq' Finset.univ (ln i) (fun x => S (ix2 r x)), if_pos (Finset.mem_univ _)]

/-- What a block of `B` rows from row `p` on puts back to a row: its weight times the row its slot names, if it is in the block. -/
def putB {B : ℕ} (w s : EReal) (p : ℕ) (Y : Fin B → EReal) : EReal := w * ∑ j : Fin B, oh s ((p + j.val : ℕ) : EReal) * Y j

theorem put512 (i : Fin 8) (n : Fin 17) (S W : FVec Ideal S2048x128 .f32) (k : Fin (k0_t3_loop (BitVec.ofNat 32 n.val)).trips) (O : FVec Ideal S2048x1024 .f32) (Y : FVec Ideal S512x1024 .f32)
    (r : Fin 2048) (d : Fin 1024) :
    k0_pay4 (F := Ideal) (BitVec.ofNat 32 i.val) (BitVec.ofNat 32 n.val) S W k O Y (ix2 r d) = O (ix2 r d)
      + putB (W (ix2 r (ln i))) (S (ix2 r (ln i))) (512 * k.val) fun j => Y (ix2 j d) := by
  have hk := k.isLt.trans_eq (trips3 n)
  unfold k0_pay4 k0_pay2 k0_pay3
  pointwise [oh, putB]
  simp only [col]
  refine congrArg _ (congrArg _ (Finset.sum_congr rfl fun x _ => ?_))
  rw [row_val _ _ _ (iv_val k.val) (by omega)]

theorem put256 (i : Fin 8) (v : BitVec 32) (b : ℕ) (hv : v = BitVec.ofNat 32 b) (hb : b < 4096) (S W : FVec Ideal S2048x128 .f32) (O : FVec Ideal S2048x1024 .f32) (Y : FVec Ideal S256x1024 .f32)
    (r : Fin 2048) (d : Fin 1024) :
    k0_pay6 (F := Ideal) (BitVec.ofNat 32 i.val) v S W O Y (ix2 r d) = O (ix2 r d)
      + putB (W (ix2 r (ln i))) (S (ix2 r (ln i))) b fun j => Y (ix2 j d) := by
  unfold k0_pay6 k0_pay2 k0_pay3
  pointwise [oh, putB]
  simp only [col]
  refine congrArg _ (congrArg _ (Finset.sum_congr rfl fun x _ => ?_))
  rw [row_val _ _ _ hv (by omega)]

theorem put128 (i : Fin 8) (v : BitVec 32) (b : ℕ) (hv : v = BitVec.ofNat 32 b) (hb : b < 4096) (S W : FVec Ideal S2048x128 .f32) (O : FVec Ideal S2048x1024 .f32) (Y : FVec Ideal S128x1024 .f32)
    (r : Fin 2048) (d : Fin 1024) :
    k0_pay7 (F := Ideal) (BitVec.ofNat 32 i.val) v S W O Y (ix2 r d) = O (ix2 r d)
      + putB (W (ix2 r (ln i))) (S (ix2 r (ln i))) b fun j => Y (ix2 j d) := by
  unfold k0_pay7 k0_pay2 k0_pay3
  pointwise [oh, putB]
  simp only [col]
  refine congrArg _ (congrArg _ (Finset.sum_congr rfl fun x _ => ?_))
  rw [row_val _ _ _ hv (by omega)]

end Cert.Proof.LstPay
-- ==== Proof.LstRow.lean ====
/-
The routed experts' kernel body, row by row, over the extended reals: which rows of the two scratch arrays one run
makes anew and what it puts there, what it adds to the rows of the output block, and the residual connection at the end.
-/
module

public import proofs.«01_k».proof.Proof.LstFun
public import proofs.«01_k».proof.Proof.LstPay

@[expose] public section

set_option maxRecDepth 16384

noncomputable section

namespace Cert.Proof.LstRow

open Cert.LastIdeal Cert.LastIdeal.Gen
open Idealize.ShloMosaic Idealize.ShloMosaic.TcCoe Idealize.ShloMosaic.Tactic
open Cert.Proof.LstBody Cert.Proof.LstPay

/-! Blocks of whole rows of an array. -/

section Rows
variable {α : Type} (e : EltTy) {off sz : Fin 2 → ℕ} {inb : ∀ a : Fin 2, off a + sz a ≤ S2048x1024.size a}

theorem emb_eq (x : (Rect.unit (s := S2048x1024) off sz inb).shape.Idx) (y : S2048x1024.Idx)
    (h0 : (y 0).val = off 0 + (x 0).val) (h1 : (y 1).val = off 1 + (x 1).val) : (Rect.unit (s := S2048x1024) off sz inb).emb x = y := by
  funext a; refine Fin.ext ?_
  show off a + 1 * (x a : ℕ) = (y a : ℕ)
  match a with
  | ⟨0, _⟩ => rw [Nat.one_mul]; exact h0.symm
  | ⟨1, _⟩ => rw [Nat.one_mul]; exact h1.symm

/-- A row outside the block stays. -/
theorem ov_out {m : ℕ} (ho : off = ![m, 0]) (X : S2048x1024.Idx → α) (P : (Rect.unit (s := S2048x1024) off sz inb).shape.Idx → α)
    (p : Fin 2048) (d : Fin 1024) (h : ¬(m ≤ p.val ∧ p.val < m + sz 0)) :
    (Rect.unit (s := S2048x1024) off sz inb).overlay X P (ix2 p d) = X (ix2 p d) := by
  subst ho
  exact Rect.overlay_of_not_mem _ _ _ fun hm => h (Rect.mem_set_unit.mp hm 0)

/-- A row inside a block of 512 rows is the block's; loaded with the block, it is the array's. -/
theorem ov_in512 {m : ℕ} {inb : ∀ a : Fin 2, off a + S512x1024.size a ≤ S2048x1024.size a} (ho : off = ![m, 0]) (X : S2048x1024.Idx → α)
    (P : S512x1024.Idx → α) (p : Fin 2048) (d : Fin 1024) (h : m ≤ p.val ∧ p.val < m + 512) :
    (Rect.unit (s := S2048x1024) off S512x1024.size inb).overlay X P (ix2 p d) = P (ix2 ⟨p.val - m, by omega⟩ d) := by
  subst ho
  have he := emb_eq (off := ![m, 0]) (sz := S512x1024.size) (inb := inb) (ix2 (⟨p.val - m, by omega⟩ : Fin 512) d) (ix2 p d)
    (by show p.val = m + (p.val - m); omega) (by show d.val = 0 + d.val; omega)
  rw [← he]; exact Rect.overlay_emb _ _ _ _
theorem ld_512 {m : ℕ} {inb : ∀ a : Fin 2, off a + S512x1024.size a ≤ S2048x1024.size a} (ho : off = ![m, 0]) (X : Vec Ideal S2048x1024 e)
    (p : Fin 2048) (d : Fin 1024) (h : m ≤ p.val ∧ p.val < m + 512) :
    View.ld (Val := Elt Ideal) (e' := e) X (Rect.unit (s := S2048x1024) off S512x1024.size inb) (ix2 (⟨p.val - m, by omega⟩ : Fin 512) d) = X (ix2 p d) := by
  subst ho
  exact congrArg X (emb_eq (off := ![m, 0]) (sz := S512x1024.size) (inb := inb) (ix2 (⟨p.val - m, by omega⟩ : Fin 512) d) (ix2 p d)
    (by show p.val = m + (p.val - m); omega) (by show d.val = 0 + d.val; omega))

/-- A row inside a block of 256 rows is the block's; loaded with the block, it is the array's. -/
theorem ov_in256 {m : ℕ} {inb : ∀ a : Fin 2, off a + S256x1024.size a ≤ S2048x1024.size a} (ho : off = ![m, 0]) (X : S2048x1024.Idx → α)
    (P : S256x1024.Idx → α) (p : Fin 2048) (d : Fin 1024) (h : m ≤ p.val ∧ p.val < m + 256) :
    (Rect.unit (s := S2048x1024) off S256x1024.size inb).overlay X P (ix2 p d) = P (ix2 ⟨p.val - m, by omega⟩ d) := by
  subst ho
  have he := emb_eq (off := ![m, 0]) (sz := S256x1024.size) (inb := inb) (ix2 (⟨p.val - m, by omega⟩ : Fin 256) d) (ix2 p d)
    (by show p.val = m + (p.val - m); omega) (by show d.val = 0 + d.val; omega)
  rw [← he]; exact Rect.overlay_emb _ _ _ _
theorem ld_256 {m : ℕ} {inb : ∀ a : Fin 2, off a + S256x1024.size a ≤ S2048x1024.size a} (ho : off = ![m, 0]) (X : Vec Ideal S2048x1024 e)
    (p : Fin 2048) (d : Fin 1024) (h : m ≤ p.val ∧ p.val < m + 256) :
    View.ld (Val := Elt Ideal) (e' := e) X (Rect.unit (s := S2048x1024) off S256x1024.size inb) (ix2 (⟨p.val - m, by omega⟩ : Fin 256) d) = X (ix2 p d) := by
  subst ho
  exact congrArg X (emb_eq (off := ![m, 0]) (sz := S256x1024.size) (inb := inb) (ix2 (⟨p.val - m, by omega⟩ : Fin 256) d) (ix2 p d)
    (by show p.val = m + (p.val - m); omega) (by show d.val = 0 + d.val; omega))

/-- A row inside a block of 128 rows is the block's; loaded with the block, it is the array's. -/
theorem ov_in128 {m : ℕ} {inb : ∀ a : Fin 2, off a + S128x1024.size a ≤ S2048x1024.size a} (ho : off = ![m, 0]) (X : S2048x1024.Idx → α)
    (P : S128x1024.Idx → α) (p : Fin 2048) (d : Fin 1024) (h : m ≤ p.val ∧ p.val < m + 128) :
    (Rect.unit (s := S2048x1024) off S128x1024.size inb).overlay X P (ix2 p d) = P (ix2 ⟨p.val - m, by omega⟩ d) := by
  subst ho
  have he := emb_eq (off := ![m, 0]) (sz := S128x1024.size) (inb := inb) (ix2 (⟨p.val - m, by omega⟩ : Fin 128) d) (ix2 p d)
    (by show p.val = m + (p.val - m); omega) (by show d.val = 0 + d.val; omega)
  rw [← he]; exact Rect.overlay_emb _ _ _ _
theorem ld_128 {m : ℕ} {inb : ∀ a : Fin 2, off a + S128x1024.size a ≤ S2048x1024.size a} (ho : off = ![m, 0]) (X : Vec Ideal S2048x1024 e)
    (p : Fin 2048) (d : Fin 1024) (h : m ≤ p.val ∧ p.val < m + 128) :
    View.ld (Val := Elt Ideal) (e' := e) X (Rect.unit (s := S2048x1024) off S128x1024.size inb) (ix2 (⟨p.val - m, by omega⟩ : Fin 128) d) = X (ix2 p d) := by
  subst ho
  exact congrArg X (emb_eq (off := ![m, 0]) (sz := S128x1024.size) (inb := inb) (ix2 (⟨p.val - m, by omega⟩ : Fin 128) d) (ix2 p d)
    (by show p.val = m + (p.val - m); omega) (by show d.val = 0 + d.val; omega))

end Rows

theorem wR_eq {e : EltTy} (X : Vec Ideal S2048x1024 e) : wR X = X := View.ld_unit_zero (by funext a; fin_cases a <;> rfl) _ _
theorem wC_eq {e : EltTy} (X : Vec Ideal S2048x128 e) : wC X = X := View.ld_unit_zero (by funext a; fin_cases a <;> rfl) _ _
theorem wG_eq {e : EltTy} (X : Vec Ideal S1x1x1024x512 e) : wG X = X := View.ld_unit_zero (by funext a; fin_cases a <;> rfl) _ _
theorem wD_eq {e : EltTy} (X : Vec Ideal S1x1x512x1024 e) : wD X = X := View.ld_unit_zero (by funext a; fin_cases a <;> rfl) _ _

/-! Where the blocks lie and when they are run, for a count `n` of blocks of 128 rows. -/

abbrev wn (n : Fin 17) : BitVec 32 := BitVec.ofNat 32 n.val

theorem off3 (n : Fin 17) (k : Fin (k0_t1_loop (wn n)).trips) : k0_off3 (wn n) k = ![512 * k.val, 0] := by revert k; revert n; decide +kernel
theorem off4 (n : Fin 17) (k : Fin (k0_t1_loop (wn n)).trips) : k0_off4 (wn n) k = ![512 * k.val, 0] := by revert k; revert n; decide +kernel
theorem off22 (n : Fin 17) (k : Fin (k0_t3_loop (wn n)).trips) : k0_off22 (wn n) k = ![512 * k.val, 0] := by revert k; revert n; decide +kernel
theorem off13 (n : Fin 17) : k0_off13 (wn n) = ![512 * (n.val / 4), 0] := by revert n; decide +kernel
theorem off14 (n : Fin 17) : k0_off14 (wn n) = ![512 * (n.val / 4), 0] := by revert n; decide +kernel
theorem off24 (n : Fin 17) : k0_off24 (wn n) = ![512 * (n.val / 4), 0] := by revert n; decide +kernel
theorem off18 (n : Fin 17) : k0_off18 (wn n) = ![512 * (n.val / 4) + 256 * (n.val / 2 % 2), 0] := by revert n; decide +kernel
theorem off19 (n : Fin 17) : k0_off19 (wn n) = ![512 * (n.val / 4) + 256 * (n.val / 2 % 2), 0] := by revert n; decide +kernel
theorem off25 (n : Fin 17) : k0_off25 (wn n) = ![512 * (n.val / 4) + 256 * (n.val / 2 % 2), 0] := by revert n; decide +kernel
theorem cond8 (n : Fin 17) : k0_cond8 (wn n) = 1#1 ↔ n.val / 2 % 2 = 1 := by revert n; decide +kernel
theorem cond17 (n : Fin 17) : k0_cond17 (wn n) = 1#1 ↔ n.val / 2 % 2 = 1 := by revert n; decide +kernel
theorem cond12 (n : Fin 17) : k0_cond12 (wn n) = 1#1 ↔ n.val % 2 = 1 := by revert n; decide +kernel
theorem cond18 (n : Fin 17) : k0_cond18 (wn n) = 1#1 ↔ n.val % 2 = 1 := by revert n; decide +kernel
theorem off2 (i : grid0.Coords) : k0_off2 i = ![(i 1).val, 0] := by unfold k0_off2; generalize i 1 = q; revert q; show ∀ q : Fin 8, _; decide +kernel
theorem off12 (i : grid0.Coords) : k0_off12 i = ![(i 1).val, 0] := by unfold k0_off12; generalize i 1 = q; revert q; show ∀ q : Fin 8, _; decide +kernel
theorem off17 (i : grid0.Coords) : k0_off17 i = ![(i 1).val, 0] := by unfold k0_off17; generalize i 1 = q; revert q; show ∀ q : Fin 8, _; decide +kernel
theorem cond2 (i : grid0.Coords) : k0_cond2 i = 1#1 ↔ (i 2).val = 0 := by unfold k0_cond2; generalize i 2 = q; revert q; show ∀ q : Fin 7, _; decide +kernel
theorem cond16 (i : grid0.Coords) (n : Fin 17) : k0_cond16 i (wn n) = 1#1 ↔ (i 2).val = 6 ∧ 0 < n.val := by
  unfold k0_cond16; generalize i 2 = q; revert n; revert q; show ∀ q : Fin 7, _; decide +kernel
theorem cond1 (i : grid0.Coords) : k0_cond1 i = 1#1 ↔ (i 1).val = 0 ∧ (i 2).val = 0 := by
  unfold k0_cond1; generalize i 2 = q; generalize i 1 = p; revert p q; show ∀ q : Fin 7, ∀ p : Fin 8, _; decide +kernel
theorem cond19 (i : grid0.Coords) : k0_cond19 i = 1#1 ↔ (i 1).val = 7 ∧ (i 2).val = 6 := by
  unfold k0_cond19; generalize i 2 = q; generalize i 1 = p; revert p q; show ∀ q : Fin 7, ∀ p : Fin 8, _; decide +kernel

/-- The expert's row of the slot table. -/
def row (i : grid0.Coords) (ST : FVec Ideal S8x2048 .f32) : FVec Ideal S1x2048 .f32 := fun j => ST (ix2 (i 1) (j 1))

theorem ld_row (i : grid0.Coords) (ST : FVec Ideal S8x2048 .f32) (off : Fin 2 → ℕ) (h : off = ![(i 1).val, 0]) (inb) :
    View.ld (Val := Elt Ideal) (e' := .f32) ST (Rect.unit (s := S8x2048) off S1x2048.size inb) = row i ST := by
  subst h
  funext j
  refine congrArg ST ?_
  funext a; refine Fin.ext ?_
  show (![(i 1).val, 0] a : ℕ) + 1 * (j a : ℕ) = _
  have h0 : (j 0).val < 1 := (j 0).isLt
  match a with
  | ⟨0, _⟩ => show (i 1).val + 1 * (j 0).val = (i 1).val; omega
  | ⟨1, _⟩ => show 0 + 1 * (j 1).val = (j 1).val; omega

section Up

variable (i : grid0.Coords) (n : Fin 17) (hw : k0_chk1 i (wn n))
  (ST : FVec Ideal S8x2048 .f32) (U : FVec Ideal S2048x1024 .bf16) (G V : FVec Ideal S1x1x1024x512 .bf16) (D : FVec Ideal S1x1x512x1024 .bf16)

/-- The gathered rows with the rows from `a` up to `b` made anew. -/
def upX (a b : ℕ) (X : FVec Ideal S2048x1024 .bf16) (p : Fin 2048) (d : Fin 1024) : EReal :=
  if a ≤ p.val ∧ p.val < b then (if (i 2).val = 0 then gat (row i ST) U p.val d else X (ix2 p d)) else X (ix2 p d)

/-- The running outputs with the rows from `a` up to `b` made anew. -/
def upY (a b : ℕ) (X : FVec Ideal S2048x1024 .bf16) (Y : FVec Ideal S2048x1024 .f32) (p : Fin 2048) (d : Fin 1024) : EReal :=
  if a ≤ p.val ∧ p.val < b then (if (i 2).val = 0 then 0 else Y (ix2 p d)) + shr (fun k => X (ix2 p k)) G V D d else Y (ix2 p d)

theorem gX_row (k : Fin (k0_t1_loop (wn n)).trips) (X : FVec Ideal S2048x1024 .bf16) (p : Fin 2048) (d : Fin 1024) :
    gX (F := Ideal) i (wn n) hw ST U k X (ix2 p d) = upX i ST U (512 * k.val) (512 * (k.val + 1)) X p d := by
  unfold gX upX
  have ho := off3 n k
  by_cases h : (i 2).val = 0
  · rw [dif_pos ((cond2 i).mpr h), if_pos h, ld_row i ST _ (off2 i), wR_eq]
    by_cases hp : 512 * k.val ≤ p.val ∧ p.val < 512 * (k.val + 1)
    · rw [if_pos hp]
      have hp' : 512 * k.val ≤ p.val ∧ p.val < 512 * k.val + 512 := ⟨hp.1, by omega⟩
      have e1 := ov_in512 (inb := k0_off3_inb i (wn n) hw k ((cond2 i).mpr h)) ho X (k0_pay10 (F := Ideal) (wn n) 0#32 1#32 k (row i ST) U) p d hp'
      have e2 := gath512 n k (row i ST) U ⟨p.val - 512 * k.val, by omega⟩ d
      have e3 : 512 * k.val + (p.val - 512 * k.val) = p.val := by omega
      rw [e3] at e2
      exact e1.trans e2
    · rw [if_neg hp]
      exact ov_out ho X _ p d (by rintro ⟨h1, h2⟩; exact hp ⟨h1, by have : p.val < 512 * k.val + 512 := h2; omega⟩)
  · rw [dif_neg (mt (cond2 i).mp h), if_neg h, ite_self]

theorem gY_row (k : Fin (k0_t1_loop (wn n)).trips) (X : FVec Ideal S2048x1024 .bf16) (Y : FVec Ideal S2048x1024 .f32) (p : Fin 2048) (d : Fin 1024) :
    gY (F := Ideal) i (wn n) hw G V D k X Y (ix2 p d) = upY i G V D (512 * k.val) (512 * (k.val + 1)) X Y p d := by
  unfold gY upY
  have ho := off4 n k
  rw [wG_eq, wG_eq, wD_eq]
  by_cases hp : 512 * k.val ≤ p.val ∧ p.val < 512 * (k.val + 1)
  · have hp' : 512 * k.val ≤ p.val ∧ p.val < 512 * k.val + 512 := ⟨hp.1, by omega⟩
    rw [if_pos hp]
    by_cases h : (i 2).val = 0
    · rw [dif_pos ((cond2 i).mpr h), if_pos h, zero_add]
      refine (ov_in512 ho Y _ p d hp').trans ((first512 _ _ _ _ _ _).trans ?_)
      exact congrArg (fun z => shr z G V D d) (funext fun q => ld_512 .bf16 ho X p q hp')
    · rw [dif_neg (mt (cond2 i).mp h), if_neg h]
      refine (ov_in512 ho Y _ p d hp').trans ((later512 _ _ _ _).trans (congrArg₂ (· + ·) (ld_512 .f32 ho Y p d hp') ((part512 _ _ _ _ _ _).trans ?_)))
      exact congrArg (fun z => shr z G V D d) (funext fun q => ld_512 .bf16 ho X p q hp')
  · rw [if_neg hp]
    have hq : ¬(512 * k.val ≤ p.val ∧ p.val < 512 * k.val + 512) := fun q => hp ⟨q.1, by omega⟩
    split_ifs
    · exact ov_out ho Y _ p d hq
    · exact ov_out ho Y _ p d hq

theorem bX_row (X : FVec Ideal S2048x1024 .bf16) (p : Fin 2048) (d : Fin 1024) :
    bX (F := Ideal) i (wn n) hw ST U X (ix2 p d) = upX i ST U (512 * (n.val / 4)) (512 * (n.val / 4) + 256 * (n.val / 2 % 2)) X p d := by
  unfold bX upX
  have ho := off13 n
  by_cases hb : n.val / 2 % 2 = 1
  · rw [show 512 * (n.val / 4) + 256 * (n.val / 2 % 2) = 512 * (n.val / 4) + 256 from by omega, dif_pos ((cond8 n).mpr hb)]
    by_cases h : (i 2).val = 0
    · rw [dif_pos ((cond2 i).mpr h), if_pos h, ld_row i ST _ (off12 i), wR_eq]
      by_cases hp : 512 * (n.val / 4) ≤ p.val ∧ p.val < 512 * (n.val / 4) + 256
      · rw [if_pos hp]
        have hp' : 512 * (n.val / 4) ≤ p.val ∧ p.val < 512 * (n.val / 4) + 256 := hp
        have e2 := gath256 n (row i ST) U ⟨p.val - (512 * (n.val / 4)), by omega⟩ d
        have e3 : 512 * (n.val / 4) + (p.val - (512 * (n.val / 4))) = p.val := by omega
        rw [e3] at e2
        exact (ov_in256 ho X _ p d hp').trans e2
      · rw [if_neg hp]
        exact ov_out ho X _ p d hp
    · rw [dif_neg (mt (cond2 i).mp h), if_neg h, ite_self]
  · rw [dif_neg (mt (cond8 n).mp hb), if_neg (by omega)]

theorem bY_row (X : FVec Ideal S2048x1024 .bf16) (Y : FVec Ideal S2048x1024 .f32) (p : Fin 2048) (d : Fin 1024) :
    bY (F := Ideal) i (wn n) hw G V D X Y (ix2 p d) = upY i G V D (512 * (n.val / 4)) (512 * (n.val / 4) + 256 * (n.val / 2 % 2)) X Y p d := by
  unfold bY upY
  have ho := off14 n
  rw [wG_eq, wG_eq, wD_eq]
  by_cases hb : n.val / 2 % 2 = 1
  · rw [show 512 * (n.val / 4) + 256 * (n.val / 2 % 2) = 512 * (n.val / 4) + 256 from by omega, dif_pos ((cond8 n).mpr hb)]
    by_cases hp : 512 * (n.val / 4) ≤ p.val ∧ p.val < 512 * (n.val / 4) + 256
    · have hp' : 512 * (n.val / 4) ≤ p.val ∧ p.val < 512 * (n.val / 4) + 256 := hp
      rw [if_pos hp]
      by_cases h : (i 2).val = 0
      · rw [dif_pos ((cond2 i).mpr h), if_pos h, zero_add]
        refine (ov_in256 ho Y _ p d hp').trans ((first256 _ _ _ _ _ _).trans ?_)
        exact congrArg (fun z => shr z G V D d) (funext fun q => ld_256 .bf16 ho X p q hp')
      · rw [dif_neg (mt (cond2 i).mp h), if_neg h]
        refine (ov_in256 ho Y _ p d hp').trans ((later256 _ _ _ _ _ _ _).trans (congrArg₂ (· + ·) (ld_256 .f32 ho Y p d hp') ?_))
        exact congrArg (fun z => shr z G V D d) (funext fun q => ld_256 .bf16 ho X p q hp')
    · rw [if_neg hp]
      split_ifs
      · exact ov_out ho Y _ p d hp
      · exact ov_out ho Y _ p d hp
  · rw [dif_neg (mt (cond8 n).mp hb), if_neg (by omega)]

theorem eX_row (X : FVec Ideal S2048x1024 .bf16) (p : Fin 2048) (d : Fin 1024) :
    eX (F := Ideal) i (wn n) hw ST U X (ix2 p d) = upX i ST U (512 * (n.val / 4) + 256 * (n.val / 2 % 2)) (512 * (n.val / 4) + 256 * (n.val / 2 % 2) + 128 * (n.val % 2)) X p d := by
  unfold eX upX
  have ho := off18 n
  by_cases hb : n.val % 2 = 1
  · rw [show 512 * (n.val / 4) + 256 * (n.val / 2 % 2) + 128 * (n.val % 2) = 512 * (n.val / 4) + 256 * (n.val / 2 % 2) + 128 from by omega, dif_pos ((cond12 n).mpr hb)]
    by_cases h : (i 2).val = 0
    · rw [dif_pos ((cond2 i).mpr h), if_pos h, ld_row i ST _ (off17 i), wR_eq]
      by_cases hp : 512 * (n.val / 4) + 256 * (n.val / 2 % 2) ≤ p.val ∧ p.val < 512 * (n.val / 4) + 256 * (n.val / 2 % 2) + 128
      · rw [if_pos hp]
        have hp' : 512 * (n.val / 4) + 256 * (n.val / 2 % 2) ≤ p.val ∧ p.val < 512 * (n.val / 4) + 256 * (n.val / 2 % 2) + 128 := hp
        have e2 := gath128 n (row i ST) U ⟨p.val - (512 * (n.val / 4) + 256 * (n.val / 2 % 2)), by omega⟩ d
        have e3 : 512 * (n.val / 4) + 256 * (n.val / 2 % 2) + (p.val - (512 * (n.val / 4) + 256 * (n.val / 2 % 2))) = p.val := by omega
        rw [e3] at e2
        exact (ov_in128 ho X _ p d hp').trans e2
      · rw [if_neg hp]
        exact ov_out ho X _ p d hp
    · rw [dif_neg (mt (cond2 i).mp h), if_neg h, ite_self]
  · rw [dif_neg (mt (cond12 n).mp hb), if_neg (by omega)]

theorem eY_row (X : FVec Ideal S2048x1024 .bf16) (Y : FVec Ideal S2048x1024 .f32) (p : Fin 2048) (d : Fin 1024) :
    eY (F := Ideal) i (wn n) hw G V D X Y (ix2 p d) = upY i G V D (512 * (n.val / 4) + 256 * (n.val / 2 % 2)) (512 * (n.val / 4) + 256 * (n.val / 2 % 2) + 128 * (n.val % 2)) X Y p d := by
  unfold eY upY
  have ho := off19 n
  rw [wG_eq, wG_eq, wD_eq]
  by_cases hb : n.val % 2 = 1
  · rw [show 512 * (n.val / 4) + 256 * (n.val / 2 % 2) + 128 * (n.val % 2) = 512 * (n.val / 4) + 256 * (n.val / 2 % 2) + 128 from by omega, dif_pos ((cond12 n).mpr hb)]
    by_cases hp : 512 * (n.val / 4) + 256 * (n.val / 2 % 2) ≤ p.val ∧ p.val < 512 * (n.val / 4) + 256 * (n.val / 2 % 2) + 128
    · have hp' : 512 * (n.val / 4) + 256 * (n.val / 2 % 2) ≤ p.val ∧ p.val < 512 * (n.val / 4) + 256 * (n.val / 2 % 2) + 128 := hp
      rw [if_pos hp]
      by_cases h : (i 2).val = 0
      · rw [dif_pos ((cond2 i).mpr h), if_pos h, zero_add]
        refine (ov_in128 ho Y _ p d hp').trans ((first128 _ _ _ _ _ _).trans ?_)
        exact congrArg (fun z => shr z G V D d) (funext fun q => ld_128 .bf16 ho X p q hp')
      · rw [dif_neg (mt (cond2 i).mp h), if_neg h]
        refine (ov_in128 ho Y _ p d hp').trans ((later128 _ _ _ _ _ _ _).trans (congrArg₂ (· + ·) (ld_128 .f32 ho Y p d hp') ?_))
        exact congrArg (fun z => shr z G V D d) (funext fun q => ld_128 .bf16 ho X p q hp')
    · rw [if_neg hp]
      split_ifs
      · exact ov_out ho Y _ p d hp
      · exact ov_out ho Y _ p d hp
  · rw [dif_neg (mt (cond12 n).mp hb), if_neg (by omega)]

/-- A gathered row at the end of the run: made anew at the first block of hidden columns, and else as it was. -/
def nX (X : FVec Ideal S2048x1024 .bf16) (p : Fin 2048) (d : Fin 1024) : EReal :=
  if (i 2).val = 0 then gat (row i ST) U p.val d else X (ix2 p d)

/-- A running output at the end of the run. -/
def nY (X : FVec Ideal S2048x1024 .bf16) (Y : FVec Ideal S2048x1024 .f32) (p : Fin 2048) (d : Fin 1024) : EReal :=
  (if (i 2).val = 0 then 0 else Y (ix2 p d)) + shr (fun k => nX i ST U X p k) G V D d

/-- The rows below `m` are done, the others as they were. -/
def Done (m : ℕ) (X : FVec Ideal S2048x1024 .bf16) (Y : FVec Ideal S2048x1024 .f32) (X' : FVec Ideal S2048x1024 .bf16) (Y' : FVec Ideal S2048x1024 .f32) : Prop :=
  ∀ p : Fin 2048, ∀ d : Fin 1024, (p.val < m → X' (ix2 p d) = nX i ST U X p d ∧ Y' (ix2 p d) = nY i ST U G V D X Y p d)
    ∧ (m ≤ p.val → X' (ix2 p d) = X (ix2 p d) ∧ Y' (ix2 p d) = Y (ix2 p d))

theorem Done.step {X X' X'' : FVec Ideal S2048x1024 .bf16} {Y Y' Y'' : FVec Ideal S2048x1024 .f32} {a b : ℕ} (hab : a ≤ b)
    (h : Done i ST U G V D a X Y X' Y') (hX : ∀ p d, X'' (ix2 p d) = upX i ST U a b X' p d) (hY : ∀ p d, Y'' (ix2 p d) = upY i G V D a b X'' Y' p d) :
    Done i ST U G V D b X Y X'' Y'' := by
  have hx : ∀ p : Fin 2048, ∀ d : Fin 1024, p.val < b → X'' (ix2 p d) = nX i ST U X p d := fun p d hp => by
    rw [hX]; unfold upX
    split_ifs with h1 h2
    · unfold nX; rw [if_pos h2]
    · rw [((h p d).2 h1.1).1]; unfold nX; rw [if_neg h2]
    · exact ((h p d).1 (by omega)).1
  intro p d
  refine ⟨fun hp => ⟨hx p d hp, ?_⟩, fun hp => ⟨?_, ?_⟩⟩
  · rw [hY]; unfold upY
    split_ifs with h1 h2
    · unfold nY; rw [if_pos h2]; exact congrArg (fun z => 0 + shr z G V D d) (funext fun q => hx p q hp)
    · unfold nY; rw [if_neg h2, ((h p d).2 h1.1).2]; exact congrArg (fun z => Y (ix2 p d) + shr z G V D d) (funext fun q => hx p q hp)
    · exact ((h p d).1 (by omega)).2
  · rw [hX]; unfold upX; rw [if_neg (by omega)]; exact ((h p d).2 (by omega)).1
  · rw [hY]; unfold upY; rw [if_neg (by omega)]; exact ((h p d).2 (by omega)).2

theorem done_it (X : FVec Ideal S2048x1024 .bf16) (Y : FVec Ideal S2048x1024 .f32) (k : ℕ) (hk : k ≤ (k0_t1_loop (wn n)).trips) :
    Done i ST U G V D (512 * k) X Y (it (F := Ideal) i (wn n) hw ST U G V D X Y k).1 (it (F := Ideal) i (wn n) hw ST U G V D X Y k).2 := by
  induction k with
  | zero => exact fun p d => ⟨fun h => absurd h (by omega), fun _ => ⟨rfl, rfl⟩⟩
  | succ k ih =>
    rw [it_succ (F := Ideal) i (wn n) hw ST U G V D X Y ⟨k, hk⟩]
    exact (ih (by omega)).step i ST U G V D (by omega) (fun p d => gX_row i n hw ST U ⟨k, hk⟩ _ p d) (fun p d => gY_row i n hw G V D ⟨k, hk⟩ _ _ p d)

/-- After the run, the first `128 n` rows are done and the others as they were. -/
theorem done (X : FVec Ideal S2048x1024 .bf16) (Y : FVec Ideal S2048x1024 .f32) :
    Done i ST U G V D (128 * n.val) X Y (X3 (F := Ideal) i (wn n) hw ST U G V D X Y) (Y3 (F := Ideal) i (wn n) hw ST U G V D X Y) := by
  have h1 := done_it i n hw ST U G V D X Y _ le_rfl
  rw [show 512 * (k0_t1_loop (wn n)).trips = 512 * (n.val / 4) from congrArg _ (trips1 n)] at h1
  have h2 := h1.step i ST U G V D (b := 512 * (n.val / 4) + 256 * (n.val / 2 % 2)) (by omega) (fun p d => bX_row i n hw ST U _ p d) (fun p d => bY_row i n hw G V D _ _ p d)
  have h3 := h2.step i ST U G V D (b := 512 * (n.val / 4) + 256 * (n.val / 2 % 2) + 128 * (n.val % 2)) (by omega) (fun p d => eX_row i n hw ST U _ p d) (fun p d => eY_row i n hw G V D _ _ p d)
  rw [show 128 * n.val = 512 * (n.val / 4) + 256 * (n.val / 2 % 2) + 128 * (n.val % 2) from by omega]
  exact h3
end Up

/-! What the run adds to the rows of the output block. -/

theorem oh_nat (a b : ℕ) : oh ((a : ℕ) : EReal) ((b : ℕ) : EReal) = if a = b then 1 else 0 := by
  unfold oh
  have : (((a : ℕ) : EReal) = ((b : ℕ) : EReal)) ↔ a = b := by
    constructor
    · intro h; exact_mod_cast h
    · rintro rfl; rfl
  simp only [this]

/-- A block puts back to a row its weight times the row its slot names, if the slot is in the block. -/
theorem putB_eq {B : ℕ} (w s : EReal) (a q : ℕ) (hws : w = 0 ∨ s = ((q : ℕ) : EReal)) (Y : Fin B → EReal) (z : EReal) (hz : ∀ h : a ≤ q ∧ q < a + B, Y ⟨q - a, by omega⟩ = z) :
    putB w s a Y = if a ≤ q ∧ q < a + B then w * z else 0 := by
  unfold putB
  rcases hws with rfl | rfl
  · simp only [zero_mul, ite_self]
  · split_ifs with h
    · rw [Finset.sum_eq_single ⟨q - a, by omega⟩, hz h, oh_nat, if_pos (by show q = a + (q - a); omega), one_mul]
      · intro j _ hj
        rw [oh_nat, if_neg (fun e => hj (Fin.ext (by show j.val = q - a; omega))), zero_mul]
      · exact fun h => absurd (Finset.mem_univ _) h
    · rw [Finset.sum_eq_zero, mul_zero]
      intro j _
      rw [oh_nat, if_neg (by have := j.isLt; omega), zero_mul]

section Put
variable (i : grid0.Coords) (n : Fin 17) (hw : k0_chk1 i (wn n)) (h : k0_cond16 i (wn n) = 1#1) (W S : FVec Ideal S2048x128 .f32) (Y : FVec Ideal S2048x1024 .f32)
  (r : Fin 2048) (q : Fin 2048) (hws : W (ix2 r (ln (i 1))) = 0 ∨ S (ix2 r (ln (i 1))) = ((q.val : ℕ) : EReal))

/-- The row's share of the outputs, once the blocks below row `m` are put back. -/
def share (m : ℕ) (d : Fin 1024) : EReal := if q.val < m then W (ix2 r (ln (i 1))) * Y (ix2 q d) else 0

theorem share_step (a b : ℕ) (hab : a ≤ b) (d : Fin 1024) (o z : EReal) (h : z = o + share i W Y r q a d) :
    z + (if a ≤ q.val ∧ q.val < b then W (ix2 r (ln (i 1))) * Y (ix2 q d) else 0) = o + share i W Y r q b d := by
  subst h
  unfold share
  split_ifs <;> first | omega | rw [add_zero] | rw [add_zero, add_zero]

include hws in
theorem ot_row (O : FVec Ideal S2048x1024 .f32) (d : Fin 1024) (k : ℕ) (hk : k ≤ (k0_t3_loop (wn n)).trips) :
    ot (F := Ideal) i (wn n) hw h W S Y O k (ix2 r d) = O (ix2 r d) + share i W Y r q (512 * k) d := by
  induction k with
  | zero => unfold ot share; rw [if_neg (by omega), add_zero]
  | succ k ih =>
    have hk' : k < (k0_t3_loop (wn n)).trips := hk
    rw [ot, dif_pos hk', wC_eq, wC_eq, wR_eq]
    refine (put512 (i 1) n S W ⟨k, hk'⟩ _ _ r d).trans ?_
    rw [putB_eq _ _ _ q.val hws _ (Y (ix2 q d)) (fun hq => ld_512 .f32 (off22 n ⟨k, hk'⟩) Y q d hq)]
    exact share_step i W Y r q (512 * k) (512 * k + 512) (by omega) d _ _ (ih (by omega))

include hws in
theorem o17_row (O O' : FVec Ideal S2048x1024 .f32) (d : Fin 1024) (e : O' (ix2 r d) = O (ix2 r d) + share i W Y r q (512 * (n.val / 4)) d) :
    o17 (F := Ideal) i (wn n) hw h W S Y O' (ix2 r d) = O (ix2 r d) + share i W Y r q (512 * (n.val / 4) + 256 * (n.val / 2 % 2)) d := by
  unfold o17
  by_cases hb : n.val / 2 % 2 = 1
  · rw [show 512 * (n.val / 4) + 256 * (n.val / 2 % 2) = 512 * (n.val / 4) + 256 from by omega, dif_pos ((cond17 n).mpr hb), wC_eq, wC_eq, wR_eq]
    refine (put256 (i 1) _ (512 * (n.val / 4)) (w256 n) (by omega) S W _ _ r d).trans ?_
    rw [putB_eq _ _ _ q.val hws _ (Y (ix2 q d)) (fun hq => ld_256 .f32 (off24 n) Y q d hq)]
    exact share_step i W Y r q _ _ (by omega) d _ _ e
  · rw [dif_neg (mt (cond17 n).mp hb), show n.val / 2 % 2 = 0 from by omega]; exact e

include hws in
theorem o18_row (O O' : FVec Ideal S2048x1024 .f32) (d : Fin 1024) (e : O' (ix2 r d) = O (ix2 r d) + share i W Y r q (512 * (n.val / 4) + 256 * (n.val / 2 % 2)) d) :
    o18 (F := Ideal) i (wn n) hw h W S Y O' (ix2 r d) = O (ix2 r d) + share i W Y r q (512 * (n.val / 4) + 256 * (n.val / 2 % 2) + 128 * (n.val % 2)) d := by
  unfold o18
  by_cases hb : n.val % 2 = 1
  · rw [show 512 * (n.val / 4) + 256 * (n.val / 2 % 2) + 128 * (n.val % 2) = 512 * (n.val / 4) + 256 * (n.val / 2 % 2) + 128 from by omega, dif_pos ((cond18 n).mpr hb), wC_eq, wC_eq, wR_eq]
    refine (put128 (i 1) _ (512 * (n.val / 4) + 256 * (n.val / 2 % 2)) (w128 n) (by omega) S W _ _ r d).trans ?_
    rw [putB_eq _ _ _ q.val hws _ (Y (ix2 q d)) (fun hq => ld_128 .f32 (off25 n) Y q d hq)]
    exact share_step i W Y r q _ _ (by omega) d _ _ e
  · rw [dif_neg (mt (cond18 n).mp hb), show n.val % 2 = 0 from by omega]; exact e

include hws in
/-- At the last block of hidden columns a row gets its weight times the output of the row its slot names; before, nothing. -/
theorem O2_row (O : FVec Ideal S2048x1024 .f32) (d : Fin 1024) :
    O2 (F := Ideal) i (wn n) hw W S Y O (ix2 r d)
      = O (ix2 r d) + (if (i 2).val = 6 then share i W Y r q (128 * n.val) d else 0) := by
  unfold O2
  by_cases h : (i 2).val = 6 ∧ 0 < n.val
  · rw [dif_pos ((cond16 i n).mpr h), if_pos h.1]
    have e1 := ot_row i n hw ((cond16 i n).mpr h) W S Y r q hws O d _ le_rfl
    rw [show 512 * (k0_t3_loop (wn n)).trips = 512 * (n.val / 4) from congrArg _ (trips3 n)] at e1
    rw [show 128 * n.val = 512 * (n.val / 4) + 256 * (n.val / 2 % 2) + 128 * (n.val % 2) from by omega]
    exact o18_row i n hw _ W S Y r q hws O _ d (o17_row i n hw _ W S Y r q hws O _ d e1)
  · rw [dif_neg (mt (cond16 i n).mp h)]
    split_ifs with h6
    · unfold share; rw [if_neg (by omega), add_zero]
    · rw [add_zero]
end Put

/-! The residual connection. -/

/-- The residual connection at an entry: the input plus the gate of its block of 256 rows times the output. -/
def res (H : FVec Ideal S2048x1024 .f32) (M : FVec Ideal S8x8x1024 .f32) (O : FVec Ideal S2048x1024 .f32) (r : Fin 2048) (d : Fin 1024) : EReal :=
  H (ix2 r d) + M (ix3 (⟨r.val / 256, by omega⟩ : Fin 8) 5 d) * O (ix2 r d)

/-- One of its eight blocks of rows overlaid. -/
theorem res_piece (H : FVec Ideal S2048x1024 .f32) (M : FVec Ideal S8x8x1024 .f32) (O O' : FVec Ideal S2048x1024 .f32) (b : ℕ) (m : ℕ) (hm : m = 256 * b) {inb inb' inb'' inbM}
    (pay : FVec Ideal S256x1024 .f32 → FVec Ideal S1x1x1024 .f32 → FVec Ideal S256x1024 .f32 → FVec Ideal S256x1024 .f32)
    (hpay : ∀ h g o x d, pay h g o (ix2 x d) = h (ix2 x d) + g (ix3 0 0 d) * o (ix2 x d)) (r : Fin 2048) (d : Fin 1024) :
    (Rect.unit (s := S2048x1024) ![m, 0] S256x1024.size inb).overlay O'
        (pay (View.ld (Val := Elt Ideal) (e' := .f32) H (Rect.unit (s := S2048x1024) ![m, 0] S256x1024.size inb'))
          (View.ld (Val := Elt Ideal) (e' := .f32) M (Rect.unit (s := S8x8x1024) ![b, 5, 0] S1x1x1024.size inbM))
          (View.ld (Val := Elt Ideal) (e' := .f32) O (Rect.unit (s := S2048x1024) ![m, 0] S256x1024.size inb''))) (ix2 r d)
      = if r.val / 256 = b then res H M O r d else O' (ix2 r d) := by
  subst hm
  by_cases hr : r.val / 256 = b
  · have hp : 256 * b ≤ r.val ∧ r.val < 256 * b + 256 := by omega
    rw [if_pos hr]
    refine (ov_in256 rfl O' _ r d hp).trans ((hpay _ _ _ _ _).trans ?_)
    unfold res
    refine congrArg₂ (· + ·) (ld_256 .f32 rfl H r d hp) (congrArg₂ (· * ·) (congrArg M ?_) (ld_256 .f32 rfl O r d hp))
    funext a; refine Fin.ext ?_
    match a with
    | ⟨0, _⟩ => show b + 1 * 0 = r.val / 256; omega
    | ⟨1, _⟩ => rfl
    | ⟨2, _⟩ => show 0 + 1 * d.val = d.val; omega
  · rw [if_neg hr]
    exact ov_out rfl O' _ r d (by rintro ⟨h1, h2⟩; have h3 : r.val < 256 * b + 256 := h2; omega)

theorem fin_row (H : FVec Ideal S2048x1024 .f32) (M : FVec Ideal S8x8x1024 .f32) (O : FVec Ideal S2048x1024 .f32) (r : Fin 2048) (d : Fin 1024) :
    fin (F := Ideal) H M O (ix2 r d) = res H M O r d := by
  unfold fin
  rw [res_piece H M O _ 7 1792 rfl (k0_pay9 (F := Ideal)) (fun h g o x d => by unfold k0_pay9; pointwise)]
  rw [res_piece H M O _ 6 1536 rfl (k0_pay8 (F := Ideal)) (fun h g o x d => by unfold k0_pay8; pointwise)]
  rw [res_piece H M O _ 5 1280 rfl (k0_pay21 (F := Ideal)) (fun h g o x d => by unfold k0_pay21; pointwise)]
  rw [res_piece H M O _ 4 1024 rfl (k0_pay20 (F := Ideal)) (fun h g o x d => by unfold k0_pay20; pointwise)]
  rw [res_piece H M O _ 3 768 rfl (k0_pay19 (F := Ideal)) (fun h g o x d => by unfold k0_pay19; pointwise)]
  rw [res_piece H M O _ 2 512 rfl (k0_pay18 (F := Ideal)) (fun h g o x d => by unfold k0_pay18; pointwise)]
  rw [res_piece H M O _ 1 256 rfl (k0_pay17 (F := Ideal)) (fun h g o x d => by unfold k0_pay17; pointwise)]
  rw [res_piece H M O _ 0 0 rfl (k0_pay16 (F := Ideal)) (fun h g o x d => by unfold k0_pay16; pointwise)]
  have := r.isLt
  split_ifs with h7 h6 h5 h4 h3 h2 h1 h0
  all_goals first | rfl | (exfalso; omega)

/-- The cleared output block. -/
theorem clear_row (r : Fin 2048) (d : Fin 1024) : k0_pay22 (F := Ideal) (ix2 r d) = 0 := by
  unfold k0_pay22; pointwise

end Cert.Proof.LstRow
-- ==== Proof.LstStep.lean ====
/-
One point of the routed experts' kernel over the extended reals, on the blocks of a tile: a row with a weight for the
expert has, at its slot, its own entry of the gathered rows and the sum of the hidden blocks so far.
-/
module

public import proofs.«01_k».proof.Proof.LstRow

@[expose] public section

set_option maxRecDepth 16384

noncomputable section

namespace Cert.Proof.LstStep

open Cert.LastIdeal Cert.LastIdeal.Gen
open Idealize.ShloMosaic Idealize.ShloMosaic.TcCoe Idealize.ShloMosaic.Tactic
open Cert.Proof.LstBody Cert.Proof.LstPay Cert.Proof.LstRow

/-- After `f` hidden blocks of expert `e`: each row with a weight has a slot below `m`, where the gathered array holds
    the row and the running array the sum of its shares. -/
def Kept (w s : Fin 2048 → EReal) (m f : ℕ) (u : Fin 2048 → Fin 1024 → EReal) (B : ℕ → Fin 2048 → Fin 1024 → EReal)
    (X : FVec Ideal S2048x1024 .bf16) (Y : FVec Ideal S2048x1024 .f32) : Prop :=
  ∀ r : Fin 2048, w r ≠ 0 → ∃ q : Fin 2048, s r = ((q.val : ℕ) : EReal) ∧ q.val < m
    ∧ (∀ d, X (ix2 q d) = u r d) ∧ (∀ d, Y (ix2 q d) = ∑ a ∈ Finset.range f, B a r d)

theorem nat_inj {a b : ℕ} (h : ((a : ℕ) : EReal) = ((b : ℕ) : EReal)) : a = b := by exact_mod_cast h

variable (i : grid0.Coords) (n : Fin 17) (hw : k0_chk1 i (wn n))
variable (ST : FVec Ideal S8x2048 .f32) (U : FVec Ideal S2048x1024 .bf16) (G V : FVec Ideal S1x1x1024x512 .bf16) (D : FVec Ideal S1x1x512x1024 .bf16)
variable (W S : FVec Ideal S2048x128 .f32)
variable (B : ℕ → Fin 2048 → Fin 1024 → EReal)
variable (same : ∀ r : Fin 2048, ST (ix2 (i 1) r) = S (ix2 r (ln (i 1))))
variable (placed : ∀ r : Fin 2048, W (ix2 r (ln (i 1))) = 0 ∨ ∃ k : ℕ, S (ix2 r (ln (i 1))) = ((k : ℕ) : EReal) ∧ k < 128 * n.val)
variable (apart : ∀ r j : Fin 2048, r ≠ j → W (ix2 r (ln (i 1))) ≠ 0 → S (ix2 r (ln (i 1))) ≠ S (ix2 j (ln (i 1))))

include same apart in
/-- The gather at a used slot is the row that uses it. -/
theorem gat_eq (r : Fin 2048) (hr : W (ix2 r (ln (i 1))) ≠ 0) (q : Fin 2048) (hq : S (ix2 r (ln (i 1))) = ((q.val : ℕ) : EReal)) (d : Fin 1024) :
    gat (row i ST) U q.val d = U (ix2 r d) := by
  unfold gat
  rw [Finset.sum_eq_single r]
  · show oh (ST (ix2 (i 1) r)) _ * _ = _
    rw [same r, hq, oh_nat, if_pos rfl, one_mul]
  · intro j _ hj
    show oh (ST (ix2 (i 1) j)) _ * _ = _
    unfold oh
    rw [if_neg, zero_mul]
    rw [same j, ← hq]
    exact fun h => apart r j (Ne.symm hj) hr h.symm
  · exact fun h => absurd (Finset.mem_univ r) h

include same placed apart in
/-- One more hidden block. -/
theorem kept_step (hB : ∀ r d, shr (fun k => U (ix2 r k)) G V D d = B (i 2).val r d) (X : FVec Ideal S2048x1024 .bf16) (Y : FVec Ideal S2048x1024 .f32)
    (h : (i 2).val ≠ 0 → Kept (fun r => W (ix2 r (ln (i 1)))) (fun r => S (ix2 r (ln (i 1)))) (128 * n.val) (i 2).val (fun r d => U (ix2 r d)) B X Y) :
    Kept (fun r => W (ix2 r (ln (i 1)))) (fun r => S (ix2 r (ln (i 1)))) (128 * n.val) ((i 2).val + 1) (fun r d => U (ix2 r d)) B
      (X3 (F := Ideal) i (wn n) hw ST U G V D X Y) (Y3 (F := Ideal) i (wn n) hw ST U G V D X Y) := by
  intro r hr
  obtain ⟨k, hk, hkn⟩ := (placed r).resolve_left hr
  have hn : n.val < 17 := n.isLt
  have hk' : k < 2048 := by omega
  have hX : ∀ d, nX i ST U X ⟨k, hk'⟩ d = U (ix2 r d) := fun d => by
    unfold nX
    split_ifs with h0
    · exact gat_eq i ST U W S same apart r hr ⟨k, hk'⟩ hk d
    · obtain ⟨q, hq, _, hx, _⟩ := h h0 r hr
      have e : q = ⟨k, hk'⟩ := Fin.ext (nat_inj (hq.symm.trans hk))
      rw [← e]; exact hx d
  refine ⟨⟨k, hk'⟩, hk, hkn, fun d => ?_, fun d => ?_⟩
  · rw [((done i n hw ST U G V D X Y ⟨k, hk'⟩ d).1 hkn).1]; exact hX d
  · rw [((done i n hw ST U G V D X Y ⟨k, hk'⟩ d).1 hkn).2]
    unfold nY
    rw [show (fun j => nX i ST U X ⟨k, hk'⟩ j) = fun j => U (ix2 r j) from funext hX, hB r d, Finset.sum_range_succ]
    congr 1
    split_ifs with h0
    · rw [h0, Finset.sum_range_zero]
    · obtain ⟨q, hq, _, _, hy⟩ := h h0 r hr
      have e : q = ⟨k, hk'⟩ := Fin.ext (nat_inj (hq.symm.trans hk))
      rw [← e]; exact hy d

/-- What the output block has gained by the point's end: at the last hidden block, the weighted sum of the shares. -/
theorem gained (X : FVec Ideal S2048x1024 .bf16) (Y : FVec Ideal S2048x1024 .f32)
    (h : Kept (fun r => W (ix2 r (ln (i 1)))) (fun r => S (ix2 r (ln (i 1)))) (128 * n.val) ((i 2).val + 1) (fun r d => U (ix2 r d)) B X Y)
    (O : FVec Ideal S2048x1024 .f32) (r : Fin 2048) (d : Fin 1024) :
    O2 (F := Ideal) i (wn n) hw W S Y O (ix2 r d)
      = O (ix2 r d) + (if (i 2).val = 6 then W (ix2 r (ln (i 1))) * ∑ a ∈ Finset.range 7, B a r d else 0) := by
  by_cases hr : W (ix2 r (ln (i 1))) = 0
  · rw [O2_row i n hw W S Y r ⟨0, by omega⟩ (Or.inl hr) O d]
    unfold share
    rw [hr, zero_mul, zero_mul, ite_self]
  · obtain ⟨q, hq, hqn, _, hy⟩ := h r hr
    rw [O2_row i n hw W S Y r q (Or.inr hq) O d]
    unfold share
    rw [if_pos hqn, hy d]
    split_ifs with h6
    · rw [h6]
    · rfl

end Cert.Proof.LstStep

end
-- ==== Proof.LstGlob.lean ====
/-
The blocks of the routed experts' kernel as parts of the launched arrays, over the extended reals, and the running
output of a tile as a function of the arrays.
-/
module

public import proofs.«01_k».proof.Proof.LstFrame
public import proofs.«01_k».proof.Proof.MoePre
public import proofs.«01_k».proof.Proof.LstStep

@[expose] public section

set_option maxRecDepth 16384

noncomputable section

namespace Cert.Proof.LstGlob

open Cert.LastIdeal Cert.LastIdeal.Gen
open Cert.Proof.LstSet Cert.Proof.LstBody Cert.Proof.LstFrame Cert.Proof.LstPay Cert.Proof.LstRow Cert.Proof.LstStep
open Idealize.ShloMosaic Idealize.ShloMosaic.TcCoe Idealize.ShloMosaic.Tactic
open Idealize.ShloMosaic.Pipeline (Dat Cfg Window)

variable (m : (ℓ : Loc nD τ sig) → Buf (Elt Ideal) ℓ)

/-! The launched arrays, and the table of chunk counts the host makes of the counts. -/
abbrev aH (c : Dev nD) : FVec Ideal S34816x1024 .f32 := m ((c : Thread nD τ).loc main_arg0)
abbrev aU (c : Dev nD) : FVec Ideal S34816x1024 .bf16 := m ((c : Thread nD τ).loc main_arg1)
abbrev aW (c : Dev nD) : FVec Ideal S34816x128 .f32 := m ((c : Thread nD τ).loc main_arg2)
abbrev aS (c : Dev nD) : FVec Ideal S34816x128 .f32 := m ((c : Thread nD τ).loc main_arg3)
abbrev aT (c : Dev nD) : FVec Ideal S8x34816 .f32 := m ((c : Thread nD τ).loc main_arg4)
abbrev aC (c : Dev nD) : FVec Ideal S17x8x128 .f32 := m ((c : Thread nD τ).loc main_arg5)
abbrev aN (c : Dev nD) : IVec S136 32 := V m c main_v9
abbrev aM (c : Dev nD) : FVec Ideal S136x8x1024 .f32 := m ((c : Thread nD τ).loc main_arg6)
abbrev aG (c : Dev nD) : FVec Ideal S2x8x1024x3584 .f32 := m ((c : Thread nD τ).loc main_arg7)
abbrev aP (c : Dev nD) : FVec Ideal S2x8x1024x3584 .f32 := m ((c : Thread nD τ).loc main_arg8)
abbrev aD (c : Dev nD) : FVec Ideal S2x8x3584x1024 .f32 := m ((c : Thread nD τ).loc main_arg9)

/-! Over the extended reals the rounding of the weights is no change. -/
theorem V_v0 (c : Dev nD) (y : S2x8x1024x3584.Idx) : V m c main_v0 y = aG m c y := rfl
theorem V_v1 (c : Dev nD) (y : S2x8x1024x3584.Idx) : V m c main_v1 y = aP m c y := rfl
theorem V_v2 (c : Dev nD) (y : S2x8x3584x1024.Idx) : V m c main_v2 y = aD m c y := rfl

theorem lt_N (t : Fin grid0.N) : t.val < 952 := lt_of_lt_of_eq t.isLt N_0

/-! A point's tile, expert and block of hidden units. -/
theorem tile_val (t : Fin grid0.N) : (grid0.coords t 0).val = t.val / 56 := by
  rw [Pipeline.Grid.coords_val t 0 (S := 56) (B := 17) (by decide) rfl]
  have := lt_N t
  show t.val / 56 % 17 = _
  omega
theorem exp_val (t : Fin grid0.N) : (grid0.coords t 1).val = t.val / 7 % 8 := Pipeline.Grid.coords_val t 1 (by decide) rfl
theorem hid_val (t : Fin grid0.N) : (grid0.coords t 2).val = t.val % 7 := by
  rw [Pipeline.Grid.coords_val t 2 (S := 1) (B := 7) (by decide) rfl]
  show t.val / 1 % 7 = _
  omega
abbrev tl (t : Fin grid0.N) : Fin 17 := grid0.coords t 0
abbrev ex (t : Fin grid0.N) : Fin 8 := grid0.coords t 1
abbrev hd (t : Fin grid0.N) : Fin 7 := grid0.coords t 2

/-- A tile's row in the whole array. -/
abbrev rw' (T : Fin 17) (r : Fin 2048) : Fin 34816 := ⟨T.val * 2048 + r.val, by omega⟩
/-- A block's hidden unit among all. -/
abbrev cl (f : Fin 7) (q : Fin 512) : Fin 3584 := ⟨f.val * 512 + q.val, by omega⟩

theorem ix_tile (i : grid0.Coords) : cc0_transform_0 i = ![(i 0).val, 0] := by
  unfold cc0_transform_0; generalize i 0 = q; revert q; show ∀ q : Fin 17, _; decide +kernel
theorem ix_slots (i : grid0.Coords) : cc0_transform_4 i = ![0, (i 0).val] := by
  unfold cc0_transform_4; generalize i 0 = q; revert q; show ∀ q : Fin 17, _; decide +kernel
theorem ix_mod (i : grid0.Coords) : cc0_transform_5 i = ![(i 0).val, 0, 0] := by
  unfold cc0_transform_5; generalize i 0 = q; revert q; show ∀ q : Fin 17, _; decide +kernel
theorem ix_up (i : grid0.Coords) : cc0_transform_6 i = ![1, (i 1).val, 0, (i 2).val] := by
  unfold cc0_transform_6; generalize i 1 = q; generalize i 2 = p; revert p q; show ∀ q : Fin 8, ∀ p : Fin 7, _; decide +kernel
theorem ix_down (i : grid0.Coords) : cc0_transform_8 i = ![1, (i 1).val, (i 2).val, 0] := by
  unfold cc0_transform_8; generalize i 1 = q; generalize i 2 = p; revert p q; show ∀ q : Fin 8, ∀ p : Fin 7, _; decide +kernel
theorem ix_word (i : grid0.Coords) : k0_off1 i = ![(i 0).val * 8 + (i 1).val] := by
  unfold k0_off1; generalize i 1 = q; generalize i 0 = p; revert p q; show ∀ q : Fin 8, ∀ p : Fin 17, _; decide +kernel

/-! Each input block at a point, entry by entry. -/

theorem b0_at (c : Dev nD) (t : Fin (cfgM m).N) (r : Fin 2048) (d : Fin 1024) : b0 m c t (ix2 r d) = aH m c (ix2 (rw' (tl t) r) d) := by
  refine (congrFun (V_arg0 m c) ((((cfgM m).win 0).blk t).view.emb (ix2 r d))).trans ?_
  refine congrArg _ (funext fun x => Fin.ext ?_)
  match x with
  | ⟨0, _⟩ => show cc0_transform_0 (grid0.coords t) 0 * 2048 + 1 * r.val = _; rw [ix_tile, Nat.one_mul]; rfl
  | ⟨1, _⟩ => show cc0_transform_0 (grid0.coords t) 1 * 1024 + 1 * d.val = d.val; rw [ix_tile]; show 0 * 1024 + _ = _; omega

theorem b1_at (c : Dev nD) (t : Fin (cfgM m).N) (r : Fin 2048) (d : Fin 1024) : b1 m c t (ix2 r d) = aU m c (ix2 (rw' (tl t) r) d) := by
  refine (congrFun (V_arg1 m c) ((((cfgM m).win 1).blk t).view.emb (ix2 r d))).trans ?_
  refine congrArg _ (funext fun x => Fin.ext ?_)
  match x with
  | ⟨0, _⟩ => show cc0_transform_0 (grid0.coords t) 0 * 2048 + 1 * r.val = _; rw [ix_tile, Nat.one_mul]; rfl
  | ⟨1, _⟩ => show cc0_transform_0 (grid0.coords t) 1 * 1024 + 1 * d.val = d.val; rw [ix_tile]; show 0 * 1024 + _ = _; omega

theorem b2_at (c : Dev nD) (t : Fin (cfgM m).N) (r : Fin 2048) (d : Fin 128) : b2 m c t (ix2 r d) = aW m c (ix2 (rw' (tl t) r) d) := by
  refine (congrFun (V_arg2 m c) ((((cfgM m).win 2).blk t).view.emb (ix2 r d))).trans ?_
  refine congrArg _ (funext fun x => Fin.ext ?_)
  match x with
  | ⟨0, _⟩ => show cc0_transform_0 (grid0.coords t) 0 * 2048 + 1 * r.val = _; rw [ix_tile, Nat.one_mul]; rfl
  | ⟨1, _⟩ => show cc0_transform_0 (grid0.coords t) 1 * 128 + 1 * d.val = d.val; rw [ix_tile]; show 0 * 128 + _ = _; omega

theorem b3_at (c : Dev nD) (t : Fin (cfgM m).N) (r : Fin 2048) (d : Fin 128) : b3 m c t (ix2 r d) = aS m c (ix2 (rw' (tl t) r) d) := by
  refine (congrFun (V_arg3 m c) ((((cfgM m).win 3).blk t).view.emb (ix2 r d))).trans ?_
  refine congrArg _ (funext fun x => Fin.ext ?_)
  match x with
  | ⟨0, _⟩ => show cc0_transform_0 (grid0.coords t) 0 * 2048 + 1 * r.val = _; rw [ix_tile, Nat.one_mul]; rfl
  | ⟨1, _⟩ => show cc0_transform_0 (grid0.coords t) 1 * 128 + 1 * d.val = d.val; rw [ix_tile]; show 0 * 128 + _ = _; omega

theorem b4_at (c : Dev nD) (t : Fin (cfgM m).N) (e : Fin 8) (r : Fin 2048) : b4 m c t (ix2 e r) = aT m c (ix2 e (rw' (tl t) r)) := by
  refine (congrFun (V_arg4 m c) ((((cfgM m).win 4).blk t).view.emb (ix2 e r))).trans ?_
  refine congrArg _ (funext fun x => Fin.ext ?_)
  match x with
  | ⟨0, _⟩ => show cc0_transform_4 (grid0.coords t) 0 * 8 + 1 * e.val = e.val; rw [ix_slots]; show 0 * 8 + _ = _; omega
  | ⟨1, _⟩ => show cc0_transform_4 (grid0.coords t) 1 * 2048 + 1 * r.val = _; rw [ix_slots, Nat.one_mul]; rfl

theorem b5_at (c : Dev nD) (t : Fin (cfgM m).N) (a p : Fin 8) (d : Fin 1024) :
    b5 m c t (ix3 a p d) = aM m c (ix3 (⟨(tl t).val * 8 + a.val, by have := (tl t).isLt; omega⟩ : Fin 136) p d) := by
  refine (congrFun (V_arg6 m c) ((((cfgM m).win 5).blk t).view.emb (ix3 a p d))).trans ?_
  refine congrArg _ (funext fun x => Fin.ext ?_)
  match x with
  | ⟨0, _⟩ => show cc0_transform_5 (grid0.coords t) 0 * 8 + 1 * a.val = _; rw [ix_mod, Nat.one_mul]; rfl
  | ⟨1, _⟩ => show cc0_transform_5 (grid0.coords t) 1 * 8 + 1 * p.val = p.val; rw [ix_mod]; show 0 * 8 + _ = _; omega
  | ⟨2, _⟩ => show cc0_transform_5 (grid0.coords t) 2 * 1024 + 1 * d.val = d.val; rw [ix_mod]; show 0 * 1024 + _ = _; omega

theorem b6_at (c : Dev nD) (t : Fin (cfgM m).N) (k : Fin 1024) (q : Fin 512) : b6 m c t (ix4 0 0 k q) = aG m c (ix4 1 (ex t) k (cl (hd t) q)) := by
  refine (V_v0 m c ((((cfgM m).win 6).blk t).view.emb (ix4 0 0 k q))).trans ?_
  refine congrArg _ (funext fun x => Fin.ext ?_)
  match x with
  | ⟨0, _⟩ => show cc0_transform_6 (grid0.coords t) 0 * 1 + 1 * 0 = 1; rw [ix_up]; rfl
  | ⟨1, _⟩ => show cc0_transform_6 (grid0.coords t) 1 * 1 + 1 * 0 = _; rw [ix_up, Nat.mul_one]; rfl
  | ⟨2, _⟩ => show cc0_transform_6 (grid0.coords t) 2 * 1024 + 1 * k.val = k.val; rw [ix_up]; show 0 * 1024 + _ = _; omega
  | ⟨3, _⟩ => show cc0_transform_6 (grid0.coords t) 3 * 512 + 1 * q.val = _; rw [ix_up, Nat.one_mul]; rfl

theorem b7_at (c : Dev nD) (t : Fin (cfgM m).N) (k : Fin 1024) (q : Fin 512) : b7 m c t (ix4 0 0 k q) = aP m c (ix4 1 (ex t) k (cl (hd t) q)) := by
  refine (V_v1 m c ((((cfgM m).win 7).blk t).view.emb (ix4 0 0 k q))).trans ?_
  refine congrArg _ (funext fun x => Fin.ext ?_)
  match x with
  | ⟨0, _⟩ => show cc0_transform_6 (grid0.coords t) 0 * 1 + 1 * 0 = 1; rw [ix_up]; rfl
  | ⟨1, _⟩ => show cc0_transform_6 (grid0.coords t) 1 * 1 + 1 * 0 = _; rw [ix_up, Nat.mul_one]; rfl
  | ⟨2, _⟩ => show cc0_transform_6 (grid0.coords t) 2 * 1024 + 1 * k.val = k.val; rw [ix_up]; show 0 * 1024 + _ = _; omega
  | ⟨3, _⟩ => show cc0_transform_6 (grid0.coords t) 3 * 512 + 1 * q.val = _; rw [ix_up, Nat.one_mul]; rfl

theorem b8_at (c : Dev nD) (t : Fin (cfgM m).N) (q : Fin 512) (d : Fin 1024) : b8 m c t (ix4 0 0 q d) = aD m c (ix4 1 (ex t) (cl (hd t) q) d) := by
  refine (V_v2 m c ((((cfgM m).win 8).blk t).view.emb (ix4 0 0 q d))).trans ?_
  refine congrArg _ (funext fun x => Fin.ext ?_)
  match x with
  | ⟨0, _⟩ => show cc0_transform_8 (grid0.coords t) 0 * 1 + 1 * 0 = 1; rw [ix_down]; rfl
  | ⟨1, _⟩ => show cc0_transform_8 (grid0.coords t) 1 * 1 + 1 * 0 = _; rw [ix_down, Nat.mul_one]; rfl
  | ⟨2, _⟩ => show cc0_transform_8 (grid0.coords t) 2 * 512 + 1 * q.val = _; rw [ix_down, Nat.one_mul]; rfl
  | ⟨3, _⟩ => show cc0_transform_8 (grid0.coords t) 3 * 1024 + 1 * d.val = d.val; rw [ix_down]; show 0 * 1024 + _ = _; omega

/-! The counts. -/

abbrev wix (t : Fin grid0.N) : Fin 136 := ⟨(tl t).val * 8 + (ex t).val, by have h0 := (tl t).isLt; have h1 := (ex t).isLt; omega⟩

/-- The word the body loads is the number of chunks of its tile and expert. -/
theorem word_at {F : FTy → Type} [FloatOps F] (m : (ℓ : Loc nD τ sig) → Buf (Elt F) ℓ) (c : Dev nD) (t : Fin (cfgM m).N) :
    word m t = (V m c main_v9 : IVec S136 32) (ix1 (wix t)) := by
  obtain rfl : c = 0 := Subsingleton.elim _ _
  show (V m (0 : Dev nD) main_v9 : IVec S136 32) ((Rect.unit (s := S136) (k0_off1 (grid0.coords t)) S1.size (k0_off1_inb (grid0.coords t))).emb (Shape.Idx.first (numel1_S1.symm ▸ Nat.one_pos))) = _
  refine congrArg _ (funext fun x => Fin.ext ?_)
  match x with
  | ⟨0, _⟩ =>
    show k0_off1 (grid0.coords t) 0 + 1 * 0 = _
    rw [ix_word]; rfl

/-- The count as a natural. -/
theorem counts_ok {F : FTy → Type} [FloatOps F] (m : (ℓ : Loc nD τ sig) → Buf (Elt F) ℓ)
    (h : ∀ i : Fin 136, ((V m (0 : Dev nD) main_v9 : IVec S136 32) (ix1 i)).toNat ≤ 16) : Ok m := fun t =>
  LstChk.chk_of_le _ _ (by rw [word_at m 0 t]; exact h _)

/-! The value: a hidden block's share of a row, an expert's weighted output, the sum over the first experts, the result. -/

/-- One hidden block of one expert, for one row. -/
def blk (c : Dev nD) (r : Fin 34816) (e : Fin 8) (f : Fin 7) (d : Fin 1024) : EReal :=
  ∑ q : Fin 512, sw (∑ k : Fin 1024, aU m c (ix2 r k) * aG m c (ix4 1 e k (cl f q))) (∑ k : Fin 1024, aU m c (ix2 r k) * aP m c (ix4 1 e k (cl f q)))
    * aD m c (ix4 1 e (cl f q) d)
/-- The same, by the block's number. -/
def blkN (c : Dev nD) (r : Fin 34816) (e : Fin 8) (f : ℕ) (d : Fin 1024) : EReal := if h : f < 7 then blk m c r e ⟨f, h⟩ d else 0
/-- One expert's weighted output for one row. -/
def wexp (c : Dev nD) (r : Fin 34816) (e : Fin 8) (d : Fin 1024) : EReal := aW m c (ix2 r (ln e)) * ∑ f ∈ Finset.range 7, blkN m c r e f d
/-- The first `n` experts' weighted outputs, added. -/
def acc (c : Dev nD) (r : Fin 34816) (n : ℕ) (d : Fin 1024) : EReal := ∑ e ∈ Finset.range n, if h : e < 8 then wexp m c r ⟨e, h⟩ d else 0
/-- The result: the residual connection over the sum of all experts. -/
def outAt (c : Dev nD) (r : Fin 34816) (d : Fin 1024) : EReal :=
  aH m c (ix2 r d) + aM m c (ix3 (⟨r.val / 256, Nat.div_lt_of_lt_mul r.isLt⟩ : Fin 136) 5 d) * acc m c r 8 d

theorem acc_succ (c : Dev nD) (r : Fin 34816) (e : Fin 8) (d : Fin 1024) : acc m c r (e.val + 1) d = acc m c r e.val d + wexp m c r e d := by
  unfold acc
  rw [Finset.sum_range_succ, dif_pos e.isLt]

/-- A point's weight blocks give its hidden block's share. -/
theorem shr_at (c : Dev nD) (t : Fin (cfgM m).N) (r : Fin 2048) (d : Fin 1024) :
    shr (fun k => b1 m c t (ix2 r k)) (b6 m c t) (b7 m c t) (b8 m c t) d = blkN m c (rw' (tl t) r) (ex t) (hd t).val d := by
  unfold shr blkN
  rw [dif_pos (hd t).isLt]
  unfold blk
  refine Finset.sum_congr rfl fun q _ => ?_
  rw [b8_at m c t q d]
  refine congrArg (· * _) (congrArg₂ sw (Finset.sum_congr rfl fun k _ => ?_) (Finset.sum_congr rfl fun k _ => ?_))
  · show b1 m c t (ix2 r k) * b6 m c t (ix4 0 0 k q) = _
    rw [b1_at m c t r k, b6_at m c t k q]
  · show b1 m c t (ix2 r k) * b7 m c t (ix4 0 0 k q) = _
    rw [b1_at m c t r k, b7_at m c t k q]

end Cert.Proof.LstGlob

end
-- ==== Proof.LstTab.lean ====
/-
The table of chunk counts the host makes for the routed experts' kernel: the precondition's, from the same counts.
-/
module

public import proofs.«01_k».proof.Proof.LstGlob
public import proofs.«01_k».proof.Proof.MoePre
public import proofs.«01_k».proof.Proof.Gen.Pre_moe_pre

@[expose] public section

set_option maxRecDepth 16384

noncomputable section

namespace Cert.Proof.LstTab

open Cert.LastIdeal Cert.LastIdeal.Gen
open Cert.Proof.LstSet
open Idealize.ShloMosaic Idealize.ShloMosaic.TcCoe Idealize.ShloMosaic.Tactic

variable {F : FTy → Type} [FloatOps F]
variable (m : (ℓ : Loc nD τ sig) → Buf (Elt F) ℓ)

/-- The table is the precondition's numbers of chunks. -/
theorem table (c : Dev nD) : (V m c main_v9 : IVec S136 32) = MoePre.nch (F := F) (m ((c : Thread nD τ).loc main_arg5)) := by
  unfold V hostOps0 hostOps0_1 hostOps0_2
  simp only [List.flatten_cons, List.flatten_nil, List.append_nil, List.cons_append, List.nil_append]
  after_results
  unfold MoePre.nch Cert.Pre_moe_pre.fn_floor_divide Cert.Pre_moe_pre.fn_where
  dsimp only
  rfl

/-- Where the precondition holds, the body reads no row beyond its tile. -/
theorem counts_ok {a0 : FVec F S34816x1024 .f32} {a1 : FVec F S34816x1024 .bf16} {a2 a3 : FVec F S34816x128 .f32} {a4 : FVec F S8x34816 .f32}
    {a6 : FVec F S136x8x1024 .f32} {a7 a8 : FVec F S2x8x1024x3584 .f32} {a9 : FVec F S2x8x3584x1024 .f32}
    (h : Cert.Pre_moe_pre.fn (F := F) a0 a1 a2 a3 a4 (m (((0 : Dev nD) : Thread nD τ).loc main_arg5)) a6 a7 a8 a9 = fun _ => 1#1) : LstFrame.Ok m :=
  LstGlob.counts_ok m fun i => by rw [table]; exact MoePre.counted h i

end Cert.Proof.LstTab

end
-- ==== Proof.LstVal.lean ====
/-
What the routed experts' kernel computes, over the extended reals, where the precondition holds: the output block of
a tile at each point in closed form, the body shown to keep it, and the array the launch leaves.
-/
module

public import proofs.«01_k».proof.Proof.LstGlob
public import proofs.«01_k».proof.Proof.LstTab
public import proofs.«01_k».proof.Proof.Gen.Pre_moe_pre

@[expose] public section

set_option maxRecDepth 16384

noncomputable section

namespace Cert.Proof.LstVal

open Cert.LastIdeal Cert.LastIdeal.Gen
open Cert.Proof.LstSet Cert.Proof.LstBody Cert.Proof.LstFrame Cert.Proof.LstPay Cert.Proof.LstRow Cert.Proof.LstStep Cert.Proof.LstGlob
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The precondition on the launched arrays. -/
abbrev Pre : Prop := ∀ c : Dev nD, Cert.Pre_moe_pre.fn (F := Ideal) (aH m c) (aU m c) (aW m c) (aS m c) (aT m c) (aC m c) (aM m c) (aG m c) (aP m c) (aD m c) = fun _ => 1#1

/-- The table the host makes is the precondition's numbers of chunks. -/
theorem aN_eq (c : Dev nD) : aN m c = MoePre.nch (aC m c) := LstTab.table m c

variable {m} in
theorem Pre.count (hp : Pre m) (c : Dev nD) (i : Fin 136) : (aN m c (ix1 i)).toNat ≤ 16 := by
  rw [aN_eq]; exact MoePre.counted (hp c) i
variable {m} in
theorem Pre.ok (hp : Pre m) : Ok m := counts_ok m fun i => hp.count 0 i

/-- The count of a tile and an expert. -/
abbrev cnt (c : Dev nD) (T : Fin 17) (e : Fin 8) : ℕ := (aN m c (ix1 (⟨T.val * 8 + e.val, by omega⟩ : Fin 136))).toNat

/-- The scratch arrays after `f` hidden blocks of an expert on a tile. -/
def KeptT (c : Dev nD) (T : Fin 17) (e : Fin 8) (f : ℕ) (X : FVec Ideal S2048x1024 .bf16) (Y : FVec Ideal S2048x1024 .f32) : Prop :=
  Kept (fun r => aW m c (ix2 (rw' T r) (ln e))) (fun r => aS m c (ix2 (rw' T r) (ln e))) (128 * cnt m c T e) f (fun r d => aU m c (ix2 (rw' T r) d))
    (fun a r d => blkN m c (rw' T r) e a d) X Y

theorem word_eq (hp : Pre m) (c : Dev nD) (t : Fin (cfgM m).N) : word m t = wn ⟨cnt m c (tl t) (ex t), Nat.lt_succ_of_le (hp.count c _)⟩ := by
  rw [word_at m c t]
  refine BitVec.eq_of_toNat_eq ?_
  have := hp.count c (wix t)
  rw [BitVec.toNat_ofNat, Nat.mod_eq_of_lt (by omega)]

section Local
variable (hp : Pre m) (c : Dev nD) (t : Fin (cfgM m).N)

include hp in
theorem same_t (r : Fin 2048) : b4 m c t (ix2 (ex t) r) = b3 m c t (ix2 r (ln (ex t))) := by
  rw [b4_at m c t, b3_at m c t]; exact MoePre.same (hp c) _ _
include hp in
theorem placed_t (r : Fin 2048) : b2 m c t (ix2 r (ln (ex t))) = 0 ∨ ∃ k : ℕ, b3 m c t (ix2 r (ln (ex t))) = ((k : ℕ) : EReal) ∧ k < 128 * cnt m c (tl t) (ex t) := by
  rw [b2_at m c t, b3_at m c t]; unfold cnt; rw [aN_eq]; exact MoePre.placed (hp c) (tl t) r (ex t)
include hp in
theorem apart_t (r j : Fin 2048) (h : r ≠ j) (hw : b2 m c t (ix2 r (ln (ex t))) ≠ 0) : b3 m c t (ix2 r (ln (ex t))) ≠ b3 m c t (ix2 j (ln (ex t))) := by
  rw [b2_at m c t] at hw
  rw [b3_at m c t, b3_at m c t]; exact MoePre.apart (hp c) (tl t) r j (ex t) h hw

/-- The blocks' reading of `KeptT`. -/
theorem kept_iff (f : ℕ) (X : FVec Ideal S2048x1024 .bf16) (Y : FVec Ideal S2048x1024 .f32) :
    Kept (fun r => b2 m c t (ix2 r (ln (ex t)))) (fun r => b3 m c t (ix2 r (ln (ex t)))) (128 * cnt m c (tl t) (ex t)) f (fun r d => b1 m c t (ix2 r d))
      (fun a r d => blkN m c (rw' (tl t) r) (ex t) a d) X Y ↔ KeptT m c (tl t) (ex t) f X Y := by
  unfold KeptT
  rw [show (fun r => b2 m c t (ix2 r (ln (ex t)))) = fun r => aW m c (ix2 (rw' (tl t) r) (ln (ex t))) from funext fun r => b2_at m c t r _,
    show (fun r => b3 m c t (ix2 r (ln (ex t)))) = fun r => aS m c (ix2 (rw' (tl t) r) (ln (ex t))) from funext fun r => b3_at m c t r _,
    show (fun r d => b1 m c t (ix2 r d)) = fun r d => aU m c (ix2 (rw' (tl t) r) d) from funext fun r => funext fun d => b1_at m c t r d]

include hp in
/-- A point adds its hidden block to the scratch arrays. -/
theorem step (hv : k0_chk1 (grid0.coords t) (word m t)) (X : FVec Ideal S2048x1024 .bf16) (Y : FVec Ideal S2048x1024 .f32)
    (h : (hd t).val ≠ 0 → KeptT m c (tl t) (ex t) (hd t).val X Y) : KeptT m c (tl t) (ex t) ((hd t).val + 1) (newX m c t hv X Y) (newY m c t hv X Y) := by
  have key : ∀ (v : BitVec 32) (hv : k0_chk1 (grid0.coords t) v), v = wn ⟨cnt m c (tl t) (ex t), Nat.lt_succ_of_le (hp.count c _)⟩ →
      KeptT m c (tl t) (ex t) ((hd t).val + 1) (X3 (F := Ideal) (grid0.coords t) v hv (b4 m c t) (b1 m c t) (b6 m c t) (b7 m c t) (b8 m c t) X Y)
        (Y3 (F := Ideal) (grid0.coords t) v hv (b4 m c t) (b1 m c t) (b6 m c t) (b7 m c t) (b8 m c t) X Y) := by
    rintro v hv rfl
    exact (kept_iff m c t _ _ _).1 (kept_step (grid0.coords t) _ hv (b4 m c t) (b1 m c t) (b6 m c t) (b7 m c t) (b8 m c t) (b2 m c t) (b3 m c t)
      (fun a r d => blkN m c (rw' (tl t) r) (ex t) a d) (same_t m hp c t) (placed_t m hp c t) (apart_t m hp c t) (shr_at m c t) X Y
      (fun h0 => (kept_iff m c t _ _ _).2 (h h0)))
  exact key _ hv (word_eq m hp c t)

/-- The tile's output before a point that does not begin it: the experts done. -/
def preO (c : Dev nD) (t : Fin (cfgM m).N) : FVec Ideal S2048x1024 .f32 := fun y => acc m c (rw' (tl t) (y 0)) (t.val % 56 / 7) (y 1)
/-- The tile's output after a point: the experts done, and at the last point the result. -/
def outO (c : Dev nD) (t : Fin (cfgM m).N) : FVec Ideal S2048x1024 .f32 := fun y =>
  if t.val % 56 = 55 then outAt m c (rw' (tl t) (y 0)) (y 1) else acc m c (rw' (tl t) (y 0)) ((t.val % 56 + 1) / 7) (y 1)

theorem cond1_t : k0_cond1 (grid0.coords t) = 1#1 ↔ t.val % 56 = 0 := by
  rw [cond1, exp_val, hid_val]; omega
theorem cond19_t : k0_cond19 (grid0.coords t) = 1#1 ↔ t.val % 56 = 55 := by
  rw [cond19, exp_val, hid_val]; omega

include hp in
/-- A point brings the tile's output to its closed form. -/
theorem out_step (hv : k0_chk1 (grid0.coords t) (word m t)) (X : FVec Ideal S2048x1024 .bf16) (Y O : FVec Ideal S2048x1024 .f32)
    (h : (hd t).val ≠ 0 → KeptT m c (tl t) (ex t) (hd t).val X Y) (hO : t.val % 56 ≠ 0 → O = preO m c t) :
    newO m c t hv X Y O = outO m c t := by
  have hk := step m hp c t hv X Y h
  have hr := hid_val t
  have he := exp_val t
  have h1 : ∀ (r : Fin 2048) (d : Fin 1024), O1 (F := Ideal) (grid0.coords t) O (ix2 r d) = acc m c (rw' (tl t) r) (ex t).val d := fun r d => by
    unfold O1
    by_cases h0 : t.val % 56 = 0
    · rw [if_pos ((cond1_t m t).2 h0), clear_row]
      unfold acc
      rw [show (ex t).val = 0 from he.trans (by omega), Finset.sum_range_zero]
    · rw [if_neg (fun hc => h0 ((cond1_t m t).1 hc)), hO h0]
      show acc m c (rw' (tl t) r) (t.val % 56 / 7) d = _
      rw [show t.val % 56 / 7 = (ex t).val from by rw [show (ex t).val = t.val / 7 % 8 from he]; omega]
  have key : ∀ (v : BitVec 32) (hv : k0_chk1 (grid0.coords t) v) (Y' : FVec Ideal S2048x1024 .f32), v = wn ⟨cnt m c (tl t) (ex t), Nat.lt_succ_of_le (hp.count c _)⟩ →
      (∃ X', KeptT m c (tl t) (ex t) ((hd t).val + 1) X' Y') → ∀ (r : Fin 2048) (d : Fin 1024),
      O2 (F := Ideal) (grid0.coords t) v hv (b2 m c t) (b3 m c t) Y' (O1 (grid0.coords t) O) (ix2 r d) = acc m c (rw' (tl t) r) ((t.val % 56 + 1) / 7) d := by
    rintro v hv Y' rfl ⟨X', hX'⟩ r d
    refine (gained (grid0.coords t) _ hv (b1 m c t) (b2 m c t) (b3 m c t) (fun a r d => blkN m c (rw' (tl t) r) (ex t) a d) X' Y' ((kept_iff m c t _ _ _).2 hX') _ r d).trans ?_
    rw [h1 r d]
    by_cases h6 : (hd t).val = 6
    · rw [if_pos h6, b2_at m c t r (ln (ex t)), show (t.val % 56 + 1) / 7 = (ex t).val + 1 from by
        rw [show (ex t).val = t.val / 7 % 8 from he]; have : t.val % 7 = 6 := hr.symm.trans h6; omega, acc_succ]
      rfl
    · rw [if_neg h6, add_zero, show (t.val % 56 + 1) / 7 = (ex t).val from by
        rw [show (ex t).val = t.val / 7 % 8 from he]; have : ¬t.val % 7 = 6 := fun hc => h6 (hr.trans hc); omega]
  have h2 := key _ hv (newY m c t hv X Y) (word_eq m hp c t) ⟨_, hk⟩
  funext y
  obtain ⟨r, d, rfl⟩ : ∃ (r : Fin 2048) (d : Fin 1024), y = ix2 r d := ⟨y 0, y 1, eq_ix2 y⟩
  show O3 (F := Ideal) (grid0.coords t) (word m t) hv (b0 m c t) (b5 m c t) (b2 m c t) (b3 m c t) (newY m c t hv X Y) (O1 (grid0.coords t) O) (ix2 r d)
    = if t.val % 56 = 55 then outAt m c (rw' (tl t) r) d else acc m c (rw' (tl t) r) ((t.val % 56 + 1) / 7) d
  unfold O3
  by_cases h55 : t.val % 56 = 55
  · rw [if_pos ((cond19_t m t).2 h55), if_pos h55, fin_row]
    unfold res outAt
    rw [b0_at m c t r d, b5_at m c t _ 5 d, h2 r d, h55]
    refine congrArg₂ (fun x y : EReal => _ + x * y) (congrArg (fun z => aM m c (ix3 z 5 d)) (Fin.ext ?_)) rfl
    show (tl t).val * 8 + r.val / 256 = ((tl t).val * 2048 + r.val) / 256
    omega
  · rw [if_neg (fun hc => h55 ((cond19_t m t).1 hc)), if_neg h55]
    exact h2 r d

/-- Where the body stores nothing into the output's buffer, the buffer stays. -/
theorem idle_same (hv : k0_chk1 (grid0.coords t) (word m t)) (X : FVec Ideal S2048x1024 .bf16) (Y O : FVec Ideal S2048x1024 .f32)
    (h1 : ¬k0_cond1 (grid0.coords t) = 1#1) (h16 : ¬k0_cond16 (grid0.coords t) (word m t) = 1#1) (h19 : ¬k0_cond19 (grid0.coords t) = 1#1) :
    newO m c t hv X Y O = O := by
  show O3 (F := Ideal) (grid0.coords t) (word m t) hv (b0 m c t) (b5 m c t) (b2 m c t) (b3 m c t) (newY m c t hv X Y) (O1 (grid0.coords t) O) = O
  unfold O3 O2 O1
  rw [if_neg h19, dif_neg h16, if_neg h1]

end Local

/-- The word by which the output's idle points are told is the one the body loads. -/
theorem atD_eq (t : Fin (cfgM m).N) : (tbl m).atD 0 (k0_off1 (grid0.coords t)) = word m t := by
  rw [word_at m 0 t]
  have h := ix_word (grid0.coords t)
  have hb : ∀ a, k0_off1 (grid0.coords t) a + 1 ≤ (pre0.ref 0).ty.shape.size a := fun a => match a with
    | ⟨0, _⟩ => k0_off1_inb (grid0.coords t) 0
  refine (dif_pos hb).trans ?_
  show (V m (0 : Dev nD) main_v9 : IVec S136 32) (fun a => ⟨k0_off1 (grid0.coords t) a, hb a⟩) = _
  refine congrArg _ (funext fun x => Fin.ext ?_)
  match x with
  | ⟨0, _⟩ => show k0_off1 (grid0.coords t) 0 = _; rw [h]; rfl

theorem idle9 (t : Fin (cfgM m).N) (h : (cfgM m).idle 9 ((cfgM m).grid.coords t) = true) :
    ¬k0_cond1 (grid0.coords t) = 1#1 ∧ ¬k0_cond16 (grid0.coords t) (word m t) = 1#1 ∧ ¬k0_cond19 (grid0.coords t) = 1#1 := by
  have h' : (!(k0_cond1 (grid0.coords t) == 1#1) && !(k0_cond16 (grid0.coords t) ((tbl m).atD 0 (k0_off1 (grid0.coords t))) == 1#1) && !(k0_cond16 (grid0.coords t) ((tbl m).atD 0 (k0_off1 (grid0.coords t))) == 1#1 && k0_cond17 ((tbl m).atD 0 (k0_off1 (grid0.coords t))) == 1#1) && !(k0_cond16 (grid0.coords t) ((tbl m).atD 0 (k0_off1 (grid0.coords t))) == 1#1 && k0_cond18 ((tbl m).atD 0 (k0_off1 (grid0.coords t))) == 1#1) && !(k0_cond19 (grid0.coords t) == 1#1)) = true := h
  rw [atD_eq] at h'
  simp only [Bool.and_eq_true, Bool.not_eq_true', beq_eq_false_iff_ne, ne_eq] at h'
  exact ⟨h'.1.1.1.1, h'.1.1.1.2, h'.2⟩

/-- What holds of the scratch arrays before point `n`. -/
def Inv (c : Dev nD) (n : ℕ) (X : FVec Ideal S2048x1024 .bf16) (Y : FVec Ideal S2048x1024 .f32) : Prop :=
  ∀ t : Fin (cfgM m).N, t.val = n → (hd t).val ≠ 0 → KeptT m c (tl t) (ex t) (hd t).val X Y

theorem inv_next (c : Dev nD) (t : Fin (cfgM m).N) (X : FVec Ideal S2048x1024 .bf16) (Y : FVec Ideal S2048x1024 .f32)
    (h : KeptT m c (tl t) (ex t) ((hd t).val + 1) X Y) : Inv m c (t.val + 1) X Y := by
  intro t' ht' h0
  have a1 : (hd t).val = t.val % 7 := hid_val t
  have a2 : (hd t').val = t'.val % 7 := hid_val t'
  have a3 : (ex t).val = t.val / 7 % 8 := exp_val t
  have a4 : (ex t').val = t'.val / 7 % 8 := exp_val t'
  have a5 : (tl t).val = t.val / 56 := tile_val t
  have a6 : (tl t').val = t'.val / 56 := tile_val t'
  rw [show tl t' = tl t from Fin.ext (by omega), show ex t' = ex t from Fin.ext (by omega), show (hd t').val = (hd t).val + 1 from by omega]
  exact h

/-- The pipeline's invariant between points. -/
def Phi (c : Dev nD) (n : Fin ((cfgM m).N + 1)) : sProp 𝕄 :=
  iprop(∃ X Y, ⌜Inv m c n.val X Y⌝ ∗ owns (c : Thread nD τ) scX fullShare X ∗ owns (c : Thread nD τ) scY fullShare Y ∗ (∃ r, prngReg c r) ∗ tbPt c tbM (tbl m 0))

/-- The tile's output after a point, as the output's window holds it. -/
def outW (c : Dev nD) (t : Fin (cfgM m).N) : (((cfgM m).win 9).block).Idx → Elt Ideal ((cfgM m).win 9).elt := outO m c t

/-- The pipeline's data for the value. -/
abbrev vdat (m : (ℓ : Loc nD τ sig) → Buf (Elt Ideal) ℓ) : (p : Fin 1) → (c : Dev nD) → Dat τ (Elt Ideal) Unit ℕ (UR sig nD τ) ℕ (cfgM m) c :=
  dat m (Phi m) (outW m)

theorem clip9 (i : (cfgM m).grid.Coords) (a) : ((cfgM m).win 9).clip i a = none := rfl

theorem kept9 (c : Dev nD) (t : Fin (cfgM m).N) (d) : (vdat m 0 c).kept 9 t d = outO m c t := by
  unfold Dat.kept
  rw [Pipeline.fill_of_clip_none 9 _ (clip9 m _) d ((vdat m 0 c).after 9 t), Window.fill_cut, after9]
  rfl

/-- Before a point that does not begin its tile, the output's buffer holds the experts done. -/
theorem before9 (hp : Pre m) (c : Dev nD) : ∀ (n : ℕ) (hn : n < (cfgM m).N) (d), n % 56 ≠ 0 → (vdat m 0 c).before 9 ⟨n, hn⟩ d = preO m c ⟨n, hn⟩ := by
  intro n
  induction n with
  | zero => intro hn d h; exact absurd rfl h
  | succ n ih =>
    intro hn d h
    have hn' : n < (cfgM m).N := Nat.lt_of_succ_lt hn
    rw [(vdat m 0 c).before_of_pos 9 ⟨n + 1, hn⟩ (Nat.succ_ne_zero n) (((cfgM m).win 9).fetch_out rfl _)]
    have hf : ¬((cfgM m).win 9).flush ⟨n, hn'⟩ = true := fun hc => by have := (flush9 (adm m) ⟨n, hn'⟩).1 hc; have e : n % 56 = 55 := this; omega
    show (if ((cfgM m).win 9).flush ⟨n, hn'⟩ = true then d else (vdat m 0 c).left 9 ⟨n, hn'⟩ d) = _
    rw [if_neg hf]
    have a3 := exp_val ⟨n, hn'⟩
    have a1 := hid_val ⟨n, hn'⟩
    have a5 : (tl (⟨n, hn'⟩ : Fin (cfgM m).N)).val = n / 56 := tile_val ⟨n, hn'⟩
    have a6 : (tl (⟨n + 1, hn⟩ : Fin (cfgM m).N)).val = (n + 1) / 56 := tile_val ⟨n + 1, hn⟩
    have hT : tl (⟨n + 1, hn⟩ : Fin (cfgM m).N) = tl (⟨n, hn'⟩ : Fin (cfgM m).N) := Fin.ext (by omega)
    unfold Dat.left
    cases hI : (cfgM m).idle 9 ((cfgM m).grid.coords ⟨n, hn'⟩) with
    | false =>
      refine (kept9 m c ⟨n, hn'⟩ d).trans ?_
      funext y
      unfold outO preO
      rw [if_neg (show ¬n % 56 = 55 from by omega), hT]
      show acc m c _ ((n % 56 + 1) / 7) _ = acc m c _ ((n + 1) % 56 / 7) _
      rw [show (n % 56 + 1) / 7 = (n + 1) % 56 / 7 from by omega]
    | true =>
      obtain ⟨h1, h16, h19⟩ := idle9 m ⟨n, hn'⟩ hI
      have h0 : n % 56 ≠ 0 := fun hc => h1 ((cond1_t m ⟨n, hn'⟩).2 hc)
      refine (ih hn' d h0).trans ?_
      funext y
      unfold preO
      rw [hT]
      show acc m c _ (n % 56 / 7) _ = acc m c _ ((n + 1) % 56 / 7) _
      by_cases h6 : n % 7 = 6
      · rw [show (n + 1) % 56 / 7 = n % 56 / 7 + 1 from by omega]
        have e1 : (ex (⟨n, hn'⟩ : Fin (cfgM m).N)).val = n % 56 / 7 := a3.trans (show n / 7 % 8 = _ by omega)
        rw [← e1]
        rw [word_eq m hp c ⟨n, hn'⟩, cond16] at h16
        have hz : cnt m c (tl (⟨n, hn'⟩ : Fin (cfgM m).N)) (ex (⟨n, hn'⟩ : Fin (cfgM m).N)) = 0 := by
          by_contra hne
          exact h16 ⟨a1.trans h6, Nat.pos_of_ne_zero hne⟩
        have wz : ∀ (r : Fin 2048) (d : Fin 1024), wexp m c (rw' (tl (⟨n, hn'⟩ : Fin (cfgM m).N)) r) (ex (⟨n, hn'⟩ : Fin (cfgM m).N)) d = 0 := fun r d => by
          unfold wexp
          rcases placed_t m hp c ⟨n, hn'⟩ r with hw | ⟨k, _, hk⟩
          · rw [b2_at m c ⟨n, hn'⟩] at hw
            rw [hw, zero_mul]
          · rw [hz] at hk; exact absurd hk (by omega)
        exact ((acc_succ m c _ (ex (⟨n, hn'⟩ : Fin (cfgM m).N)) _).trans ((congrArg (_ + ·) (wz _ _)).trans (add_zero _))).symm
      · rw [show (n + 1) % 56 / 7 = n % 56 / 7 from by omega]

end Cert.Proof.LstVal

end
-- ==== Proof.LstRun.lean ====
/-
The routed experts' kernel run over the extended reals: the body at each point keeps the closed forms, and the launch
ends with the arrays at what they say.
-/
module

public import proofs.«01_k».proof.Proof.LstVal

@[expose] public section

set_option maxRecDepth 16384

noncomputable section

namespace Cert.Proof.LstRun

open Cert.LastIdeal Cert.LastIdeal.Gen
open Cert.Proof.LstSet Cert.Proof.LstBody Cert.Proof.LstFrame Cert.Proof.LstPay Cert.Proof.LstRow Cert.Proof.LstStep Cert.Proof.LstGlob Cert.Proof.LstVal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The output's buffer after a point: as found where the body stores nothing and the block is not written back,
    else the closed form. -/
def post9 (c : Dev nD) (t : Fin (cfgM m).N) : sProp 𝕄 :=
  match (cfgM m).idle 9 ((cfgM m).grid.coords t) with
  | true =>
    match ((cfgM m).win 9).flush t with
    | false => iprop(∃ d, owns (c : Thread nD τ) (ms9 m t) fullShare ((vdat m 0 c).before 9 t d))
    | true => owns (c : Thread nD τ) (ms9 m t) fullShare ((vdat m 0 c).after 9 t)
  | false => owns (c : Thread nD τ) (ms9 m t) fullShare ((vdat m 0 c).after 9 t)

theorem own_eq (c : Dev nD) (t : Fin (cfgM m).N) {Z Z' : Vec Ideal S2048x1024 .f32} (h : Z = Z') :
    owns (c : Thread nD τ) (ms9 m t) fullShare Z ⊢ (owns (c : Thread nD τ) (ms9 m t) fullShare Z' : sProp 𝕄) := by subst h; exact .rfl

theorem post9_of (hp : Pre m) (c : Dev nD) (t : Fin (cfgM m).N) (hv : k0_chk1 (grid0.coords t) (word m t)) (X : FVec Ideal S2048x1024 .bf16) (Y : FVec Ideal S2048x1024 .f32) (d)
    (h : Inv m c t.val X Y) : owns (c : Thread nD τ) (ms9 m t) fullShare (newO m c t hv X Y ((vdat m 0 c).before 9 t d)) ⊢ post9 m c t := by
  have hO : newO m c t hv X Y ((vdat m 0 c).before 9 t d) = (vdat m 0 c).after 9 t := by
    exact (out_step m hp c t hv X Y _ (h t rfl) fun h0 => before9 m hp c t.val t.isLt d h0).trans (after9 m (Phi m) (outW m) c t).symm
  unfold post9
  cases hI : (cfgM m).idle 9 ((cfgM m).grid.coords t) with
  | false => exact own_eq m c t hO
  | true =>
    cases hf : ((cfgM m).win 9).flush t with
    | true => exact own_eq m c t hO
    | false =>
      obtain ⟨h1, h16, h19⟩ := idle9 m t hI
      refine Idealize.SL.BI.BIBase.Entails.trans (own_eq m c t (idle_same m c t hv X Y _ h1 h16 h19)) ?_
      iintro H
      iexists d; iexact H

/-- What the body is called with. -/
def bodyPre (c : Dev nD) (t : Fin (cfgM m).N) : sProp 𝕄 :=
  iprop((vdat m 0 c).Φ t.castSucc ∗ (vdat m 0 c).owesAt () t.castSucc
    ∗ (∃ d, owns (c : Thread nD τ) (ms0 m t) fullShare ((vdat m 0 c).before 0 t d))
    ∗ (∃ d, owns (c : Thread nD τ) (ms1 m t) fullShare ((vdat m 0 c).before 1 t d))
    ∗ (∃ d, owns (c : Thread nD τ) (ms2 m t) fullShare ((vdat m 0 c).before 2 t d))
    ∗ (∃ d, owns (c : Thread nD τ) (ms3 m t) fullShare ((vdat m 0 c).before 3 t d))
    ∗ (∃ d, owns (c : Thread nD τ) (ms4 m t) fullShare ((vdat m 0 c).before 4 t d))
    ∗ (∃ d, owns (c : Thread nD τ) (ms5 m t) fullShare ((vdat m 0 c).before 5 t d))
    ∗ (∃ d, owns (c : Thread nD τ) (ms6 m t) fullShare ((vdat m 0 c).before 6 t d))
    ∗ (∃ d, owns (c : Thread nD τ) (ms7 m t) fullShare ((vdat m 0 c).before 7 t d))
    ∗ (∃ d, owns (c : Thread nD τ) (ms8 m t) fullShare ((vdat m 0 c).before 8 t d))
    ∗ (∃ d, owns (c : Thread nD τ) (ms9 m t) fullShare ((vdat m 0 c).before 9 t d)))

/-- What the body returns. -/
def bodyPost (c : Dev nD) (t : Fin (cfgM m).N) : sProp 𝕄 :=
  iprop((vdat m 0 c).Φ t.succ ∗ (vdat m 0 c).owesAt () t.succ
    ∗ owns (c : Thread nD τ) (ms0 m t) fullShare ((vdat m 0 c).after 0 t)
    ∗ owns (c : Thread nD τ) (ms1 m t) fullShare ((vdat m 0 c).after 1 t)
    ∗ owns (c : Thread nD τ) (ms2 m t) fullShare ((vdat m 0 c).after 2 t)
    ∗ owns (c : Thread nD τ) (ms3 m t) fullShare ((vdat m 0 c).after 3 t)
    ∗ owns (c : Thread nD τ) (ms4 m t) fullShare ((vdat m 0 c).after 4 t)
    ∗ owns (c : Thread nD τ) (ms5 m t) fullShare ((vdat m 0 c).after 5 t)
    ∗ owns (c : Thread nD τ) (ms6 m t) fullShare ((vdat m 0 c).after 6 t)
    ∗ owns (c : Thread nD τ) (ms7 m t) fullShare ((vdat m 0 c).after 7 t)
    ∗ owns (c : Thread nD τ) (ms8 m t) fullShare ((vdat m 0 c).after 8 t)
    ∗ post9 m c t)

set_option maxHeartbeats 2400000 in
/-- The body at a point. -/
theorem sound_body (hp : Pre m) (c : Dev nD) (t : Fin (cfgM m).N) :
    bodyPre m c t ⊢ wp frame (wpE (defs₀ (F := Ideal)) Variants.none (c : Thread nD τ) none) Set.univ (bodyAt m t) (fun _ => bodyPost m c t) := by
  unfold bodyPre bodyPost
  simp only [before0, before1, before2, before3, before4, before5, before6, before7, before8]
  rw [show (vdat m 0 c).owesAt () t.succ = (vdat m 0 c).owesAt () t.castSucc from rfl,
    after0, after1, after2, after3, after4, after5, after6, after7, after8]
  rw [show (vdat m 0 c).Φ t.castSucc = Phi m c t.castSucc from rfl, show (vdat m 0 c).Φ t.succ = Phi m c t.succ from rfl]
  unfold Phi
  iintro ⟨⟨%X, %Y, %hI, HX, HY, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [Fin.val_castSucc] at hI
  have hn : Inv m c t.succ.val (newX m c t (hp.ok t) X Y) (newY m c t (hp.ok t) X Y) := by
    rw [Fin.val_succ]
    exact inv_next m c t _ _ (step m hp c t (hp.ok t) X Y (hI t rfl))
  generalize t.succ.val = n' at hn ⊢
  iapply (runK m c t (hp.ok t) X Y ((vdat m 0 c).before 9 t d9) _)
  isplitl [HT]; · iexact HT
  isplitl [HX]; · iexact HX
  isplitl [HY]; · iexact HY
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨HT, HX, HY, H0, H1, H2, H3, H4, H5, H6, H7, H8, H9⟩
  isplitl [HX HY Hg HT]
  · iexists (newX m c t (hp.ok t) X Y); iexists (newY m c t (hp.ok t) X Y)
    isplitr
    swap
    · isplitl [HX]; · iexact HX
      isplitl [HY]; · iexact HY
      isplitl [Hg]; · iexact Hg
      iexact HT
    ipureintro
    exact hn
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (post9_of m hp c t (hp.ok t) X Y d9 hI)
  iexact H9

/-- The same, as the pipeline asks for it. -/
theorem body_obligation (hp : Pre m) (c : Dev nD) : BodyObligation (vdat m 0 c) (defs₀ (F := Ideal)) Variants.none () Set.univ := fun t => by
  rw [bigSep_W0, bigSep_W0, defs₀_row m]
  exact triple_restated (sound_body m hp c t) rfl .rfl fun _ => .rfl

set_option backward.isDefEq.respectTransparency.types false in
/-- The launch ends with each array at what the pipeline's data says. -/
theorem run_main (hp : Pre m) : θ_run defs (onTc (τ := τ) (main (F := Ideal))) (s₀ m ρ) (Pipeline.FramePost (Pipeline.pin pcfgs fun _ => adm m) (vdat m) 0 (V m)) :=
  Pipeline.θ_run_frameP_track pcfgs (fun _ => adm m) (vdat m) (0 : Fin 1) launch0 defs₀ Variants.none m ρ main
    (hbody := fun c => (body_obligation m hp c).loose) (hshare := fun c => (vdat m 0 c).share_full fun _ => rfl)
    (howed := fun _ _ => rfl) (V := V m) (hmain := hmain m Variants.none) (hA := A_eq m _ _) (hpf := V_pre m)
    (hin := fun c => by
      rw [show (vdat m 0 c).Φ 0 = Phi m c 0 from rfl]
      unfold Phi
      refine Idealize.SL.BI.BIBase.Entails.trans (Q := iprop((iprop((∃ d, owns (c : Thread nD τ) scX fullShare d) ∗ (∃ d, owns (c : Thread nD τ) scY fullShare d)) ∗ (∃ r, prngReg c r)) ∗ tbPt c tbM (tbl m 0))) (by rw [← PhiA_eq, ← PhiT_eq]) ?_
      iintro ⟨⟨⟨⟨%X, HX⟩, ⟨%Y, HY⟩⟩, Hg⟩, HT⟩
      iexists X; iexists Y
      isplitr
      swap
      · isplitl [HX]; · iexact HX
        isplitl [HY]; · iexact HY
        isplitl [Hg]; · iexact Hg
        iexact HT
      ipureintro
      intro t ht h0
      exact absurd ((hid_val t).trans (by rw [ht]; rfl)) h0)
    (hout := fun c => by
      rw [show (vdat m 0 c).Φ (Fin.last _) = Phi m c (Fin.last _) from rfl]
      unfold Phi
      refine Idealize.SL.BI.BIBase.Entails.trans (Q := iprop(iprop((∃ d, owns (c : Thread nD τ) scX fullShare d) ∗ (∃ d, owns (c : Thread nD τ) scY fullShare d)) ∗ (∃ r, prngReg c r))) ?_ (by rw [← PhiA_eq])
      iintro ⟨%X, %Y, %hI, HX, HY, Hg, HT⟩
      isplitl [HX HY]
      · isplitl [HX]
        · iexists X; iexact HX
        iexists Y; iexact HY
      iexact Hg)

end Cert.Proof.LstRun

end
-- ==== Proof.LstRef.lean ====
/-
The reference's routed experts, entry by entry: the residual connection over the eight experts' weighted outputs.
-/
module

public import proofs.«01_k».proof.Proof.Gen.LastReferenceIdeal.Run
public import proofs.«01_k».proof.Proof.LstPay

@[expose] public section

set_option maxRecDepth 16384

noncomputable section

namespace Cert.Proof.LstRef

open Cert.LastReferenceIdeal Cert.LastReferenceIdeal.Gen Cert.LastReferenceIdeal.Value
open Idealize.SL.Sem
open Idealize.ShloMosaic Idealize.ShloMosaic.TcCoe Idealize.ShloMosaic.Tactic
open Cert.Proof.LstPay (sw)

/-- One expert's weighted output for one row. -/
def one (u : FVec Ideal S34816x1024 .bf16) (w : FVec Ideal S34816x128 .f32) (g p : FVec Ideal S2x8x1024x3584 .f32) (dn : FVec Ideal S2x8x3584x1024 .f32)
    (e : Fin 8) (r : Fin 34816) (d : Fin 1024) : EReal :=
  w (ix2 r (⟨e.val, by omega⟩ : Fin 128)) * ∑ k : Fin 3584, sw (∑ j : Fin 1024, u (ix2 r j) * g (ix4 1 e j k)) (∑ j : Fin 1024, u (ix2 r j) * p (ix4 1 e j k)) * dn (ix4 1 e k d)

/-- The result. -/
def all (h : FVec Ideal S34816x1024 .f32) (u : FVec Ideal S34816x1024 .bf16) (w : FVec Ideal S34816x128 .f32) (md : FVec Ideal S136x8x1024 .f32)
    (g p : FVec Ideal S2x8x1024x3584 .f32) (dn : FVec Ideal S2x8x3584x1024 .f32) (r : Fin 34816) (d : Fin 1024) : EReal :=
  h (ix2 r d) + md (ix3 (⟨r.val / 256, Nat.div_lt_of_lt_mul r.isLt⟩ : Fin 136) 5 d)
    * (0 + one u w g p dn 0 r d + one u w g p dn 1 r d + one u w g p dn 2 r d + one u w g p dn 3 r d + one u w g p dn 4 r d
        + one u w g p dn 5 r d + one u w g p dn 6 r d + one u w g p dn 7 r d)

/-- The reference ends with `all` of its arguments, which are unchanged. -/
theorem run_at (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (∀ (x : Fin 34816) (d : Fin 1024), (r.2.mem ((c.tc : Thread nD τ).loc main_v127) : FVec Ideal S34816x1024 .f32) (ix2 x d)
        = all (m ((c.tc : Thread nD τ).loc main_arg0)) (m ((c.tc : Thread nD τ).loc main_arg1)) (m ((c.tc : Thread nD τ).loc main_arg2)) (m ((c.tc : Thread nD τ).loc main_arg6))
          (m ((c.tc : Thread nD τ).loc main_arg7)) (m ((c.tc : Thread nD τ).loc main_arg8)) (m ((c.tc : Thread nD τ).loc main_arg9)) x d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ⟨fun x d => (congrFun (h c).1 (ix2 x d)).trans ?_, (h c).2⟩) (Value.run m ρ)
  clear h r
  show _ = all (m ((c.tc : Thread nD τ).loc main_arg0)) (m ((c.tc : Thread nD τ).loc main_arg1)) (m ((c.tc : Thread nD τ).loc main_arg2)) (m ((c.tc : Thread nD τ).loc main_arg6))
          (m ((c.tc : Thread nD τ).loc main_arg7)) (m ((c.tc : Thread nD τ).loc main_arg8)) (m ((c.tc : Thread nD τ).loc main_arg9)) x d
  pointwise [all, one, sw, res_main_v0, res_main_v9, res_main_v24, res_main_v39, res_main_v54, res_main_v69, res_main_v76, res_main_v84, res_main_v99, res_main_v114]

end Cert.Proof.LstRef

end
-- ==== Proof.LstEnd.lean ====
/-
The array the routed experts' kernel leaves, and that it is the reference's, over the extended reals.
-/
module

public import proofs.«01_k».proof.Defs
public import proofs.«01_k».proof.Proof.LstRun
public import proofs.«01_k».proof.Proof.LstRef
public import Idealize.ShloMosaic.Lib.Pipeline.Value

@[expose] public section

set_option maxRecDepth 16384

noncomputable section

namespace Cert.Proof.LstEnd

open Cert.LastIdeal Cert.LastIdeal.Gen
open Cert.Proof.LstSet Cert.Proof.LstBody Cert.Proof.LstFrame Cert.Proof.LstPay Cert.Proof.LstRow Cert.Proof.LstStep Cert.Proof.LstGlob Cert.Proof.LstVal Cert.Proof.LstRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The result array. -/
def G (c : Dev nD) : FVec Ideal S34816x1024 .f32 := fun i => outAt m c (i 0) (i 1)

theorem ix_out (i : grid0.Coords) : cc0_transform_9 i = ![(i 0).val, 0] := ix_tile i

/-- What is written back at a tile's last point is the tile's block of the result. -/
theorem flushed_eq (c : Dev nD) (t : Fin (cfgM m).N) (hf : ((cfgM m).win 9).flush t = true) :
    (vdat m 0 c).flushed 9 t = (((cfgM m).win 9).blk t).view.read (Elt Ideal) (G m c) := by
  have h55 : t.val % 56 = 55 := (flush9 (adm m) t).1 hf
  show ((vdat m 0 c).after 9 t : FVec Ideal S2048x1024 .f32) = fun y => G m c ((((cfgM m).win 9).blk t).view.emb y)
  refine (after9 m (Phi m) (outW m) c t).trans ?_
  refine funext fun (y : S2048x1024.Idx) => ?_
  obtain ⟨a, d, rfl⟩ : ∃ (a : Fin 2048) (d : Fin 1024), y = ix2 a d := ⟨y 0, y 1, eq_ix2 y⟩
  have he : (((cfgM m).win 9).blk t).view.emb (ix2 a d) = ix2 (rw' (tl t) a) d := by
    funext x
    apply Fin.ext
    match x with
    | ⟨0, _⟩ => show cc0_transform_9 (grid0.coords t) 0 * 2048 + 1 * a.val = _; rw [ix_out, Nat.one_mul]; rfl
    | ⟨1, _⟩ => show cc0_transform_9 (grid0.coords t) 1 * 1024 + 1 * d.val = d.val; rw [ix_out]; show 0 * 1024 + _ = _; omega
  rw [he]
  show (if t.val % 56 = 55 then outAt m c (rw' (tl t) a) d else acc m c (rw' (tl t) a) ((t.val % 56 + 1) / 7) d) = outAt m c (rw' (tl t) a) d
  rw [if_pos h55]

theorem mem_blk9 (t : Fin (cfgM m).N) (i : S34816x1024.Idx) :
    i ∈ (((cfgM m).win 9).blk t).view.set ↔ ∀ a : Fin 2, cc0_transform_9 (grid0.coords t) a * S2048x1024.size a ≤ (i a).val ∧ (i a).val < cc0_transform_9 (grid0.coords t) a * S2048x1024.size a + S2048x1024.size a := by
  have h : ∀ R : Rect S34816x1024, i ∈ ((View.whole main_v10).slice R).set ↔ i ∈ R.set := fun R => by rw [View.set_slice_whole]
  refine (h (((cfgM m).win 9).rect t)).trans ?_
  exact (Rect.mem_set_unit (s := S34816x1024) ..).trans Iff.rfl

/-- Every entry of the result is in a block that is written back. -/
theorem cover9 (i : S34816x1024.Idx) : ∃ t : Fin (cfgM m).N, ((cfgM m).win 9).flush t = true ∧ i ∈ (((cfgM m).win 9).blk t).view.set := by
  have h0 : (i 0).val < 34816 := (i 0).isLt
  have h1 : (i 1).val < 1024 := (i 1).isLt
  have hN : (cfgM m).N = 952 := rfl
  have ht : 56 * ((i 0).val / 2048) + 55 < (cfgM m).N := by rw [hN]; omega
  refine ⟨⟨56 * ((i 0).val / 2048) + 55, ht⟩, (flush9 (adm m) _).2 (by show (56 * ((i 0).val / 2048) + 55) % 56 = 55; omega), ?_⟩
  refine (mem_blk9 m _ i).2 ?_
  have hc : ((grid0.coords (⟨56 * ((i 0).val / 2048) + 55, ht⟩ : Fin (cfgM m).N)) 0).val = (i 0).val / 2048 :=
    (tile_val (⟨56 * ((i 0).val / 2048) + 55, ht⟩ : Fin (cfgM m).N)).trans (by show (56 * ((i 0).val / 2048) + 55) / 56 = _; omega)
  intro a
  rw [ix_out, hc]
  match a with
  | ⟨0, _⟩ => show (i 0).val / 2048 * 2048 ≤ (i 0).val ∧ (i 0).val < (i 0).val / 2048 * 2048 + 2048; omega
  | ⟨1, _⟩ => show 0 * 1024 ≤ (i 1).val ∧ (i 1).val < 0 * 1024 + 1024; omega

/-- The array the launch leaves is the result. -/
theorem final (c : Dev nD) : (vdat m 0 c).arrAt 9 (cfgM m).N = G m c :=
  (vdat m 0 c).arrAt_eq_of_cover 9 _ (flushed_eq m c) (cover9 m)

/-- The reference's share of one expert is the kernel's seven hidden blocks. -/
theorem one_eq (c : Dev nD) (e : Fin 8) (r : Fin 34816) (d : Fin 1024) :
    LstRef.one (aU m c) (aW m c) (aG m c) (aP m c) (aD m c) e r d = wexp m c r e d := by
  unfold LstRef.one wexp
  refine congrArg₂ (· * ·) rfl ?_
  rw [Fin.sum_univ_tiles 7 512 rfl, Finset.sum_range]
  refine Finset.sum_congr rfl fun j _ => ?_
  unfold blkN
  rw [dif_pos j.isLt]
  rfl

/-- The reference's result is the kernel's. -/
theorem all_eq (c : Dev nD) (r : Fin 34816) (d : Fin 1024) :
    LstRef.all (aH m c) (aU m c) (aW m c) (aM m c) (aG m c) (aP m c) (aD m c) r d = outAt m c r d := by
  unfold LstRef.all outAt
  simp only [one_eq]
  have h : acc m c r 8 d = 0 + wexp m c r 0 d + wexp m c r 1 d + wexp m c r 2 d + wexp m c r 3 d + wexp m c r 4 d + wexp m c r 5 d + wexp m c r 6 d + wexp m c r 7 d := by
    unfold acc
    simp only [Finset.sum_range_succ, Finset.sum_range_zero]
    rfl
  rw [h]

/-- The routed experts' kernel and its reference end with equal results, as extended reals. -/
theorem algebraic : Cert.algebraic_LastIdeal_LastReferenceIdeal
    (hLastIdeal := Cert.LastIdeal.Gen.facts) (hLastReferenceIdeal := Cert.LastReferenceIdeal.Gen.facts) (hPre_moe_pre := Cert.Pre_moe_pre.Gen.facts) := by
  intro m g m' g' hp hm
  have hp' : Pre m := hp
  refine ⟨fun c => G m c, ?_, ?_⟩
  · exact (θ_run _ _ _).mono (fun r h c => ⟨(h.1 c).trans (final m c), h.2.1 c⟩)
      (θ_run_and ((θ_run defs _ _).mono (fun r h c => (h c).1 9) (run_main m g hp')) (frame_all m g hp'.ok))
  · refine (θ_run _ _ _).mono (fun r h c => ⟨?_, (h c).2⟩) (LstRef.run_at m' g')
    obtain ⟨a0, a1, a2, a3, a4, a5, a6, a7, a8, a9⟩ := hm c
    funext i
    obtain ⟨x, d, rfl⟩ : ∃ (a : Fin 34816) (b : Fin 1024), i = ix2 a b := ⟨i 0, i 1, eq_ix2 i⟩
    refine ((h c).1 x d).trans ?_
    rw [a0, a1, a2, a6, a7, a8, a9]
    exact all_eq m c x d

end Cert.Proof.LstEnd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Last
public import proofs.«01_k».proof.Proof.Gen.Last.Skeleton
public import proofs.«01_k».proof.Proof.Gen.Last.Loops
public import proofs.«01_k».proof.Proof.Gen.Last.Launch
public import proofs.«01_k».proof.Proof.Gen.LastIdeal
public import proofs.«01_k».proof.Proof.Gen.LastIdeal.Skeleton
public import proofs.«01_k».proof.Proof.Gen.LastIdeal.Loops
public import proofs.«01_k».proof.Proof.Gen.LastIdeal.Launch
public import proofs.«01_k».proof.Proof.Gen.LastReferenceIdeal
public import proofs.«01_k».proof.Proof.Gen.LastReferenceIdeal.Run
public import proofs.«01_k».proof.Proof.Gen.Pre_moe_pre
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormReferenceIdeal
public import proofs.«01_k».proof.Proof.Gen.FfnIdeal.Value
public import proofs.«01_k».proof.Proof.Gen.NormIdeal.Value
public import proofs.«01_k».proof.Proof.Gen.FfnReferenceIdeal.Run
public import proofs.«01_k».proof.Proof.Gen.NormReferenceIdeal.Run
public import proofs.«01_k».proof.Proof.Ffn
public import proofs.«01_k».proof.Proof.Norm
public import proofs.«01_k».proof.Proof.MoeSame
public import proofs.«01_k».proof.Proof.MoeEnd
public import proofs.«01_k».proof.Proof.LstSame
public import proofs.«01_k».proof.Proof.LstEnd
public import Idealize.ShloMosaic.Adequacy
public import Idealize.ShloMosaic.Init
public import Idealize.ShloMosaic.Lib.Quiescent

@[expose] public section

noncomputable section

namespace Cert.Proof

open Idealize.ShloMosaic Idealize.SL.Sem Cert.Ffn

/-- The reference of the feed-forward call leaves its arguments as they were and every counter at zero. -/
theorem frame_ffn_reference : Cert.quiescent_FfnReferenceIdeal := by
  intro m ρ _
  exact (θ_run Cert.FfnReferenceIdeal.defs _ _).mono
    (fun r h => ⟨fun c => (h c).2, sem_eq_zero_of_no_sems (by decide) r.2⟩)
    (Cert.FfnReferenceIdeal.Value.run m ρ)

/-- The reference of the last norm leaves its arguments as they were and every counter at zero. -/
theorem frame_norm_reference : Cert.quiescent_NormReferenceIdeal := by
  intro m ρ _
  exact (θ_run Cert.NormReferenceIdeal.defs _ _).mono
    (fun r h => ⟨fun c => (h c).2, sem_eq_zero_of_no_sems (by decide) r.2⟩)
    (Cert.NormReferenceIdeal.Value.run m ρ)

/-- The routed experts' kernel, on the rounded floats, leaves its arguments as they were and every counter at zero: its
    text is the idealized one's. -/
theorem frame_moe : Cert.quiescent_Kernel (hKernel := Cert.Kernel.Gen.facts) (hPre_moe_pre := Cert.Pre_moe_pre.Gen.facts) := by
  intro m g hp
  exact (congrArg₂ (fun D M => θ_run D (onTc (τ := Cert.KernelIdeal.τ) M) ⟨m, fun _ => 0, g⟩ _) (MoeSame.defs_same Bits) (MoeSame.main_same Bits)).mpr
    (MoeFrame.frame_all (F := Bits) m g (MoeTab.counts_ok m (hp 0)))

/-- The same of the idealized kernel. -/
theorem frame_moe_ideal : Cert.quiescent_KernelIdeal (hKernelIdeal := Cert.KernelIdeal.Gen.facts) (hPre_moe_pre := Cert.Pre_moe_pre.Gen.facts) := by
  intro m g hp
  exact MoeFrame.frame_all (F := Ideal) m g (MoeTab.counts_ok m (hp 0))

/-- The reference of the routed experts leaves its arguments as they were and every counter at zero. -/
theorem frame_moe_reference : Cert.quiescent_ReferenceIdeal (hReferenceIdeal := Cert.ReferenceIdeal.Gen.facts) (hPre_moe_pre := Cert.Pre_moe_pre.Gen.facts) := by
  intro m ρ _
  exact (θ_run Cert.ReferenceIdeal.defs _ _).mono
    (fun r h => ⟨fun c => (h c).2, sem_eq_zero_of_no_sems (by decide) r.2⟩)
    (Cert.ReferenceIdeal.Value.run m ρ)

/-- The last layer's routed experts, on the rounded floats, leaves its arguments as they were and every counter at zero: its
    text is the idealized one's. -/
theorem frame_last : Cert.quiescent_Last (hLast := Cert.Last.Gen.facts) (hPre_moe_pre := Cert.Pre_moe_pre.Gen.facts) := by
  intro m g hp
  exact (congrArg₂ (fun D M => θ_run D (onTc (τ := Cert.LastIdeal.τ) M) ⟨m, fun _ => 0, g⟩ _) (LstSame.defs_same Bits) (LstSame.main_same Bits)).mpr
    (LstFrame.frame_all (F := Bits) m g (LstTab.counts_ok m (hp 0)))

/-- The same of the last layer's idealized kernel. -/
theorem frame_last_ideal : Cert.quiescent_LastIdeal (hLastIdeal := Cert.LastIdeal.Gen.facts) (hPre_moe_pre := Cert.Pre_moe_pre.Gen.facts) := by
  intro m g hp
  exact LstFrame.frame_all (F := Ideal) m g (LstTab.counts_ok m (hp 0))

/-- The reference of the last layer's routed experts leaves its arguments as they were and every counter at zero. -/
theorem frame_last_reference : Cert.quiescent_LastReferenceIdeal (hLastReferenceIdeal := Cert.LastReferenceIdeal.Gen.facts) (hPre_moe_pre := Cert.Pre_moe_pre.Gen.facts) := by
  intro m ρ _
  exact (θ_run Cert.LastReferenceIdeal.defs _ _).mono
    (fun r h => ⟨fun c => (h c).2, sem_eq_zero_of_no_sems (by decide) r.2⟩)
    (Cert.LastReferenceIdeal.Value.run m ρ)

/-- All twenty claims: of each of the four calls the three frames, that idealizing rewrote nothing, and that the call's
    result is its reference's over the reals. -/
theorem claim : Cert.Claim := ⟨Cert.Kernel.Gen.facts, Cert.KernelIdeal.Gen.facts, Cert.ReferenceIdeal.Gen.facts,
  Cert.Last.Gen.facts, Cert.LastIdeal.Gen.facts, Cert.LastReferenceIdeal.Gen.facts,
  Cert.Ffn.Gen.facts, Cert.FfnIdeal.Gen.facts, Cert.FfnReferenceIdeal.Gen.facts, Cert.Norm.Gen.facts, Cert.NormIdeal.Gen.facts, Cert.NormReferenceIdeal.Gen.facts,
  Cert.Pre_moe_pre.Gen.facts,
  frame_moe, frame_moe_ideal, frame_moe_reference, frame_last, frame_last_ideal, frame_last_reference,
  fun m ρ _ => Cert.Ffn.Gen.frame m ρ, fun m ρ _ => Cert.FfnIdeal.Gen.frame m ρ, frame_ffn_reference,
  fun m ρ _ => Cert.Norm.Gen.frame m ρ, fun m ρ _ => Cert.NormIdeal.Gen.frame m ρ, frame_norm_reference,
  trivial, Cert.Proof.MoeEnd.algebraic, trivial, Cert.Proof.LstEnd.algebraic, trivial, Cert.Proof.FfnValue.algebraic, trivial, Cert.Proof.NormValue.algebraic⟩

end Cert.Proof

end
